-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainRefIdeal (m : (ℓ : Loc Cert.ProjMainRefIdeal.nD Cert.ProjMainRefIdeal.τ Cert.ProjMainRefIdeal.sig) → Buf (Elt Ideal) ℓ) : Prop :=
  True

def Pre_ProjMainDx (m : (ℓ : Loc Cert.ProjMainDx.nD Cert.ProjMainDx.τ Cert.ProjMainDx.sig) → Buf (Elt Bits) ℓ) : Prop :=
  True

def Pre_ProjMainDxIdeal (m : (ℓ : Loc Cert.ProjMainDxIdeal.nD Cert.ProjMainDxIdeal.τ Cert.ProjMainDxIdeal.sig) → Buf (Elt Ideal) ℓ) : Prop :=
  True

def Pre_ProjMainDxRefIdeal (m : (ℓ : Loc Cert.ProjMainDxRefIdeal.nD Cert.ProjMainDxRefIdeal.τ Cert.ProjMainDxRefIdeal.sig) → Buf (Elt Ideal) ℓ) : Prop :=
  True

def Pre_ProjMainDw (m : (ℓ : Loc Cert.ProjMainDw.nD Cert.ProjMainDw.τ Cert.ProjMainDw.sig) → Buf (Elt Bits) ℓ) : Prop :=
  True

def Pre_ProjMainDwIdeal (m : (ℓ : Loc Cert.ProjMainDwIdeal.nD Cert.ProjMainDwIdeal.τ Cert.ProjMainDwIdeal.sig) → Buf (Elt Ideal) ℓ) : Prop :=
  True

def Pre_ProjMainDwRefIdeal (m : (ℓ : Loc Cert.ProjMainDwRefIdeal.nD Cert.ProjMainDwRefIdeal.τ Cert.ProjMainDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxIdeal_out_dx_finite [hPre_out_dx_finite : Cert.Pre_out_dx_finite.Facts] (m : (ℓ : Loc Cert.FfnOutDxIdeal.nD Cert.FfnOutDxIdeal.τ Cert.FfnOutDxIdeal.sig) → Buf (Elt Ideal) ℓ) : Prop :=
  ∀ c : Dev Cert.FfnOutDxIdeal.nD,
    (Cert.Pre_out_dx_finite.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2)) (m ((c.tc : Thread Cert.FfnOutDxIdeal.nD Cert.FfnOutDxIdeal.τ).loc Cert.FfnOutDxIdeal.main_arg3))).1 = (fun _ => 1#1)
    ∧ (Cert.Pre_out_dx_finite.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2)) (m ((c.tc : Thread Cert.FfnOutDxIdeal.nD Cert.FfnOutDxIdeal.τ).loc Cert.FfnOutDxIdeal.main_arg3))).2.1 = (fun _ => 1#1)
    ∧ (Cert.Pre_out_dx_finite.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2)) (m ((c.tc : Thread Cert.FfnOutDxIdeal.nD Cert.FfnOutDxIdeal.τ).loc Cert.FfnOutDxIdeal.main_arg3))).2.2 = (fun _ => 1#1)

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDxRefIdeal_out_dx_finite [hPre_out_dx_finite : Cert.Pre_out_dx_finite.Facts] (m : (ℓ : Loc Cert.FfnOutDxRefIdeal.nD Cert.FfnOutDxRefIdeal.τ Cert.FfnOutDxRefIdeal.sig) → Buf (Elt Ideal) ℓ) : Prop :=
  ∀ c : Dev Cert.FfnOutDxRefIdeal.nD,
    (Cert.Pre_out_dx_finite.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2)) (m ((c.tc : Thread Cert.FfnOutDxRefIdeal.nD Cert.FfnOutDxRefIdeal.τ).loc Cert.FfnOutDxRefIdeal.main_arg3))).1 = (fun _ => 1#1)
    ∧ (Cert.Pre_out_dx_finite.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2)) (m ((c.tc : Thread Cert.FfnOutDxRefIdeal.nD Cert.FfnOutDxRefIdeal.τ).loc Cert.FfnOutDxRefIdeal.main_arg3))).2.1 = (fun _ => 1#1)
    ∧ (Cert.Pre_out_dx_finite.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2)) (m ((c.tc : Thread Cert.FfnOutDxRefIdeal.nD Cert.FfnOutDxRefIdeal.τ).loc Cert.FfnOutDxRefIdeal.main_arg3))).2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_SmallAdam (m : (ℓ : Loc Cert.SmallAdam.nD Cert.SmallAdam.τ Cert.SmallAdam.sig) → Buf (Elt Bits) ℓ) : Prop :=
  True

def Pre_SmallAdamIdeal (m : (ℓ : Loc Cert.SmallAdamIdeal.nD Cert.SmallAdamIdeal.τ Cert.SmallAdamIdeal.sig) → Buf (Elt Ideal) ℓ) : Prop :=
  True

def Pre_SmallAdamRefIdeal (m : (ℓ : Loc Cert.SmallAdamRefIdeal.nD Cert.SmallAdamRefIdeal.τ Cert.SmallAdamRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_NormMidRefIdeal (m : (ℓ : Loc Cert.NormMidRefIdeal.nD Cert.NormMidRefIdeal.τ Cert.NormMidRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2)
      ∧ r.2.mem ((c.tc : Thread Cert.FfnInDx.nD Cert.FfnInDx.τ).loc Cert.FfnInDx.main_arg3) = m ((c.tc : Thread Cert.FfnInDx.nD Cert.FfnInDx.τ).loc Cert.FfnInDx.main_arg3))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainRefIdeal [hProjMainRefIdeal : Cert.ProjMainRefIdeal.Facts] : Prop :=
  ∀ (m : (ℓ : Loc Cert.ProjMainRefIdeal.nD Cert.ProjMainRefIdeal.τ Cert.ProjMainRefIdeal.sig) → Buf (Elt Ideal) ℓ) (g : Dev Cert.ProjMainRefIdeal.nD → PrngReg), Pre_ProjMainRefIdeal m →
    θ_run (Cert.ProjMainRefIdeal.defs (F := Ideal)) (onTc (τ := Cert.ProjMainRefIdeal.τ) (Cert.ProjMainRefIdeal.main (F := Ideal))) ⟨m, fun _ => 0, g⟩ (fun r => (∀ c : Dev Cert.ProjMainRefIdeal.nD,
      r.2.mem ((c.tc : Thread Cert.ProjMainRefIdeal.nD Cert.ProjMainRefIdeal.τ).loc Cert.ProjMainRefIdeal.main_arg0) = m ((c.tc : Thread Cert.ProjMainRefIdeal.nD Cert.ProjMainRefIdeal.τ).loc Cert.ProjMainRefIdeal.main_arg0)
      ∧ r.2.mem ((c.tc : Thread Cert.ProjMainRefIdeal.nD Cert.ProjMainRefIdeal.τ).loc Cert.ProjMainRefIdeal.main_arg1) = m ((c.tc : Thread Cert.ProjMainRefIdeal.nD Cert.ProjMainRefIdeal.τ).loc Cert.ProjMainRefIdeal.main_arg1))
      ∧ r.2.sem = fun _ => 0)

def quiescent_ProjMainDx [hProjMainDx : Cert.ProjMainDx.Facts] : Prop :=
  ∀ (m : (ℓ : Loc Cert.ProjMainDx.nD Cert.ProjMainDx.τ Cert.ProjMainDx.sig) → Buf (Elt Bits) ℓ) (g : Dev Cert.ProjMainDx.nD → PrngReg), Pre_ProjMainDx m →
    θ_run (Cert.ProjMainDx.defs (F := Bits)) (onTc (τ := Cert.ProjMainDx.τ) (Cert.ProjMainDx.main (F := Bits))) ⟨m, fun _ => 0, g⟩ (fun r => (∀ c : Dev Cert.ProjMainDx.nD,
      r.2.mem ((c.tc : Thread Cert.ProjMainDx.nD Cert.ProjMainDx.τ).loc Cert.ProjMainDx.main_arg0) = m ((c.tc : Thread Cert.ProjMainDx.nD Cert.ProjMainDx.τ).loc Cert.ProjMainDx.main_arg0)
      ∧ r.2.mem ((c.tc : Thread Cert.ProjMainDx.nD Cert.ProjMainDx.τ).loc Cert.ProjMainDx.main_arg1) = m ((c.tc : Thread Cert.ProjMainDx.nD Cert.ProjMainDx.τ).loc Cert.ProjMainDx.main_arg1))
      ∧ r.2.sem = fun _ => 0)

def quiescent_ProjMainDxIdeal [hProjMainDxIdeal : Cert.ProjMainDxIdeal.Facts] : Prop :=
  ∀ (m : (ℓ : Loc Cert.ProjMainDxIdeal.nD Cert.ProjMainDxIdeal.τ Cert.ProjMainDxIdeal.sig) → Buf (Elt Ideal) ℓ) (g : Dev Cert.ProjMainDxIdeal.nD → PrngReg), Pre_ProjMainDxIdeal m →
    θ_run (Cert.ProjMainDxIdeal.defs (F := Ideal)) (onTc (τ := Cert.ProjMainDxIdeal.τ) (Cert.ProjMainDxIdeal.main (F := Ideal))) ⟨m, fun _ => 0, g⟩ (fun r => (∀ c : Dev Cert.ProjMainDxIdeal.nD,
      r.2.mem ((c.tc : Thread Cert.ProjMainDxIdeal.nD Cert.ProjMainDxIdeal.τ).loc Cert.ProjMainDxIdeal.main_arg0) = m ((c.tc : Thread Cert.ProjMainDxIdeal.nD Cert.ProjMainDxIdeal.τ).loc Cert.ProjMainDxIdeal.main_arg0)
      ∧ r.2.mem ((c.tc : Thread Cert.ProjMainDxIdeal.nD Cert.ProjMainDxIdeal.τ).loc Cert.ProjMainDxIdeal.main_arg1) = m ((c.tc : Thread Cert.ProjMainDxIdeal.nD Cert.ProjMainDxIdeal.τ).loc Cert.ProjMainDxIdeal.main_arg1))
      ∧ r.2.sem = fun _ => 0)

def quiescent_ProjMainDxRefIdeal [hProjMainDxRefIdeal : Cert.ProjMainDxRefIdeal.Facts] : Prop :=
  ∀ (m : (ℓ : Loc Cert.ProjMainDxRefIdeal.nD Cert.ProjMainDxRefIdeal.τ Cert.ProjMainDxRefIdeal.sig) → Buf (Elt Ideal) ℓ) (g : Dev Cert.ProjMainDxRefIdeal.nD → PrngReg), Pre_ProjMainDxRefIdeal m →
    θ_run (Cert.ProjMainDxRefIdeal.defs (F := Ideal)) (onTc (τ := Cert.ProjMainDxRefIdeal.τ) (Cert.ProjMainDxRefIdeal.main (F := Ideal))) ⟨m, fun _ => 0, g⟩ (fun r => (∀ c : Dev Cert.ProjMainDxRefIdeal.nD,
      r.2.mem ((c.tc : Thread Cert.ProjMainDxRefIdeal.nD Cert.ProjMainDxRefIdeal.τ).loc Cert.ProjMainDxRefIdeal.main_arg0) = m ((c.tc : Thread Cert.ProjMainDxRefIdeal.nD Cert.ProjMainDxRefIdeal.τ).loc Cert.ProjMainDxRefIdeal.main_arg0)
      ∧ r.2.mem ((c.tc : Thread Cert.ProjMainDxRefIdeal.nD Cert.ProjMainDxRefIdeal.τ).loc Cert.ProjMainDxRefIdeal.main_arg1) = m ((c.tc : Thread Cert.ProjMainDxRefIdeal.nD Cert.ProjMainDxRefIdeal.τ).loc Cert.ProjMainDxRefIdeal.main_arg1))
      ∧ r.2.sem = fun _ => 0)

def quiescent_ProjMainDw [hProjMainDw : Cert.ProjMainDw.Facts] : Prop :=
  ∀ (m : (ℓ : Loc Cert.ProjMainDw.nD Cert.ProjMainDw.τ Cert.ProjMainDw.sig) → Buf (Elt Bits) ℓ) (g : Dev Cert.ProjMainDw.nD → PrngReg), Pre_ProjMainDw m →
    θ_run (Cert.ProjMainDw.defs (F := Bits)) (onTc (τ := Cert.ProjMainDw.τ) (Cert.ProjMainDw.main (F := Bits))) ⟨m, fun _ => 0, g⟩ (fun r => (∀ c : Dev Cert.ProjMainDw.nD,
      r.2.mem ((c.tc : Thread Cert.ProjMainDw.nD Cert.ProjMainDw.τ).loc Cert.ProjMainDw.main_arg0) = m ((c.tc : Thread Cert.ProjMainDw.nD Cert.ProjMainDw.τ).loc Cert.ProjMainDw.main_arg0)
      ∧ r.2.mem ((c.tc : Thread Cert.ProjMainDw.nD Cert.ProjMainDw.τ).loc Cert.ProjMainDw.main_arg1) = m ((c.tc : Thread Cert.ProjMainDw.nD Cert.ProjMainDw.τ).loc Cert.ProjMainDw.main_arg1))
      ∧ r.2.sem = fun _ => 0)

def quiescent_ProjMainDwIdeal [hProjMainDwIdeal : Cert.ProjMainDwIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg), Pre_ProjMainDwIdeal m →
    θ_run (Cert.ProjMainDwIdeal.defs (F := Ideal)) (onTc (τ := Cert.ProjMainDwIdeal.τ) (Cert.ProjMainDwIdeal.main (F := Ideal))) ⟨m, fun _ => 0, g⟩ (fun r => (∀ c : Dev Cert.ProjMainDwIdeal.nD,
      r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
      ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ r.2.sem = fun _ => 0)

def quiescent_ProjMainDwRefIdeal [hProjMainDwRefIdeal : Cert.ProjMainDwRefIdeal.Facts] : Prop :=
  ∀ (m : (ℓ : Loc Cert.ProjMainDwRefIdeal.nD Cert.ProjMainDwRefIdeal.τ Cert.ProjMainDwRefIdeal.sig) → Buf (Elt Ideal) ℓ) (g : Dev Cert.ProjMainDwRefIdeal.nD → PrngReg), Pre_ProjMainDwRefIdeal m →
    θ_run (Cert.ProjMainDwRefIdeal.defs (F := Ideal)) (onTc (τ := Cert.ProjMainDwRefIdeal.τ) (Cert.ProjMainDwRefIdeal.main (F := Ideal))) ⟨m, fun _ => 0, g⟩ (fun r => (∀ c : Dev Cert.ProjMainDwRefIdeal.nD,
      r.2.mem ((c.tc : Thread Cert.ProjMainDwRefIdeal.nD Cert.ProjMainDwRefIdeal.τ).loc Cert.ProjMainDwRefIdeal.main_arg0) = m ((c.tc : Thread Cert.ProjMainDwRefIdeal.nD Cert.ProjMainDwRefIdeal.τ).loc Cert.ProjMainDwRefIdeal.main_arg0)
      ∧ r.2.mem ((c.tc : Thread Cert.ProjMainDwRefIdeal.nD Cert.ProjMainDwRefIdeal.τ).loc Cert.ProjMainDwRefIdeal.main_arg1) = m ((c.tc : Thread Cert.ProjMainDwRefIdeal.nD Cert.ProjMainDwRefIdeal.τ).loc Cert.ProjMainDwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2)
      ∧ r.2.mem ((c.tc : Thread Cert.FfnOutDx.nD Cert.FfnOutDx.τ).loc Cert.FfnOutDx.main_arg3) = m ((c.tc : Thread Cert.FfnOutDx.nD Cert.FfnOutDx.τ).loc Cert.FfnOutDx.main_arg3))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2)
      ∧ r.2.mem ((c.tc : Thread Cert.FfnOutDxIdeal.nD Cert.FfnOutDxIdeal.τ).loc Cert.FfnOutDxIdeal.main_arg3) = m ((c.tc : Thread Cert.FfnOutDxIdeal.nD Cert.FfnOutDxIdeal.τ).loc Cert.FfnOutDxIdeal.main_arg3))
      ∧ r.2.sem = fun _ => 0)

def quiescent_FfnOutDxIdeal_pre_out_dx_finite [hFfnOutDxIdeal : Cert.FfnOutDxIdeal.Facts] [hPre_out_dx_finite : Cert.Pre_out_dx_finite.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal_out_dx_finite m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2)
      ∧ r.2.mem ((c.tc : Thread Cert.FfnOutDxIdeal.nD Cert.FfnOutDxIdeal.τ).loc Cert.FfnOutDxIdeal.main_arg3) = m ((c.tc : Thread Cert.FfnOutDxIdeal.nD Cert.FfnOutDxIdeal.τ).loc Cert.FfnOutDxIdeal.main_arg3))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2)
      ∧ r.2.mem ((c.tc : Thread Cert.FfnOutDxRefIdeal.nD Cert.FfnOutDxRefIdeal.τ).loc Cert.FfnOutDxRefIdeal.main_arg3) = m ((c.tc : Thread Cert.FfnOutDxRefIdeal.nD Cert.FfnOutDxRefIdeal.τ).loc Cert.FfnOutDxRefIdeal.main_arg3))
      ∧ r.2.sem = fun _ => 0)

def quiescent_FfnOutDxRefIdeal_pre_out_dx_finite [hFfnOutDxRefIdeal : Cert.FfnOutDxRefIdeal.Facts] [hPre_out_dx_finite : Cert.Pre_out_dx_finite.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal_out_dx_finite m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2)
      ∧ r.2.mem ((c.tc : Thread Cert.FfnOutDxRefIdeal.nD Cert.FfnOutDxRefIdeal.τ).loc Cert.FfnOutDxRefIdeal.main_arg3) = m ((c.tc : Thread Cert.FfnOutDxRefIdeal.nD Cert.FfnOutDxRefIdeal.τ).loc Cert.FfnOutDxRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_SmallAdam [hSmallAdam : Cert.SmallAdam.Facts] : Prop :=
  ∀ (m : (ℓ : Loc Cert.SmallAdam.nD Cert.SmallAdam.τ Cert.SmallAdam.sig) → Buf (Elt Bits) ℓ) (g : Dev Cert.SmallAdam.nD → PrngReg), Pre_SmallAdam m →
    θ_run (Cert.SmallAdam.defs (F := Bits)) (onTc (τ := Cert.SmallAdam.τ) (Cert.SmallAdam.main (F := Bits))) ⟨m, fun _ => 0, g⟩ (fun r => (∀ c : Dev Cert.SmallAdam.nD,
      r.2.mem ((c.tc : Thread Cert.SmallAdam.nD Cert.SmallAdam.τ).loc Cert.SmallAdam.main_arg0) = m ((c.tc : Thread Cert.SmallAdam.nD Cert.SmallAdam.τ).loc Cert.SmallAdam.main_arg0)
      ∧ r.2.mem ((c.tc : Thread Cert.SmallAdam.nD Cert.SmallAdam.τ).loc Cert.SmallAdam.main_arg1) = m ((c.tc : Thread Cert.SmallAdam.nD Cert.SmallAdam.τ).loc Cert.SmallAdam.main_arg1)
      ∧ r.2.mem ((c.tc : Thread Cert.SmallAdam.nD Cert.SmallAdam.τ).loc Cert.SmallAdam.main_arg2) = m ((c.tc : Thread Cert.SmallAdam.nD Cert.SmallAdam.τ).loc Cert.SmallAdam.main_arg2)
      ∧ r.2.mem ((c.tc : Thread Cert.SmallAdam.nD Cert.SmallAdam.τ).loc Cert.SmallAdam.main_arg3) = m ((c.tc : Thread Cert.SmallAdam.nD Cert.SmallAdam.τ).loc Cert.SmallAdam.main_arg3))
      ∧ r.2.sem = fun _ => 0)

def quiescent_SmallAdamIdeal [hSmallAdamIdeal : Cert.SmallAdamIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg), Pre_SmallAdamIdeal m →
    θ_run (Cert.SmallAdamIdeal.defs (F := Ideal)) (onTc (τ := Cert.SmallAdamIdeal.τ) (Cert.SmallAdamIdeal.main (F := Ideal))) ⟨m, fun _ => 0, g⟩ (fun r => (∀ c : Dev Cert.SmallAdamIdeal.nD,
      r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
      ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
      ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
      ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ r.2.sem = fun _ => 0)

def quiescent_SmallAdamRefIdeal [hSmallAdamRefIdeal : Cert.SmallAdamRefIdeal.Facts] : Prop :=
  ∀ (m : (ℓ : Loc Cert.SmallAdamRefIdeal.nD Cert.SmallAdamRefIdeal.τ Cert.SmallAdamRefIdeal.sig) → Buf (Elt Ideal) ℓ) (g : Dev Cert.SmallAdamRefIdeal.nD → PrngReg), Pre_SmallAdamRefIdeal m →
    θ_run (Cert.SmallAdamRefIdeal.defs (F := Ideal)) (onTc (τ := Cert.SmallAdamRefIdeal.τ) (Cert.SmallAdamRefIdeal.main (F := Ideal))) ⟨m, fun _ => 0, g⟩ (fun r => (∀ c : Dev Cert.SmallAdamRefIdeal.nD,
      r.2.mem ((c.tc : Thread Cert.SmallAdamRefIdeal.nD Cert.SmallAdamRefIdeal.τ).loc Cert.SmallAdamRefIdeal.main_arg0) = m ((c.tc : Thread Cert.SmallAdamRefIdeal.nD Cert.SmallAdamRefIdeal.τ).loc Cert.SmallAdamRefIdeal.main_arg0)
      ∧ r.2.mem ((c.tc : Thread Cert.SmallAdamRefIdeal.nD Cert.SmallAdamRefIdeal.τ).loc Cert.SmallAdamRefIdeal.main_arg1) = m ((c.tc : Thread Cert.SmallAdamRefIdeal.nD Cert.SmallAdamRefIdeal.τ).loc Cert.SmallAdamRefIdeal.main_arg1)
      ∧ r.2.mem ((c.tc : Thread Cert.SmallAdamRefIdeal.nD Cert.SmallAdamRefIdeal.τ).loc Cert.SmallAdamRefIdeal.main_arg2) = m ((c.tc : Thread Cert.SmallAdamRefIdeal.nD Cert.SmallAdamRefIdeal.τ).loc Cert.SmallAdamRefIdeal.main_arg2)
      ∧ r.2.mem ((c.tc : Thread Cert.SmallAdamRefIdeal.nD Cert.SmallAdamRefIdeal.τ).loc Cert.SmallAdamRefIdeal.main_arg3) = m ((c.tc : Thread Cert.SmallAdamRefIdeal.nD Cert.SmallAdamRefIdeal.τ).loc Cert.SmallAdamRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3))
      ∧ r.2.sem = fun _ => 0)

def quiescent_NormMidRefIdeal [hNormMidRefIdeal : Cert.NormMidRefIdeal.Facts] : Prop :=
  ∀ (m : (ℓ : Loc Cert.NormMidRefIdeal.nD Cert.NormMidRefIdeal.τ Cert.NormMidRefIdeal.sig) → Buf (Elt Ideal) ℓ) (g : Dev Cert.NormMidRefIdeal.nD → PrngReg), Pre_NormMidRefIdeal m →
    θ_run (Cert.NormMidRefIdeal.defs (F := Ideal)) (onTc (τ := Cert.NormMidRefIdeal.τ) (Cert.NormMidRefIdeal.main (F := Ideal))) ⟨m, fun _ => 0, g⟩ (fun r => (∀ c : Dev Cert.NormMidRefIdeal.nD,
      r.2.mem ((c.tc : Thread Cert.NormMidRefIdeal.nD Cert.NormMidRefIdeal.τ).loc Cert.NormMidRefIdeal.main_arg0) = m ((c.tc : Thread Cert.NormMidRefIdeal.nD Cert.NormMidRefIdeal.τ).loc Cert.NormMidRefIdeal.main_arg0)
      ∧ r.2.mem ((c.tc : Thread Cert.NormMidRefIdeal.nD Cert.NormMidRefIdeal.τ).loc Cert.NormMidRefIdeal.main_arg1) = m ((c.tc : Thread Cert.NormMidRefIdeal.nD Cert.NormMidRefIdeal.τ).loc Cert.NormMidRefIdeal.main_arg1)
      ∧ r.2.mem ((c.tc : Thread Cert.NormMidRefIdeal.nD Cert.NormMidRefIdeal.τ).loc Cert.NormMidRefIdeal.main_arg2) = m ((c.tc : Thread Cert.NormMidRefIdeal.nD Cert.NormMidRefIdeal.τ).loc Cert.NormMidRefIdeal.main_arg2)
      ∧ r.2.mem ((c.tc : Thread Cert.NormMidRefIdeal.nD Cert.NormMidRefIdeal.τ).loc Cert.NormMidRefIdeal.main_arg3) = m ((c.tc : Thread Cert.NormMidRefIdeal.nD Cert.NormMidRefIdeal.τ).loc Cert.NormMidRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)) (v5 : (c : Dev Cert.KernelIdeal.nD) → Buf (Elt Ideal) ((c.tc : Thread Cert.KernelIdeal.nD Cert.KernelIdeal.τ).loc Cert.KernelIdeal.main_v58_5)) (v6 : (c : Dev Cert.KernelIdeal.nD) → Buf (Elt Ideal) ((c.tc : Thread Cert.KernelIdeal.nD Cert.KernelIdeal.τ).loc Cert.KernelIdeal.main_v58_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_v58_4) = v4 c
          ∧ r.2.mem ((c.tc : Thread Cert.KernelIdeal.nD Cert.KernelIdeal.τ).loc Cert.KernelIdeal.main_v58_5) = v5 c
          ∧ r.2.mem ((c.tc : Thread Cert.KernelIdeal.nD Cert.KernelIdeal.τ).loc Cert.KernelIdeal.main_v58_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v196) = v2 c
          ∧ r.2.mem ((c.tc : Thread Cert.ReferenceIdeal.nD Cert.ReferenceIdeal.τ).loc Cert.ReferenceIdeal.main_v198) = v3 c
          ∧ r.2.mem ((c.tc : Thread Cert.ReferenceIdeal.nD Cert.ReferenceIdeal.τ).loc Cert.ReferenceIdeal.main_v199) = v4 c
          ∧ r.2.mem ((c.tc : Thread Cert.ReferenceIdeal.nD Cert.ReferenceIdeal.τ).loc Cert.ReferenceIdeal.main_v200) = v5 c
          ∧ r.2.mem ((c.tc : Thread Cert.ReferenceIdeal.nD Cert.ReferenceIdeal.τ).loc Cert.ReferenceIdeal.main_v201) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)
      ∧ m' ((c.tc : Thread Cert.FfnInDxRefIdeal.nD Cert.FfnInDxRefIdeal.τ).loc Cert.FfnInDxRefIdeal.main_arg3) = m ((c.tc : Thread Cert.FfnInDxIdeal.nD Cert.FfnInDxIdeal.τ).loc Cert.FfnInDxIdeal.main_arg3)) →
    ∃ (v0 : (c : Dev Cert.FfnInDxIdeal.nD) → Buf (Elt Ideal) ((c.tc : Thread Cert.FfnInDxIdeal.nD Cert.FfnInDxIdeal.τ).loc Cert.FfnInDxIdeal.main_v5)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v5) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
          ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v5) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2)
          ∧ r.2.mem ((c.tc : Thread Cert.FfnInDxRefIdeal.nD Cert.FfnInDxRefIdeal.τ).loc Cert.FfnInDxRefIdeal.main_arg3) = m' ((c.tc : Thread Cert.FfnInDxRefIdeal.nD Cert.FfnInDxRefIdeal.τ).loc Cert.FfnInDxRefIdeal.main_arg3))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)) →
    ∃ (v0 : (c : Dev Cert.FfnInDwIdeal.nD) → Buf (Elt Ideal) ((c.tc : Thread Cert.FfnInDwIdeal.nD Cert.FfnInDwIdeal.τ).loc Cert.FfnInDwIdeal.main_v3_0)) (v1 : (c : Dev Cert.FfnInDwIdeal.nD) → Buf (Elt Ideal) ((c.tc : Thread Cert.FfnInDwIdeal.nD Cert.FfnInDwIdeal.τ).loc Cert.FfnInDwIdeal.main_v3_1)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v3_0) = v0 c
          ∧ r.2.mem ((c.tc : Thread Cert.FfnInDwIdeal.nD Cert.FfnInDwIdeal.τ).loc Cert.FfnInDwIdeal.main_v3_1) = v1 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v6) = v0 c
          ∧ r.2.mem ((c.tc : Thread Cert.FfnInDwRefIdeal.nD Cert.FfnInDwRefIdeal.τ).loc Cert.FfnInDwRefIdeal.main_v4) = v1 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v2_0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v2_0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v3) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v0) = v0 c
          ∧ r.2.mem ((c.tc : Thread Cert.FfnInRefIdeal.nD Cert.FfnInRefIdeal.τ).loc Cert.FfnInRefIdeal.main_v1) = v1 c
          ∧ r.2.mem ((c.tc : Thread Cert.FfnInRefIdeal.nD Cert.FfnInRefIdeal.τ).loc Cert.FfnInRefIdeal.main_v6) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v1) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_ProjMain_ProjMainIdeal : Prop :=
  True

def algebraic_ProjMainIdeal_ProjMainRefIdeal [hProjMainIdeal : Cert.ProjMainIdeal.Facts] [hProjMainRefIdeal : Cert.ProjMainRefIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainRefIdeal.nD Cert.ProjMainRefIdeal.τ Cert.ProjMainRefIdeal.sig) → Buf (Elt Ideal) ℓ) (g' : Dev Cert.ProjMainRefIdeal.nD → PrngReg), Pre_ProjMainIdeal m →
    (∀ c : Dev Cert.ProjMainIdeal.nD,
      m' ((c.tc : Thread Cert.ProjMainRefIdeal.nD Cert.ProjMainRefIdeal.τ).loc Cert.ProjMainRefIdeal.main_arg0) = m ((c.tc : Thread Cert.ProjMainIdeal.nD Cert.ProjMainIdeal.τ).loc Cert.ProjMainIdeal.main_arg0)
      ∧ m' ((c.tc : Thread Cert.ProjMainRefIdeal.nD Cert.ProjMainRefIdeal.τ).loc Cert.ProjMainRefIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v6)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v6) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainRefIdeal.defs (F := Ideal)) (onTc (τ := Cert.ProjMainRefIdeal.τ) (Cert.ProjMainRefIdeal.main (F := Ideal))) ⟨m', fun _ => 0, g'⟩ (fun r => ∀ c : Dev Cert.ProjMainRefIdeal.nD,
          r.2.mem ((c.tc : Thread Cert.ProjMainRefIdeal.nD Cert.ProjMainRefIdeal.τ).loc Cert.ProjMainRefIdeal.main_v5) = v0 c
          ∧ r.2.mem ((c.tc : Thread Cert.ProjMainRefIdeal.nD Cert.ProjMainRefIdeal.τ).loc Cert.ProjMainRefIdeal.main_arg0) = m' ((c.tc : Thread Cert.ProjMainRefIdeal.nD Cert.ProjMainRefIdeal.τ).loc Cert.ProjMainRefIdeal.main_arg0)
          ∧ r.2.mem ((c.tc : Thread Cert.ProjMainRefIdeal.nD Cert.ProjMainRefIdeal.τ).loc Cert.ProjMainRefIdeal.main_arg1) = m' ((c.tc : Thread Cert.ProjMainRefIdeal.nD Cert.ProjMainRefIdeal.τ).loc Cert.ProjMainRefIdeal.main_arg1))

def preserves_ProjMainDx_ProjMainDxIdeal : Prop :=
  True

def algebraic_ProjMainDxIdeal_ProjMainDxRefIdeal [hProjMainDxIdeal : Cert.ProjMainDxIdeal.Facts] [hProjMainDxRefIdeal : Cert.ProjMainDxRefIdeal.Facts] : Prop :=
  ∀ (m : (ℓ : Loc Cert.ProjMainDxIdeal.nD Cert.ProjMainDxIdeal.τ Cert.ProjMainDxIdeal.sig) → Buf (Elt Ideal) ℓ) (g : Dev Cert.ProjMainDxIdeal.nD → PrngReg)
    (m' : (ℓ : Loc Cert.ProjMainDxRefIdeal.nD Cert.ProjMainDxRefIdeal.τ Cert.ProjMainDxRefIdeal.sig) → Buf (Elt Ideal) ℓ) (g' : Dev Cert.ProjMainDxRefIdeal.nD → PrngReg), Pre_ProjMainDxIdeal m →
    (∀ c : Dev Cert.ProjMainDxIdeal.nD,
      m' ((c.tc : Thread Cert.ProjMainDxRefIdeal.nD Cert.ProjMainDxRefIdeal.τ).loc Cert.ProjMainDxRefIdeal.main_arg0) = m ((c.tc : Thread Cert.ProjMainDxIdeal.nD Cert.ProjMainDxIdeal.τ).loc Cert.ProjMainDxIdeal.main_arg0)
      ∧ m' ((c.tc : Thread Cert.ProjMainDxRefIdeal.nD Cert.ProjMainDxRefIdeal.τ).loc Cert.ProjMainDxRefIdeal.main_arg1) = m ((c.tc : Thread Cert.ProjMainDxIdeal.nD Cert.ProjMainDxIdeal.τ).loc Cert.ProjMainDxIdeal.main_arg1)) →
    ∃ (v0 : (c : Dev Cert.ProjMainDxIdeal.nD) → Buf (Elt Ideal) ((c.tc : Thread Cert.ProjMainDxIdeal.nD Cert.ProjMainDxIdeal.τ).loc Cert.ProjMainDxIdeal.main_v6)),
      θ_run (Cert.ProjMainDxIdeal.defs (F := Ideal)) (onTc (τ := Cert.ProjMainDxIdeal.τ) (Cert.ProjMainDxIdeal.main (F := Ideal))) ⟨m, fun _ => 0, g⟩ (fun r => ∀ c : Dev Cert.ProjMainDxIdeal.nD,
          r.2.mem ((c.tc : Thread Cert.ProjMainDxIdeal.nD Cert.ProjMainDxIdeal.τ).loc Cert.ProjMainDxIdeal.main_v6) = v0 c
          ∧ r.2.mem ((c.tc : Thread Cert.ProjMainDxIdeal.nD Cert.ProjMainDxIdeal.τ).loc Cert.ProjMainDxIdeal.main_arg0) = m ((c.tc : Thread Cert.ProjMainDxIdeal.nD Cert.ProjMainDxIdeal.τ).loc Cert.ProjMainDxIdeal.main_arg0)
          ∧ r.2.mem ((c.tc : Thread Cert.ProjMainDxIdeal.nD Cert.ProjMainDxIdeal.τ).loc Cert.ProjMainDxIdeal.main_arg1) = m ((c.tc : Thread Cert.ProjMainDxIdeal.nD Cert.ProjMainDxIdeal.τ).loc Cert.ProjMainDxIdeal.main_arg1))
      ∧ θ_run (Cert.ProjMainDxRefIdeal.defs (F := Ideal)) (onTc (τ := Cert.ProjMainDxRefIdeal.τ) (Cert.ProjMainDxRefIdeal.main (F := Ideal))) ⟨m', fun _ => 0, g'⟩ (fun r => ∀ c : Dev Cert.ProjMainDxRefIdeal.nD,
          r.2.mem ((c.tc : Thread Cert.ProjMainDxRefIdeal.nD Cert.ProjMainDxRefIdeal.τ).loc Cert.ProjMainDxRefIdeal.main_v12) = v0 c
          ∧ r.2.mem ((c.tc : Thread Cert.ProjMainDxRefIdeal.nD Cert.ProjMainDxRefIdeal.τ).loc Cert.ProjMainDxRefIdeal.main_arg0) = m' ((c.tc : Thread Cert.ProjMainDxRefIdeal.nD Cert.ProjMainDxRefIdeal.τ).loc Cert.ProjMainDxRefIdeal.main_arg0)
          ∧ r.2.mem ((c.tc : Thread Cert.ProjMainDxRefIdeal.nD Cert.ProjMainDxRefIdeal.τ).loc Cert.ProjMainDxRefIdeal.main_arg1) = m' ((c.tc : Thread Cert.ProjMainDxRefIdeal.nD Cert.ProjMainDxRefIdeal.τ).loc Cert.ProjMainDxRefIdeal.main_arg1))

def preserves_ProjMainDw_ProjMainDwIdeal : Prop :=
  True

def algebraic_ProjMainDwIdeal_ProjMainDwRefIdeal [hProjMainDwIdeal : Cert.ProjMainDwIdeal.Facts] [hProjMainDwRefIdeal : Cert.ProjMainDwRefIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg)
    (m' : (ℓ : Loc Cert.ProjMainDwRefIdeal.nD Cert.ProjMainDwRefIdeal.τ Cert.ProjMainDwRefIdeal.sig) → Buf (Elt Ideal) ℓ) (g' : Dev Cert.ProjMainDwRefIdeal.nD → PrngReg), Pre_ProjMainDwIdeal m →
    (∀ c : Dev Cert.ProjMainDwIdeal.nD,
      m' ((c.tc : Thread Cert.ProjMainDwRefIdeal.nD Cert.ProjMainDwRefIdeal.τ).loc Cert.ProjMainDwRefIdeal.main_arg0) = m ((c.tc : Thread Cert.ProjMainDwIdeal.nD Cert.ProjMainDwIdeal.τ).loc Cert.ProjMainDwIdeal.main_arg0)
      ∧ m' ((c.tc : Thread Cert.ProjMainDwRefIdeal.nD Cert.ProjMainDwRefIdeal.τ).loc Cert.ProjMainDwRefIdeal.main_arg1) = m ((c.tc : Thread Cert.ProjMainDwIdeal.nD Cert.ProjMainDwIdeal.τ).loc Cert.ProjMainDwIdeal.main_arg1)) →
    ∃ (v0 : (c : Dev Cert.ProjMainDwIdeal.nD) → Buf (Elt Ideal) ((c.tc : Thread Cert.ProjMainDwIdeal.nD Cert.ProjMainDwIdeal.τ).loc Cert.ProjMainDwIdeal.main_v2_0)),
      θ_run (Cert.ProjMainDwIdeal.defs (F := Ideal)) (onTc (τ := Cert.ProjMainDwIdeal.τ) (Cert.ProjMainDwIdeal.main (F := Ideal))) ⟨m, fun _ => 0, g⟩ (fun r => ∀ c : Dev Cert.ProjMainDwIdeal.nD,
          r.2.mem ((c.tc : Thread Cert.ProjMainDwIdeal.nD Cert.ProjMainDwIdeal.τ).loc Cert.ProjMainDwIdeal.main_v2_0) = v0 c
          ∧ r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
          ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ θ_run (Cert.ProjMainDwRefIdeal.defs (F := Ideal)) (onTc (τ := Cert.ProjMainDwRefIdeal.τ) (Cert.ProjMainDwRefIdeal.main (F := Ideal))) ⟨m', fun _ => 0, g'⟩ (fun r => ∀ c : Dev Cert.ProjMainDwRefIdeal.nD,
          r.2.mem ((c.tc : Thread Cert.ProjMainDwRefIdeal.nD Cert.ProjMainDwRefIdeal.τ).loc Cert.ProjMainDwRefIdeal.main_v16) = v0 c
          ∧ r.2.mem ((c.tc : Thread Cert.ProjMainDwRefIdeal.nD Cert.ProjMainDwRefIdeal.τ).loc Cert.ProjMainDwRefIdeal.main_arg0) = m' ((c.tc : Thread Cert.ProjMainDwRefIdeal.nD Cert.ProjMainDwRefIdeal.τ).loc Cert.ProjMainDwRefIdeal.main_arg0)
          ∧ r.2.mem ((c.tc : Thread Cert.ProjMainDwRefIdeal.nD Cert.ProjMainDwRefIdeal.τ).loc Cert.ProjMainDwRefIdeal.main_arg1) = m' ((c.tc : Thread Cert.ProjMainDwRefIdeal.nD Cert.ProjMainDwRefIdeal.τ).loc Cert.ProjMainDwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v4_0)) (v1 : (c : Dev Cert.OutProjDxIdeal.nD) → Buf (Elt Ideal) ((c.tc : Thread Cert.OutProjDxIdeal.nD Cert.OutProjDxIdeal.τ).loc Cert.OutProjDxIdeal.main_v4_1)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v4_0) = v0 c
          ∧ r.2.mem ((c.tc : Thread Cert.OutProjDxIdeal.nD Cert.OutProjDxIdeal.τ).loc Cert.OutProjDxIdeal.main_v4_1) = v1 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v5) = v0 c
          ∧ r.2.mem ((c.tc : Thread Cert.OutProjDxRefIdeal.nD Cert.OutProjDxRefIdeal.τ).loc Cert.OutProjDxRefIdeal.main_v6) = v1 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v2_0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v2_0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v3) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_FfnOutDx_FfnOutDxIdeal : Prop :=
  True

def algebraic_FfnOutDxIdeal_FfnOutDxRefIdeal_pre_out_dx_finite [hFfnOutDxIdeal : Cert.FfnOutDxIdeal.Facts] [hFfnOutDxRefIdeal : Cert.FfnOutDxRefIdeal.Facts] [hPre_out_dx_finite : Cert.Pre_out_dx_finite.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal_out_dx_finite m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)
      ∧ m' ((c.tc : Thread Cert.FfnOutDxRefIdeal.nD Cert.FfnOutDxRefIdeal.τ).loc Cert.FfnOutDxRefIdeal.main_arg3) = m ((c.tc : Thread Cert.FfnOutDxIdeal.nD Cert.FfnOutDxIdeal.τ).loc Cert.FfnOutDxIdeal.main_arg3)) →
    ∃ (v0 : (c : Dev Cert.FfnOutDxIdeal.nD) → Buf (Elt Ideal) ((c.tc : Thread Cert.FfnOutDxIdeal.nD Cert.FfnOutDxIdeal.τ).loc Cert.FfnOutDxIdeal.main_v2_0)) (v1 : (c : Dev Cert.FfnOutDxIdeal.nD) → Buf (Elt Ideal) ((c.tc : Thread Cert.FfnOutDxIdeal.nD Cert.FfnOutDxIdeal.τ).loc Cert.FfnOutDxIdeal.main_v2_1)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v2_0) = v0 c
          ∧ r.2.mem ((c.tc : Thread Cert.FfnOutDxIdeal.nD Cert.FfnOutDxIdeal.τ).loc Cert.FfnOutDxIdeal.main_v2_1) = v1 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2)
          ∧ r.2.mem ((c.tc : Thread Cert.FfnOutDxIdeal.nD Cert.FfnOutDxIdeal.τ).loc Cert.FfnOutDxIdeal.main_arg3) = m ((c.tc : Thread Cert.FfnOutDxIdeal.nD Cert.FfnOutDxIdeal.τ).loc Cert.FfnOutDxIdeal.main_arg3))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v7) = v0 c
          ∧ r.2.mem ((c.tc : Thread Cert.FfnOutDxRefIdeal.nD Cert.FfnOutDxRefIdeal.τ).loc Cert.FfnOutDxRefIdeal.main_v8) = v1 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2)
          ∧ r.2.mem ((c.tc : Thread Cert.FfnOutDxRefIdeal.nD Cert.FfnOutDxRefIdeal.τ).loc Cert.FfnOutDxRefIdeal.main_arg3) = m' ((c.tc : Thread Cert.FfnOutDxRefIdeal.nD Cert.FfnOutDxRefIdeal.τ).loc Cert.FfnOutDxRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_1)) (v1 : (c : Dev Cert.AdamInIdeal.nD) → Buf (Elt Ideal) ((c.tc : Thread Cert.AdamInIdeal.nD Cert.AdamInIdeal.τ).loc Cert.AdamInIdeal.main_v0_2)) (v2 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_1) = v0 c
          ∧ r.2.mem ((c.tc : Thread Cert.AdamInIdeal.nD Cert.AdamInIdeal.τ).loc Cert.AdamInIdeal.main_v0_2) = v1 c
          ∧ r.2.mem ((c.tc : Thread Cert.AdamInIdeal.nD Cert.AdamInIdeal.τ).loc Cert.AdamInIdeal.main_v0_3) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_1)) (v1 : (c : Dev Cert.AdamConvIdeal.nD) → Buf (Elt Ideal) ((c.tc : Thread Cert.AdamConvIdeal.nD Cert.AdamConvIdeal.τ).loc Cert.AdamConvIdeal.main_v0_2)) (v2 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_1) = v0 c
          ∧ r.2.mem ((c.tc : Thread Cert.AdamConvIdeal.nD Cert.AdamConvIdeal.τ).loc Cert.AdamConvIdeal.main_v0_2) = v1 c
          ∧ r.2.mem ((c.tc : Thread Cert.AdamConvIdeal.nD Cert.AdamConvIdeal.τ).loc Cert.AdamConvIdeal.main_v0_3) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_1)) (v1 : (c : Dev Cert.AdamPoolIdeal.nD) → Buf (Elt Ideal) ((c.tc : Thread Cert.AdamPoolIdeal.nD Cert.AdamPoolIdeal.τ).loc Cert.AdamPoolIdeal.main_v0_2)) (v2 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_1) = v0 c
          ∧ r.2.mem ((c.tc : Thread Cert.AdamPoolIdeal.nD Cert.AdamPoolIdeal.τ).loc Cert.AdamPoolIdeal.main_v0_2) = v1 c
          ∧ r.2.mem ((c.tc : Thread Cert.AdamPoolIdeal.nD Cert.AdamPoolIdeal.τ).loc Cert.AdamPoolIdeal.main_v0_3) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_1)) (v1 : (c : Dev Cert.AdamOutIdeal.nD) → Buf (Elt Ideal) ((c.tc : Thread Cert.AdamOutIdeal.nD Cert.AdamOutIdeal.τ).loc Cert.AdamOutIdeal.main_v0_2)) (v2 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_1) = v0 c
          ∧ r.2.mem ((c.tc : Thread Cert.AdamOutIdeal.nD Cert.AdamOutIdeal.τ).loc Cert.AdamOutIdeal.main_v0_2) = v1 c
          ∧ r.2.mem ((c.tc : Thread Cert.AdamOutIdeal.nD Cert.AdamOutIdeal.τ).loc Cert.AdamOutIdeal.main_v0_3) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_1)) (v1 : (c : Dev Cert.AdamGateIdeal.nD) → Buf (Elt Ideal) ((c.tc : Thread Cert.AdamGateIdeal.nD Cert.AdamGateIdeal.τ).loc Cert.AdamGateIdeal.main_v0_2)) (v2 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_1) = v0 c
          ∧ r.2.mem ((c.tc : Thread Cert.AdamGateIdeal.nD Cert.AdamGateIdeal.τ).loc Cert.AdamGateIdeal.main_v0_2) = v1 c
          ∧ r.2.mem ((c.tc : Thread Cert.AdamGateIdeal.nD Cert.AdamGateIdeal.τ).loc Cert.AdamGateIdeal.main_v0_3) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_1)) (v1 : (c : Dev Cert.AdamDownIdeal.nD) → Buf (Elt Ideal) ((c.tc : Thread Cert.AdamDownIdeal.nD Cert.AdamDownIdeal.τ).loc Cert.AdamDownIdeal.main_v0_2)) (v2 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_1) = v0 c
          ∧ r.2.mem ((c.tc : Thread Cert.AdamDownIdeal.nD Cert.AdamDownIdeal.τ).loc Cert.AdamDownIdeal.main_v0_2) = v1 c
          ∧ r.2.mem ((c.tc : Thread Cert.AdamDownIdeal.nD Cert.AdamDownIdeal.τ).loc Cert.AdamDownIdeal.main_v0_3) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_SmallAdam_SmallAdamIdeal : Prop :=
  True

def algebraic_SmallAdamIdeal_SmallAdamRefIdeal [hSmallAdamIdeal : Cert.SmallAdamIdeal.Facts] [hSmallAdamRefIdeal : Cert.SmallAdamRefIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg)
    (m' : (ℓ : Loc Cert.SmallAdamRefIdeal.nD Cert.SmallAdamRefIdeal.τ Cert.SmallAdamRefIdeal.sig) → Buf (Elt Ideal) ℓ) (g' : Dev Cert.SmallAdamRefIdeal.nD → PrngReg), Pre_SmallAdamIdeal m →
    (∀ c : Dev Cert.SmallAdamIdeal.nD,
      m' ((c.tc : Thread Cert.SmallAdamRefIdeal.nD Cert.SmallAdamRefIdeal.τ).loc Cert.SmallAdamRefIdeal.main_arg0) = m ((c.tc : Thread Cert.SmallAdamIdeal.nD Cert.SmallAdamIdeal.τ).loc Cert.SmallAdamIdeal.main_arg0)
      ∧ m' ((c.tc : Thread Cert.SmallAdamRefIdeal.nD Cert.SmallAdamRefIdeal.τ).loc Cert.SmallAdamRefIdeal.main_arg1) = m ((c.tc : Thread Cert.SmallAdamIdeal.nD Cert.SmallAdamIdeal.τ).loc Cert.SmallAdamIdeal.main_arg1)
      ∧ m' ((c.tc : Thread Cert.SmallAdamRefIdeal.nD Cert.SmallAdamRefIdeal.τ).loc Cert.SmallAdamRefIdeal.main_arg2) = m ((c.tc : Thread Cert.SmallAdamIdeal.nD Cert.SmallAdamIdeal.τ).loc Cert.SmallAdamIdeal.main_arg2)
      ∧ m' ((c.tc : Thread Cert.SmallAdamRefIdeal.nD Cert.SmallAdamRefIdeal.τ).loc Cert.SmallAdamRefIdeal.main_arg3) = m ((c.tc : Thread Cert.SmallAdamIdeal.nD Cert.SmallAdamIdeal.τ).loc Cert.SmallAdamIdeal.main_arg3)) →
    ∃ (v0 : (c : Dev Cert.SmallAdamIdeal.nD) → Buf (Elt Ideal) ((c.tc : Thread Cert.SmallAdamIdeal.nD Cert.SmallAdamIdeal.τ).loc Cert.SmallAdamIdeal.main_v0_0)) (v1 : (c : Dev Cert.SmallAdamIdeal.nD) → Buf (Elt Ideal) ((c.tc : Thread Cert.SmallAdamIdeal.nD Cert.SmallAdamIdeal.τ).loc Cert.SmallAdamIdeal.main_v0_1)) (v2 : (c : Dev Cert.SmallAdamIdeal.nD) → Buf (Elt Ideal) ((c.tc : Thread Cert.SmallAdamIdeal.nD Cert.SmallAdamIdeal.τ).loc Cert.SmallAdamIdeal.main_v0_2)) (v3 : (c : Dev Cert.SmallAdamIdeal.nD) → Buf (Elt Ideal) ((c.tc : Thread Cert.SmallAdamIdeal.nD Cert.SmallAdamIdeal.τ).loc Cert.SmallAdamIdeal.main_v0_3)),
      θ_run (Cert.SmallAdamIdeal.defs (F := Ideal)) (onTc (τ := Cert.SmallAdamIdeal.τ) (Cert.SmallAdamIdeal.main (F := Ideal))) ⟨m, fun _ => 0, g⟩ (fun r => ∀ c : Dev Cert.SmallAdamIdeal.nD,
          r.2.mem ((c.tc : Thread Cert.SmallAdamIdeal.nD Cert.SmallAdamIdeal.τ).loc Cert.SmallAdamIdeal.main_v0_0) = v0 c
          ∧ r.2.mem ((c.tc : Thread Cert.SmallAdamIdeal.nD Cert.SmallAdamIdeal.τ).loc Cert.SmallAdamIdeal.main_v0_1) = v1 c
          ∧ r.2.mem ((c.tc : Thread Cert.SmallAdamIdeal.nD Cert.SmallAdamIdeal.τ).loc Cert.SmallAdamIdeal.main_v0_2) = v2 c
          ∧ r.2.mem ((c.tc : Thread Cert.SmallAdamIdeal.nD Cert.SmallAdamIdeal.τ).loc Cert.SmallAdamIdeal.main_v0_3) = v3 c
          ∧ r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
          ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
          ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
          ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ θ_run (Cert.SmallAdamRefIdeal.defs (F := Ideal)) (onTc (τ := Cert.SmallAdamRefIdeal.τ) (Cert.SmallAdamRefIdeal.main (F := Ideal))) ⟨m', fun _ => 0, g'⟩ (fun r => ∀ c : Dev Cert.SmallAdamRefIdeal.nD,
          r.2.mem ((c.tc : Thread Cert.SmallAdamRefIdeal.nD Cert.SmallAdamRefIdeal.τ).loc Cert.SmallAdamRefIdeal.main_v1) = v0 c
          ∧ r.2.mem ((c.tc : Thread Cert.SmallAdamRefIdeal.nD Cert.SmallAdamRefIdeal.τ).loc Cert.SmallAdamRefIdeal.main_v25) = v1 c
          ∧ r.2.mem ((c.tc : Thread Cert.SmallAdamRefIdeal.nD Cert.SmallAdamRefIdeal.τ).loc Cert.SmallAdamRefIdeal.main_v6) = v2 c
          ∧ r.2.mem ((c.tc : Thread Cert.SmallAdamRefIdeal.nD Cert.SmallAdamRefIdeal.τ).loc Cert.SmallAdamRefIdeal.main_v12) = v3 c
          ∧ r.2.mem ((c.tc : Thread Cert.SmallAdamRefIdeal.nD Cert.SmallAdamRefIdeal.τ).loc Cert.SmallAdamRefIdeal.main_arg0) = m' ((c.tc : Thread Cert.SmallAdamRefIdeal.nD Cert.SmallAdamRefIdeal.τ).loc Cert.SmallAdamRefIdeal.main_arg0)
          ∧ r.2.mem ((c.tc : Thread Cert.SmallAdamRefIdeal.nD Cert.SmallAdamRefIdeal.τ).loc Cert.SmallAdamRefIdeal.main_arg1) = m' ((c.tc : Thread Cert.SmallAdamRefIdeal.nD Cert.SmallAdamRefIdeal.τ).loc Cert.SmallAdamRefIdeal.main_arg1)
          ∧ r.2.mem ((c.tc : Thread Cert.SmallAdamRefIdeal.nD Cert.SmallAdamRefIdeal.τ).loc Cert.SmallAdamRefIdeal.main_arg2) = m' ((c.tc : Thread Cert.SmallAdamRefIdeal.nD Cert.SmallAdamRefIdeal.τ).loc Cert.SmallAdamRefIdeal.main_arg2)
          ∧ r.2.mem ((c.tc : Thread Cert.SmallAdamRefIdeal.nD Cert.SmallAdamRefIdeal.τ).loc Cert.SmallAdamRefIdeal.main_arg3) = m' ((c.tc : Thread Cert.SmallAdamRefIdeal.nD Cert.SmallAdamRefIdeal.τ).loc Cert.SmallAdamRefIdeal.main_arg3))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v35) = v0 c
          ∧ r.2.mem ((c.tc : Thread Cert.NormInRefIdeal.nD Cert.NormInRefIdeal.τ).loc Cert.NormInRefIdeal.main_v18) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_NormMid_NormMidIdeal : Prop :=
  True

def algebraic_NormMidIdeal_NormMidRefIdeal [hNormMidIdeal : Cert.NormMidIdeal.Facts] [hNormMidRefIdeal : Cert.NormMidRefIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.NormMidRefIdeal.nD Cert.NormMidRefIdeal.τ Cert.NormMidRefIdeal.sig) → Buf (Elt Ideal) ℓ) (g' : Dev Cert.NormMidRefIdeal.nD → PrngReg), Pre_NormMidIdeal m →
    (∀ c : Dev Cert.NormMidIdeal.nD,
      m' ((c.tc : Thread Cert.NormMidRefIdeal.nD Cert.NormMidRefIdeal.τ).loc Cert.NormMidRefIdeal.main_arg0) = m ((c.tc : Thread Cert.NormMidIdeal.nD Cert.NormMidIdeal.τ).loc Cert.NormMidIdeal.main_arg0)
      ∧ m' ((c.tc : Thread Cert.NormMidRefIdeal.nD Cert.NormMidRefIdeal.τ).loc Cert.NormMidRefIdeal.main_arg1) = m ((c.tc : Thread Cert.NormMidIdeal.nD Cert.NormMidIdeal.τ).loc Cert.NormMidIdeal.main_arg1)
      ∧ m' ((c.tc : Thread Cert.NormMidRefIdeal.nD Cert.NormMidRefIdeal.τ).loc Cert.NormMidRefIdeal.main_arg2) = m ((c.tc : Thread Cert.NormMidIdeal.nD Cert.NormMidIdeal.τ).loc Cert.NormMidIdeal.main_arg2)
      ∧ m' ((c.tc : Thread Cert.NormMidRefIdeal.nD Cert.NormMidRefIdeal.τ).loc Cert.NormMidRefIdeal.main_arg3) = m ((c.tc : Thread Cert.NormMidIdeal.nD Cert.NormMidIdeal.τ).loc Cert.NormMidIdeal.main_arg3)) →
    ∃ (v0 : (c : Dev Cert.NormMidIdeal.nD) → Buf (Elt Ideal) ((c.tc : Thread Cert.NormMidIdeal.nD Cert.NormMidIdeal.τ).loc Cert.NormMidIdeal.main_v0_0)) (v1 : (c : Dev Cert.NormMidIdeal.nD) → Buf (Elt Ideal) ((c.tc : Thread Cert.NormMidIdeal.nD Cert.NormMidIdeal.τ).loc Cert.NormMidIdeal.main_v0_1)) (v2 : (c : Dev Cert.NormMidIdeal.nD) → Buf (Elt Ideal) ((c.tc : Thread Cert.NormMidIdeal.nD Cert.NormMidIdeal.τ).loc Cert.NormMidIdeal.main_v0_2)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v0_0) = v0 c
          ∧ r.2.mem ((c.tc : Thread Cert.NormMidIdeal.nD Cert.NormMidIdeal.τ).loc Cert.NormMidIdeal.main_v0_1) = v1 c
          ∧ r.2.mem ((c.tc : Thread Cert.NormMidIdeal.nD Cert.NormMidIdeal.τ).loc Cert.NormMidIdeal.main_v0_2) = v2 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3))
      ∧ θ_run (Cert.NormMidRefIdeal.defs (F := Ideal)) (onTc (τ := Cert.NormMidRefIdeal.τ) (Cert.NormMidRefIdeal.main (F := Ideal))) ⟨m', fun _ => 0, g'⟩ (fun r => ∀ c : Dev Cert.NormMidRefIdeal.nD,
          r.2.mem ((c.tc : Thread Cert.NormMidRefIdeal.nD Cert.NormMidRefIdeal.τ).loc Cert.NormMidRefIdeal.main_v34) = v0 c
          ∧ r.2.mem ((c.tc : Thread Cert.NormMidRefIdeal.nD Cert.NormMidRefIdeal.τ).loc Cert.NormMidRefIdeal.main_v17) = v1 c
          ∧ r.2.mem ((c.tc : Thread Cert.NormMidRefIdeal.nD Cert.NormMidRefIdeal.τ).loc Cert.NormMidRefIdeal.main_v35) = v2 c
          ∧ r.2.mem ((c.tc : Thread Cert.NormMidRefIdeal.nD Cert.NormMidRefIdeal.τ).loc Cert.NormMidRefIdeal.main_arg0) = m' ((c.tc : Thread Cert.NormMidRefIdeal.nD Cert.NormMidRefIdeal.τ).loc Cert.NormMidRefIdeal.main_arg0)
          ∧ r.2.mem ((c.tc : Thread Cert.NormMidRefIdeal.nD Cert.NormMidRefIdeal.τ).loc Cert.NormMidRefIdeal.main_arg1) = m' ((c.tc : Thread Cert.NormMidRefIdeal.nD Cert.NormMidRefIdeal.τ).loc Cert.NormMidRefIdeal.main_arg1)
          ∧ r.2.mem ((c.tc : Thread Cert.NormMidRefIdeal.nD Cert.NormMidRefIdeal.τ).loc Cert.NormMidRefIdeal.main_arg2) = m' ((c.tc : Thread Cert.NormMidRefIdeal.nD Cert.NormMidRefIdeal.τ).loc Cert.NormMidRefIdeal.main_arg2)
          ∧ r.2.mem ((c.tc : Thread Cert.NormMidRefIdeal.nD Cert.NormMidRefIdeal.τ).loc Cert.NormMidRefIdeal.main_arg3) = m' ((c.tc : Thread Cert.NormMidRefIdeal.nD Cert.NormMidRefIdeal.τ).loc Cert.NormMidRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v49) = v1 c
          ∧ r.2.mem ((c.tc : Thread Cert.LossRefIdeal.nD Cert.LossRefIdeal.τ).loc Cert.LossRefIdeal.main_v50) = v2 c
          ∧ r.2.mem ((c.tc : Thread Cert.LossRefIdeal.nD Cert.LossRefIdeal.τ).loc Cert.LossRefIdeal.main_v32) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hKernel : Cert.Kernel.Facts) (hKernelIdeal : Cert.KernelIdeal.Facts) (hReferenceIdeal : Cert.ReferenceIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnOutDw : Cert.FfnOutDw.Facts) (hFfnOutDwIdeal : Cert.FfnOutDwIdeal.Facts) (hFfnOutDwRefIdeal : Cert.FfnOutDwRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hProjMain : Cert.ProjMain.Facts) (hProjMainIdeal : Cert.ProjMainIdeal.Facts) (hProjMainRefIdeal : Cert.ProjMainRefIdeal.Facts) (hProjMainDx : Cert.ProjMainDx.Facts) (hProjMainDxIdeal : Cert.ProjMainDxIdeal.Facts) (hProjMainDxRefIdeal : Cert.ProjMainDxRefIdeal.Facts) (hProjMainDw : Cert.ProjMainDw.Facts) (hProjMainDwIdeal : Cert.ProjMainDwIdeal.Facts) (hProjMainDwRefIdeal : Cert.ProjMainDwRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hFfnOutDx : Cert.FfnOutDx.Facts) (hFfnOutDxIdeal : Cert.FfnOutDxIdeal.Facts) (hFfnOutDxRefIdeal : Cert.FfnOutDxRefIdeal.Facts) (hAdamIn : Cert.AdamIn.Facts) (hAdamInIdeal : Cert.AdamInIdeal.Facts) (hAdamInRefIdeal : Cert.AdamInRefIdeal.Facts) (hAdamConv : Cert.AdamConv.Facts) (hAdamConvIdeal : Cert.AdamConvIdeal.Facts) (hAdamConvRefIdeal : Cert.AdamConvRefIdeal.Facts) (hAdamPool : Cert.AdamPool.Facts) (hAdamPoolIdeal : Cert.AdamPoolIdeal.Facts) (hAdamPoolRefIdeal : Cert.AdamPoolRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hSmallAdam : Cert.SmallAdam.Facts) (hSmallAdamIdeal : Cert.SmallAdamIdeal.Facts) (hSmallAdamRefIdeal : Cert.SmallAdamRefIdeal.Facts) (hNormIn : Cert.NormIn.Facts) (hNormInIdeal : Cert.NormInIdeal.Facts) (hNormInRefIdeal : Cert.NormInRefIdeal.Facts) (hNormMid : Cert.NormMid.Facts) (hNormMidIdeal : Cert.NormMidIdeal.Facts) (hNormMidRefIdeal : Cert.NormMidRefIdeal.Facts) (hLoss : Cert.Loss.Facts) (hLossIdeal : Cert.LossIdeal.Facts) (hLossRefIdeal : Cert.LossRefIdeal.Facts) (hPre_finite : Cert.Pre_finite.Facts) (hPre_out_dx_finite : Cert.Pre_out_dx_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_ProjMain (hProjMain := hProjMain)
    ∧ quiescent_ProjMainIdeal (hProjMainIdeal := hProjMainIdeal)
    ∧ quiescent_ProjMainRefIdeal (hProjMainRefIdeal := hProjMainRefIdeal)
    ∧ quiescent_ProjMainDx (hProjMainDx := hProjMainDx)
    ∧ quiescent_ProjMainDxIdeal (hProjMainDxIdeal := hProjMainDxIdeal)
    ∧ quiescent_ProjMainDxRefIdeal (hProjMainDxRefIdeal := hProjMainDxRefIdeal)
    ∧ quiescent_ProjMainDw (hProjMainDw := hProjMainDw)
    ∧ quiescent_ProjMainDwIdeal (hProjMainDwIdeal := hProjMainDwIdeal)
    ∧ quiescent_ProjMainDwRefIdeal (hProjMainDwRefIdeal := hProjMainDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_FfnOutDx (hFfnOutDx := hFfnOutDx)
    ∧ quiescent_FfnOutDxIdeal (hFfnOutDxIdeal := hFfnOutDxIdeal)
    ∧ quiescent_FfnOutDxIdeal_pre_out_dx_finite (hFfnOutDxIdeal := hFfnOutDxIdeal) (hPre_out_dx_finite := hPre_out_dx_finite)
    ∧ quiescent_FfnOutDxRefIdeal (hFfnOutDxRefIdeal := hFfnOutDxRefIdeal)
    ∧ quiescent_FfnOutDxRefIdeal_pre_out_dx_finite (hFfnOutDxRefIdeal := hFfnOutDxRefIdeal) (hPre_out_dx_finite := hPre_out_dx_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_SmallAdam (hSmallAdam := hSmallAdam)
    ∧ quiescent_SmallAdamIdeal (hSmallAdamIdeal := hSmallAdamIdeal)
    ∧ quiescent_SmallAdamRefIdeal (hSmallAdamRefIdeal := hSmallAdamRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormMid (hNormMid := hNormMid)
    ∧ quiescent_NormMidIdeal (hNormMidIdeal := hNormMidIdeal)
    ∧ quiescent_NormMidRefIdeal (hNormMidRefIdeal := hNormMidRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_ProjMain_ProjMainIdeal
    ∧ algebraic_ProjMainIdeal_ProjMainRefIdeal (hProjMainIdeal := hProjMainIdeal) (hProjMainRefIdeal := hProjMainRefIdeal)
    ∧ preserves_ProjMainDx_ProjMainDxIdeal
    ∧ algebraic_ProjMainDxIdeal_ProjMainDxRefIdeal (hProjMainDxIdeal := hProjMainDxIdeal) (hProjMainDxRefIdeal := hProjMainDxRefIdeal)
    ∧ preserves_ProjMainDw_ProjMainDwIdeal
    ∧ algebraic_ProjMainDwIdeal_ProjMainDwRefIdeal (hProjMainDwIdeal := hProjMainDwIdeal) (hProjMainDwRefIdeal := hProjMainDwRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_FfnOutDx_FfnOutDxIdeal
    ∧ algebraic_FfnOutDxIdeal_FfnOutDxRefIdeal_pre_out_dx_finite (hFfnOutDxIdeal := hFfnOutDxIdeal) (hFfnOutDxRefIdeal := hFfnOutDxRefIdeal) (hPre_out_dx_finite := hPre_out_dx_finite)
    ∧ preserves_AdamIn_AdamInIdeal
    ∧ algebraic_AdamInIdeal_AdamInRefIdeal (hAdamInIdeal := hAdamInIdeal) (hAdamInRefIdeal := hAdamInRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_SmallAdam_SmallAdamIdeal
    ∧ algebraic_SmallAdamIdeal_SmallAdamRefIdeal (hSmallAdamIdeal := hSmallAdamIdeal) (hSmallAdamRefIdeal := hSmallAdamRefIdeal)
    ∧ preserves_NormIn_NormInIdeal
    ∧ algebraic_NormInIdeal_NormInRefIdeal (hNormInIdeal := hNormInIdeal) (hNormInRefIdeal := hNormInRefIdeal)
    ∧ preserves_NormMid_NormMidIdeal
    ∧ algebraic_NormMidIdeal_NormMidRefIdeal (hNormMidIdeal := hNormMidIdeal) (hNormMidRefIdeal := hNormMidRefIdeal)
    ∧ preserves_Loss_LossIdeal
    ∧ algebraic_LossIdeal_LossRefIdeal (hLossIdeal := hLossIdeal) (hLossRefIdeal := hLossRefIdeal)
-- ==== Pre_finite.lean ====
abbrev S8192x3072 : Shape := ⟨2, ![8192, 3072]⟩
abbrev S8192x32 : Shape := ⟨2, ![8192, 32]⟩
abbrev S1x32 : Shape := ⟨2, ![1, 32]⟩
abbrev S8192x2048 : Shape := ⟨2, ![8192, 2048]⟩
abbrev S_ : Shape := ⟨0, ![]⟩

class Facts : Prop where
  bcast_S_S8192x3072 : S_.BroadcastsInDim S8192x3072 (![] : Fin 0 → Fin S8192x3072.rank)
  bcast_S_S8192x32 : S_.BroadcastsInDim S8192x32 (![] : Fin 0 → Fin S8192x32.rank)
  bcast_S_S1x32 : S_.BroadcastsInDim S1x32 (![] : Fin 0 → Fin S1x32.rank)
  bcast_S_S8192x2048 : S_.BroadcastsInDim S8192x2048 (![] : Fin 0 → Fin S8192x2048.rank)

variable [Facts]

def fn {F : FTy → Type} [FloatOps F] (main_arg0 : FVec F S8192x3072 .f32) (main_arg1 : FVec F S8192x32 .f32) (main_arg2 : FVec F S1x32 .f32) (main_arg3 : FVec F S1x32 .f32) (main_arg4 : FVec F S1x32 .f32) (main_arg5 : FVec F S8192x2048 .f32) : IVec S8192x3072 1 × IVec S8192x32 1 × IVec S1x32 1 × IVec S1x32 1 × IVec S1x32 1 × IVec S8192x2048 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x32 .f32 := Host.absf main_arg1
  let main_cst_0 : FVec F S_ .f32 := constant S_ .f32 0x7F800000#32
  let main_v4 : FVec F S8192x32 .f32 := broadcastInDim S8192x32 ![] bcast_S_S8192x32 main_cst_0
  let main_v5 : IVec S8192x32 1 := cmpf .olt main_v3 main_v4
  let main_v6 : FVec F S1x32 .f32 := Host.absf main_arg2
  let main_cst_1 : FVec F S_ .f32 := constant S_ .f32 0x7F800000#32
  let main_v7 : FVec F S1x32 .f32 := broadcastInDim S1x32 ![] bcast_S_S1x32 main_cst_1
  let main_v8 : IVec S1x32 1 := cmpf .olt main_v6 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_v12 : FVec F S1x32 .f32 := Host.absf main_arg4
  let main_cst_3 : FVec F S_ .f32 := constant S_ .f32 0x7F800000#32
  let main_v13 : FVec F S1x32 .f32 := broadcastInDim S1x32 ![] bcast_S_S1x32 main_cst_3
  let main_v14 : IVec S1x32 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Pre_out_dx_finite.lean ====
abbrev S5632x2048 : Shape := ⟨2, ![5632, 2048]⟩
abbrev S8192x5632 : Shape := ⟨2, ![8192, 5632]⟩
abbrev S8192x2048 : Shape := ⟨2, ![8192, 2048]⟩
abbrev S_ : Shape := ⟨0, ![]⟩

class Facts : Prop where
  bcast_S_S5632x2048 : S_.BroadcastsInDim S5632x2048 (![] : Fin 0 → Fin S5632x2048.rank)
  bcast_S_S8192x5632 : S_.BroadcastsInDim S8192x5632 (![] : Fin 0 → Fin S8192x5632.rank)
  bcast_S_S8192x2048 : S_.BroadcastsInDim S8192x2048 (![] : Fin 0 → Fin S8192x2048.rank)

variable [Facts]

def fn {F : FTy → Type} [FloatOps F] (main_arg0 : FVec F S5632x2048 .f32) (main_arg1 : FVec F S8192x5632 .f32) (main_arg2 : FVec F S8192x5632 .f32) (main_arg3 : FVec F S8192x2048 .f32) : IVec S5632x2048 1 × IVec S8192x5632 1 × IVec S8192x2048 1 :=
  let main_v0 : FVec F S5632x2048 .f32 := Host.absf main_arg0
  let main_cst : FVec F S_ .f32 := constant S_ .f32 0x7F800000#32
  let main_v1 : FVec F S5632x2048 .f32 := broadcastInDim S5632x2048 ![] bcast_S_S5632x2048 main_cst
  let main_v2 : IVec S5632x2048 1 := cmpf .olt main_v0 main_v1
  let main_v3 : FVec F S8192x5632 .f32 := Host.absf main_arg2
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S8192x2048 .f32 := Host.absf main_arg3
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Kernel.lean ====
abbrev S8192x3072 : Shape := ⟨2, ![8192, 3072]⟩
abbrev S8192x32 : Shape := ⟨2, ![8192, 32]⟩
abbrev S1x32 : Shape := ⟨2, ![1, 32]⟩
abbrev S8192x2048 : Shape := ⟨2, ![8192, 2048]⟩
abbrev S8192x4x8 : Shape := ⟨3, ![8192, 4, 8]⟩
abbrev S4x8192x8 : Shape := ⟨3, ![4, 8192, 8]⟩
abbrev S4x8x8192 : Shape := ⟨3, ![4, 8, 8192]⟩
abbrev S4x1x8 : Shape := ⟨3, ![4, 1, 8]⟩
abbrev S4x8x1 : Shape := ⟨3, ![4, 8, 1]⟩
abbrev S_ : Shape := ⟨0, ![]⟩
abbrev S8192x4x8x64 : Shape := ⟨4, ![8192, 4, 8, 64]⟩
abbrev S32x256x4x8x64 : Shape := ⟨5, ![32, 256, 4, 8, 64]⟩
abbrev S8192x512 : Shape := ⟨2, ![8192, 512]⟩
abbrev S8192x4x128 : Shape := ⟨3, ![8192, 4, 128]⟩
abbrev S32x256x4x128 : Shape := ⟨4, ![32, 256, 4, 128]⟩
abbrev S32x256x4x8 : Shape := ⟨4, ![32, 256, 4, 8]⟩
abbrev S4x8 : Shape := ⟨2, ![4, 8]⟩
abbrev S1x1x4x8 : Shape := ⟨4, ![1, 1, 4, 8]⟩
abbrev S32x256x4x8x1 : Shape := ⟨5, ![32, 256, 4, 8, 1]⟩
abbrev S32x1x4x8 : Shape := ⟨4, ![32, 1, 4, 8]⟩
abbrev S32x4x8x64x128 : Shape := ⟨5, ![32, 4, 8, 64, 128]⟩
abbrev S32x32x32 : Shape := ⟨3, ![32, 32, 32]⟩
abbrev S32x32x32x1x1 : Shape := ⟨5, ![32, 32, 32, 1, 1]⟩
abbrev S32x4x8 : Shape := ⟨3, ![32, 4, 8]⟩
abbrev S32x32x32x4x8 : Shape := ⟨5, ![32, 32, 32, 4, 8]⟩
abbrev S32x32x4x8 : Shape := ⟨4, ![32, 32, 4, 8]⟩
abbrev S32x32x1 : Shape := ⟨3, ![32, 32, 1]⟩
abbrev S32x32 : Shape := ⟨2, ![32, 32]⟩
abbrev S32x32x1x1 : Shape := ⟨4, ![32, 32, 1, 1]⟩
abbrev S4x8x64x128x32 : Shape := ⟨5, ![4, 8, 64, 128, 32]⟩
abbrev S32x32x64x128 : Shape := ⟨4, ![32, 32, 64, 128]⟩
abbrev S32x32x128x64 : Shape := ⟨4, ![32, 32, 128, 64]⟩
abbrev S256x512 : Shape := ⟨2, ![256, 512]⟩
abbrev S256x128 : Shape := ⟨2, ![256, 128]⟩
abbrev S1x256x8 : Shape := ⟨3, ![1, 256, 8]⟩
abbrev S1x8x256 : Shape := ⟨3, ![1, 8, 256]⟩
abbrev S1x1x8 : Shape := ⟨3, ![1, 1, 8]⟩
abbrev S1x8x1 : Shape := ⟨3, ![1, 8, 1]⟩
abbrev S1x8x128x64 : Shape := ⟨4, ![1, 8, 128, 64]⟩
abbrev S8x128x64 : Shape := ⟨3, ![8, 128, 64]⟩
abbrev S1x8 : Shape := ⟨2, ![1, 8]⟩
abbrev S256x8 : Shape := ⟨2, ![256, 8]⟩
abbrev S8x256 : Shape := ⟨2, ![8, 256]⟩
abbrev S8x1 : Shape := ⟨2, ![8, 1]⟩
abbrev S256x256 : Shape := ⟨2, ![256, 256]⟩
abbrev S128x256 : Shape := ⟨2, ![128, 256]⟩
abbrev S8x1024 : Shape := ⟨2, ![8, 1024]⟩
abbrev S256x1024 : Shape := ⟨2, ![256, 1024]⟩
abbrev S1x256 : Shape := ⟨2, ![1, 256]⟩
abbrev S1x1 : Shape := ⟨2, ![1, 1]⟩
abbrev S256x64 : Shape := ⟨2, ![256, 64]⟩
abbrev S1x1x128x64 : Shape := ⟨4, ![1, 1, 128, 64]⟩
abbrev S128x64 : Shape := ⟨2, ![128, 64]⟩
abbrev S1x128x64 : Shape := ⟨3, ![1, 128, 64]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S1x256x64 : Shape := ⟨3, ![1, 256, 64]⟩
abbrev S8 : Shape := ⟨1, ![8]⟩

abbrev nBuf : Space → Nat
  | .hbm => 96
  | .vmem => 39
  | .smem => 0
  | _ => 0

abbrev bufTy : (tb : Table) → Fin (tcTables nBuf tb) → BufTy
  | .hbm, ⟨0, _⟩ => ⟨S8192x3072, .f32⟩
  | .hbm, ⟨1, _⟩ => ⟨S8192x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S8192x2048, .f32⟩
  | .hbm, ⟨6, _⟩ => ⟨S8192x4x8, .f32⟩
  | .hbm, ⟨7, _⟩ => ⟨S4x8192x8, .f32⟩
  | .hbm, ⟨8, _⟩ => ⟨S4x8x8192, .f32⟩
  | .hbm, ⟨9, _⟩ => ⟨S4x1x8, .f32⟩
  | .hbm, ⟨10, _⟩ => ⟨S4x8x1, .f32⟩
  | .hbm, ⟨11, _⟩ => ⟨S4x1x8, .f32⟩
  | .hbm, ⟨12, _⟩ => ⟨S4x8x1, .f32⟩
  | .hbm, ⟨13, _⟩ => ⟨S4x1x8, .f32⟩
  | .hbm, ⟨14, _⟩ => ⟨S8192x32, .f32⟩
  | .hbm, ⟨15, _⟩ => ⟨S8192x32, .f32⟩
  | .hbm, ⟨16, _⟩ => ⟨S_, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .i1⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S1x32, .f32⟩
  | .hbm, ⟨31, _⟩ => ⟨S1x32, .f32⟩
  | .hbm, ⟨32, _⟩ => ⟨S8192x2048, .f32⟩
  | .hbm, ⟨33, _⟩ => ⟨S8192x4x8x64, .f32⟩
  | .hbm, ⟨34, _⟩ => ⟨S32x256x4x8x64, .f32⟩
  | .hbm, ⟨35, _⟩ => ⟨S8192x512, .f32⟩
  | .hbm, ⟨36, _⟩ => ⟨S8192x4x128, .f32⟩
  | .hbm, ⟨37, _⟩ => ⟨S32x256x4x128, .f32⟩
  | .hbm, ⟨38, _⟩ => ⟨S8192x4x8, .f32⟩
  | .hbm, ⟨39, _⟩ => ⟨S32x256x4x8, .f32⟩
  | .hbm, ⟨40, _⟩ => ⟨S4x8, .f32⟩
  | .hbm, ⟨41, _⟩ => ⟨S1x1x4x8, .f32⟩
  | .hbm, ⟨42, _⟩ => ⟨S32x256x4x8, .f32⟩
  | .hbm, ⟨43, _⟩ => ⟨S32x256x4x8, .f32⟩
  | .hbm, ⟨44, _⟩ => ⟨S_, .f32⟩
  | .hbm, ⟨45, _⟩ => ⟨S_, .f32⟩
  | .hbm, ⟨46, _⟩ => ⟨S32x256x4x8, .f32⟩
  | .hbm, ⟨47, _⟩ => ⟨S32x256x4x8x1, .f32⟩
  | .hbm, ⟨48, _⟩ => ⟨S32x256x4x8x64, .f32⟩
  | .hbm, ⟨49, _⟩ => ⟨S32x256x4x8x64, .f32⟩
  | .hbm, ⟨50, _⟩ => ⟨S32x1x4x8, .f32⟩
  | .hbm, ⟨51, _⟩ => ⟨S32x256x4x8, .f32⟩
  | .hbm, ⟨52, _⟩ => ⟨S32x256x4x8, .f32⟩
  | .hbm, ⟨53, _⟩ => ⟨S32x256x4x8, .f32⟩
  | .hbm, ⟨54, _⟩ => ⟨S32x256x4x8x1, .f32⟩
  | .hbm, ⟨55, _⟩ => ⟨S32x256x4x8x64, .f32⟩
  | .hbm, ⟨56, _⟩ => ⟨S32x256x4x8x64, .f32⟩
  | .hbm, ⟨57, _⟩ => ⟨S32x4x8x64x128, .f32⟩
  | .hbm, ⟨58, _⟩ => ⟨S32x32x32, .i32⟩
  | .hbm, ⟨59, _⟩ => ⟨S32x32x32, .i32⟩
  | .hbm, ⟨60, _⟩ => ⟨S32x32x32, .i32⟩
  | .hbm, ⟨61, _⟩ => ⟨S32x32x32, .i1⟩
  | .hbm, ⟨62, _⟩ => ⟨S32x32x32, .i1⟩
  | .hbm, ⟨63, _⟩ => ⟨S32x32x32, .i1⟩
  | .hbm, ⟨64, _⟩ => ⟨S32x32x32x1x1, .i1⟩
  | .hbm, ⟨65, _⟩ => ⟨S32x1x4x8, .f32⟩
  | .hbm, ⟨66, _⟩ => ⟨S32x4x8, .f32⟩
  | .hbm, ⟨67, _⟩ => ⟨S_, .f32⟩
  | .hbm, ⟨68, _⟩ => ⟨S_, .f32⟩
  | .hbm, ⟨69, _⟩ => ⟨S32x32x32x4x8, .i1⟩
  | .hbm, ⟨70, _⟩ => ⟨S32x32x32x4x8, .f32⟩
  | .hbm, ⟨71, _⟩ => ⟨S32x32x32x4x8, .f32⟩
  | .hbm, ⟨72, _⟩ => ⟨S32x32x32x4x8, .f32⟩
  | .hbm, ⟨73, _⟩ => ⟨S_, .f32⟩
  | .hbm, ⟨74, _⟩ => ⟨S32x32x4x8, .f32⟩
  | .hbm, ⟨75, _⟩ => ⟨S32x32x32, .i1⟩
  | .hbm, ⟨76, _⟩ => ⟨S32x32x1, .i1⟩
  | .hbm, ⟨77, _⟩ => ⟨S32x32, .i1⟩
  | .hbm, ⟨78, _⟩ => ⟨S32x32x1x1, .i1⟩
  | .hbm, ⟨79, _⟩ => ⟨S32x32x4x8, .f32⟩
  | .hbm, ⟨80, _⟩ => ⟨S_, .f32⟩
  | .hbm, ⟨81, _⟩ => ⟨S_, .f32⟩
  | .hbm, ⟨82, _⟩ => ⟨S32x32x4x8, .i1⟩
  | .hbm, ⟨83, _⟩ => ⟨S32x32x4x8, .f32⟩
  | .hbm, ⟨84, _⟩ => ⟨S32x32x4x8, .f32⟩
  | .hbm, ⟨85, _⟩ => ⟨S4x8x64x128x32, .f32⟩
  | .hbm, ⟨86, _⟩ => ⟨S32x4x8x64x128, .f32⟩
  | .hbm, ⟨87, _⟩ => ⟨S32x32x64x128, .f32⟩
  | .hbm, ⟨88, _⟩ => ⟨S32x32x128x64, .f32⟩
  | .hbm, ⟨89, _⟩ => ⟨S8192x2048, .f32⟩
  | .hbm, ⟨90, _⟩ => ⟨S8192x512, .f32⟩
  | .hbm, ⟨91, _⟩ => ⟨S8192x512, .f32⟩
  | .hbm, ⟨92, _⟩ => ⟨S4x8192x8, .f32⟩
  | .hbm, ⟨93, _⟩ => ⟨S4x1x8, .f32⟩
  | .hbm, ⟨94, _⟩ => ⟨S4x1x8, .f32⟩
  | .hbm, ⟨95, _⟩ => ⟨S4x1x8, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x8, .f32⟩
  | .local _ .vmem, ⟨7, _⟩ => ⟨S1x256x8, .f32⟩
  | .local _ .vmem, ⟨8, _⟩ => ⟨S1x8x256, .f32⟩
  | .local _ .vmem, ⟨9, _⟩ => ⟨S1x8x256, .f32⟩
  | .local _ .vmem, ⟨10, _⟩ => ⟨S1x1x8, .f32⟩
  | .local _ .vmem, ⟨11, _⟩ => ⟨S1x1x8, .f32⟩
  | .local _ .vmem, ⟨12, _⟩ => ⟨S1x8x1, .f32⟩
  | .local _ .vmem, ⟨13, _⟩ => ⟨S1x8x1, .f32⟩
  | .local _ .vmem, ⟨14, _⟩ => ⟨S1x1x8, .f32⟩
  | .local _ .vmem, ⟨15, _⟩ => ⟨S1x1x8, .f32⟩
  | .local _ .vmem, ⟨16, _⟩ => ⟨S1x8x1, .f32⟩
  | .local _ .vmem, ⟨17, _⟩ => ⟨S1x8x1, .f32⟩
  | .local _ .vmem, ⟨18, _⟩ => ⟨S1x1x8, .f32⟩
  | .local _ .vmem, ⟨19, _⟩ => ⟨S1x1x8, .f32⟩
  | .local _ .vmem, ⟨20, _⟩ => ⟨S256x512, .f32⟩
  | .local _ .vmem, ⟨21, _⟩ => ⟨S256x512, .f32⟩
  | .local _ .vmem, ⟨22, _⟩ => ⟨S1x8x128x64, .f32⟩
  | .local _ .vmem, ⟨23, _⟩ => ⟨S1x8x128x64, .f32⟩
  | .local _ .vmem, ⟨24, _⟩ => ⟨S256x512, .f32⟩
  | .local _ .vmem, ⟨25, _⟩ => ⟨S256x512, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S1x256x8, .f32⟩
  | .local _ .vmem, ⟨31, _⟩ => ⟨S1x256x8, .f32⟩
  | .local _ .vmem, ⟨32, _⟩ => ⟨S1x1x8, .f32⟩
  | .local _ .vmem, ⟨33, _⟩ => ⟨S1x1x8, .f32⟩
  | .local _ .vmem, ⟨34, _⟩ => ⟨S1x1x8, .f32⟩
  | .local _ .vmem, ⟨35, _⟩ => ⟨S1x1x8, .f32⟩
  | .local _ .vmem, ⟨36, _⟩ => ⟨S1x1x8, .f32⟩
  | .local _ .vmem, ⟨37, _⟩ => ⟨S1x1x8, .f32⟩
  | .local _ .vmem, ⟨38, _⟩ => ⟨S8x128x64, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_call0_cst : Ref sig .tc := ⟨.hbm, 44, rfl⟩
abbrev main_call1_call0_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_v46 : Ref sig .tc := ⟨.hbm, 72, rfl⟩
abbrev main_cst_0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_1 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58_0 : Ref sig .tc := ⟨.hbm, 89, rfl⟩
abbrev main_v58_1 : Ref sig .tc := ⟨.hbm, 90, rfl⟩
abbrev main_v58_2 : Ref sig .tc := ⟨.hbm, 91, rfl⟩
abbrev main_v58_3 : Ref sig .tc := ⟨.hbm, 92, rfl⟩
abbrev main_v58_4 : Ref sig .tc := ⟨.hbm, 93, rfl⟩
abbrev main_v58_5 : Ref sig .tc := ⟨.hbm, 94, rfl⟩
abbrev main_v58_6 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_15 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x8 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x32 : Shape := ⟨2, ![8192, 32]⟩
abbrev S1x32 : Shape := ⟨2, ![1, 32]⟩
abbrev S8192x2048 : Shape := ⟨2, ![8192, 2048]⟩
abbrev S8192x512 : Shape := ⟨2, ![8192, 512]⟩
abbrev S_ : Shape := ⟨0, ![]⟩
abbrev S8192x4x8x64 : Shape := ⟨4, ![8192, 4, 8, 64]⟩
abbrev S8192x4x8 : Shape := ⟨3, ![8192, 4, 8]⟩
abbrev S4x8 : Shape := ⟨2, ![4, 8]⟩
abbrev S8192x4x128 : Shape := ⟨3, ![8192, 4, 128]⟩
abbrev S32x256x4x8x64 : Shape := ⟨5, ![32, 256, 4, 8, 64]⟩
abbrev S32x256x4x8 : Shape := ⟨4, ![32, 256, 4, 8]⟩
abbrev S32x256x4x128 : Shape := ⟨4, ![32, 256, 4, 128]⟩
abbrev S1x1x4x8 : Shape := ⟨4, ![1, 1, 4, 8]⟩
abbrev S32x256x4x8x1 : Shape := ⟨5, ![32, 256, 4, 8, 1]⟩
abbrev S32x256x1x4x8 : Shape := ⟨5, ![32, 256, 1, 4, 8]⟩
abbrev S32x1x256x4x8 : Shape := ⟨5, ![32, 1, 256, 4, 8]⟩
abbrev S32x256x256x4x8 : Shape := ⟨5, ![32, 256, 256, 4, 8]⟩
abbrev S256x256 : Shape := ⟨2, ![256, 256]⟩
abbrev S256x256x1x1 : Shape := ⟨4, ![256, 256, 1, 1]⟩
abbrev S32x4x256x256 : Shape := ⟨4, ![32, 4, 256, 256]⟩
abbrev S32x256x256x4 : Shape := ⟨4, ![32, 256, 256, 4]⟩
abbrev S32x256x256x4x1 : Shape := ⟨5, ![32, 256, 256, 4, 1]⟩
abbrev S32x4x8x64x256 : Shape := ⟨5, ![32, 4, 8, 64, 256]⟩
abbrev S32x1x4x8 : Shape := ⟨4, ![32, 1, 4, 8]⟩
abbrev S32x4x8x64x128 : Shape := ⟨5, ![32, 4, 8, 64, 128]⟩
abbrev S32x32x32 : Shape := ⟨3, ![32, 32, 32]⟩
abbrev S32x32x32x1x1 : Shape := ⟨5, ![32, 32, 32, 1, 1]⟩
abbrev S32x4x8 : Shape := ⟨3, ![32, 4, 8]⟩
abbrev S32x32x32x4x8 : Shape := ⟨5, ![32, 32, 32, 4, 8]⟩
abbrev S32x32x4x8 : Shape := ⟨4, ![32, 32, 4, 8]⟩
abbrev S32x32x1 : Shape := ⟨3, ![32, 32, 1]⟩
abbrev S32x32 : Shape := ⟨2, ![32, 32]⟩
abbrev S32x32x1x1 : Shape := ⟨4, ![32, 32, 1, 1]⟩
abbrev S4x8x64x128x32 : Shape := ⟨5, ![4, 8, 64, 128, 32]⟩
abbrev S4x8x1 : Shape := ⟨3, ![4, 8, 1]⟩
abbrev S1x4x8x1 : Shape := ⟨4, ![1, 4, 8, 1]⟩
abbrev S32x4x256x128 : Shape := ⟨4, ![32, 4, 256, 128]⟩
abbrev S4x8x32x32 : Shape := ⟨4, ![4, 8, 32, 32]⟩
abbrev S32x4x128x256 : Shape := ⟨4, ![32, 4, 128, 256]⟩
abbrev S32x4x8x256x256 : Shape := ⟨5, ![32, 4, 8, 256, 256]⟩
abbrev S32 : Shape := ⟨1, ![32]⟩
abbrev S4x8192x8 : Shape := ⟨3, ![4, 8192, 8]⟩
abbrev S4x1x8 : Shape := ⟨3, ![4, 1, 8]⟩

abbrev nBuf : Space → Nat
  | .hbm => 315
  | .vmem => 0
  | .smem => 0
  | _ => 0

abbrev hbmTy0_0 (i : Nat) : BufTy := match i % 128 with
  | 0 => ⟨S8192x3072, .f32⟩
  | 1 => ⟨S8192x32, .f32⟩
  | 2 => ⟨S1x32, .f32⟩
  | 3 => ⟨S1x32, .f32⟩
  | 4 => ⟨S1x32, .f32⟩
  | 5 => ⟨S8192x2048, .f32⟩
  | 6 => ⟨S8192x2048, .f32⟩
  | 7 => ⟨S8192x512, .f32⟩
  | 8 => ⟨S8192x512, .f32⟩
  | 9 => ⟨S8192x32, .f32⟩
  | 10 => ⟨S8192x32, .f32⟩
  | 11 => ⟨S_, .f32⟩
  | 12 => ⟨S8192x32, .f32⟩
  | 13 => ⟨S8192x32, .f32⟩
  | 14 => ⟨S8192x32, .f32⟩
  | 15 => ⟨S8192x32, .f32⟩
  | 16 => ⟨S8192x32, .i1⟩
  | 17 => ⟨S8192x32, .f32⟩
  | 18 => ⟨S8192x32, .f32⟩
  | 19 => ⟨S8192x32, .f32⟩
  | 20 => ⟨S8192x32, .f32⟩
  | 21 => ⟨S8192x32, .f32⟩
  | 22 => ⟨S8192x32, .f32⟩
  | 23 => ⟨S8192x32, .f32⟩
  | 24 => ⟨S8192x32, .f32⟩
  | 25 => ⟨S_, .f32⟩
  | 26 => ⟨S8192x32, .f32⟩
  | 27 => ⟨S8192x32, .i1⟩
  | 28 => ⟨S_, .f32⟩
  | 29 => ⟨S8192x32, .f32⟩
  | 30 => ⟨S8192x32, .f32⟩
  | 31 => ⟨S_, .f32⟩
  | 32 => ⟨S8192x32, .f32⟩
  | 33 => ⟨S8192x32, .i1⟩
  | 34 => ⟨S_, .f32⟩
  | 35 => ⟨S8192x32, .f32⟩
  | 36 => ⟨S8192x32, .f32⟩
  | 37 => ⟨S8192x32, .f32⟩
  | 38 => ⟨S8192x32, .f32⟩
  | 39 => ⟨S_, .f32⟩
  | 40 => ⟨S_, .f32⟩
  | 41 => ⟨S_, .i1⟩
  | 42 => ⟨S_, .f32⟩
  | 43 => ⟨S_, .f32⟩
  | 44 => ⟨S_, .f32⟩
  | 45 => ⟨S_, .f32⟩
  | 46 => ⟨S8192x32, .f32⟩
  | 47 => ⟨S8192x32, .i1⟩
  | 48 => ⟨S_, .f32⟩
  | 49 => ⟨S8192x32, .f32⟩
  | 50 => ⟨S8192x32, .f32⟩
  | 51 => ⟨S8192x32, .f32⟩
  | 52 => ⟨S8192x32, .f32⟩
  | 53 => ⟨S8192x32, .f32⟩
  | 54 => ⟨S_, .f32⟩
  | 55 => ⟨S8192x32, .f32⟩
  | 56 => ⟨S8192x32, .f32⟩
  | 57 => ⟨S1x32, .f32⟩
  | 58 => ⟨S1x32, .f32⟩
  | 59 => ⟨S8192x4x8x64, .f32⟩
  | 60 => ⟨S8192x4x8, .f32⟩
  | 61 => ⟨S4x8, .f32⟩
  | 62 => ⟨S8192x4x128, .f32⟩
  | 63 => ⟨S8192x4x128, .f32⟩
  | 64 => ⟨S32x256x4x8x64, .f32⟩
  | 65 => ⟨S32x256x4x8, .f32⟩
  | 66 => ⟨S32x256x4x128, .f32⟩
  | 67 => ⟨S32x256x4x128, .f32⟩
  | 68 => ⟨S1x1x4x8, .f32⟩
  | 69 => ⟨S32x256x4x8, .f32⟩
  | 70 => ⟨S32x256x4x8, .f32⟩
  | 71 => ⟨S_, .f32⟩
  | 72 => ⟨S_, .f32⟩
  | 73 => ⟨S32x256x4x8, .f32⟩
  | 74 => ⟨S32x256x4x8x1, .f32⟩
  | 75 => ⟨S32x256x4x8x64, .f32⟩
  | 76 => ⟨S32x256x4x8x64, .f32⟩
  | 77 => ⟨S32x256x1x4x8, .f32⟩
  | 78 => ⟨S32x1x256x4x8, .f32⟩
  | 79 => ⟨S32x256x256x4x8, .f32⟩
  | 80 => ⟨S32x256x256x4x8, .f32⟩
  | 81 => ⟨S32x256x256x4x8, .f32⟩
  | 82 => ⟨S_, .i1⟩
  | 83 => ⟨S256x256, .i1⟩
  | 84 => ⟨S256x256, .i32⟩
  | 85 => ⟨S_, .i32⟩
  | 86 => ⟨S256x256, .i32⟩
  | 87 => ⟨S256x256, .i32⟩
  | 88 => ⟨S256x256, .i32⟩
  | 89 => ⟨S256x256, .i1⟩
  | 90 => ⟨S_, .i1⟩
  | 91 => ⟨S256x256, .i1⟩
  | 92 => ⟨S256x256, .i1⟩
  | 93 => ⟨S256x256x1x1, .i1⟩
  | 94 => ⟨S_, .f32⟩
  | 95 => ⟨S_, .f32⟩
  | 96 => ⟨S32x256x256x4x8, .i1⟩
  | 97 => ⟨S32x256x256x4x8, .f32⟩
  | 98 => ⟨S32x256x256x4x8, .f32⟩
  | 99 => ⟨S_, .f32⟩
  | 100 => ⟨S32x256x256x4x8, .f32⟩
  | 101 => ⟨S32x256x256x4x8, .f32⟩
  | 102 => ⟨S32x4x256x256, .f32⟩
  | 103 => ⟨S32x256x256x4, .f32⟩
  | 104 => ⟨S32x256x256x4x1, .f32⟩
  | 105 => ⟨S32x256x256x4x8, .f32⟩
  | 106 => ⟨S32x256x256x4x8, .f32⟩
  | 107 => ⟨S32x4x8x64x256, .f32⟩
  | 108 => ⟨S32x256x4x8x64, .f32⟩
  | 109 => ⟨S32x1x4x8, .f32⟩
  | 110 => ⟨S32x256x4x8, .f32⟩
  | 111 => ⟨S32x256x4x8, .f32⟩
  | 112 => ⟨S32x256x4x8, .f32⟩
  | 113 => ⟨S32x256x4x8x1, .f32⟩
  | 114 => ⟨S32x256x4x8x64, .f32⟩
  | 115 => ⟨S32x256x4x8x64, .f32⟩
  | 116 => ⟨S32x4x8x64x128, .f32⟩
  | 117 => ⟨S32x32x32, .i32⟩
  | 118 => ⟨S32x32x32, .i32⟩
  | 119 => ⟨S32x32x32, .i32⟩
  | 120 => ⟨S32x32x32, .i1⟩
  | 121 => ⟨S32x32x32, .i1⟩
  | 122 => ⟨S32x32x32, .i1⟩
  | 123 => ⟨S32x32x32x1x1, .i1⟩
  | 124 => ⟨S32x1x4x8, .f32⟩
  | 125 => ⟨S32x4x8, .f32⟩
  | 126 => ⟨S_, .f32⟩
  | 127 => ⟨S_, .f32⟩
  | _ => ⟨S8192x3072, .f32⟩

abbrev hbmTy0_1 (i : Nat) : BufTy := match i % 128 with
  | 0 => ⟨S32x32x32x4x8, .i1⟩
  | 1 => ⟨S32x32x32x4x8, .f32⟩
  | 2 => ⟨S32x32x32x4x8, .f32⟩
  | 3 => ⟨S32x32x32x4x8, .f32⟩
  | 4 => ⟨S_, .f32⟩
  | 5 => ⟨S32x32x32x4x8, .f32⟩
  | 6 => ⟨S_, .f32⟩
  | 7 => ⟨S32x32x4x8, .f32⟩
  | 8 => ⟨S32x32x32, .i1⟩
  | 9 => ⟨S32x32x1, .i1⟩
  | 10 => ⟨S32x32, .i1⟩
  | 11 => ⟨S32x32x1x1, .i1⟩
  | 12 => ⟨S32x32x4x8, .f32⟩
  | 13 => ⟨S_, .f32⟩
  | 14 => ⟨S_, .f32⟩
  | 15 => ⟨S32x32x4x8, .i1⟩
  | 16 => ⟨S32x32x4x8, .f32⟩
  | 17 => ⟨S32x32x4x8, .f32⟩
  | 18 => ⟨S_, .f32⟩
  | 19 => ⟨S32x32x4x8, .f32⟩
  | 20 => ⟨S4x8x64x128x32, .f32⟩
  | 21 => ⟨S32x4x8x64x128, .f32⟩
  | 22 => ⟨S32x4x8x64x256, .f32⟩
  | 23 => ⟨S32x256x4x8x64, .f32⟩
  | 24 => ⟨S32x256x4x8, .f32⟩
  | 25 => ⟨S32x256x4x8x1, .f32⟩
  | 26 => ⟨S32x256x4x8x64, .f32⟩
  | 27 => ⟨S32x256x4x8x64, .f32⟩
  | 28 => ⟨S32x256x4x8x64, .f32⟩
  | 29 => ⟨S8192x4x8x64, .f32⟩
  | 30 => ⟨S4x8, .f32⟩
  | 31 => ⟨S4x8x1, .f32⟩
  | 32 => ⟨S1x4x8x1, .f32⟩
  | 33 => ⟨S8192x4x8x64, .f32⟩
  | 34 => ⟨S8192x4x8x64, .f32⟩
  | 35 => ⟨S8192x4x8x64, .f32⟩
  | 36 => ⟨S8192x2048, .f32⟩
  | 37 => ⟨S8192x4x8x64, .f32⟩
  | 38 => ⟨S8192x4x8x64, .f32⟩
  | 39 => ⟨S8192x4x8x64, .f32⟩
  | 40 => ⟨S8192x4x8x64, .f32⟩
  | 41 => ⟨S_, .f32⟩
  | 42 => ⟨S4x8, .f32⟩
  | 43 => ⟨S1x4x8x1, .f32⟩
  | 44 => ⟨S_, .f32⟩
  | 45 => ⟨S4x8, .f32⟩
  | 46 => ⟨S4x8x1, .f32⟩
  | 47 => ⟨S_, .f32⟩
  | 48 => ⟨S4x8, .f32⟩
  | 49 => ⟨S1x32, .f32⟩
  | 50 => ⟨S32x256x4x8x64, .f32⟩
  | 51 => ⟨S32x256x4x8x64, .f32⟩
  | 52 => ⟨S_, .f32⟩
  | 53 => ⟨S32x256x4x8, .f32⟩
  | 54 => ⟨S32x256x4x8x1, .f32⟩
  | 55 => ⟨S32x256x4x8x64, .f32⟩
  | 56 => ⟨S32x256x4x8x64, .f32⟩
  | 57 => ⟨S_, .f32⟩
  | 58 => ⟨S32x256x4x8, .f32⟩
  | 59 => ⟨S32x256x4x8, .f32⟩
  | 60 => ⟨S32x4x8x64x256, .f32⟩
  | 61 => ⟨S32x4x256x128, .f32⟩
  | 62 => ⟨S32x256x4x128, .f32⟩
  | 63 => ⟨S32x4x8x64x128, .f32⟩
  | 64 => ⟨S4x8x64x128x32, .f32⟩
  | 65 => ⟨S4x8x32x32, .f32⟩
  | 66 => ⟨S32x32x4x8, .f32⟩
  | 67 => ⟨S4x8x64x128x32, .f32⟩
  | 68 => ⟨S32x4x8x64x128, .f32⟩
  | 69 => ⟨S_, .f32⟩
  | 70 => ⟨S32x32x4x8, .f32⟩
  | 71 => ⟨S32x32x4x8, .f32⟩
  | 72 => ⟨S32x32x4x8, .f32⟩
  | 73 => ⟨S32x32x32x4x8, .f32⟩
  | 74 => ⟨S_, .f32⟩
  | 75 => ⟨S32x32x32x4x8, .f32⟩
  | 76 => ⟨S32x32x32x4x8, .f32⟩
  | 77 => ⟨S_, .f32⟩
  | 78 => ⟨S32x4x8, .f32⟩
  | 79 => ⟨S32x1x4x8, .f32⟩
  | 80 => ⟨S_, .f32⟩
  | 81 => ⟨S32x256x4x8, .f32⟩
  | 82 => ⟨S32x256x4x8, .f32⟩
  | 83 => ⟨S32x4x128x256, .f32⟩
  | 84 => ⟨S32x256x4x128, .f32⟩
  | 85 => ⟨S32x4x8x64x256, .f32⟩
  | 86 => ⟨S32x256x4x8x64, .f32⟩
  | 87 => ⟨S32x256x4x8x64, .f32⟩
  | 88 => ⟨S32x256x4x8x64, .f32⟩
  | 89 => ⟨S32x256x4x8x64, .f32⟩
  | 90 => ⟨S_, .f32⟩
  | 91 => ⟨S32x256x4x8, .f32⟩
  | 92 => ⟨S32x256x4x8x1, .f32⟩
  | 93 => ⟨S_, .f32⟩
  | 94 => ⟨S32x256x4x8, .f32⟩
  | 95 => ⟨S32x256x4x8, .f32⟩
  | 96 => ⟨S_, .f32⟩
  | 97 => ⟨S32x4x8, .f32⟩
  | 98 => ⟨S32x1x4x8, .f32⟩
  | 99 => ⟨S32x256x4x8, .f32⟩
  | 100 => ⟨S32x256x4x8, .f32⟩
  | 101 => ⟨S_, .f32⟩
  | 102 => ⟨S32x256x4x8, .f32⟩
  | 103 => ⟨S32x256x4x8, .f32⟩
  | 104 => ⟨S32x4x8x64x256, .f32⟩
  | 105 => ⟨S32x4x8x256x256, .f32⟩
  | 106 => ⟨S32x256x256x4x8, .f32⟩
  | 107 => ⟨S32x4x8x64x256, .f32⟩
  | 108 => ⟨S32x256x4x8x64, .f32⟩
  | 109 => ⟨S32x256x4x8x64, .f32⟩
  | 110 => ⟨S32x256x256x4x8, .f32⟩
  | 111 => ⟨S32x256x256x4x8, .f32⟩
  | 112 => ⟨S32x256x256x4x8, .f32⟩
  | 113 => ⟨S_, .f32⟩
  | 114 => ⟨S32x256x256x4, .f32⟩
  | 115 => ⟨S32x256x256x4x1, .f32⟩
  | 116 => ⟨S_, .f32⟩
  | 117 => ⟨S32x256x256x4, .f32⟩
  | 118 => ⟨S32x4x256x256, .f32⟩
  | 119 => ⟨S32x4x256x128, .f32⟩
  | 120 => ⟨S32x256x4x128, .f32⟩
  | 121 => ⟨S32x256x4x128, .f32⟩
  | 122 => ⟨S32x4x256x128, .f32⟩
  | 123 => ⟨S32x256x4x128, .f32⟩
  | 124 => ⟨S32x256x4x128, .f32⟩
  | 125 => ⟨S32x256x256x4x8, .f32⟩
  | 126 => ⟨S_, .f32⟩
  | 127 => ⟨S32x256x256x4x8, .f32⟩
  | _ => ⟨S8192x3072, .f32⟩

abbrev hbmTy0_2 (i : Nat) : BufTy := match i % 128 with
  | 0 => ⟨S32x256x256x4x8, .f32⟩
  | 1 => ⟨S_, .f32⟩
  | 2 => ⟨S32x256x4x8, .f32⟩
  | 3 => ⟨S32x256x1x4x8, .f32⟩
  | 4 => ⟨S32x256x256x4x8, .f32⟩
  | 5 => ⟨S_, .f32⟩
  | 6 => ⟨S32x256x4x8, .f32⟩
  | 7 => ⟨S32x1x256x4x8, .f32⟩
  | 8 => ⟨S_, .f32⟩
  | 9 => ⟨S32x256x4x8, .f32⟩
  | 10 => ⟨S32x256x4x8, .f32⟩
  | 11 => ⟨S_, .f32⟩
  | 12 => ⟨S32x256x4x8, .f32⟩
  | 13 => ⟨S32x256x4x8, .f32⟩
  | 14 => ⟨S32x256x4x8x64, .f32⟩
  | 15 => ⟨S_, .f32⟩
  | 16 => ⟨S32x256x4x8, .f32⟩
  | 17 => ⟨S32x256x4x8x1, .f32⟩
  | 18 => ⟨S32x256x4x8x64, .f32⟩
  | 19 => ⟨S32x256x4x8x64, .f32⟩
  | 20 => ⟨S_, .f32⟩
  | 21 => ⟨S32x256x4x8, .f32⟩
  | 22 => ⟨S_, .f32⟩
  | 23 => ⟨S_, .f32⟩
  | 24 => ⟨S32x256x4x8, .f32⟩
  | 25 => ⟨S32x256x4x8, .f32⟩
  | 26 => ⟨S_, .f32⟩
  | 27 => ⟨S4x8, .f32⟩
  | 28 => ⟨S1x1x4x8, .f32⟩
  | 29 => ⟨S32x256x4x8, .f32⟩
  | 30 => ⟨S32x256x4x8, .f32⟩
  | 31 => ⟨S32x256x4x8, .f32⟩
  | 32 => ⟨S_, .f32⟩
  | 33 => ⟨S4x8, .f32⟩
  | 34 => ⟨S8192x4x128, .f32⟩
  | 35 => ⟨S8192x4x128, .f32⟩
  | 36 => ⟨S8192x4x8, .f32⟩
  | 37 => ⟨S8192x4x8x64, .f32⟩
  | 38 => ⟨S8192x4x8x64, .f32⟩
  | 39 => ⟨S8192x512, .f32⟩
  | 40 => ⟨S8192x512, .f32⟩
  | 41 => ⟨S1x32, .f32⟩
  | 42 => ⟨S8192x32, .f32⟩
  | 43 => ⟨S8192x2048, .f32⟩
  | 44 => ⟨S1x32, .f32⟩
  | 45 => ⟨S1x32, .f32⟩
  | 46 => ⟨S8192x32, .f32⟩
  | 47 => ⟨S_, .f32⟩
  | 48 => ⟨S32, .f32⟩
  | 49 => ⟨S1x32, .f32⟩
  | 50 => ⟨S8192x3072, .f32⟩
  | 51 => ⟨S8192x2048, .f32⟩
  | 52 => ⟨S8192x512, .f32⟩
  | 53 => ⟨S8192x512, .f32⟩
  | 54 => ⟨S8192x4x8, .f32⟩
  | 55 => ⟨S4x8192x8, .f32⟩
  | 56 => ⟨S4x1x8, .f32⟩
  | 57 => ⟨S4x1x8, .f32⟩
  | 58 => ⟨S4x1x8, .f32⟩
  | _ => ⟨S8192x3072, .f32⟩

abbrev hbmTy (i : Nat) : BufTy := match i / 128 with
  | 0 => hbmTy0_0 i
  | 1 => hbmTy0_1 i
  | 2 => hbmTy0_2 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v5_0 : Ref sig .tc := ⟨.hbm, 24, rfl⟩
abbrev main_call0_cst_0 : Ref sig .tc := ⟨.hbm, 25, rfl⟩
abbrev main_call0_v13 : Ref sig .tc := ⟨.hbm, 26, rfl⟩
abbrev main_call0_v14 : Ref sig .tc := ⟨.hbm, 27, rfl⟩
abbrev main_call0_cst_1 : Ref sig .tc := ⟨.hbm, 28, rfl⟩
abbrev main_call0_v15 : Ref sig .tc := ⟨.hbm, 29, rfl⟩
abbrev main_call0_v16 : Ref sig .tc := ⟨.hbm, 30, rfl⟩
abbrev main_call0_cst_2 : Ref sig .tc := ⟨.hbm, 31, rfl⟩
abbrev main_call0_v17 : Ref sig .tc := ⟨.hbm, 32, rfl⟩
abbrev main_call0_v18 : Ref sig .tc := ⟨.hbm, 33, rfl⟩
abbrev main_call0_cst_3 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_v5_1 : Ref sig .tc := ⟨.hbm, 38, rfl⟩
abbrev main_call0_cst_4 : Ref sig .tc := ⟨.hbm, 39, rfl⟩
abbrev main_call0_cst_5 : Ref sig .tc := ⟨.hbm, 40, rfl⟩
abbrev main_call0_v23 : Ref sig .tc := ⟨.hbm, 41, rfl⟩
abbrev main_call0_cst_6 : Ref sig .tc := ⟨.hbm, 42, rfl⟩
abbrev main_call0_cst_7 : Ref sig .tc := ⟨.hbm, 43, rfl⟩
abbrev main_call0_v24 : Ref sig .tc := ⟨.hbm, 44, rfl⟩
abbrev main_call0_cst_8 : Ref sig .tc := ⟨.hbm, 45, rfl⟩
abbrev main_call0_v25 : Ref sig .tc := ⟨.hbm, 46, rfl⟩
abbrev main_call0_v26 : Ref sig .tc := ⟨.hbm, 47, rfl⟩
abbrev main_call0_cst_9 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_cst_10 : Ref sig .tc := ⟨.hbm, 54, rfl⟩
abbrev main_call0_v32 : Ref sig .tc := ⟨.hbm, 55, rfl⟩
abbrev main_v5_2 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_call1_call0_cst : Ref sig .tc := ⟨.hbm, 71, rfl⟩
abbrev main_call1_call0_v0 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_c : Ref sig .tc := ⟨.hbm, 82, rfl⟩
abbrev main_v29 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_0 : Ref sig .tc := ⟨.hbm, 90, rfl⟩
abbrev main_call2_v5 : Ref sig .tc := ⟨.hbm, 91, rfl⟩
abbrev main_v30 : Ref sig .tc := ⟨.hbm, 92, rfl⟩
abbrev main_v31 : Ref sig .tc := ⟨.hbm, 93, rfl⟩
abbrev main_cst : Ref sig .tc := ⟨.hbm, 94, rfl⟩
abbrev main_call3_v0 : Ref sig .tc := ⟨.hbm, 95, rfl⟩
abbrev main_v32_1 : Ref sig .tc := ⟨.hbm, 96, rfl⟩
abbrev main_call3_v2 : Ref sig .tc := ⟨.hbm, 97, rfl⟩
abbrev main_v32_0 : Ref sig .tc := ⟨.hbm, 98, rfl⟩
abbrev main_call3_cst : Ref sig .tc := ⟨.hbm, 99, rfl⟩
abbrev main_v32_2 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_cst_0 : Ref sig .tc := ⟨.hbm, 126, rfl⟩
abbrev main_call4_v0 : Ref sig .tc := ⟨.hbm, 127, rfl⟩
abbrev main_v58_1 : Ref sig .tc := ⟨.hbm, 128, rfl⟩
abbrev main_call4_v2 : Ref sig .tc := ⟨.hbm, 129, rfl⟩
abbrev main_call4_v3 : Ref sig .tc := ⟨.hbm, 130, rfl⟩
abbrev main_v58_0 : Ref sig .tc := ⟨.hbm, 131, rfl⟩
abbrev main_call4_cst : Ref sig .tc := ⟨.hbm, 132, rfl⟩
abbrev main_v58_2 : Ref sig .tc := ⟨.hbm, 133, rfl⟩
abbrev main_cst_1 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_cst_2 : Ref sig .tc := ⟨.hbm, 141, rfl⟩
abbrev main_call5_v0 : Ref sig .tc := ⟨.hbm, 142, rfl⟩
abbrev main_v65_1 : Ref sig .tc := ⟨.hbm, 143, rfl⟩
abbrev main_call5_v2 : Ref sig .tc := ⟨.hbm, 144, rfl⟩
abbrev main_v65_0 : Ref sig .tc := ⟨.hbm, 145, rfl⟩
abbrev main_call5_cst : Ref sig .tc := ⟨.hbm, 146, rfl⟩
abbrev main_v65_2 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_cst_3 : Ref sig .tc := ⟨.hbm, 169, rfl⟩
abbrev main_v87 : Ref sig .tc := ⟨.hbm, 170, rfl⟩
abbrev main_v88 : Ref sig .tc := ⟨.hbm, 171, rfl⟩
abbrev main_cst_4 : Ref sig .tc := ⟨.hbm, 172, rfl⟩
abbrev main_v89 : Ref sig .tc := ⟨.hbm, 173, rfl⟩
abbrev main_v90 : Ref sig .tc := ⟨.hbm, 174, rfl⟩
abbrev main_cst_5 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_6 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_cst_7 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_call6_cst : Ref sig .tc := ⟨.hbm, 197, rfl⟩
abbrev main_call6_v0 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_call7_cst : Ref sig .tc := ⟨.hbm, 202, rfl⟩
abbrev main_call7_v0 : Ref sig .tc := ⟨.hbm, 203, rfl⟩
abbrev main_call7_v1 : Ref sig .tc := ⟨.hbm, 204, rfl⟩
abbrev main_call7_cst_0 : Ref sig .tc := ⟨.hbm, 205, rfl⟩
abbrev main_v113 : Ref sig .tc := ⟨.hbm, 206, rfl⟩
abbrev main_v114 : Ref sig .tc := ⟨.hbm, 207, rfl⟩
abbrev main_cst_8 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_cst_9 : Ref sig .tc := ⟨.hbm, 218, rfl⟩
abbrev main_v124 : Ref sig .tc := ⟨.hbm, 219, rfl⟩
abbrev main_v125 : Ref sig .tc := ⟨.hbm, 220, rfl⟩
abbrev main_cst_10 : Ref sig .tc := ⟨.hbm, 221, rfl⟩
abbrev main_v126 : Ref sig .tc := ⟨.hbm, 222, rfl⟩
abbrev main_v127 : Ref sig .tc := ⟨.hbm, 223, rfl⟩
abbrev main_cst_11 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_cst_12 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_cst_13 : Ref sig .tc := ⟨.hbm, 241, rfl⟩
abbrev main_v143 : Ref sig .tc := ⟨.hbm, 242, rfl⟩
abbrev main_v144 : Ref sig .tc := ⟨.hbm, 243, rfl⟩
abbrev main_cst_14 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_call8_cst : Ref sig .tc := ⟨.hbm, 254, rfl⟩
abbrev main_call8_v0 : Ref sig .tc := ⟨.hbm, 255, rfl⟩
abbrev main_v154 : Ref sig .tc := ⟨.hbm, 256, rfl⟩
abbrev main_cst_15 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_cst_16 : Ref sig .tc := ⟨.hbm, 261, rfl⟩
abbrev main_v158 : Ref sig .tc := ⟨.hbm, 262, rfl⟩
abbrev main_v159 : Ref sig .tc := ⟨.hbm, 263, rfl⟩
abbrev main_cst_17 : Ref sig .tc := ⟨.hbm, 264, rfl⟩
abbrev main_v160 : Ref sig .tc := ⟨.hbm, 265, rfl⟩
abbrev main_v161 : Ref sig .tc := ⟨.hbm, 266, rfl⟩
abbrev main_cst_18 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_cst_19 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_cst_20 : Ref sig .tc := ⟨.hbm, 276, rfl⟩
abbrev main_v169 : Ref sig .tc := ⟨.hbm, 277, rfl⟩
abbrev main_call9_call0_cst : Ref sig .tc := ⟨.hbm, 278, rfl⟩
abbrev main_call9_call0_v0 : Ref sig .tc := ⟨.hbm, 279, rfl⟩
abbrev main_v170 : Ref sig .tc := ⟨.hbm, 280, rfl⟩
abbrev main_v171 : Ref sig .tc := ⟨.hbm, 281, rfl⟩
abbrev main_cst_21 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_cst_22 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_cst_23 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩

abbrev nD : Nat := 1
abbrev τ : Topo := Topo.v7x

variable {F : FTy → Type} [FloatOps F]
-- ==== FfnInDx.lean ====
abbrev S2048x5632 : Shape := ⟨2, ![2048, 5632]⟩
abbrev S8192x5632 : Shape := ⟨2, ![8192, 5632]⟩
abbrev S_ : Shape := ⟨0, ![]⟩
abbrev S1x2048 : Shape := ⟨2, ![1, 2048]⟩
abbrev S8192x2048 : Shape := ⟨2, ![8192, 2048]⟩
abbrev S1024x1408 : Shape := ⟨2, ![1024, 1408]⟩
abbrev S512x1408 : Shape := ⟨2, ![512, 1408]⟩
abbrev S1x512 : Shape := ⟨2, ![1, 512]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S2048x5632, .bf16⟩
  | .hbm, ⟨5, _⟩ => ⟨S2048x5632, .bf16⟩
  | .hbm, ⟨6, _⟩ => ⟨S8192x5632, .bf16⟩
  | .hbm, ⟨7, _⟩ => ⟨S8192x5632, .bf16⟩
  | .hbm, ⟨8, _⟩ => ⟨S_, .f32⟩
  | .hbm, ⟨9, _⟩ => ⟨S1x2048, .f32⟩
  | .hbm, ⟨10, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnInDxRefIdeal.lean ====
abbrev S2048x5632 : Shape := ⟨2, ![2048, 5632]⟩
abbrev S8192x5632 : Shape := ⟨2, ![8192, 5632]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FfnInDw.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S8192x5632, .bf16⟩
  | .hbm, ⟨6, _⟩ => ⟨S2048x5632, .f32⟩
  | .hbm, ⟨7, _⟩ => ⟨S2048x5632, .f32⟩
  | .hbm, ⟨8, _⟩ => ⟨S2048x5632, .bf16⟩
  | .hbm, ⟨9, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnInDwRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnOutDw.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .f32⟩
  | .hbm, ⟨5, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnIn.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x5632, .bf16⟩
  | .hbm, ⟨5, _⟩ => ⟨S2048x5632, .bf16⟩
  | .hbm, ⟨6, _⟩ => ⟨S8192x5632, .f32⟩
  | .hbm, ⟨7, _⟩ => ⟨S8192x5632, .f32⟩
  | .hbm, ⟨8, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnInRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnOut.lean ====
abbrev S8192x2048 : Shape := ⟨2, ![8192, 2048]⟩
abbrev S8192x5632 : Shape := ⟨2, ![8192, 5632]⟩
abbrev S5632x2048 : Shape := ⟨2, ![5632, 2048]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S5632x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S8192x2048 : Shape := ⟨2, ![8192, 2048]⟩
abbrev S8192x5632 : Shape := ⟨2, ![8192, 5632]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjMain.lean ====
abbrev S8192x2048 : Shape := ⟨2, ![8192, 2048]⟩
abbrev S2048x7200 : Shape := ⟨2, ![2048, 7200]⟩
abbrev S2048x5120 : Shape := ⟨2, ![2048, 5120]⟩
abbrev S2048x2048 : Shape := ⟨2, ![2048, 2048]⟩
abbrev S2048x7168 : Shape := ⟨2, ![2048, 7168]⟩
abbrev S_ : Shape := ⟨0, ![]⟩
abbrev S1x7168 : Shape := ⟨2, ![1, 7168]⟩
abbrev S8192x7168 : Shape := ⟨2, ![8192, 7168]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x7200, .f32⟩
  | .hbm, ⟨2, _⟩ => ⟨S2048x5120, .f32⟩
  | .hbm, ⟨3, _⟩ => ⟨S2048x2048, .f32⟩
  | .hbm, ⟨4, _⟩ => ⟨S2048x7168, .f32⟩
  | .hbm, ⟨5, _⟩ => ⟨S8192x2048, .bf16⟩
  | .hbm, ⟨6, _⟩ => ⟨S2048x7168, .bf16⟩
  | .hbm, ⟨7, _⟩ => ⟨S_, .f32⟩
  | .hbm, ⟨8, _⟩ => ⟨S1x7168, .f32⟩
  | .hbm, ⟨9, _⟩ => ⟨S8192x7168, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjMainRefIdeal.lean ====
abbrev S8192x2048 : Shape := ⟨2, ![8192, 2048]⟩
abbrev S2048x7200 : Shape := ⟨2, ![2048, 7200]⟩
abbrev S8192x7200 : Shape := ⟨2, ![8192, 7200]⟩
abbrev S8192x3072 : Shape := ⟨2, ![8192, 3072]⟩
abbrev S8192x32 : Shape := ⟨2, ![8192, 32]⟩
abbrev S8192x7168 : Shape := ⟨2, ![8192, 7168]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7200, .f32⟩
  | .hbm, ⟨2, _⟩ => ⟨S8192x7200, .f32⟩
  | .hbm, ⟨3, _⟩ => ⟨S8192x2048, .f32⟩
  | .hbm, ⟨4, _⟩ => ⟨S8192x3072, .f32⟩
  | .hbm, ⟨5, _⟩ => ⟨S8192x32, .f32⟩
  | .hbm, ⟨6, _⟩ => ⟨S8192x2048, .f32⟩
  | .hbm, ⟨7, _⟩ => ⟨S8192x7168, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjMainDx.lean ====
abbrev S2048x7200 : Shape := ⟨2, ![2048, 7200]⟩
abbrev S8192x7168 : Shape := ⟨2, ![8192, 7168]⟩
abbrev S2048x5120 : Shape := ⟨2, ![2048, 5120]⟩
abbrev S2048x2048 : Shape := ⟨2, ![2048, 2048]⟩
abbrev S2048x7168 : Shape := ⟨2, ![2048, 7168]⟩
abbrev S_ : Shape := ⟨0, ![]⟩
abbrev S1x2048 : Shape := ⟨2, ![1, 2048]⟩
abbrev S8192x2048 : Shape := ⟨2, ![8192, 2048]⟩
abbrev S1024x3584 : Shape := ⟨2, ![1024, 3584]⟩
abbrev S512x3584 : Shape := ⟨2, ![512, 3584]⟩
abbrev S1x512 : Shape := ⟨2, ![1, 512]⟩
abbrev S1024x512 : Shape := ⟨2, ![1024, 512]⟩

abbrev nBuf : Space → Nat
  | .hbm => 10
  | .vmem => 9
  | .smem => 0
  | _ => 0

abbrev bufTy : (tb : Table) → Fin (tcTables nBuf tb) → BufTy
  | .hbm, ⟨0, _⟩ => ⟨S2048x7200, .f32⟩
  | .hbm, ⟨1, _⟩ => ⟨S8192x7168, .f32⟩
  | .hbm, ⟨2, _⟩ => ⟨S2048x5120, .f32⟩
  | .hbm, ⟨3, _⟩ => ⟨S2048x2048, .f32⟩
  | .hbm, ⟨4, _⟩ => ⟨S2048x7168, .f32⟩
  | .hbm, ⟨5, _⟩ => ⟨S2048x7168, .bf16⟩
  | .hbm, ⟨6, _⟩ => ⟨S8192x7168, .bf16⟩
  | .hbm, ⟨7, _⟩ => ⟨S_, .f32⟩
  | .hbm, ⟨8, _⟩ => ⟨S1x2048, .f32⟩
  | .hbm, ⟨9, _⟩ => ⟨S8192x2048, .f32⟩
  | .local _ .vmem, ⟨0, _⟩ => ⟨S1024x3584, .bf16⟩
  | .local _ .vmem, ⟨1, _⟩ => ⟨S1024x3584, .bf16⟩
  | .local _ .vmem, ⟨2, _⟩ => ⟨S512x3584, .bf16⟩
  | .local _ .vmem, ⟨3, _⟩ => ⟨S512x3584, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjMainDxRefIdeal.lean ====
abbrev S2048x7200 : Shape := ⟨2, ![2048, 7200]⟩
abbrev S8192x7168 : Shape := ⟨2, ![8192, 7168]⟩
abbrev S_ : Shape := ⟨0, ![]⟩
abbrev S8192x2048 : Shape := ⟨2, ![8192, 2048]⟩
abbrev S8192x7200 : Shape := ⟨2, ![8192, 7200]⟩
abbrev S8192x3072 : Shape := ⟨2, ![8192, 3072]⟩
abbrev S8192x32 : Shape := ⟨2, ![8192, 32]⟩

abbrev nBuf : Space → Nat
  | .hbm => 17
  | .vmem => 0
  | .smem => 0
  | _ => 0

abbrev bufTy : (tb : Table) → Fin (tcTables nBuf tb) → BufTy
  | .hbm, ⟨0, _⟩ => ⟨S2048x7200, .f32⟩
  | .hbm, ⟨1, _⟩ => ⟨S8192x7168, .f32⟩
  | .hbm, ⟨2, _⟩ => ⟨S_, .f32⟩
  | .hbm, ⟨3, _⟩ => ⟨S8192x2048, .f32⟩
  | .hbm, ⟨4, _⟩ => ⟨S8192x7200, .f32⟩
  | .hbm, ⟨5, _⟩ => ⟨S8192x2048, .f32⟩
  | .hbm, ⟨6, _⟩ => ⟨S8192x3072, .f32⟩
  | .hbm, ⟨7, _⟩ => ⟨S8192x32, .f32⟩
  | .hbm, ⟨8, _⟩ => ⟨S8192x2048, .f32⟩
  | .hbm, ⟨9, _⟩ => ⟨S8192x7168, .f32⟩
  | .hbm, ⟨10, _⟩ => ⟨S8192x2048, .f32⟩
  | .hbm, ⟨11, _⟩ => ⟨S8192x3072, .f32⟩
  | .hbm, ⟨12, _⟩ => ⟨S8192x2048, .f32⟩
  | .hbm, ⟨13, _⟩ => ⟨S_, .f32⟩
  | .hbm, ⟨14, _⟩ => ⟨S8192x32, .f32⟩
  | .hbm, ⟨15, _⟩ => ⟨S8192x7200, .f32⟩
  | .hbm, ⟨16, _⟩ => ⟨S8192x2048, .f32⟩
  | _, _ => ⟨S2048x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== ProjMainDw.lean ====
abbrev S8192x2048 : Shape := ⟨2, ![8192, 2048]⟩
abbrev S8192x7168 : Shape := ⟨2, ![8192, 7168]⟩
abbrev S2048x7168 : Shape := ⟨2, ![2048, 7168]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x7168, .f32⟩
  | .hbm, ⟨2, _⟩ => ⟨S8192x2048, .bf16⟩
  | .hbm, ⟨3, _⟩ => ⟨S8192x7168, .bf16⟩
  | .hbm, ⟨4, _⟩ => ⟨S2048x7168, .f32⟩
  | .hbm, ⟨5, _⟩ => ⟨S2048x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 7, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjMainDwRefIdeal.lean ====
abbrev S8192x2048 : Shape := ⟨2, ![8192, 2048]⟩
abbrev S8192x7168 : Shape := ⟨2, ![8192, 7168]⟩
abbrev S_ : Shape := ⟨0, ![]⟩
abbrev S2048x7200 : Shape := ⟨2, ![2048, 7200]⟩
abbrev S8192x7200 : Shape := ⟨2, ![8192, 7200]⟩
abbrev S8192x3072 : Shape := ⟨2, ![8192, 3072]⟩
abbrev S8192x32 : Shape := ⟨2, ![8192, 32]⟩
abbrev S7200x2048 : Shape := ⟨2, ![7200, 2048]⟩
abbrev S2048x5120 : Shape := ⟨2, ![2048, 5120]⟩
abbrev S2048x2048 : Shape := ⟨2, ![2048, 2048]⟩
abbrev S2048x7168 : Shape := ⟨2, ![2048, 7168]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x7168, .f32⟩
  | .hbm, ⟨2, _⟩ => ⟨S_, .f32⟩
  | .hbm, ⟨3, _⟩ => ⟨S2048x7200, .f32⟩
  | .hbm, ⟨4, _⟩ => ⟨S8192x7200, .f32⟩
  | .hbm, ⟨5, _⟩ => ⟨S8192x2048, .f32⟩
  | .hbm, ⟨6, _⟩ => ⟨S8192x3072, .f32⟩
  | .hbm, ⟨7, _⟩ => ⟨S8192x32, .f32⟩
  | .hbm, ⟨8, _⟩ => ⟨S8192x2048, .f32⟩
  | .hbm, ⟨9, _⟩ => ⟨S8192x7168, .f32⟩
  | .hbm, ⟨10, _⟩ => ⟨S8192x2048, .f32⟩
  | .hbm, ⟨11, _⟩ => ⟨S8192x3072, .f32⟩
  | .hbm, ⟨12, _⟩ => ⟨S8192x2048, .f32⟩
  | .hbm, ⟨13, _⟩ => ⟨S_, .f32⟩
  | .hbm, ⟨14, _⟩ => ⟨S8192x32, .f32⟩
  | .hbm, ⟨15, _⟩ => ⟨S8192x7200, .f32⟩
  | .hbm, ⟨16, _⟩ => ⟨S7200x2048, .f32⟩
  | .hbm, ⟨17, _⟩ => ⟨S2048x7200, .f32⟩
  | .hbm, ⟨18, _⟩ => ⟨S2048x5120, .f32⟩
  | .hbm, ⟨19, _⟩ => ⟨S2048x2048, .f32⟩
  | .hbm, ⟨20, _⟩ => ⟨S2048x7168, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== OutProj.lean ====
abbrev S8192x2048 : Shape := ⟨2, ![8192, 2048]⟩
abbrev S8192x4096 : Shape := ⟨2, ![8192, 4096]⟩
abbrev S4096x2048 : Shape := ⟨2, ![4096, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096x2048, .f32⟩
  | .hbm, ⟨3, _⟩ => ⟨S8192x4096, .bf16⟩
  | .hbm, ⟨4, _⟩ => ⟨S4096x2048, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x2048 : Shape := ⟨2, ![8192, 2048]⟩
abbrev S8192x4096 : Shape := ⟨2, ![8192, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutProjDx.lean ====
abbrev S4096x2048 : Shape := ⟨2, ![4096, 2048]⟩
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x2048, .bf16⟩
  | .hbm, ⟨3, _⟩ => ⟨S8192x2048, .bf16⟩
  | .hbm, ⟨4, _⟩ => ⟨S2048x2048, .bf16⟩
  | .hbm, ⟨5, _⟩ => ⟨S2048x2048, .bf16⟩
  | .hbm, ⟨6, _⟩ => ⟨S8192x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjDxRefIdeal.lean ====
abbrev S4096x2048 : Shape := ⟨2, ![4096, 2048]⟩
abbrev S8192x2048 : Shape := ⟨2, ![8192, 2048]⟩
abbrev S_ : Shape := ⟨0, ![]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x4096, .f32⟩
  | .hbm, ⟨7, _⟩ => ⟨S8192x2048, .f32⟩
  | .hbm, ⟨8, _⟩ => ⟨S8192x4096, .f32⟩
  | .hbm, ⟨9, _⟩ => ⟨S8192x2048, .f32⟩
  | .hbm, ⟨10, _⟩ => ⟨S8192x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutProjDw.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .f32⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjDwRefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S2048x4096, .f32⟩
  | .hbm, ⟨6, _⟩ => ⟨S4096x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutDx.lean ====
abbrev S5632x2048 : Shape := ⟨2, ![5632, 2048]⟩
abbrev S8192x5632 : Shape := ⟨2, ![8192, 5632]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S5632x2048, .f32⟩
  | .hbm, ⟨1, _⟩ => ⟨S8192x5632, .f32⟩
  | .hbm, ⟨2, _⟩ => ⟨S8192x5632, .f32⟩
  | .hbm, ⟨3, _⟩ => ⟨S8192x2048, .f32⟩
  | .hbm, ⟨4, _⟩ => ⟨S5632x2048, .bf16⟩
  | .hbm, ⟨5, _⟩ => ⟨S8192x2048, .bf16⟩
  | .hbm, ⟨6, _⟩ => ⟨S8192x5632, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnOutDxRefIdeal.lean ====
abbrev S5632x2048 : Shape := ⟨2, ![5632, 2048]⟩
abbrev S8192x5632 : Shape := ⟨2, ![8192, 5632]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S8192x5632, .f32⟩
  | .hbm, ⟨2, _⟩ => ⟨S8192x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== AdamIn.lean ====
abbrev S2048x1800 : Shape := ⟨2, ![2048, 1800]⟩
abbrev S256x1800 : Shape := ⟨2, ![256, 1800]⟩

abbrev nBuf : Space → Nat
  | .hbm => 8
  | .vmem => 16
  | .smem => 0
  | _ => 0

abbrev bufTy : (tb : Table) → Fin (tcTables nBuf tb) → BufTy
  | .hbm, ⟨0, _⟩ => ⟨S2048x1800, .f32⟩
  | .hbm, ⟨1, _⟩ => ⟨S2048x1800, .f32⟩
  | .hbm, ⟨2, _⟩ => ⟨S2048x1800, .f32⟩
  | .hbm, ⟨3, _⟩ => ⟨S2048x1800, .f32⟩
  | .hbm, ⟨4, _⟩ => ⟨S2048x1800, .f32⟩
  | .hbm, ⟨5, _⟩ => ⟨S2048x1800, .f32⟩
  | .hbm, ⟨6, _⟩ => ⟨S2048x1800, .f32⟩
  | .hbm, ⟨7, _⟩ => ⟨S2048x1800, .f32⟩
  | .local _ .vmem, ⟨0, _⟩ => ⟨S256x1800, .f32⟩
  | .local _ .vmem, ⟨1, _⟩ => ⟨S256x1800, .f32⟩
  | .local _ .vmem, ⟨2, _⟩ => ⟨S256x1800, .f32⟩
  | .local _ .vmem, ⟨3, _⟩ => ⟨S256x1800, .f32⟩
  | .local _ .vmem, ⟨4, _⟩ => ⟨S256x1800, .f32⟩
  | .local _ .vmem, ⟨5, _⟩ => ⟨S256x1800, .f32⟩
  | .local _ .vmem, ⟨6, _⟩ => ⟨S256x1800, .f32⟩
  | .local _ .vmem, ⟨7, _⟩ => ⟨S256x1800, .f32⟩
  | .local _ .vmem, ⟨8, _⟩ => ⟨S256x1800, .f32⟩
  | .local _ .vmem, ⟨9, _⟩ => ⟨S256x1800, .f32⟩
  | .local _ .vmem, ⟨10, _⟩ => ⟨S256x1800, .f32⟩
  | .local _ .vmem, ⟨11, _⟩ => ⟨S256x1800, .f32⟩
  | .local _ .vmem, ⟨12, _⟩ => ⟨S256x1800, .f32⟩
  | .local _ .vmem, ⟨13, _⟩ => ⟨S256x1800, .f32⟩
  | .local _ .vmem, ⟨14, _⟩ => ⟨S256x1800, .f32⟩
  | .local _ .vmem, ⟨15, _⟩ => ⟨S256x1800, .f32⟩
  | _, _ => ⟨S2048x1800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1800 : Shape := ⟨2, ![2048, 1800]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1800, .f32⟩
  | .hbm, ⟨1, _⟩ => ⟨S2048x1800, .f32⟩
  | .hbm, ⟨2, _⟩ => ⟨S2048x1800, .f32⟩
  | .hbm, ⟨3, _⟩ => ⟨S2048x1800, .f32⟩
  | .hbm, ⟨4, _⟩ => ⟨S_, .f32⟩
  | .hbm, ⟨5, _⟩ => ⟨S2048x1800, .f32⟩
  | .hbm, ⟨6, _⟩ => ⟨S2048x1800, .f32⟩
  | .hbm, ⟨7, _⟩ => ⟨S_, .f32⟩
  | .hbm, ⟨8, _⟩ => ⟨S2048x1800, .f32⟩
  | .hbm, ⟨9, _⟩ => ⟨S2048x1800, .f32⟩
  | .hbm, ⟨10, _⟩ => ⟨S2048x1800, .f32⟩
  | .hbm, ⟨11, _⟩ => ⟨S_, .f32⟩
  | .hbm, ⟨12, _⟩ => ⟨S2048x1800, .f32⟩
  | .hbm, ⟨13, _⟩ => ⟨S2048x1800, .f32⟩
  | .hbm, ⟨14, _⟩ => ⟨S2048x1800, .f32⟩
  | .hbm, ⟨15, _⟩ => ⟨S_, .f32⟩
  | .hbm, ⟨16, _⟩ => ⟨S2048x1800, .f32⟩
  | .hbm, ⟨17, _⟩ => ⟨S2048x1800, .f32⟩
  | .hbm, ⟨18, _⟩ => ⟨S2048x1800, .f32⟩
  | .hbm, ⟨19, _⟩ => ⟨S_, .f32⟩
  | .hbm, ⟨20, _⟩ => ⟨S2048x1800, .f32⟩
  | .hbm, ⟨21, _⟩ => ⟨S2048x1800, .f32⟩
  | .hbm, ⟨22, _⟩ => ⟨S_, .f32⟩
  | .hbm, ⟨23, _⟩ => ⟨S2048x1800, .f32⟩
  | .hbm, ⟨24, _⟩ => ⟨S2048x1800, .f32⟩
  | .hbm, ⟨25, _⟩ => ⟨S2048x1800, .f32⟩
  | .hbm, ⟨26, _⟩ => ⟨S_, .f32⟩
  | .hbm, ⟨27, _⟩ => ⟨S2048x1800, .f32⟩
  | .hbm, ⟨28, _⟩ => ⟨S2048x1800, .f32⟩
  | .hbm, ⟨29, _⟩ => ⟨S2048x1800, .f32⟩
  | .hbm, ⟨30, _⟩ => ⟨S_, .f32⟩
  | .hbm, ⟨31, _⟩ => ⟨S2048x1800, .f32⟩
  | .hbm, ⟨32, _⟩ => ⟨S2048x1800, .f32⟩
  | .hbm, ⟨33, _⟩ => ⟨S2048x1800, .f32⟩
  | .hbm, ⟨34, _⟩ => ⟨S_, .f32⟩
  | .hbm, ⟨35, _⟩ => ⟨S2048x1800, .f32⟩
  | .hbm, ⟨36, _⟩ => ⟨S2048x1800, .f32⟩
  | _, _ => ⟨S2048x1800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x768 : Shape := ⟨2, ![4, 768]⟩

abbrev nBuf : Space → Nat
  | .hbm => 8
  | .vmem => 8
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x2048 : Shape := ⟨2, ![1024, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmallAdam.lean ====
abbrev S5952x128 : Shape := ⟨2, ![5952, 128]⟩
abbrev S744x128 : Shape := ⟨2, ![744, 128]⟩

abbrev nBuf : Space → Nat
  | .hbm => 8
  | .vmem => 8
  | .smem => 0
  | _ => 0

abbrev bufTy : (tb : Table) → Fin (tcTables nBuf tb) → BufTy
  | .hbm, ⟨0, _⟩ => ⟨S5952x128, .f32⟩
  | .hbm, ⟨1, _⟩ => ⟨S744x128, .f32⟩
  | .hbm, ⟨2, _⟩ => ⟨S744x128, .f32⟩
  | .hbm, ⟨3, _⟩ => ⟨S744x128, .f32⟩
  | .hbm, ⟨4, _⟩ => ⟨S744x128, .f32⟩
  | .hbm, ⟨5, _⟩ => ⟨S744x128, .f32⟩
  | .hbm, ⟨6, _⟩ => ⟨S744x128, .f32⟩
  | .hbm, ⟨7, _⟩ => ⟨S744x128, .f32⟩
  | .local _ .vmem, ⟨0, _⟩ => ⟨S5952x128, .f32⟩
  | .local _ .vmem, ⟨1, _⟩ => ⟨S744x128, .f32⟩
  | .local _ .vmem, ⟨2, _⟩ => ⟨S744x128, .f32⟩
  | .local _ .vmem, ⟨3, _⟩ => ⟨S744x128, .f32⟩
  | .local _ .vmem, ⟨4, _⟩ => ⟨S744x128, .f32⟩
  | .local _ .vmem, ⟨5, _⟩ => ⟨S744x128, .f32⟩
  | .local _ .vmem, ⟨6, _⟩ => ⟨S744x128, .f32⟩
  | .local _ .vmem, ⟨7, _⟩ => ⟨S744x128, .f32⟩
  | _, _ => ⟨S5952x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5952x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S744x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S744x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S744x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S744x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S744x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S744x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S744x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallAdamRefIdeal.lean ====
abbrev S5952x128 : Shape := ⟨2, ![5952, 128]⟩
abbrev S744x128 : Shape := ⟨2, ![744, 128]⟩
abbrev S8x744x128 : Shape := ⟨3, ![8, 744, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S5952x128, .f32⟩
  | .hbm, ⟨1, _⟩ => ⟨S744x128, .f32⟩
  | .hbm, ⟨2, _⟩ => ⟨S744x128, .f32⟩
  | .hbm, ⟨3, _⟩ => ⟨S744x128, .f32⟩
  | .hbm, ⟨4, _⟩ => ⟨S8x744x128, .f32⟩
  | .hbm, ⟨5, _⟩ => ⟨S_, .f32⟩
  | .hbm, ⟨6, _⟩ => ⟨S744x128, .f32⟩
  | .hbm, ⟨7, _⟩ => ⟨S_, .f32⟩
  | .hbm, ⟨8, _⟩ => ⟨S744x128, .f32⟩
  | .hbm, ⟨9, _⟩ => ⟨S744x128, .f32⟩
  | .hbm, ⟨10, _⟩ => ⟨S_, .f32⟩
  | .hbm, ⟨11, _⟩ => ⟨S744x128, .f32⟩
  | .hbm, ⟨12, _⟩ => ⟨S744x128, .f32⟩
  | .hbm, ⟨13, _⟩ => ⟨S744x128, .f32⟩
  | .hbm, ⟨14, _⟩ => ⟨S_, .f32⟩
  | .hbm, ⟨15, _⟩ => ⟨S744x128, .f32⟩
  | .hbm, ⟨16, _⟩ => ⟨S744x128, .f32⟩
  | .hbm, ⟨17, _⟩ => ⟨S744x128, .f32⟩
  | .hbm, ⟨18, _⟩ => ⟨S_, .f32⟩
  | .hbm, ⟨19, _⟩ => ⟨S744x128, .f32⟩
  | .hbm, ⟨20, _⟩ => ⟨S744x128, .f32⟩
  | .hbm, ⟨21, _⟩ => ⟨S744x128, .f32⟩
  | .hbm, ⟨22, _⟩ => ⟨S_, .f32⟩
  | .hbm, ⟨23, _⟩ => ⟨S744x128, .f32⟩
  | .hbm, ⟨24, _⟩ => ⟨S744x128, .f32⟩
  | .hbm, ⟨25, _⟩ => ⟨S_, .f32⟩
  | .hbm, ⟨26, _⟩ => ⟨S744x128, .f32⟩
  | .hbm, ⟨27, _⟩ => ⟨S744x128, .f32⟩
  | .hbm, ⟨28, _⟩ => ⟨S744x128, .f32⟩
  | .hbm, ⟨29, _⟩ => ⟨S_, .f32⟩
  | .hbm, ⟨30, _⟩ => ⟨S744x128, .f32⟩
  | .hbm, ⟨31, _⟩ => ⟨S744x128, .f32⟩
  | .hbm, ⟨32, _⟩ => ⟨S744x128, .f32⟩
  | .hbm, ⟨33, _⟩ => ⟨S_, .f32⟩
  | .hbm, ⟨34, _⟩ => ⟨S744x128, .f32⟩
  | .hbm, ⟨35, _⟩ => ⟨S744x128, .f32⟩
  | .hbm, ⟨36, _⟩ => ⟨S744x128, .f32⟩
  | .hbm, ⟨37, _⟩ => ⟨S_, .f32⟩
  | .hbm, ⟨38, _⟩ => ⟨S744x128, .f32⟩
  | .hbm, ⟨39, _⟩ => ⟨S744x128, .f32⟩
  | _, _ => ⟨S5952x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== NormIn.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormInRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== NormMid.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormMidRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S1x128, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x128, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Product.FfnInDx.lean ====
/-
  The gradient of the feed-forward layer's input: what the kernel's accumulator and its result hold over the reals.
-/
module

public import proofs.«01_k».proof.Defs
public import proofs.«01_k».proof.Proof.Gen.FfnInDx.Frame
public import proofs.«01_k».proof.Proof.Gen.FfnInDxIdeal.Value
public import proofs.«01_k».proof.Proof.Gen.FfnInDxRefIdeal.Run
public import proofs.«01_k».proof.Proof.Gen.FfnInDxRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.FfnInDxIdeal.Product

open Idealize.ShloMosaic Idealize.ShloMosaic.TcCoe Idealize.ShloMosaic.Tactic Idealize.SL.Sem Cert.FfnInDxIdeal Cert.FfnInDxIdeal.Gen

/-! ## The body's arithmetic at an element -/

theorem pay1_at (y : S1024x512.Idx) : k0_pay1 (F := Ideal) y = 0 := by
  pointwise [k0_pay1]

theorem pay2_at (z : Vec Ideal S1024x512 .f32) (a : Vec Ideal S1024x1408 .bf16) (b : Vec Ideal S512x1408 .bf16) (y : S1024x512.Idx) :
    k0_pay2 (F := Ideal) z a b y = z y + ∑ k : Fin 1408, a (ix2 (y 0) k) * b (ix2 (y 1) k) := by
  pointwise [k0_pay2]

theorem pay3_at (z : Vec Ideal S1024x512 .f32) (a : Vec Ideal S1024x1408 .bf16) (b : Vec Ideal S512x1408 .bf16) (y : S1024x512.Idx) :
    k0_pay3 (F := Ideal) z a b y = z y + ∑ k : Fin 1408, a (ix2 (y 0) k) * b (ix2 (y 1) k) := by
  pointwise [k0_pay3]

theorem pay4_at (z : Vec Ideal S1024x512 .f32) (r : Vec Ideal S1x512 .f32) (y : S1024x512.Idx) :
    k0_pay4 (F := Ideal) z r y = z y + r (ix2 0 (y 1)) := by
  pointwise [k0_pay4]

variable (m : (ℓ : Loc nD τ sig) → Buf (Elt Ideal) ℓ) (c : Dev nD)

/-- One block of a contraction along the second axis of both factors. -/
abbrev dot (a : Vec Ideal S1024x1408 .bf16) (b : Vec Ideal S512x1408 .bf16) (y : S1024x512.Idx) : EReal :=
  ∑ k : Fin 1408, (a (ix2 (y 0) k) * b (ix2 (y 1) k) : EReal)

/-- What a grid point adds to the accumulator: one block of each of the two contractions. -/
def term (t : Fin cfg0.N) (y : S1024x512.Idx) : EReal :=
  dot (iblk m c 0 t) (iblk m c 1 t) y + dot (iblk m c 2 t) (iblk m c 3 t) y

theorem first (t : Fin cfg0.N) (h : t.val % 4 = 0) (y : S1024x512.Idx) :
    (outsAt0 m c t.val t.isLt).2 y = (0 : EReal) + term m c t y := by
  rw [outsAt0_A m c t h (by omega)]
  frame_out
  rw [pay3_at, pay2_at, pay1_at]
  exact add_assoc _ _ _

theorem step (t : Fin cfg0.N) (h : ¬t.val % 4 = 0) (y : S1024x512.Idx) :
    (outsAt0 m c t.val t.isLt).2 y
      = ((outsAt0 m c (t.val - 1) (Nat.lt_of_le_of_lt (Nat.sub_le _ _) t.isLt)).2 y : EReal) + term m c t y := by
  by_cases h1 : t.val % 4 = 3
  · rw [outsAt0_C m c t h h1]
    frame_out
    simp only [read_unread_whole]
    rw [pay3_at, pay2_at]
    exact add_assoc _ _ _
  · rw [outsAt0_B m c t h h1]
    frame_out
    simp only [read_unread_whole]
    rw [pay3_at, pay2_at]
    exact add_assoc _ _ _

/-- The block written back is the accumulator plus the row. -/
theorem out_eq (t : Fin cfg0.N) (h1 : t.val % 4 = 3) (y : S1024x512.Idx) :
    (outsAt0 m c t.val t.isLt).1 y
      = ((outsAt0 m c t.val t.isLt).2 y : EReal) + (iblk m c 4 t : Vec Ideal S1x512 .f32) (ix2 0 (y 1)) := by
  rw [outsAt0_C m c t (by omega) h1]
  frame_out
  exact pay4_at _ _ _

/-! ## The blocks of the arrays -/

theorem idx : ∀ t : Fin cfg0.N, win0_0.index t = ![t.val / 16, t.val % 4] ∧ win0_1.index t = ![t.val / 4 % 4, t.val % 4]
    ∧ win0_2.index t = ![t.val / 16, t.val % 4] ∧ win0_3.index t = ![t.val / 4 % 4, t.val % 4] ∧ win0_4.index t = ![0, t.val / 4 % 4]
    ∧ win0_5.index t = ![t.val / 16, t.val / 4 % 4] := by
  decide +kernel

theorem lt (t : Fin cfg0.N) : t.val < 128 := lt_of_lt_of_eq t.isLt N_0

/-- Where element `p` of a point's block of 1024 rows lies. -/
abbrev row (t : Fin cfg0.N) (p : Fin 1024) : Fin 8192 := ⟨t.val / 16 * 1024 + p.val, by have := lt t; omega⟩
/-- Where element `q` of a point's block of 512 columns lies. -/
abbrev col (t : Fin cfg0.N) (q : Fin 512) : Fin 2048 := ⟨t.val / 4 % 4 * 512 + q.val, by omega⟩
/-- Where element `k` of a point's block of 1408 contracted positions lies. -/
abbrev pos (t : Fin cfg0.N) (k : Fin 1408) : Fin 5632 := ⟨t.val % 4 * 1408 + k.val, by omega⟩

abbrev A0 : Vec Ideal S2048x5632 .f32 := m ((c : Thread nD τ).loc main_arg0)
abbrev A1 : Vec Ideal S2048x5632 .f32 := m ((c : Thread nD τ).loc main_arg1)
abbrev A2 : Vec Ideal S8192x5632 .f32 := m ((c : Thread nD τ).loc main_arg2)
abbrev A3 : Vec Ideal S8192x5632 .f32 := m ((c : Thread nD τ).loc main_arg3)

theorem blk0 (t : Fin cfg0.N) (p : Fin 1024) (k : Fin 1408) : (iblk m c 0 t : Vec Ideal S1024x1408 .bf16) (ix2 p k) = A2 m c (ix2 (row t p) (pos t k)) := by
  blk_ext! [iblk, V, idx t]
theorem blk1 (t : Fin cfg0.N) (q : Fin 512) (k : Fin 1408) : (iblk m c 1 t : Vec Ideal S512x1408 .bf16) (ix2 q k) = A0 m c (ix2 (col t q) (pos t k)) := by
  blk_ext! [iblk, V, idx t]
theorem blk2 (t : Fin cfg0.N) (p : Fin 1024) (k : Fin 1408) : (iblk m c 2 t : Vec Ideal S1024x1408 .bf16) (ix2 p k) = A3 m c (ix2 (row t p) (pos t k)) := by
  blk_ext! [iblk, V, idx t]
theorem blk3 (t : Fin cfg0.N) (q : Fin 512) (k : Fin 1408) : (iblk m c 3 t : Vec Ideal S512x1408 .bf16) (ix2 q k) = A1 m c (ix2 (col t q) (pos t k)) := by
  blk_ext! [iblk, V, idx t]
theorem blk4 (t : Fin cfg0.N) (q : Fin 512) : (iblk m c 4 t : Vec Ideal S1x512 .f32) (ix2 0 q) = (0 : EReal) := by
  blk_ext! [iblk, V, idx t]

/-! ## The result -/

/-- The gradient: the two products with the transposed weights. -/
def grad (i : S8192x2048.Idx) : EReal :=
  (∑ l : Fin 5632, (A2 m c (ix2 (i 0) l) * A0 m c (ix2 (i 1) l) : EReal)) + ∑ l : Fin 5632, (A3 m c (ix2 (i 0) l) * A1 m c (ix2 (i 1) l) : EReal)

theorem acc_eq (t : Fin cfg0.N) (h : t.val % 4 = 3) (p : Fin 1024) (q : Fin 512) :
    (outsAt0 m c t.val t.isLt).2 (ix2 p q) = grad m c (ix2 (row t p) (col t q)) := by
  have e := Pipeline.eq_sum_fin_of_reset_step_apply_of_flush (M := EReal) (fun n h => (outsAt0 m c n h).2) 4 (fun _ => 0) (term m c)
    (first m c) (step m c) t h (ix2 p q)
  refine e.trans ((zero_add _).trans ?_)
  unfold term grad
  rw [Finset.sum_add_distrib]
  have hp (s : Fin 4) (k : Fin 1408) (hs : 4 * (t.val / 4) + s.val < cfg0.N) (hl : s.val * 1408 + k.val < 5632) :
      row ⟨4 * (t.val / 4) + s.val, hs⟩ p = row t p ∧ col ⟨4 * (t.val / 4) + s.val, hs⟩ q = col t q
        ∧ pos ⟨4 * (t.val / 4) + s.val, hs⟩ k = ⟨s.val * 1408 + k.val, hl⟩ := by
    refine ⟨Fin.ext ?_, Fin.ext ?_, Fin.ext ?_⟩ <;> dsimp only [row, col, pos] <;> omega
  refine congrArg₂ (· + ·) ?_ ?_
  · refine Fin.sum_mul_add_congr fun s k hl => ?_
    obtain ⟨e0, e1, e2⟩ := hp s k (by have := lt t; have := N_0; omega) hl
    exact congrArg₂ (· * ·) ((blk0 m c _ p k).trans (by rw [e0, e2]; rfl)) ((blk1 m c _ q k).trans (by rw [e1, e2]; rfl))
  · refine Fin.sum_mul_add_congr fun s k hl => ?_
    obtain ⟨e0, e1, e2⟩ := hp s k (by have := lt t; have := N_0; omega) hl
    exact congrArg₂ (· * ·) ((blk2 m c _ p k).trans (by rw [e0, e2]; rfl)) ((blk3 m c _ q k).trans (by rw [e1, e2]; rfl))

theorem out_grad (t : Fin cfg0.N) (h : t.val % 4 = 3) (y : S1024x512.Idx) :
    (outsAt0 m c t.val t.isLt).1 y = grad m c (ix2 (row t (y 0)) (col t (y 1))) := by
  refine (out_eq m c t h y).trans ((congrArg (_ + ·) (blk4 m c t (y 1))).trans ((add_zero _).trans ?_))
  exact (congrArg _ (ValueIdx.eq_ix2 y)).trans (acc_eq m c t h (y 0) (y 1))

/-- The array the kernel returns. -/
theorem arr : (dats m 0 c).arrAt 5 cfg0.N = grad m c := by
  refine (dats m 0 c).arrAt_eq_of_covers 5 _ (by decide +kernel) fun t hf y => ?_
  have h : t.val % 4 = 3 := (flush0_5 t).mp hf
  obtain ⟨-, -, -, -, -, e5⟩ := idx t
  have e : (win0_5.blk t).view.emb y = (ix2 (row t (y 0)) (col t (y 1)) : S8192x2048.Idx) := by
    refine funext fun a => Fin.ext ?_
    match a with
    | 0 => blk_simp [e5]
    | 1 => blk_simp [e5]
  rw [after0_5]
  exact (out_grad m c t h y).trans (congrArg (grad m c) e.symm)

/-- What the reference returns. -/
theorem ref (i : S8192x2048.Idx) : Cert.FfnInDxRefIdeal.Read.val_main_v5 (F := Ideal) (A0 m c) (A1 m c) (A2 m c) (A3 m c) i = grad m c i := by
  rw [Cert.FfnInDxRefIdeal.Read.val_main_v5_apply]
  pointwise [Cert.FfnInDxRefIdeal.Read.val_main_v3, Cert.FfnInDxRefIdeal.Read.val_main_v4, grad]
  exact add_comm _ _

/-! ## The claims -/

theorem frame_p : Cert.quiescent_FfnInDx := fun m ρ _ => Cert.FfnInDx.Gen.frame m ρ
theorem frame_pi : Cert.quiescent_FfnInDxIdeal := fun m ρ _ => Cert.FfnInDxIdeal.Gen.frame m ρ
theorem frame_ri : Cert.quiescent_FfnInDxRefIdeal := fun m ρ _ =>
  (θ_run Cert.FfnInDxRefIdeal.defs _ _).mono (fun r h => ⟨fun c => (h c).2, sem_eq_zero_of_no_sems (by decide) r.2⟩)
    (Cert.FfnInDxRefIdeal.Value.run (F := Ideal) m ρ)
theorem preserves : Cert.preserves_FfnInDx_FfnInDxIdeal := trivial

/-- The kernel's result is the reference's. -/
theorem algebraic : Cert.algebraic_FfnInDxIdeal_FfnInDxRefIdeal := by
  intro m ρ m' ρ' _ hagree
  refine ⟨_, Cert.FfnInDxIdeal.Value.run_blocks (F := Ideal) m ρ, ?_⟩
  refine (θ_run Cert.FfnInDxRefIdeal.defs _ _).mono (fun r h d => ?_) (Cert.FfnInDxRefIdeal.Value.run (F := Ideal) m' ρ')
  obtain ⟨a0, a1, a2, a3⟩ := hagree d
  refine ⟨((h d).1.trans (Cert.FfnInDxRefIdeal.Read.val_main_v5_eq _ _ _ _)).trans ?_, (h d).2⟩
  rw [a0, a1, a2, a3]
  exact (funext (ref m d)).trans (arr m d).symm

end Cert.FfnInDxIdeal.Product

end
-- ==== Proof.Product.FfnInDw.lean ====
/-
  The gradients of the feed-forward layer's two input weights: what the kernel's accumulators and its results hold over
  the reals. The second accumulator does to the third array what the first one does to the second.
-/
module

public import proofs.«01_k».proof.Defs
public import proofs.«01_k».proof.Proof.Gen.FfnInDw.Frame
public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.FfnInDwIdeal.Product

open Idealize.ShloMosaic Idealize.ShloMosaic.TcCoe Idealize.ShloMosaic.Tactic Idealize.SL.Sem Cert.FfnInDwIdeal Cert.FfnInDwIdeal.Gen

/-! ## The body's arithmetic at an element -/

theorem pay1_at (y : S1024x512.Idx) : k0_pay1 (F := Ideal) y = 0 := by
  pointwise [k0_pay1]

theorem pay2_at (y : S1024x512.Idx) : k0_pay2 (F := Ideal) y = 0 := by
  pointwise [k0_pay2]

theorem pay3_at (z : Vec Ideal S1024x512 .f32) (a : Vec Ideal S2048x1024 .bf16) (b : Vec Ideal S2048x512 .bf16) (y : S1024x512.Idx) :
    k0_pay3 (F := Ideal) z a b y = z y + ∑ k : Fin 2048, a (ix2 k (y 0)) * b (ix2 k (y 1)) := by
  pointwise [k0_pay3]

theorem pay4_at (z : Vec Ideal S1024x512 .f32) (a : Vec Ideal S2048x1024 .bf16) (b : Vec Ideal S2048x512 .bf16) (y : S1024x512.Idx) :
    k0_pay4 (F := Ideal) z a b y = z y + ∑ k : Fin 2048, a (ix2 k (y 0)) * b (ix2 k (y 1)) := by
  pointwise [k0_pay4]

/-! ## The accumulators -/

variable (m : (ℓ : Loc nD τ sig) → Buf (Elt Ideal) ℓ) (c : Dev nD)

/-- One block of a contraction along the first axis of both factors. -/
abbrev dot (a : Vec Ideal S2048x1024 .bf16) (b : Vec Ideal S2048x512 .bf16) (y : S1024x512.Idx) : EReal :=
  ∑ k : Fin 2048, (a (ix2 k (y 0)) * b (ix2 k (y 1)) : EReal)

/-- The two accumulators after point `n`. -/
abbrev acc (n : ℕ) (h : n < cfg0.N) : Vec Ideal S1024x512 .f32 × Vec Ideal S1024x512 .f32 := (outsAt0 m c n h).2.2.2.2

/-- What a grid point adds to the accumulators. -/
def term1 (t : Fin cfg0.N) (y : S1024x512.Idx) : EReal := dot (iblk m c 0 t) (iblk m c 1 t) y
def term2 (t : Fin cfg0.N) (y : S1024x512.Idx) : EReal := dot (iblk m c 2 t) (iblk m c 3 t) y

theorem first (t : Fin cfg0.N) (h : t.val % 4 = 0) (y : S1024x512.Idx) :
    (acc m c t.val t.isLt).1 y = (0 : EReal) + term1 m c t y ∧ (acc m c t.val t.isLt).2 y = (0 : EReal) + term2 m c t y := by
  unfold acc
  rw [outsAt0_A m c t h (by omega)]
  constructor
  · frame_out
    rw [pay3_at, pay1_at]
    rfl
  · frame_out
    rw [pay4_at, pay2_at]
    rfl

theorem step (t : Fin cfg0.N) (h : ¬t.val % 4 = 0) (y : S1024x512.Idx) :
    (acc m c t.val t.isLt).1 y = ((acc m c (t.val - 1) (Nat.lt_of_le_of_lt (Nat.sub_le _ _) t.isLt)).1 y : EReal) + term1 m c t y
    ∧ (acc m c t.val t.isLt).2 y = ((acc m c (t.val - 1) (Nat.lt_of_le_of_lt (Nat.sub_le _ _) t.isLt)).2 y : EReal) + term2 m c t y := by
  unfold acc
  by_cases h1 : t.val % 4 = 3
  · rw [outsAt0_C m c t h h1]
    constructor
    · frame_out
      simp only [read_unread_whole]
      exact pay3_at _ _ _ _
    · frame_out
      simp only [read_unread_whole]
      exact pay4_at _ _ _ _
  · rw [outsAt0_B m c t h h1]
    constructor
    · frame_out
      simp only [read_unread_whole]
      exact pay3_at _ _ _ _
    · frame_out
      simp only [read_unread_whole]
      exact pay4_at _ _ _ _

/-- The blocks written back are the accumulators. -/
theorem out_eq (t : Fin cfg0.N) (h1 : t.val % 4 = 3) :
    (outsAt0 m c t.val t.isLt).1 = (acc m c t.val t.isLt).1 ∧ (outsAt0 m c t.val t.isLt).2.1 = (acc m c t.val t.isLt).2 := by
  unfold acc
  rw [outsAt0_C m c t (by omega) h1]
  constructor <;> frame_out

/-! ## The blocks of the arrays -/

theorem idx : ∀ t : Fin cfg0.N, win0_0.index t = ![t.val % 4, t.val / 44] ∧ win0_1.index t = ![t.val % 4, t.val / 4 % 11]
    ∧ win0_2.index t = ![t.val % 4, t.val / 44] ∧ win0_3.index t = ![t.val % 4, t.val / 4 % 11]
    ∧ win0_4.index t = ![t.val / 44, t.val / 4 % 11] ∧ win0_5.index t = ![t.val / 44, t.val / 4 % 11] := by
  decide +kernel

theorem lt (t : Fin cfg0.N) : t.val < 88 := lt_of_lt_of_eq t.isLt N_0

/-- Where element `p` of a point's block of 1024 rows lies. -/
abbrev row (t : Fin cfg0.N) (p : Fin 1024) : Fin 2048 := ⟨t.val / 44 * 1024 + p.val, by have := lt t; omega⟩
/-- Where element `q` of a point's block of 512 columns lies. -/
abbrev col (t : Fin cfg0.N) (q : Fin 512) : Fin 5632 := ⟨t.val / 4 % 11 * 512 + q.val, by omega⟩
/-- Where element `k` of a point's block of 2048 contracted positions lies. -/
abbrev pos (t : Fin cfg0.N) (k : Fin 2048) : Fin 8192 := ⟨t.val % 4 * 2048 + k.val, by omega⟩

abbrev A0 : Vec Ideal S8192x2048 .f32 := m ((c : Thread nD τ).loc main_arg0)
abbrev A1 : Vec Ideal S8192x5632 .f32 := m ((c : Thread nD τ).loc main_arg1)
abbrev A2 : Vec Ideal S8192x5632 .f32 := m ((c : Thread nD τ).loc main_arg2)

theorem blk0 (t : Fin cfg0.N) (k : Fin 2048) (p : Fin 1024) : (iblk m c 0 t : Vec Ideal S2048x1024 .bf16) (ix2 k p) = A0 m c (ix2 (pos t k) (row t p)) := by
  blk_ext! [iblk, V, idx t]
theorem blk1 (t : Fin cfg0.N) (k : Fin 2048) (q : Fin 512) : (iblk m c 1 t : Vec Ideal S2048x512 .bf16) (ix2 k q) = A1 m c (ix2 (pos t k) (col t q)) := by
  blk_ext! [iblk, V, idx t]
theorem blk2 (t : Fin cfg0.N) (k : Fin 2048) (p : Fin 1024) : (iblk m c 2 t : Vec Ideal S2048x1024 .bf16) (ix2 k p) = A0 m c (ix2 (pos t k) (row t p)) := by
  blk_ext! [iblk, V, idx t]
theorem blk3 (t : Fin cfg0.N) (k : Fin 2048) (q : Fin 512) : (iblk m c 3 t : Vec Ideal S2048x512 .bf16) (ix2 k q) = A2 m c (ix2 (pos t k) (col t q)) := by
  blk_ext! [iblk, V, idx t]

/-! ## The results -/

/-- The gradient of a weight: the layer's input, transposed, times the gradient that comes in. -/
def grad (x : Vec Ideal S8192x2048 .f32) (d : Vec Ideal S8192x5632 .f32) (i : S2048x5632.Idx) : EReal :=
  ∑ l : Fin 8192, (x (ix2 l (i 0)) * d (ix2 l (i 1)) : EReal)

/-- The four points of a run, over the arrays. -/
theorem run_sum (x : Vec Ideal S8192x2048 .f32) (d : Vec Ideal S8192x5632 .f32) (T : Fin cfg0.N → S1024x512.Idx → EReal)
    (hT : ∀ t p q, T t (ix2 p q) = ∑ k : Fin 2048, (x (ix2 (pos t k) (row t p)) * d (ix2 (pos t k) (col t q)) : EReal))
    (t : Fin cfg0.N) (h : t.val % 4 = 3) (p : Fin 1024) (q : Fin 512) :
    (∑ s : Fin 4, T ⟨4 * (t.val / 4) + s.val, Pipeline.run_point_lt_of_flush t h s⟩ (ix2 p q)) = grad x d (ix2 (row t p) (col t q)) := by
  simp only [hT]
  unfold grad
  refine Fin.sum_mul_add_congr fun s k hl => ?_
  have hs : 4 * (t.val / 4) + s.val < cfg0.N := by have := lt t; have := N_0; omega
  have e0 : row ⟨4 * (t.val / 4) + s.val, hs⟩ p = row t p := Fin.ext (by dsimp only [row]; omega)
  have e1 : col ⟨4 * (t.val / 4) + s.val, hs⟩ q = col t q := Fin.ext (by dsimp only [col]; omega)
  have e2 : pos ⟨4 * (t.val / 4) + s.val, hs⟩ k = ⟨s.val * 2048 + k.val, hl⟩ := Fin.ext (by dsimp only [pos]; omega)
  rw [e0, e1, e2]
  rfl

theorem acc1 (t : Fin cfg0.N) (h : t.val % 4 = 3) (p : Fin 1024) (q : Fin 512) :
    (acc m c t.val t.isLt).1 (ix2 p q) = grad (A0 m c) (A1 m c) (ix2 (row t p) (col t q)) :=
  (Pipeline.eq_sum_fin_of_reset_step_apply_of_flush (M := EReal) (fun n h => (acc m c n h).1) 4 (fun _ => 0) (term1 m c)
    (fun t h y => (first m c t h y).1) (fun t h y => (step m c t h y).1) t h (ix2 p q)).trans ((zero_add _).trans
      (run_sum _ _ _ (fun t p q => Finset.sum_congr rfl fun k _ => congrArg₂ (fun a b : EReal => a * b) (blk0 m c t k p) (blk1 m c t k q)) t h p q))

theorem acc2 (t : Fin cfg0.N) (h : t.val % 4 = 3) (p : Fin 1024) (q : Fin 512) :
    (acc m c t.val t.isLt).2 (ix2 p q) = grad (A0 m c) (A2 m c) (ix2 (row t p) (col t q)) :=
  (Pipeline.eq_sum_fin_of_reset_step_apply_of_flush (M := EReal) (fun n h => (acc m c n h).2) 4 (fun _ => 0) (term2 m c)
    (fun t h y => (first m c t h y).2) (fun t h y => (step m c t h y).2) t h (ix2 p q)).trans ((zero_add _).trans
      (run_sum _ _ _ (fun t p q => Finset.sum_congr rfl fun k _ => congrArg₂ (fun a b : EReal => a * b) (blk2 m c t k p) (blk3 m c t k q)) t h p q))

theorem out1 (t : Fin cfg0.N) (h : t.val % 4 = 3) (y : S1024x512.Idx) :
    (outsAt0 m c t.val t.isLt).1 y = grad (A0 m c) (A1 m c) (ix2 (row t (y 0)) (col t (y 1))) := by
  rw [(out_eq m c t h).1]
  exact (congrArg _ (ValueIdx.eq_ix2 y)).trans (acc1 m c t h (y 0) (y 1))

theorem out2 (t : Fin cfg0.N) (h : t.val % 4 = 3) (y : S1024x512.Idx) :
    (outsAt0 m c t.val t.isLt).2.1 y = grad (A0 m c) (A2 m c) (ix2 (row t (y 0)) (col t (y 1))) := by
  rw [(out_eq m c t h).2]
  exact (congrArg _ (ValueIdx.eq_ix2 y)).trans (acc2 m c t h (y 0) (y 1))

/-- The arrays the kernel returns. -/
theorem arr1 : (dats m 0 c).arrAt 4 cfg0.N = grad (A0 m c) (A1 m c) := by
  refine (dats m 0 c).arrAt_eq_of_covers 4 _ (by decide +kernel) fun t hf y => ?_
  have h : t.val % 4 = 3 := (flush0_4 t).mp hf
  obtain ⟨-, -, -, -, e4, -⟩ := idx t
  have e : (win0_4.blk t).view.emb y = (ix2 (row t (y 0)) (col t (y 1)) : S2048x5632.Idx) := by
    refine funext fun a => Fin.ext ?_
    match a with
    | 0 => blk_simp [e4]
    | 1 => blk_simp [e4]
  rw [after0_4]
  exact (out1 m c t h y).trans (congrArg (grad _ _) e.symm)

theorem arr2 : (dats m 0 c).arrAt 5 cfg0.N = grad (A0 m c) (A2 m c) := by
  refine (dats m 0 c).arrAt_eq_of_covers 5 _ (by decide +kernel) fun t hf y => ?_
  have h : t.val % 4 = 3 := (flush0_5 t).mp hf
  obtain ⟨-, -, -, -, -, e5⟩ := idx t
  have e : (win0_5.blk t).view.emb y = (ix2 (row t (y 0)) (col t (y 1)) : S2048x5632.Idx) := by
    refine funext fun a => Fin.ext ?_
    match a with
    | 0 => blk_simp [e5]
    | 1 => blk_simp [e5]
  rw [after0_5]
  exact (out2 m c t h y).trans (congrArg (grad _ _) e.symm)

/-- What the reference returns. -/
theorem ref1 (x : Vec Ideal S8192x2048 .f32) (d : Vec Ideal S8192x5632 .f32) (i : S2048x5632.Idx) :
    Cert.FfnInDwRefIdeal.Read.val_main_v6 (F := Ideal) x d i = grad x d i := by
  pointwise [Cert.FfnInDwRefIdeal.Read.val_main_v6, Cert.FfnInDwRefIdeal.Read.val_main_v5, grad]
  exact Finset.sum_congr rfl fun l _ => mul_comm _ _

theorem ref2 (x : Vec Ideal S8192x2048 .f32) (d : Vec Ideal S8192x5632 .f32) (i : S2048x5632.Idx) :
    Cert.FfnInDwRefIdeal.Read.val_main_v4 (F := Ideal) x d i = grad x d i := by
  pointwise [Cert.FfnInDwRefIdeal.Read.val_main_v4, Cert.FfnInDwRefIdeal.Read.val_main_v3, grad]
  exact Finset.sum_congr rfl fun l _ => mul_comm _ _

/-! ## The claims -/

theorem frame_p : Cert.quiescent_FfnInDw := fun m ρ _ => Cert.FfnInDw.Gen.frame m ρ
theorem frame_pi : Cert.quiescent_FfnInDwIdeal := fun m ρ _ => Cert.FfnInDwIdeal.Gen.frame m ρ
theorem frame_ri : Cert.quiescent_FfnInDwRefIdeal := fun m ρ _ =>
  (θ_run Cert.FfnInDwRefIdeal.defs _ _).mono (fun r h => ⟨fun c => (h c).2.2, sem_eq_zero_of_no_sems (by decide) r.2⟩)
    (Cert.FfnInDwRefIdeal.Value.run (F := Ideal) m ρ)
theorem preserves : Cert.preserves_FfnInDw_FfnInDwIdeal := trivial

/-- The kernel's results are the reference's. -/
theorem algebraic : Cert.algebraic_FfnInDwIdeal_FfnInDwRefIdeal := by
  intro m ρ m' ρ' _ hagree
  refine ⟨_, _, (θ_run Cert.FfnInDwIdeal.defs _ _).mono (fun r h d => ⟨(h d).1, (h d).2.1, (h d).2.2.2.2⟩) (Cert.FfnInDwIdeal.Value.run_blocks (F := Ideal) m ρ), ?_⟩
  refine (θ_run Cert.FfnInDwRefIdeal.defs _ _).mono (fun r h d => ?_) (Cert.FfnInDwRefIdeal.Value.run (F := Ideal) m' ρ')
  obtain ⟨a0, a1, a2⟩ := hagree d
  refine ⟨((h d).1.trans (Cert.FfnInDwRefIdeal.Read.val_main_v6_eq _ _)).trans ?_,
    ((h d).2.1.trans (Cert.FfnInDwRefIdeal.Read.val_main_v4_eq _ _)).trans ?_, (h d).2.2⟩
  · rw [a0, a1]
    exact (funext (ref1 _ _)).trans (arr1 m d).symm
  · rw [a0, a2]
    exact (funext (ref2 _ _)).trans (arr2 m d).symm

end Cert.FfnInDwIdeal.Product

end
-- ==== Proof.Product.FfnOutDw.lean ====
/-
  The gradient of the feed-forward layer's second weight: what the kernel's accumulator and its result hold over the reals.
-/
module

public import proofs.«01_k».proof.Defs
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.FfnOutDwIdeal.Product

open Idealize.ShloMosaic Idealize.ShloMosaic.TcCoe Idealize.ShloMosaic.Tactic Idealize.SL.Sem Cert.FfnOutDwIdeal Cert.FfnOutDwIdeal.Gen

/-! ## The body's arithmetic at an element -/

theorem pay1_at (y : S1408x1024.Idx) : k0_pay1 (F := Ideal) y = 0 := by
  pointwise [k0_pay1]

theorem pay2_at (z : Vec Ideal S1408x1024 .f32) (a : Vec Ideal S2048x1408 .bf16) (b : Vec Ideal S2048x1024 .bf16) (y : S1408x1024.Idx) :
    k0_pay2 (F := Ideal) z a b y = z y + ∑ k : Fin 2048, a (ix2 k (y 0)) * b (ix2 k (y 1)) := by
  pointwise [k0_pay2]

/-! ## The accumulator -/

variable (m : (ℓ : Loc nD τ sig) → Buf (Elt Ideal) ℓ) (c : Dev nD)

/-- One block of a contraction along the first axis of both factors. -/
abbrev dot (a : Vec Ideal S2048x1408 .bf16) (b : Vec Ideal S2048x1024 .bf16) (y : S1408x1024.Idx) : EReal :=
  ∑ k : Fin 2048, (a (ix2 k (y 0)) * b (ix2 k (y 1)) : EReal)

/-- What a grid point adds to the accumulator. -/
def term (t : Fin cfg0.N) (y : S1408x1024.Idx) : EReal := dot (iblk m c 0 t) (iblk m c 1 t) y

theorem first (t : Fin cfg0.N) (h : t.val % 4 = 0) (y : S1408x1024.Idx) :
    (outsAt0 m c t.val t.isLt).2.2 y = (0 : EReal) + term m c t y := by
  rw [outsAt0_A m c t h (by omega)]
  frame_out
  rw [pay2_at, pay1_at]
  rfl

theorem step (t : Fin cfg0.N) (h : ¬t.val % 4 = 0) (y : S1408x1024.Idx) :
    (outsAt0 m c t.val t.isLt).2.2 y
      = ((outsAt0 m c (t.val - 1) (Nat.lt_of_le_of_lt (Nat.sub_le _ _) t.isLt)).2.2 y : EReal) + term m c t y := by
  by_cases h1 : t.val % 4 = 3
  · rw [outsAt0_C m c t h h1]
    frame_out
    simp only [read_unread_whole]
    exact pay2_at _ _ _ _
  · rw [outsAt0_B m c t h h1]
    frame_out
    simp only [read_unread_whole]
    exact pay2_at _ _ _ _

/-- The block written back is the accumulator. -/
theorem out_eq (t : Fin cfg0.N) (h1 : t.val % 4 = 3) : (outsAt0 m c t.val t.isLt).1 = (outsAt0 m c t.val t.isLt).2.2 := by
  rw [outsAt0_C m c t (by omega) h1]
  frame_out

/-! ## The blocks of the arrays -/

theorem idx : ∀ t : Fin cfg0.N, win0_0.index t = ![t.val % 4, t.val / 8] ∧ win0_1.index t = ![t.val % 4, t.val / 4 % 2]
    ∧ win0_2.index t = ![t.val / 8, t.val / 4 % 2] := by
  decide +kernel

theorem lt (t : Fin cfg0.N) : t.val < 32 := lt_of_lt_of_eq t.isLt N_0

/-- Where element `p` of a point's block of 1408 rows lies. -/
abbrev row (t : Fin cfg0.N) (p : Fin 1408) : Fin 5632 := ⟨t.val / 8 * 1408 + p.val, by have := lt t; omega⟩
/-- Where element `q` of a point's block of 1024 columns lies. -/
abbrev col (t : Fin cfg0.N) (q : Fin 1024) : Fin 2048 := ⟨t.val / 4 % 2 * 1024 + q.val, by omega⟩
/-- Where element `k` of a point's block of 2048 contracted positions lies. -/
abbrev pos (t : Fin cfg0.N) (k : Fin 2048) : Fin 8192 := ⟨t.val % 4 * 2048 + k.val, by omega⟩

abbrev A0 : Vec Ideal S8192x5632 .f32 := m ((c : Thread nD τ).loc main_arg0)
abbrev A1 : Vec Ideal S8192x2048 .f32 := m ((c : Thread nD τ).loc main_arg1)

theorem blk0 (t : Fin cfg0.N) (k : Fin 2048) (p : Fin 1408) : (iblk m c 0 t : Vec Ideal S2048x1408 .bf16) (ix2 k p) = A0 m c (ix2 (pos t k) (row t p)) := by
  blk_ext! [iblk, V, idx t]
theorem blk1 (t : Fin cfg0.N) (k : Fin 2048) (q : Fin 1024) : (iblk m c 1 t : Vec Ideal S2048x1024 .bf16) (ix2 k q) = A1 m c (ix2 (pos t k) (col t q)) := by
  blk_ext! [iblk, V, idx t]

/-! ## The result -/

/-- The gradient: the layer's activation, transposed, times the gradient that comes in. -/
def grad (i : S5632x2048.Idx) : EReal := ∑ l : Fin 8192, (A0 m c (ix2 l (i 0)) * A1 m c (ix2 l (i 1)) : EReal)

theorem acc_eq (t : Fin cfg0.N) (h : t.val % 4 = 3) (p : Fin 1408) (q : Fin 1024) :
    (outsAt0 m c t.val t.isLt).2.2 (ix2 p q) = grad m c (ix2 (row t p) (col t q)) := by
  have e := Pipeline.eq_sum_fin_of_reset_step_apply_of_flush (M := EReal) (fun n h => (outsAt0 m c n h).2.2) 4 (fun _ => 0) (term m c)
    (first m c) (step m c) t h (ix2 p q)
  refine e.trans ((zero_add _).trans ?_)
  unfold term grad
  refine Fin.sum_mul_add_congr fun s k hl => ?_
  have hs : 4 * (t.val / 4) + s.val < cfg0.N := by have := lt t; have := N_0; omega
  have e0 : row ⟨4 * (t.val / 4) + s.val, hs⟩ p = row t p := Fin.ext (by dsimp only [row]; omega)
  have e1 : col ⟨4 * (t.val / 4) + s.val, hs⟩ q = col t q := Fin.ext (by dsimp only [col]; omega)
  have e2 : pos ⟨4 * (t.val / 4) + s.val, hs⟩ k = ⟨s.val * 2048 + k.val, hl⟩ := Fin.ext (by dsimp only [pos]; omega)
  exact congrArg₂ (· * ·) ((blk0 m c _ k p).trans (by rw [e0, e2]; rfl)) ((blk1 m c _ k q).trans (by rw [e1, e2]; rfl))

theorem out_grad (t : Fin cfg0.N) (h : t.val % 4 = 3) (y : S1408x1024.Idx) :
    (outsAt0 m c t.val t.isLt).1 y = grad m c (ix2 (row t (y 0)) (col t (y 1))) := by
  rw [out_eq m c t h]
  exact (congrArg _ (ValueIdx.eq_ix2 y)).trans (acc_eq m c t h (y 0) (y 1))

/-- The array the kernel returns. -/
theorem arr : (dats m 0 c).arrAt 2 cfg0.N = grad m c := by
  refine (dats m 0 c).arrAt_eq_of_covers 2 _ (by decide +kernel) fun t hf y => ?_
  have h : t.val % 4 = 3 := (flush0_2 t).mp hf
  obtain ⟨-, -, e2⟩ := idx t
  have e : (win0_2.blk t).view.emb y = (ix2 (row t (y 0)) (col t (y 1)) : S5632x2048.Idx) := by
    refine funext fun a => Fin.ext ?_
    match a with
    | 0 => blk_simp [e2]
    | 1 => blk_simp [e2]
  rw [after0_2]
  exact (out_grad m c t h y).trans (congrArg (grad m c) e.symm)

/-- What the reference returns. -/
theorem ref (i : S5632x2048.Idx) : Cert.FfnOutDwRefIdeal.Read.val_main_v3 (F := Ideal) (A0 m c) (A1 m c) i = grad m c i := by
  pointwise [Cert.FfnOutDwRefIdeal.Read.val_main_v3, Cert.FfnOutDwRefIdeal.Read.val_main_v2, grad]
  exact Finset.sum_congr rfl fun l _ => mul_comm _ _

/-! ## The claims -/

theorem frame_p : Cert.quiescent_FfnOutDw := fun m ρ _ => Cert.FfnOutDw.Gen.frame m ρ
theorem frame_pi : Cert.quiescent_FfnOutDwIdeal := fun m ρ _ => Cert.FfnOutDwIdeal.Gen.frame m ρ
theorem frame_ri : Cert.quiescent_FfnOutDwRefIdeal := fun m ρ _ =>
  (θ_run Cert.FfnOutDwRefIdeal.defs _ _).mono (fun r h => ⟨fun c => (h c).2, sem_eq_zero_of_no_sems (by decide) r.2⟩)
    (Cert.FfnOutDwRefIdeal.Value.run (F := Ideal) m ρ)
theorem preserves : Cert.preserves_FfnOutDw_FfnOutDwIdeal := trivial

/-- The kernel's result is the reference's. -/
theorem algebraic : Cert.algebraic_FfnOutDwIdeal_FfnOutDwRefIdeal := by
  intro m ρ m' ρ' _ hagree
  refine ⟨_, (θ_run Cert.FfnOutDwIdeal.defs _ _).mono (fun r h d => ⟨(h d).1, (h d).2.2⟩) (Cert.FfnOutDwIdeal.Value.run_blocks (F := Ideal) m ρ), ?_⟩
  refine (θ_run Cert.FfnOutDwRefIdeal.defs _ _).mono (fun r h d => ?_) (Cert.FfnOutDwRefIdeal.Value.run (F := Ideal) m' ρ')
  obtain ⟨a0, a1⟩ := hagree d
  refine ⟨((h d).1.trans (Cert.FfnOutDwRefIdeal.Read.val_main_v3_eq _ _)).trans ?_, (h d).2⟩
  rw [a0, a1]
  exact (funext (ref m d)).trans (arr m d).symm

end Cert.FfnOutDwIdeal.Product

end
-- ==== Proof.Product.FfnIn.lean ====
/-
  The feed-forward layer's gate, its up projection and its activation: what the kernel's results hold over the reals.
-/
module

public import proofs.«01_k».proof.Defs
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.FfnInIdeal.Product

open Idealize.ShloMosaic Idealize.ShloMosaic.TcCoe Idealize.ShloMosaic.Tactic Idealize.SL.Sem Cert.FfnInIdeal Cert.FfnInIdeal.Gen

/-! ## The body's arithmetic at an element -/

/-- One block of a contraction of rows with columns. -/
abbrev dot (a : Vec Ideal S1024x2048 .bf16) (b : Vec Ideal S2048x512 .bf16) (y : S1024x512.Idx) : EReal :=
  ∑ k : Fin 2048, (a (ix2 (y 0) k) * b (ix2 k (y 1)) : EReal)

/-- The gated activation of a gate `g` and an up projection `u`. -/
abbrev gated (g u : EReal) : EReal := g * Ideal.div 1 (1 + Ideal.exp (-g)) * u

theorem pay1_at (a : Vec Ideal S1024x2048 .bf16) (b : Vec Ideal S2048x512 .bf16) (y : S1024x512.Idx) :
    k0_pay1 (F := Ideal) a b y = dot a b y := by
  pointwise [k0_pay1]

theorem pay2_at (a : Vec Ideal S1024x2048 .bf16) (b : Vec Ideal S2048x512 .bf16) (y : S1024x512.Idx) :
    k0_pay2 (F := Ideal) a b y = dot a b y := by
  pointwise [k0_pay2]

theorem pay3_at (a : Vec Ideal S1024x2048 .bf16) (b : Vec Ideal S2048x512 .bf16) (a' : Vec Ideal S1024x2048 .bf16) (b' : Vec Ideal S2048x512 .bf16)
    (y : S1024x512.Idx) : k0_pay3 (F := Ideal) a b a' b' y = gated (dot a b y) (dot a' b' y) := by
  pointwise [k0_pay3, k0_pay1, k0_pay2]
  rw [zero_sub]

variable (m : (ℓ : Loc nD τ sig) → Buf (Elt Ideal) ℓ) (c : Dev nD)

/-! ## The blocks of the arrays -/

theorem idx : ∀ t : Fin cfg0.N, win0_0.index t = ![t.val / 11, 0] ∧ win0_1.index t = ![0, t.val % 11]
    ∧ win0_2.index t = ![t.val / 11, 0] ∧ win0_3.index t = ![0, t.val % 11]
    ∧ win0_4.index t = ![t.val / 11, t.val % 11] ∧ win0_5.index t = ![t.val / 11, t.val % 11] ∧ win0_6.index t = ![t.val / 11, t.val % 11] := by
  decide +kernel

theorem lt (t : Fin cfg0.N) : t.val < 88 := lt_of_lt_of_eq t.isLt N_0

/-- Where element `p` of a point's block of 1024 rows lies. -/
abbrev row (t : Fin cfg0.N) (p : Fin 1024) : Fin 8192 := ⟨t.val / 11 * 1024 + p.val, by have := lt t; omega⟩
/-- Where element `q` of a point's block of 512 columns lies. -/
abbrev col (t : Fin cfg0.N) (q : Fin 512) : Fin 5632 := ⟨t.val % 11 * 512 + q.val, by omega⟩

abbrev A0 : Vec Ideal S8192x2048 .f32 := m ((c : Thread nD τ).loc main_arg0)
abbrev A1 : Vec Ideal S2048x5632 .f32 := m ((c : Thread nD τ).loc main_arg1)
abbrev A2 : Vec Ideal S2048x5632 .f32 := m ((c : Thread nD τ).loc main_arg2)

theorem blk0 (t : Fin cfg0.N) (p : Fin 1024) (k : Fin 2048) : (iblk m c 0 t : Vec Ideal S1024x2048 .bf16) (ix2 p k) = A0 m c (ix2 (row t p) k) := by
  blk_ext! [iblk, V, idx t]
theorem blk1 (t : Fin cfg0.N) (k : Fin 2048) (q : Fin 512) : (iblk m c 1 t : Vec Ideal S2048x512 .bf16) (ix2 k q) = A1 m c (ix2 k (col t q)) := by
  blk_ext! [iblk, V, idx t]
theorem blk2 (t : Fin cfg0.N) (p : Fin 1024) (k : Fin 2048) : (iblk m c 2 t : Vec Ideal S1024x2048 .bf16) (ix2 p k) = A0 m c (ix2 (row t p) k) := by
  blk_ext! [iblk, V, idx t]
theorem blk3 (t : Fin cfg0.N) (k : Fin 2048) (q : Fin 512) : (iblk m c 3 t : Vec Ideal S2048x512 .bf16) (ix2 k q) = A2 m c (ix2 k (col t q)) := by
  blk_ext! [iblk, V, idx t]

/-! ## The results -/

/-- The layer's input times a weight. -/
def prod (w : Vec Ideal S2048x5632 .f32) (i : S8192x5632.Idx) : EReal := ∑ l : Fin 2048, (A0 m c (ix2 (i 0) l) * w (ix2 l (i 1)) : EReal)
/-- The activation. -/
def act (i : S8192x5632.Idx) : EReal := gated (prod m c (A1 m c) i) (prod m c (A2 m c) i)

theorem dot_gate (t : Fin cfg0.N) (y : S1024x512.Idx) :
    dot (iblk m c 0 t) (iblk m c 1 t) y = prod m c (A1 m c) (ix2 (row t (y 0)) (col t (y 1))) :=
  Finset.sum_congr rfl fun k _ => congrArg₂ (fun a b : EReal => a * b) (blk0 m c t (y 0) k) (blk1 m c t k (y 1))

theorem dot_up (t : Fin cfg0.N) (y : S1024x512.Idx) :
    dot (iblk m c 2 t) (iblk m c 3 t) y = prod m c (A2 m c) (ix2 (row t (y 0)) (col t (y 1))) :=
  Finset.sum_congr rfl fun k _ => congrArg₂ (fun a b : EReal => a * b) (blk2 m c t (y 0) k) (blk3 m c t k (y 1))

theorem out4_at (t : Fin cfg0.N) (y : S1024x512.Idx) :
    (dats m 0 c).after 4 t y = prod m c (A1 m c) (ix2 (row t (y 0)) (col t (y 1))) := by
  rw [after0_4]
  unfold out0_4
  frame_out
  exact (pay1_at _ _ _).trans (dot_gate m c t y)

theorem out5_at (t : Fin cfg0.N) (y : S1024x512.Idx) :
    (dats m 0 c).after 5 t y = prod m c (A2 m c) (ix2 (row t (y 0)) (col t (y 1))) := by
  rw [after0_5]
  unfold out0_5
  frame_out
  exact (pay2_at _ _ _).trans (dot_up m c t y)

theorem out6_at (t : Fin cfg0.N) (y : S1024x512.Idx) :
    (dats m 0 c).after 6 t y = act m c (ix2 (row t (y 0)) (col t (y 1))) := by
  rw [after0_6]
  unfold out0_6
  frame_out
  exact (pay3_at _ _ _ _ _).trans (congrArg₂ gated (dot_gate m c t y) (dot_up m c t y))

theorem emb4 (t : Fin cfg0.N) (y : S1024x512.Idx) : (win0_4.blk t).view.emb y = (ix2 (row t (y 0)) (col t (y 1)) : S8192x5632.Idx) := by
  obtain ⟨-, -, -, -, e, -, -⟩ := idx t
  refine funext fun a => Fin.ext ?_
  match a with
  | 0 => blk_simp [e]
  | 1 => blk_simp [e]

theorem emb5 (t : Fin cfg0.N) (y : S1024x512.Idx) : (win0_5.blk t).view.emb y = (ix2 (row t (y 0)) (col t (y 1)) : S8192x5632.Idx) := by
  obtain ⟨-, -, -, -, -, e, -⟩ := idx t
  refine funext fun a => Fin.ext ?_
  match a with
  | 0 => blk_simp [e]
  | 1 => blk_simp [e]

theorem emb6 (t : Fin cfg0.N) (y : S1024x512.Idx) : (win0_6.blk t).view.emb y = (ix2 (row t (y 0)) (col t (y 1)) : S8192x5632.Idx) := by
  obtain ⟨-, -, -, -, -, -, e⟩ := idx t
  refine funext fun a => Fin.ext ?_
  match a with
  | 0 => blk_simp [e]
  | 1 => blk_simp [e]

/-- The three arrays the kernel returns. -/
theorem arr4 : (dats m 0 c).arrAt 4 cfg0.N = prod m c (A1 m c) :=
  (dats m 0 c).arrAt_eq_of_covers 4 _ (by decide +kernel) fun t _ y => (out4_at m c t y).trans (congrArg (prod m c (A1 m c)) (emb4 t y).symm)
theorem arr5 : (dats m 0 c).arrAt 5 cfg0.N = prod m c (A2 m c) :=
  (dats m 0 c).arrAt_eq_of_covers 5 _ (by decide +kernel) fun t _ y => (out5_at m c t y).trans (congrArg (prod m c (A2 m c)) (emb5 t y).symm)
theorem arr6 : (dats m 0 c).arrAt 6 cfg0.N = act m c :=
  (dats m 0 c).arrAt_eq_of_covers 6 _ (by decide +kernel) fun t _ y => (out6_at m c t y).trans (congrArg (act m c) (emb6 t y).symm)

open Cert.FfnInRefIdeal.Read in
/-- What the reference returns. -/
theorem ref0 (i : S8192x5632.Idx) : val_main_v0 (F := Ideal) (A0 m c) (A1 m c) i = prod m c (A1 m c) i := by
  pointwise [val_main_v0, prod]
open Cert.FfnInRefIdeal.Read in
theorem ref1 (i : S8192x5632.Idx) : val_main_v1 (F := Ideal) (A0 m c) (A2 m c) i = prod m c (A2 m c) i := by
  pointwise [val_main_v1, prod]
open Cert.FfnInRefIdeal.Read in
theorem ref6 (i : S8192x5632.Idx) : val_main_v6 (F := Ideal) (A0 m c) (A1 m c) (A2 m c) i = act m c i := by
  pointwise [val_main_v6, val_main_v5, val_main_v4, val_main_v3, val_main_call0_v5, val_main_call0_v4, val_main_call0_v3, val_main_call0_v2,
    val_main_call0_v1, val_main_call0_v0, val_main_call0_cst, val_main_call0_cst_0, val_main_v2, act, prod]

/-! ## The claims -/

theorem frame_p : Cert.quiescent_FfnIn := fun m ρ _ => Cert.FfnIn.Gen.frame m ρ
theorem frame_pi : Cert.quiescent_FfnInIdeal := fun m ρ _ => Cert.FfnInIdeal.Gen.frame m ρ
theorem frame_ri : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run (F := Ideal) m ρ)
theorem preserves : Cert.preserves_FfnIn_FfnInIdeal := trivial

/-- The kernel's results are the reference's. -/
theorem algebraic : Cert.algebraic_FfnInIdeal_FfnInRefIdeal := by
  intro m ρ m' ρ' _ hagree
  refine ⟨_, _, _, Cert.FfnInIdeal.Value.run_blocks (F := Ideal) m ρ, ?_⟩
  refine (θ_run Cert.FfnInRefIdeal.defs _ _).mono (fun r h d => ?_) (Cert.FfnInRefIdeal.Value.run (F := Ideal) m' ρ')
  obtain ⟨a0, a1, a2⟩ := hagree d
  obtain ⟨h0, h1, h6, hk⟩ := h d
  refine ⟨(h0.trans (Cert.FfnInRefIdeal.Read.val_main_v0_eq _ _)).trans ?_,
    (h1.trans (Cert.FfnInRefIdeal.Read.val_main_v1_eq _ _)).trans ?_,
    (h6.trans (Cert.FfnInRefIdeal.Read.val_main_v6_eq _ _ _)).trans ?_, hk⟩
  · rw [a0, a1]
    exact (funext (ref0 m d)).trans (arr4 m d).symm
  · rw [a0, a2]
    exact (funext (ref1 m d)).trans (arr5 m d).symm
  · rw [a0, a1, a2]
    exact (funext (ref6 m d)).trans (arr6 m d).symm

end Cert.FfnInIdeal.Product

end
-- ==== Proof.Product.FfnOut.lean ====
/-
  The feed-forward layer's second product: what the kernel's accumulator and its result hold over the reals.
-/
module

public import proofs.«01_k».proof.Defs
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.FfnOutIdeal.Product

open Idealize.ShloMosaic Idealize.ShloMosaic.TcCoe Idealize.ShloMosaic.Tactic Idealize.SL.Sem Cert.FfnOutIdeal Cert.FfnOutIdeal.Gen

/-! ## The body's arithmetic at an element -/

theorem pay1_at (y : S1024x512.Idx) : k0_pay1 (F := Ideal) y = 0 := by
  pointwise [k0_pay1]

theorem pay2_at (z : Vec Ideal S1024x512 .f32) (a : Vec Ideal S1024x2816 .bf16) (b : Vec Ideal S2816x512 .bf16) (y : S1024x512.Idx) :
    k0_pay2 (F := Ideal) z a b y = z y + ∑ k : Fin 2816, a (ix2 (y 0) k) * b (ix2 k (y 1)) := by
  pointwise [k0_pay2]

theorem pay3_at (z r : Vec Ideal S1024x512 .f32) (y : S1024x512.Idx) : k0_pay3 (F := Ideal) z r y = z y + r y := by
  pointwise [k0_pay3]

/-! ## The accumulator -/

variable (m : (ℓ : Loc nD τ sig) → Buf (Elt Ideal) ℓ) (c : Dev nD)

/-- One block of a contraction of rows with columns. -/
abbrev dot (a : Vec Ideal S1024x2816 .bf16) (b : Vec Ideal S2816x512 .bf16) (y : S1024x512.Idx) : EReal :=
  ∑ k : Fin 2816, (a (ix2 (y 0) k) * b (ix2 k (y 1)) : EReal)

/-- What a grid point adds to the accumulator. -/
def term (t : Fin cfg0.N) (y : S1024x512.Idx) : EReal := dot (iblk m c 0 t) (iblk m c 1 t) y

theorem first (t : Fin cfg0.N) (h : t.val % 2 = 0) (y : S1024x512.Idx) :
    (outsAt0 m c t.val t.isLt).2 y = (0 : EReal) + term m c t y := by
  rw [outsAt0_A m c t h (by omega)]
  frame_out
  rw [pay2_at, pay1_at]
  rfl

theorem step (t : Fin cfg0.N) (h : ¬t.val % 2 = 0) (y : S1024x512.Idx) :
    (outsAt0 m c t.val t.isLt).2 y
      = ((outsAt0 m c (t.val - 1) (Nat.lt_of_le_of_lt (Nat.sub_le _ _) t.isLt)).2 y : EReal) + term m c t y := by
  rw [outsAt0_B m c t h (by omega)]
  frame_out
  simp only [read_unread_whole]
  exact pay2_at _ _ _ _

/-- The block written back is the accumulator plus the layer's input. -/
theorem out_eq (t : Fin cfg0.N) (h1 : t.val % 2 = 1) (y : S1024x512.Idx) :
    (outsAt0 m c t.val t.isLt).1 y = ((outsAt0 m c t.val t.isLt).2 y : EReal) + (iblk m c 2 t : Vec Ideal S1024x512 .f32) y := by
  rw [outsAt0_B m c t (by omega) h1]
  frame_out
  exact pay3_at _ _ _

/-! ## The blocks of the arrays -/

theorem idx : ∀ t : Fin cfg0.N, win0_0.index t = ![t.val / 8, t.val % 2] ∧ win0_1.index t = ![t.val % 2, t.val / 2 % 4]
    ∧ win0_2.index t = ![t.val / 8, t.val / 2 % 4] ∧ win0_3.index t = ![t.val / 8, t.val / 2 % 4] := by
  decide +kernel

theorem lt (t : Fin cfg0.N) : t.val < 64 := lt_of_lt_of_eq t.isLt N_0

/-- Where element `p` of a point's block of 1024 rows lies. -/
abbrev row (t : Fin cfg0.N) (p : Fin 1024) : Fin 8192 := ⟨t.val / 8 * 1024 + p.val, by have := lt t; omega⟩
/-- Where element `q` of a point's block of 512 columns lies. -/
abbrev col (t : Fin cfg0.N) (q : Fin 512) : Fin 2048 := ⟨t.val / 2 % 4 * 512 + q.val, by omega⟩
/-- Where element `k` of a point's block of 2816 contracted positions lies. -/
abbrev pos (t : Fin cfg0.N) (k : Fin 2816) : Fin 5632 := ⟨t.val % 2 * 2816 + k.val, by omega⟩

abbrev A0 : Vec Ideal S8192x2048 .f32 := m ((c : Thread nD τ).loc main_arg0)
abbrev A1 : Vec Ideal S8192x5632 .f32 := m ((c : Thread nD τ).loc main_arg1)
abbrev A2 : Vec Ideal S5632x2048 .f32 := m ((c : Thread nD τ).loc main_arg2)

theorem blk0 (t : Fin cfg0.N) (p : Fin 1024) (k : Fin 2816) : (iblk m c 0 t : Vec Ideal S1024x2816 .bf16) (ix2 p k) = A1 m c (ix2 (row t p) (pos t k)) := by
  blk_ext! [iblk, V, idx t]
theorem blk1 (t : Fin cfg0.N) (k : Fin 2816) (q : Fin 512) : (iblk m c 1 t : Vec Ideal S2816x512 .bf16) (ix2 k q) = A2 m c (ix2 (pos t k) (col t q)) := by
  blk_ext! [iblk, V, idx t]
theorem blk2 (t : Fin cfg0.N) (p : Fin 1024) (q : Fin 512) : (iblk m c 2 t : Vec Ideal S1024x512 .f32) (ix2 p q) = A0 m c (ix2 (row t p) (col t q)) := by
  blk_ext! [iblk, V, idx t]

/-! ## The result -/

/-- The activation times the weight. -/
def prod (i : S8192x2048.Idx) : EReal := ∑ l : Fin 5632, (A1 m c (ix2 (i 0) l) * A2 m c (ix2 l (i 1)) : EReal)
/-- The layer's output: its input plus the product. -/
def out (i : S8192x2048.Idx) : EReal := A0 m c i + prod m c i

theorem acc_eq (t : Fin cfg0.N) (h : t.val % 2 = 1) (p : Fin 1024) (q : Fin 512) :
    (outsAt0 m c t.val t.isLt).2 (ix2 p q) = prod m c (ix2 (row t p) (col t q)) := by
  have e := Pipeline.eq_sum_fin_of_reset_step_apply_of_flush (M := EReal) (fun n h => (outsAt0 m c n h).2) 2 (fun _ => 0) (term m c)
    (first m c) (step m c) t h (ix2 p q)
  refine e.trans ((zero_add _).trans ?_)
  unfold term prod
  refine Fin.sum_mul_add_congr fun s k hl => ?_
  have hs : 2 * (t.val / 2) + s.val < cfg0.N := by have := lt t; have := N_0; omega
  have e0 : row ⟨2 * (t.val / 2) + s.val, hs⟩ p = row t p := Fin.ext (by dsimp only [row]; omega)
  have e1 : col ⟨2 * (t.val / 2) + s.val, hs⟩ q = col t q := Fin.ext (by dsimp only [col]; omega)
  have e2 : pos ⟨2 * (t.val / 2) + s.val, hs⟩ k = ⟨s.val * 2816 + k.val, hl⟩ := Fin.ext (by dsimp only [pos]; omega)
  exact congrArg₂ (· * ·) ((blk0 m c _ p k).trans (by rw [e0, e2]; rfl)) ((blk1 m c _ k q).trans (by rw [e1, e2]; rfl))

theorem out_at (t : Fin cfg0.N) (h : t.val % 2 = 1) (y : S1024x512.Idx) :
    (outsAt0 m c t.val t.isLt).1 y = out m c (ix2 (row t (y 0)) (col t (y 1))) := by
  refine (out_eq m c t h y).trans ((add_comm _ _).trans (congrArg₂ (fun a b : EReal => a + b) ?_ ?_))
  · exact (congrArg _ (ValueIdx.eq_ix2 y)).trans (blk2 m c t (y 0) (y 1))
  · exact (congrArg _ (ValueIdx.eq_ix2 y)).trans (acc_eq m c t h (y 0) (y 1))

/-- The array the kernel returns. -/
theorem arr : (dats m 0 c).arrAt 3 cfg0.N = out m c := by
  refine (dats m 0 c).arrAt_eq_of_covers 3 _ (by decide +kernel) fun t hf y => ?_
  have h : t.val % 2 = 1 := (flush0_3 t).mp hf
  obtain ⟨-, -, -, e3⟩ := idx t
  have e : (win0_3.blk t).view.emb y = (ix2 (row t (y 0)) (col t (y 1)) : S8192x2048.Idx) := by
    refine funext fun a => Fin.ext ?_
    match a with
    | 0 => blk_simp [e3]
    | 1 => blk_simp [e3]
  rw [after0_3]
  exact (out_at m c t h y).trans (congrArg (out m c) e.symm)

/-- What the reference returns. -/
theorem ref (i : S8192x2048.Idx) : Cert.FfnOutRefIdeal.Read.val_main_v1 (F := Ideal) (A0 m c) (A1 m c) (A2 m c) i = out m c i := by
  pointwise [Cert.FfnOutRefIdeal.Read.val_main_v1, Cert.FfnOutRefIdeal.Read.val_main_v0, out, prod]

/-! ## The claims -/

theorem frame_p : Cert.quiescent_FfnOut := fun m ρ _ => Cert.FfnOut.Gen.frame m ρ
theorem frame_pi : Cert.quiescent_FfnOutIdeal := fun m ρ _ => Cert.FfnOutIdeal.Gen.frame m ρ
theorem frame_ri : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)
theorem preserves : Cert.preserves_FfnOut_FfnOutIdeal := trivial

/-- The kernel's result is the reference's. -/
theorem algebraic : Cert.algebraic_FfnOutIdeal_FfnOutRefIdeal := by
  intro m ρ m' ρ' _ hagree
  refine ⟨_, Cert.FfnOutIdeal.Value.run_blocks (F := Ideal) m ρ, ?_⟩
  refine (θ_run Cert.FfnOutRefIdeal.defs _ _).mono (fun r h d => ?_) (Cert.FfnOutRefIdeal.Value.run (F := Ideal) m' ρ')
  obtain ⟨a0, a1, a2⟩ := hagree d
  refine ⟨((h d).1.trans (Cert.FfnOutRefIdeal.Read.val_main_v1_eq _ _ _)).trans ?_, (h d).2⟩
  rw [a0, a1, a2]
  exact (funext (ref m d)).trans (arr m d).symm

end Cert.FfnOutIdeal.Product

end
-- ==== Proof.Product.Columns.lean ====
/-
  The columns of the input projection that the kernel multiplies by: all of `w_in`'s 7200 but the 32 that make `dt`.
-/
module

public import Mathlib.Data.EReal.Operations
public import Mathlib.Algebra.BigOperators.Fin

@[expose] public section

noncomputable section

namespace Cert.Columns

/-- The column of `w_in` that is the kernel's column `j`. -/
def skip (j : Fin 7168) : Fin 7200 := if h : j.val < 5120 then ⟨j.val, by omega⟩ else ⟨5152 + (j.val - 5120), by omega⟩

theorem skip_lo (j : Fin 7168) (h : j.val < 5120) : (skip j).val = j.val := by unfold skip; rw [dif_pos h]
theorem skip_hi (j : Fin 7168) (h : ¬j.val < 5120) : (skip j).val = 5152 + (j.val - 5120) := by unfold skip; rw [dif_neg h]

theorem skip_injective : Function.Injective skip := by
  intro i j h
  have e : (skip i).val = (skip j).val := congrArg Fin.val h
  refine Fin.ext ?_
  by_cases hi : i.val < 5120 <;> by_cases hj : j.val < 5120 <;>
    simp only [hi, hj, skip_lo, skip_hi, not_false_eq_true] at e <;> omega

/-- A function of `w_in`'s columns, read in the two parts that the kernel's columns make. -/
theorem two_parts {α : Type} (f : Fin 7200 → α) (j : Fin 7168) :
    (if h : j.val < 5120 then f ⟨j.val, by omega⟩ else f ⟨5152 + (j.val - 5120), by omega⟩) = f (skip j) := by
  unfold skip
  split <;> rfl

/-- A function of `w_in`'s columns, read in three parts: those of `z`, those of `xBC`, those of `u`. -/
theorem three_parts {α : Type} (f : Fin 7200 → α) (j : Fin 7168) :
    (if h : j.val < 2048 then f ⟨j.val, by omega⟩
      else if h' : j.val - 2048 < 3072 then f ⟨2048 + (j.val - 2048), by omega⟩
      else f ⟨5152 + (j.val - 2048 - 3072), by omega⟩) = f (skip j) := by
  split
  · exact congrArg f (Fin.ext (by rw [skip_lo j (by omega)]))
  · split
    · exact congrArg f (Fin.ext (by rw [skip_lo j (by omega)]; dsimp only; omega))
    · exact congrArg f (Fin.ext (by rw [skip_hi j (by omega)]; dsimp only; omega))

/-- A function of the kernel's columns as one of `w_in`'s, zero at the columns of `dt`. -/
def pad (f : Fin 7168 → EReal) (l : Fin 7200) : EReal :=
  if h : l.val < 2048 then f ⟨l.val, by omega⟩
  else if h' : l.val - 2048 < 3072 then f ⟨2048 + (l.val - 2048), by omega⟩
  else if h'' : l.val - 2048 - 3072 < 32 then 0
  else f ⟨5120 + (l.val - 2048 - 3072 - 32), by omega⟩

theorem pad_skip (f : Fin 7168 → EReal) (j : Fin 7168) : pad f (skip j) = f j := by
  by_cases hj : j.val < 5120
  · have e := skip_lo j hj
    unfold pad
    by_cases h1 : j.val < 2048
    · rw [dif_pos (by omega)]
      exact congrArg f (Fin.ext e)
    · rw [dif_neg (by omega), dif_pos (by omega)]
      exact congrArg f (Fin.ext (by dsimp only; omega))
  · have e := skip_hi j hj
    unfold pad
    rw [dif_neg (by omega), dif_neg (by omega), dif_neg (by omega)]
    exact congrArg f (Fin.ext (by dsimp only; omega))

theorem pad_zero (f : Fin 7168 → EReal) (l : Fin 7200) (h : l ∉ Set.range skip) : pad f l = 0 := by
  have h1 : ¬l.val < 5120 := fun h1 => h ⟨⟨l.val, by omega⟩, Fin.ext (skip_lo _ h1)⟩
  have h2 : l.val < 5152 := by
    by_contra h2
    exact h ⟨⟨l.val - 32, by omega⟩, Fin.ext (by rw [skip_hi _ (by dsimp only; omega)]; dsimp only; omega)⟩
  unfold pad
  rw [dif_neg (by omega), dif_neg (by omega), dif_pos (by omega)]

/-- A contraction over `w_in`'s columns of an array that is zero at the columns of `dt` is one over the kernel's columns. -/
theorem sum_pad (f : Fin 7168 → EReal) (g : Fin 7200 → EReal) : ∑ l, pad f l * g l = ∑ j, f j * g (skip j) :=
  (Fintype.sum_of_injective skip skip_injective (fun j => f j * g (skip j)) (fun l => pad f l * g l)
    (fun l h => by rw [pad_zero f l h, zero_mul]) (fun j => by rw [pad_skip])).symm

end Cert.Columns

end
-- ==== Proof.Product.ProjMain.lean ====
/-
  The input projection, but for the columns of `dt`: what the kernel's result holds over the reals.
-/
module

public import proofs.«01_k».proof.Defs
public import proofs.«01_k».proof.Proof.Product.Columns
public import proofs.«01_k».proof.Proof.Gen.ProjMain.Frame
public import proofs.«01_k».proof.Proof.Gen.ProjMainIdeal.Value
public import proofs.«01_k».proof.Proof.Gen.ProjMainRefIdeal.Run
public import proofs.«01_k».proof.Proof.Gen.ProjMainRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.ProjMainIdeal.Product

open Idealize.ShloMosaic Idealize.ShloMosaic.TcCoe Idealize.ShloMosaic.Tactic Idealize.SL.Sem Cert.ProjMainIdeal Cert.ProjMainIdeal.Gen Cert.Columns

/-! ## The body's arithmetic at an element -/

theorem pay1_at (a : Vec Ideal S1024x2048 .bf16) (b : Vec Ideal S2048x1024 .bf16) (r : Vec Ideal S1x1024 .f32) (y : S1024x1024.Idx) :
    k0_pay1 (F := Ideal) a b r y = (∑ k : Fin 2048, a (ix2 (y 0) k) * b (ix2 k (y 1))) + r (ix2 0 (y 1)) := by
  pointwise [k0_pay1]

variable (m : (ℓ : Loc nD τ sig) → Buf (Elt Ideal) ℓ) (c : Dev nD)

/-! ## The blocks of the arrays -/

theorem idx : ∀ t : Fin cfg0.N, win0_0.index t = ![t.val / 7, 0] ∧ win0_1.index t = ![0, t.val % 7]
    ∧ win0_2.index t = ![0, t.val % 7] ∧ win0_3.index t = ![t.val / 7, t.val % 7] := by
  decide +kernel

theorem lt (t : Fin cfg0.N) : t.val < 56 := lt_of_lt_of_eq t.isLt N_0

/-- Where element `p` of a point's block of 1024 rows lies. -/
abbrev row (t : Fin cfg0.N) (p : Fin 1024) : Fin 8192 := ⟨t.val / 7 * 1024 + p.val, by have := lt t; omega⟩
/-- Where element `q` of a point's block of 1024 columns lies. -/
abbrev col (t : Fin cfg0.N) (q : Fin 1024) : Fin 7168 := ⟨t.val % 7 * 1024 + q.val, by omega⟩

abbrev A0 : Vec Ideal S8192x2048 .f32 := m ((c : Thread nD τ).loc main_arg0)
abbrev A1 : Vec Ideal S2048x7200 .f32 := m ((c : Thread nD τ).loc main_arg1)

theorem blk0 (t : Fin cfg0.N) (p : Fin 1024) (k : Fin 2048) : (iblk m c 0 t : Vec Ideal S1024x2048 .bf16) (ix2 p k) = A0 m c (ix2 (row t p) k) := by
  blk_ext! [iblk, V, idx t]

theorem blk1 (t : Fin cfg0.N) (k : Fin 2048) (q : Fin 1024) : (iblk m c 1 t : Vec Ideal S2048x1024 .bf16) (ix2 k q) = A1 m c (ix2 k (skip (col t q))) := by
  by_cases h : t.val % 7 * 1024 + q.val < 5120
  · have e : skip (col t q) = ⟨t.val % 7 * 1024 + q.val, by omega⟩ := Fin.ext (skip_lo _ h)
    rw [e]
    blk_ext! [iblk, V, idx t, h, dite_true]
  · have e : skip (col t q) = ⟨5152 + (t.val % 7 * 1024 + q.val - 5120), by omega⟩ := Fin.ext (skip_hi _ h)
    rw [e]
    blk_ext! [iblk, V, idx t, h, dite_false]

/-- The row that the body adds holds zeros. -/
theorem blk2 (t : Fin cfg0.N) (q : Fin 1024) : @Eq EReal ((iblk m c 2 t : Vec Ideal S1x1024 .f32) (ix2 0 q)) 0 := by
  blk_simp [iblk, V, idx t]
  entry_read
  pointwise

/-! ## The result -/

/-- The layer's input times the weight, at the kernel's columns. -/
def out (i : S8192x7168.Idx) : EReal := ∑ l : Fin 2048, (A0 m c (ix2 (i 0) l) * A1 m c (ix2 l (skip (i 1))) : EReal)

theorem out_at (t : Fin cfg0.N) (y : S1024x1024.Idx) :
    (dats m 0 c).after 3 t y = out m c (ix2 (row t (y 0)) (col t (y 1))) := by
  rw [after0_3]
  unfold out0_3
  frame_out
  refine (pay1_at _ _ _ _).trans ((congrArg₂ (fun a b : EReal => a + b) (Finset.sum_congr rfl fun k _ => ?_) (blk2 m c t (y 1))).trans (add_zero _))
  exact congrArg₂ (fun a b : EReal => a * b) (blk0 m c t (y 0) k) (blk1 m c t k (y 1))

/-- The array the kernel returns. -/
theorem arr : (dats m 0 c).arrAt 3 cfg0.N = out m c := by
  refine (dats m 0 c).arrAt_eq_of_covers 3 _ (by decide +kernel) fun t hf y => ?_
  obtain ⟨-, -, -, e3⟩ := idx t
  have e : (win0_3.blk t).view.emb y = (ix2 (row t (y 0)) (col t (y 1)) : S8192x7168.Idx) := by
    refine funext fun a => Fin.ext ?_
    match a with
    | 0 => blk_simp [e3]
    | 1 => blk_simp [e3]
  exact (out_at m c t y).trans (congrArg (out m c) e.symm)

open Cert.ProjMainRefIdeal.Read in
/-- What the reference returns. -/
theorem ref (i : S8192x7168.Idx) : val_main_v5 (F := Ideal) (A0 m c) (A1 m c) i = out m c i := by
  pointwise [val_main_v5, val_main_v4, val_main_v3, val_main_v2, val_main_v1, val_main_v0, out]
  exact three_parts (fun j => ∑ l : Fin 2048, (A0 m c (ix2 (i 0) l) * A1 m c (ix2 l j) : EReal)) (i 1)

/-! ## The claims -/

theorem frame_p : Cert.quiescent_ProjMain := fun m ρ _ => Cert.ProjMain.Gen.frame m ρ
theorem frame_pi : Cert.quiescent_ProjMainIdeal := fun m ρ _ => Cert.ProjMainIdeal.Gen.frame m ρ
theorem frame_ri : Cert.quiescent_ProjMainRefIdeal := fun m ρ _ =>
  (θ_run Cert.ProjMainRefIdeal.defs _ _).mono (fun r h => ⟨fun c => (h c).2, sem_eq_zero_of_no_sems (by decide) r.2⟩)
    (Cert.ProjMainRefIdeal.Value.run (F := Ideal) m ρ)
theorem preserves : Cert.preserves_ProjMain_ProjMainIdeal := trivial

/-- The kernel's result is the reference's. -/
theorem algebraic : Cert.algebraic_ProjMainIdeal_ProjMainRefIdeal := by
  intro m ρ m' ρ' _ hagree
  refine ⟨_, Cert.ProjMainIdeal.Value.run_blocks (F := Ideal) m ρ, ?_⟩
  refine (θ_run Cert.ProjMainRefIdeal.defs _ _).mono (fun r h d => ?_) (Cert.ProjMainRefIdeal.Value.run (F := Ideal) m' ρ')
  obtain ⟨a0, a1⟩ := hagree d
  refine ⟨((h d).1.trans (Cert.ProjMainRefIdeal.Read.val_main_v5_eq _ _)).trans ?_, (h d).2⟩
  rw [a0, a1]
  exact (funext (ref m d)).trans (arr m d).symm

end Cert.ProjMainIdeal.Product

end
-- ==== Proof.Product.ProjMainDx.lean ====
/-
  The gradient of the input projection's input, but for what comes through `dt`: what the kernel's accumulator and its result hold over the reals.
-/
module

public import proofs.«01_k».proof.Defs
public import proofs.«01_k».proof.Proof.Product.Columns
public import proofs.«01_k».proof.Proof.Gen.ProjMainDx.Frame
public import proofs.«01_k».proof.Proof.Gen.ProjMainDxIdeal.Value
public import proofs.«01_k».proof.Proof.Gen.ProjMainDxRefIdeal.Run
public import proofs.«01_k».proof.Proof.Gen.ProjMainDxRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.ProjMainDxIdeal.Product

open Idealize.ShloMosaic Idealize.ShloMosaic.TcCoe Idealize.ShloMosaic.Tactic Idealize.SL.Sem Cert.ProjMainDxIdeal Cert.ProjMainDxIdeal.Gen Cert.Columns

/-! ## The body's arithmetic at an element -/

theorem pay1_at (y : S1024x512.Idx) : k0_pay1 (F := Ideal) y = 0 := by
  pointwise [k0_pay1]

theorem pay2_at (z : Vec Ideal S1024x512 .f32) (a : Vec Ideal S1024x3584 .bf16) (b : Vec Ideal S512x3584 .bf16) (y : S1024x512.Idx) :
    k0_pay2 (F := Ideal) z a b y = z y + ∑ k : Fin 3584, a (ix2 (y 0) k) * b (ix2 (y 1) k) := by
  pointwise [k0_pay2]

theorem pay3_at (z : Vec Ideal S1024x512 .f32) (r : Vec Ideal S1x512 .f32) (y : S1024x512.Idx) : k0_pay3 (F := Ideal) z r y = z y + r (ix2 0 (y 1)) := by
  pointwise [k0_pay3]

/-! ## The accumulator -/

variable (m : (ℓ : Loc nD τ sig) → Buf (Elt Ideal) ℓ) (c : Dev nD)

/-- One block of a contraction of rows with rows. -/
abbrev dot (a : Vec Ideal S1024x3584 .bf16) (b : Vec Ideal S512x3584 .bf16) (y : S1024x512.Idx) : EReal :=
  ∑ k : Fin 3584, (a (ix2 (y 0) k) * b (ix2 (y 1) k) : EReal)

/-- What a grid point adds to the accumulator. -/
def term (t : Fin cfg0.N) (y : S1024x512.Idx) : EReal := dot (iblk m c 0 t) (iblk m c 1 t) y

theorem first (t : Fin cfg0.N) (h : t.val % 2 = 0) (y : S1024x512.Idx) :
    (outsAt0 m c t.val t.isLt).2 y = (0 : EReal) + term m c t y := by
  rw [outsAt0_A m c t h (by omega)]
  frame_out
  rw [pay2_at, pay1_at]
  rfl

theorem step (t : Fin cfg0.N) (h : ¬t.val % 2 = 0) (y : S1024x512.Idx) :
    (outsAt0 m c t.val t.isLt).2 y
      = ((outsAt0 m c (t.val - 1) (Nat.lt_of_le_of_lt (Nat.sub_le _ _) t.isLt)).2 y : EReal) + term m c t y := by
  rw [outsAt0_B m c t h (by omega)]
  frame_out
  simp only [read_unread_whole]
  exact pay2_at _ _ _ _

/-! ## The blocks of the arrays -/

theorem idx : ∀ t : Fin cfg0.N, win0_0.index t = ![t.val / 8, t.val % 2] ∧ win0_1.index t = ![t.val / 2 % 4, t.val % 2]
    ∧ win0_2.index t = ![0, t.val / 2 % 4] ∧ win0_3.index t = ![t.val / 8, t.val / 2 % 4] := by
  decide +kernel

theorem lt (t : Fin cfg0.N) : t.val < 64 := lt_of_lt_of_eq t.isLt N_0

/-- Where element `p` of a point's block of 1024 rows lies. -/
abbrev row (t : Fin cfg0.N) (p : Fin 1024) : Fin 8192 := ⟨t.val / 8 * 1024 + p.val, by have := lt t; omega⟩
/-- Where element `q` of a point's block of 512 columns lies. -/
abbrev col (t : Fin cfg0.N) (q : Fin 512) : Fin 2048 := ⟨t.val / 2 % 4 * 512 + q.val, by omega⟩
/-- Where element `k` of a point's block of 3584 contracted positions lies. -/
abbrev pos (t : Fin cfg0.N) (k : Fin 3584) : Fin 7168 := ⟨t.val % 2 * 3584 + k.val, by omega⟩

abbrev A0 : Vec Ideal S2048x7200 .f32 := m ((c : Thread nD τ).loc main_arg0)
abbrev A1 : Vec Ideal S8192x7168 .f32 := m ((c : Thread nD τ).loc main_arg1)

theorem blk0 (t : Fin cfg0.N) (p : Fin 1024) (k : Fin 3584) : (iblk m c 0 t : Vec Ideal S1024x3584 .bf16) (ix2 p k) = A1 m c (ix2 (row t p) (pos t k)) := by
  blk_ext! [iblk, V, idx t]

theorem blk1 (t : Fin cfg0.N) (q : Fin 512) (k : Fin 3584) : (iblk m c 1 t : Vec Ideal S512x3584 .bf16) (ix2 q k) = A0 m c (ix2 (col t q) (skip (pos t k))) := by
  by_cases h : t.val % 2 * 3584 + k.val < 5120
  · have e : skip (pos t k) = ⟨t.val % 2 * 3584 + k.val, by omega⟩ := Fin.ext (skip_lo _ h)
    rw [e]
    blk_ext! [iblk, V, idx t, h, dite_true]
  · have e : skip (pos t k) = ⟨5152 + (t.val % 2 * 3584 + k.val - 5120), by omega⟩ := Fin.ext (skip_hi _ h)
    rw [e]
    blk_ext! [iblk, V, idx t, h, dite_false]

/-- The row that the body adds holds zeros. -/
theorem blk2 (t : Fin cfg0.N) (q : Fin 512) : @Eq EReal ((iblk m c 2 t : Vec Ideal S1x512 .f32) (ix2 0 q)) 0 := by
  blk_simp [iblk, V, idx t]
  entry_read
  pointwise

/-- The block written back is the accumulator. -/
theorem out_eq (t : Fin cfg0.N) (h1 : t.val % 2 = 1) (y : S1024x512.Idx) :
    (outsAt0 m c t.val t.isLt).1 y = ((outsAt0 m c t.val t.isLt).2 y : EReal) := by
  refine Eq.trans ?_ ((congrArg (fun b : EReal => ((outsAt0 m c t.val t.isLt).2 y : EReal) + b) (blk2 m c t (y 1))).trans (add_zero _))
  rw [outsAt0_B m c t (by omega) h1]
  frame_out
  exact pay3_at _ _ _

/-! ## The result -/

/-- The gradient: what comes in, times the transposed weight, over the kernel's columns. -/
def grad (i : S8192x2048.Idx) : EReal := ∑ l : Fin 7168, (A1 m c (ix2 (i 0) l) * A0 m c (ix2 (i 1) (skip l)) : EReal)

theorem acc_eq (t : Fin cfg0.N) (h : t.val % 2 = 1) (p : Fin 1024) (q : Fin 512) :
    (outsAt0 m c t.val t.isLt).2 (ix2 p q) = grad m c (ix2 (row t p) (col t q)) := by
  have e := Pipeline.eq_sum_fin_of_reset_step_apply_of_flush (M := EReal) (fun n h => (outsAt0 m c n h).2) 2 (fun _ => 0) (term m c)
    (first m c) (step m c) t h (ix2 p q)
  refine e.trans ((zero_add _).trans ?_)
  unfold term grad
  refine Fin.sum_mul_add_congr fun s k hl => ?_
  have hs : 2 * (t.val / 2) + s.val < cfg0.N := by have := lt t; have := N_0; omega
  have e0 : row ⟨2 * (t.val / 2) + s.val, hs⟩ p = row t p := Fin.ext (by dsimp only [row]; omega)
  have e1 : col ⟨2 * (t.val / 2) + s.val, hs⟩ q = col t q := Fin.ext (by dsimp only [col]; omega)
  have e2 : pos ⟨2 * (t.val / 2) + s.val, hs⟩ k = ⟨s.val * 3584 + k.val, hl⟩ := Fin.ext (by dsimp only [pos]; omega)
  exact congrArg₂ (· * ·) ((blk0 m c _ p k).trans (by rw [e0, e2]; rfl)) ((blk1 m c _ q k).trans (by rw [e1, e2]; rfl))

theorem out_at (t : Fin cfg0.N) (h : t.val % 2 = 1) (y : S1024x512.Idx) :
    (outsAt0 m c t.val t.isLt).1 y = grad m c (ix2 (row t (y 0)) (col t (y 1))) :=
  (out_eq m c t h y).trans ((congrArg _ (ValueIdx.eq_ix2 y)).trans (acc_eq m c t h (y 0) (y 1)))

/-- The array the kernel returns. -/
theorem arr : (dats m 0 c).arrAt 3 cfg0.N = grad m c := by
  refine (dats m 0 c).arrAt_eq_of_covers 3 _ (by decide +kernel) fun t hf y => ?_
  have h : t.val % 2 = 1 := (flush0_3 t).mp hf
  obtain ⟨-, -, -, e3⟩ := idx t
  have e : (win0_3.blk t).view.emb y = (ix2 (row t (y 0)) (col t (y 1)) : S8192x2048.Idx) := by
    refine funext fun a => Fin.ext ?_
    match a with
    | 0 => blk_simp [e3]
    | 1 => blk_simp [e3]
  rw [after0_3]
  exact (out_at m c t h y).trans (congrArg (grad m c) e.symm)

open Cert.ProjMainDxRefIdeal.Read in
/-- What the reference returns. -/
theorem ref (i : S8192x2048.Idx) : val_main_v12 (F := Ideal) (A0 m c) (A1 m c) i = grad m c i := by
  pointwise [val_main_v12, val_main_v11, val_main_v10, val_main_v9, val_main_v8, val_main_v7, val_main_cst_0, grad]
  exact sum_pad (fun j => A1 m c (ix2 (i 0) j)) (fun l => A0 m c (ix2 (i 1) l))

/-! ## The claims -/

theorem frame_p : Cert.quiescent_ProjMainDx := fun m ρ _ => Cert.ProjMainDx.Gen.frame m ρ
theorem frame_pi : Cert.quiescent_ProjMainDxIdeal := fun m ρ _ => Cert.ProjMainDxIdeal.Gen.frame m ρ
theorem frame_ri : Cert.quiescent_ProjMainDxRefIdeal := fun m ρ _ =>
  (θ_run Cert.ProjMainDxRefIdeal.defs _ _).mono (fun r h => ⟨fun c => (h c).2, sem_eq_zero_of_no_sems (by decide) r.2⟩)
    (Cert.ProjMainDxRefIdeal.Value.run (F := Ideal) m ρ)
theorem preserves : Cert.preserves_ProjMainDx_ProjMainDxIdeal := trivial

/-- The kernel's result is the reference's. -/
theorem algebraic : Cert.algebraic_ProjMainDxIdeal_ProjMainDxRefIdeal := by
  intro m ρ m' ρ' _ hagree
  refine ⟨_, Cert.ProjMainDxIdeal.Value.run_blocks (F := Ideal) m ρ, ?_⟩
  refine (θ_run Cert.ProjMainDxRefIdeal.defs _ _).mono (fun r h d => ?_) (Cert.ProjMainDxRefIdeal.Value.run (F := Ideal) m' ρ')
  obtain ⟨a0, a1⟩ := hagree d
  refine ⟨((h d).1.trans (Cert.ProjMainDxRefIdeal.Read.val_main_v12_eq _ _)).trans ?_, (h d).2⟩
  rw [a0, a1]
  exact (funext (ref m d)).trans (arr m d).symm

end Cert.ProjMainDxIdeal.Product

end
-- ==== Proof.Product.ProjMainDw.lean ====
/-
  The gradient of the input projection's weight, but for the columns of `dt`: what the kernel's accumulator and its result hold over the reals.
-/
module

public import proofs.«01_k».proof.Defs
public import proofs.«01_k».proof.Proof.Product.Columns
public import proofs.«01_k».proof.Proof.Gen.ProjMainDw.Frame
public import proofs.«01_k».proof.Proof.Gen.ProjMainDwIdeal.Value
public import proofs.«01_k».proof.Proof.Gen.ProjMainDwRefIdeal.Run
public import proofs.«01_k».proof.Proof.Gen.ProjMainDwRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.ProjMainDwIdeal.Product

open Idealize.ShloMosaic Idealize.ShloMosaic.TcCoe Idealize.ShloMosaic.Tactic Idealize.SL.Sem Cert.ProjMainDwIdeal Cert.ProjMainDwIdeal.Gen Cert.Columns

/-! ## The body's arithmetic at an element -/

theorem pay1_at (y : S1024x1024.Idx) : k0_pay1 (F := Ideal) y = 0 := by
  pointwise [k0_pay1]

theorem pay2_at (z : Vec Ideal S1024x1024 .f32) (a : Vec Ideal S2048x1024 .bf16) (b : Vec Ideal S2048x1024 .bf16) (y : S1024x1024.Idx) :
    k0_pay2 (F := Ideal) z a b y = z y + ∑ k : Fin 2048, a (ix2 k (y 0)) * b (ix2 k (y 1)) := by
  pointwise [k0_pay2]

/-! ## The accumulator -/

variable (m : (ℓ : Loc nD τ sig) → Buf (Elt Ideal) ℓ) (c : Dev nD)

/-- One block of a contraction along the first axis of both factors. -/
abbrev dot (a : Vec Ideal S2048x1024 .bf16) (b : Vec Ideal S2048x1024 .bf16) (y : S1024x1024.Idx) : EReal :=
  ∑ k : Fin 2048, (a (ix2 k (y 0)) * b (ix2 k (y 1)) : EReal)

/-- What a grid point adds to the accumulator. -/
def term (t : Fin cfg0.N) (y : S1024x1024.Idx) : EReal := dot (iblk m c 0 t) (iblk m c 1 t) y

theorem first (t : Fin cfg0.N) (h : t.val % 4 = 0) (y : S1024x1024.Idx) :
    (outsAt0 m c t.val t.isLt).2.2 y = (0 : EReal) + term m c t y := by
  rw [outsAt0_A m c t h (by omega)]
  frame_out
  rw [pay2_at, pay1_at]
  rfl

theorem step (t : Fin cfg0.N) (h : ¬t.val % 4 = 0) (y : S1024x1024.Idx) :
    (outsAt0 m c t.val t.isLt).2.2 y
      = ((outsAt0 m c (t.val - 1) (Nat.lt_of_le_of_lt (Nat.sub_le _ _) t.isLt)).2.2 y : EReal) + term m c t y := by
  by_cases h1 : t.val % 4 = 3
  · rw [outsAt0_C m c t h h1]
    frame_out
    simp only [read_unread_whole]
    exact pay2_at _ _ _ _
  · rw [outsAt0_B m c t h h1]
    frame_out
    simp only [read_unread_whole]
    exact pay2_at _ _ _ _

/-- The block written back is the accumulator. -/
theorem out_eq (t : Fin cfg0.N) (h1 : t.val % 4 = 3) : (outsAt0 m c t.val t.isLt).1 = (outsAt0 m c t.val t.isLt).2.2 := by
  rw [outsAt0_C m c t (by omega) h1]
  frame_out

/-! ## The blocks of the arrays -/

theorem idx : ∀ t : Fin cfg0.N, win0_0.index t = ![t.val % 4, t.val / 28] ∧ win0_1.index t = ![t.val % 4, t.val / 4 % 7]
    ∧ win0_2.index t = ![t.val / 28, t.val / 4 % 7] := by
  decide +kernel

theorem lt (t : Fin cfg0.N) : t.val < 56 := lt_of_lt_of_eq t.isLt N_0

/-- Where element `p` of a point's block of 1024 rows lies. -/
abbrev row (t : Fin cfg0.N) (p : Fin 1024) : Fin 2048 := ⟨t.val / 28 * 1024 + p.val, by have := lt t; omega⟩
/-- Where element `q` of a point's block of 1024 columns lies. -/
abbrev col (t : Fin cfg0.N) (q : Fin 1024) : Fin 7168 := ⟨t.val / 4 % 7 * 1024 + q.val, by omega⟩
/-- Where element `k` of a point's block of 2048 contracted positions lies. -/
abbrev pos (t : Fin cfg0.N) (k : Fin 2048) : Fin 8192 := ⟨t.val % 4 * 2048 + k.val, by omega⟩

abbrev A0 : Vec Ideal S8192x2048 .f32 := m ((c : Thread nD τ).loc main_arg0)
abbrev A1 : Vec Ideal S8192x7168 .f32 := m ((c : Thread nD τ).loc main_arg1)

theorem blk0 (t : Fin cfg0.N) (k : Fin 2048) (p : Fin 1024) : (iblk m c 0 t : Vec Ideal S2048x1024 .bf16) (ix2 k p) = A0 m c (ix2 (pos t k) (row t p)) := by
  blk_ext! [iblk, V, idx t]
theorem blk1 (t : Fin cfg0.N) (k : Fin 2048) (q : Fin 1024) : (iblk m c 1 t : Vec Ideal S2048x1024 .bf16) (ix2 k q) = A1 m c (ix2 (pos t k) (col t q)) := by
  blk_ext! [iblk, V, idx t]

/-! ## The result -/

/-- The gradient: the layer's input, transposed, times the gradient that comes in. -/
def grad (i : S2048x7168.Idx) : EReal := ∑ l : Fin 8192, (A0 m c (ix2 l (i 0)) * A1 m c (ix2 l (i 1)) : EReal)

theorem acc_eq (t : Fin cfg0.N) (h : t.val % 4 = 3) (p : Fin 1024) (q : Fin 1024) :
    (outsAt0 m c t.val t.isLt).2.2 (ix2 p q) = grad m c (ix2 (row t p) (col t q)) := by
  have e := Pipeline.eq_sum_fin_of_reset_step_apply_of_flush (M := EReal) (fun n h => (outsAt0 m c n h).2.2) 4 (fun _ => 0) (term m c)
    (first m c) (step m c) t h (ix2 p q)
  refine e.trans ((zero_add _).trans ?_)
  unfold term grad
  refine Fin.sum_mul_add_congr fun s k hl => ?_
  have hs : 4 * (t.val / 4) + s.val < cfg0.N := by have := lt t; have := N_0; omega
  have e0 : row ⟨4 * (t.val / 4) + s.val, hs⟩ p = row t p := Fin.ext (by dsimp only [row]; omega)
  have e1 : col ⟨4 * (t.val / 4) + s.val, hs⟩ q = col t q := Fin.ext (by dsimp only [col]; omega)
  have e2 : pos ⟨4 * (t.val / 4) + s.val, hs⟩ k = ⟨s.val * 2048 + k.val, hl⟩ := Fin.ext (by dsimp only [pos]; omega)
  exact congrArg₂ (· * ·) ((blk0 m c _ k p).trans (by rw [e0, e2]; rfl)) ((blk1 m c _ k q).trans (by rw [e1, e2]; rfl))

theorem out_grad (t : Fin cfg0.N) (h : t.val % 4 = 3) (y : S1024x1024.Idx) :
    (outsAt0 m c t.val t.isLt).1 y = grad m c (ix2 (row t (y 0)) (col t (y 1))) := by
  rw [out_eq m c t h]
  exact (congrArg _ (ValueIdx.eq_ix2 y)).trans (acc_eq m c t h (y 0) (y 1))

/-- The array the kernel returns. -/
theorem arr : (dats m 0 c).arrAt 2 cfg0.N = grad m c := by
  refine (dats m 0 c).arrAt_eq_of_covers 2 _ (by decide +kernel) fun t hf y => ?_
  have h : t.val % 4 = 3 := (flush0_2 t).mp hf
  obtain ⟨-, -, e2⟩ := idx t
  have e : (win0_2.blk t).view.emb y = (ix2 (row t (y 0)) (col t (y 1)) : S2048x7168.Idx) := by
    refine funext fun a => Fin.ext ?_
    match a with
    | 0 => blk_simp [e2]
    | 1 => blk_simp [e2]
  rw [after0_2]
  exact (out_grad m c t h y).trans (congrArg (grad m c) e.symm)

/-- The contraction over the positions, of the gradient with zeros put in at the columns of `dt`, at a column of the weight. -/
theorem padded (i : S2048x7168.Idx) :
    ∑ x : Fin 8192, pad (fun j => A1 m c (ix2 x j)) (skip (i 1)) * (A0 m c (ix2 x (i 0)) : EReal) = grad m c i :=
  Finset.sum_congr rfl fun x _ => (congrArg (fun e : EReal => e * (A0 m c (ix2 x (i 0)) : EReal)) (pad_skip _ (i 1))).trans (mul_comm _ _)

open Cert.ProjMainDwRefIdeal.Read in
/-- What the reference returns. -/
theorem ref (i : S2048x7168.Idx) : val_main_v16 (F := Ideal) (A0 m c) (A1 m c) i = grad m c i := by
  rw [← padded]
  pointwise [val_main_v16, val_main_v15, val_main_v14, val_main_v13, val_main_v12, val_main_v11, val_main_v10, val_main_v9, val_main_v8, val_main_v7,
    val_main_cst_0]
  exact two_parts (fun l => ∑ x : Fin 8192, pad (fun j => A1 m c (ix2 x j)) l * (A0 m c (ix2 x (i 0)) : EReal)) (i 1)

/-! ## The claims -/

theorem frame_p : Cert.quiescent_ProjMainDw := fun m ρ _ => Cert.ProjMainDw.Gen.frame m ρ
theorem frame_pi : Cert.quiescent_ProjMainDwIdeal := fun m ρ _ => Cert.ProjMainDwIdeal.Gen.frame m ρ
theorem frame_ri : Cert.quiescent_ProjMainDwRefIdeal := fun m ρ _ =>
  (θ_run Cert.ProjMainDwRefIdeal.defs _ _).mono (fun r h => ⟨fun c => (h c).2, sem_eq_zero_of_no_sems (by decide) r.2⟩)
    (Cert.ProjMainDwRefIdeal.Value.run (F := Ideal) m ρ)
theorem preserves : Cert.preserves_ProjMainDw_ProjMainDwIdeal := trivial

/-- The kernel's result is the reference's. -/
theorem algebraic : Cert.algebraic_ProjMainDwIdeal_ProjMainDwRefIdeal := by
  intro m ρ m' ρ' _ hagree
  refine ⟨_, (θ_run Cert.ProjMainDwIdeal.defs _ _).mono (fun r h d => ⟨(h d).1, (h d).2.2⟩) (Cert.ProjMainDwIdeal.Value.run_blocks (F := Ideal) m ρ), ?_⟩
  refine (θ_run Cert.ProjMainDwRefIdeal.defs _ _).mono (fun r h d => ?_) (Cert.ProjMainDwRefIdeal.Value.run (F := Ideal) m' ρ')
  obtain ⟨a0, a1⟩ := hagree d
  refine ⟨((h d).1.trans (Cert.ProjMainDwRefIdeal.Read.val_main_v16_eq _ _)).trans ?_, (h d).2⟩
  rw [a0, a1]
  exact (funext (ref m d)).trans (arr m d).symm

end Cert.ProjMainDwIdeal.Product

end
-- ==== Proof.Product.OutProj.lean ====
/-
  The output projection: what the kernel's result holds over the reals.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.OutProjIdeal.Product

open Idealize.ShloMosaic Idealize.ShloMosaic.TcCoe Idealize.ShloMosaic.Tactic Idealize.SL.Sem Cert.OutProjIdeal Cert.OutProjIdeal.Gen

/-! ## The body's arithmetic at an element -/

theorem pay1_at (a : Vec Ideal S1024x4096 .bf16) (b : Vec Ideal S4096x512 .bf16) (z : Vec Ideal S1024x512 .f32) (y : S1024x512.Idx) :
    k0_pay1 (F := Ideal) a b z y = (∑ k : Fin 4096, a (ix2 (y 0) k) * b (ix2 k (y 1))) + z y := by
  pointwise [k0_pay1]

variable (m : (ℓ : Loc nD τ sig) → Buf (Elt Ideal) ℓ) (c : Dev nD)

/-! ## The blocks of the arrays -/

theorem idx : ∀ t : Fin cfg0.N, win0_0.index t = ![t.val / 4, 0] ∧ win0_1.index t = ![0, t.val % 4]
    ∧ win0_2.index t = ![t.val / 4, t.val % 4] ∧ win0_3.index t = ![t.val / 4, t.val % 4] := by
  decide +kernel

theorem lt (t : Fin cfg0.N) : t.val < 32 := lt_of_lt_of_eq t.isLt N_0

/-- Where element `p` of a point's block of 1024 rows lies. -/
abbrev row (t : Fin cfg0.N) (p : Fin 1024) : Fin 8192 := ⟨t.val / 4 * 1024 + p.val, by have := lt t; omega⟩
/-- Where element `q` of a point's block of 512 columns lies. -/
abbrev col (t : Fin cfg0.N) (q : Fin 512) : Fin 2048 := ⟨t.val % 4 * 512 + q.val, by omega⟩

abbrev A0 : Vec Ideal S8192x2048 .f32 := m ((c : Thread nD τ).loc main_arg0)
abbrev A1 : Vec Ideal S8192x4096 .f32 := m ((c : Thread nD τ).loc main_arg1)
abbrev A2 : Vec Ideal S4096x2048 .f32 := m ((c : Thread nD τ).loc main_arg2)

theorem blk0 (t : Fin cfg0.N) (p : Fin 1024) (k : Fin 4096) : (iblk m c 0 t : Vec Ideal S1024x4096 .bf16) (ix2 p k) = A1 m c (ix2 (row t p) k) := by
  blk_ext! [iblk, V, idx t]
theorem blk1 (t : Fin cfg0.N) (k : Fin 4096) (q : Fin 512) : (iblk m c 1 t : Vec Ideal S4096x512 .bf16) (ix2 k q) = A2 m c (ix2 k (col t q)) := by
  blk_ext! [iblk, V, idx t]
theorem blk2 (t : Fin cfg0.N) (p : Fin 1024) (q : Fin 512) : (iblk m c 2 t : Vec Ideal S1024x512 .f32) (ix2 p q) = A0 m c (ix2 (row t p) (col t q)) := by
  blk_ext! [iblk, V, idx t]

/-! ## The result -/

/-- The layer's input plus the mixed heads times the weight. -/
def out (i : S8192x2048.Idx) : EReal := A0 m c i + ∑ l : Fin 4096, (A1 m c (ix2 (i 0) l) * A2 m c (ix2 l (i 1)) : EReal)

theorem out_at (t : Fin cfg0.N) (y : S1024x512.Idx) :
    (dats m 0 c).after 3 t y = out m c (ix2 (row t (y 0)) (col t (y 1))) := by
  rw [after0_3]
  unfold out0_3
  frame_out
  refine (pay1_at _ _ _ _).trans ((add_comm _ _).trans (congrArg₂ (fun a b : EReal => a + b) ?_ (Finset.sum_congr rfl fun k _ => ?_)))
  · exact (congrArg _ (ValueIdx.eq_ix2 y)).trans (blk2 m c t (y 0) (y 1))
  · exact congrArg₂ (fun a b : EReal => a * b) (blk0 m c t (y 0) k) (blk1 m c t k (y 1))

/-- The array the kernel returns. -/
theorem arr : (dats m 0 c).arrAt 3 cfg0.N = out m c := by
  refine (dats m 0 c).arrAt_eq_of_covers 3 _ (by decide +kernel) fun t hf y => ?_
  obtain ⟨-, -, -, e3⟩ := idx t
  have e : (win0_3.blk t).view.emb y = (ix2 (row t (y 0)) (col t (y 1)) : S8192x2048.Idx) := by
    refine funext fun a => Fin.ext ?_
    match a with
    | 0 => blk_simp [e3]
    | 1 => blk_simp [e3]
  exact (out_at m c t y).trans (congrArg (out m c) e.symm)

/-- What the reference returns. -/
theorem ref (i : S8192x2048.Idx) : Cert.OutProjRefIdeal.Read.val_main_v1 (F := Ideal) (A0 m c) (A1 m c) (A2 m c) i = out m c i := by
  pointwise [Cert.OutProjRefIdeal.Read.val_main_v1, Cert.OutProjRefIdeal.Read.val_main_v0, out]

/-! ## The claims -/

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)
theorem preserves : Cert.preserves_OutProj_OutProjIdeal := trivial

/-- The kernel's result is the reference's. -/
theorem algebraic : Cert.algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun r h d => ?_) (Cert.OutProjRefIdeal.Value.run (F := Ideal) m' ρ')
  obtain ⟨a0, a1, a2⟩ := hagree d
  refine ⟨((h d).1.trans (Cert.OutProjRefIdeal.Read.val_main_v1_eq _ _ _)).trans ?_, (h d).2⟩
  rw [a0, a1, a2]
  exact (funext (ref m d)).trans (arr m d).symm

end Cert.OutProjIdeal.Product

end
-- ==== Proof.Product.OutProjDx.lean ====
/-
  The gradients of the two halves of the output projection's input: what the kernel's results hold over the reals.
-/
module

public import proofs.«01_k».proof.Defs
public import proofs.«01_k».proof.Proof.Gen.OutProjDx.Frame
public import proofs.«01_k».proof.Proof.Gen.OutProjDxIdeal.Value
public import proofs.«01_k».proof.Proof.Gen.OutProjDxRefIdeal.Run
public import proofs.«01_k».proof.Proof.Gen.OutProjDxRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.OutProjDxIdeal.Product

open Idealize.ShloMosaic Idealize.ShloMosaic.TcCoe Idealize.ShloMosaic.Tactic Idealize.SL.Sem Cert.OutProjDxIdeal Cert.OutProjDxIdeal.Gen

/-! ## The body's arithmetic at an element -/

theorem pay1_at (a : Vec Ideal S1024x2048 .bf16) (b : Vec Ideal S512x2048 .bf16) (y : S1024x512.Idx) :
    k0_pay1 (F := Ideal) a b y = ∑ k : Fin 2048, a (ix2 (y 0) k) * b (ix2 (y 1) k) := by
  pointwise [k0_pay1]

theorem pay2_at (a : Vec Ideal S1024x2048 .bf16) (b : Vec Ideal S512x2048 .bf16) (y : S1024x512.Idx) :
    k0_pay2 (F := Ideal) a b y = ∑ k : Fin 2048, a (ix2 (y 0) k) * b (ix2 (y 1) k) := by
  pointwise [k0_pay2]

variable (m : (ℓ : Loc nD τ sig) → Buf (Elt Ideal) ℓ) (c : Dev nD)

/-! ## The blocks of the arrays -/

theorem idx : ∀ t : Fin cfg0.N, win0_0.index t = ![t.val / 4, 0] ∧ win0_1.index t = ![t.val % 4, 0]
    ∧ win0_2.index t = ![t.val / 4, 0] ∧ win0_3.index t = ![t.val % 4, 0]
    ∧ win0_4.index t = ![t.val / 4, t.val % 4] ∧ win0_5.index t = ![t.val / 4, t.val % 4] := by
  decide +kernel

theorem lt (t : Fin cfg0.N) : t.val < 32 := lt_of_lt_of_eq t.isLt N_0

/-- Where element `p` of a point's block of 1024 rows lies. -/
abbrev row (t : Fin cfg0.N) (p : Fin 1024) : Fin 8192 := ⟨t.val / 4 * 1024 + p.val, by have := lt t; omega⟩
/-- Where element `q` of a point's block of 512 columns lies. -/
abbrev col (t : Fin cfg0.N) (q : Fin 512) : Fin 2048 := ⟨t.val % 4 * 512 + q.val, by omega⟩

/-- Row `q` of the weight's upper half. -/
abbrev top (q : Fin 2048) : Fin 4096 := ⟨q.val, by omega⟩
/-- Row `q` of the weight's lower half. -/
abbrev bot (q : Fin 2048) : Fin 4096 := ⟨2048 + q.val, by omega⟩

abbrev A0 : Vec Ideal S4096x2048 .f32 := m ((c : Thread nD τ).loc main_arg0)
abbrev A1 : Vec Ideal S8192x2048 .f32 := m ((c : Thread nD τ).loc main_arg1)

theorem blk0 (t : Fin cfg0.N) (p : Fin 1024) (k : Fin 2048) : (iblk m c 0 t : Vec Ideal S1024x2048 .bf16) (ix2 p k) = A1 m c (ix2 (row t p) k) := by
  blk_ext! [iblk, V, idx t]
theorem blk1 (t : Fin cfg0.N) (q : Fin 512) (k : Fin 2048) : (iblk m c 1 t : Vec Ideal S512x2048 .bf16) (ix2 q k) = A0 m c (ix2 (top (col t q)) k) := by
  blk_ext! [iblk, V, idx t]
theorem blk2 (t : Fin cfg0.N) (p : Fin 1024) (k : Fin 2048) : (iblk m c 2 t : Vec Ideal S1024x2048 .bf16) (ix2 p k) = A1 m c (ix2 (row t p) k) := by
  blk_ext! [iblk, V, idx t]
theorem blk3 (t : Fin cfg0.N) (q : Fin 512) (k : Fin 2048) : (iblk m c 3 t : Vec Ideal S512x2048 .bf16) (ix2 q k) = A0 m c (ix2 (bot (col t q)) k) := by
  blk_ext! [iblk, V, idx t]

/-! ## The results -/

/-- The gradient times the transposed weight, at a row `r` of the weight. -/
def grad (r : Fin 2048 → Fin 4096) (i : S8192x2048.Idx) : EReal := ∑ l : Fin 2048, (A1 m c (ix2 (i 0) l) * A0 m c (ix2 (r (i 1)) l) : EReal)

theorem out4_at (t : Fin cfg0.N) (y : S1024x512.Idx) :
    (dats m 0 c).after 4 t y = grad m c top (ix2 (row t (y 0)) (col t (y 1))) := by
  rw [after0_4]
  unfold out0_4
  frame_out
  exact (pay1_at _ _ _).trans (Finset.sum_congr rfl fun k _ =>
    congrArg₂ (fun a b : EReal => a * b) (blk0 m c t (y 0) k) (blk1 m c t (y 1) k))

theorem out5_at (t : Fin cfg0.N) (y : S1024x512.Idx) :
    (dats m 0 c).after 5 t y = grad m c bot (ix2 (row t (y 0)) (col t (y 1))) := by
  rw [after0_5]
  unfold out0_5
  frame_out
  exact (pay2_at _ _ _).trans (Finset.sum_congr rfl fun k _ =>
    congrArg₂ (fun a b : EReal => a * b) (blk2 m c t (y 0) k) (blk3 m c t (y 1) k))

theorem emb4 (t : Fin cfg0.N) (y : S1024x512.Idx) : (win0_4.blk t).view.emb y = (ix2 (row t (y 0)) (col t (y 1)) : S8192x2048.Idx) := by
  obtain ⟨-, -, -, -, e4, -⟩ := idx t
  refine funext fun a => Fin.ext ?_
  match a with
  | 0 => blk_simp [e4]
  | 1 => blk_simp [e4]

theorem emb5 (t : Fin cfg0.N) (y : S1024x512.Idx) : (win0_5.blk t).view.emb y = (ix2 (row t (y 0)) (col t (y 1)) : S8192x2048.Idx) := by
  obtain ⟨-, -, -, -, -, e5⟩ := idx t
  refine funext fun a => Fin.ext ?_
  match a with
  | 0 => blk_simp [e5]
  | 1 => blk_simp [e5]

/-- The two arrays the kernel returns. -/
theorem arr4 : (dats m 0 c).arrAt 4 cfg0.N = grad m c top :=
  (dats m 0 c).arrAt_eq_of_covers 4 _ (by decide +kernel) fun t _ y => (out4_at m c t y).trans (congrArg (grad m c top) (emb4 t y).symm)
theorem arr5 : (dats m 0 c).arrAt 5 cfg0.N = grad m c bot :=
  (dats m 0 c).arrAt_eq_of_covers 5 _ (by decide +kernel) fun t _ y => (out5_at m c t y).trans (congrArg (grad m c bot) (emb5 t y).symm)

/-- What the reference returns. -/
theorem ref5 (i : S8192x2048.Idx) : Cert.OutProjDxRefIdeal.Read.val_main_v5 (F := Ideal) (A0 m c) (A1 m c) i = grad m c top i := by
  pointwise [Cert.OutProjDxRefIdeal.Read.val_main_v5, Cert.OutProjDxRefIdeal.Read.val_main_v4, grad]
theorem ref6 (i : S8192x2048.Idx) : Cert.OutProjDxRefIdeal.Read.val_main_v6 (F := Ideal) (A0 m c) (A1 m c) i = grad m c bot i := by
  pointwise [Cert.OutProjDxRefIdeal.Read.val_main_v6, Cert.OutProjDxRefIdeal.Read.val_main_v4, grad]

/-! ## The claims -/

theorem frame_p : Cert.quiescent_OutProjDx := fun m ρ _ => Cert.OutProjDx.Gen.frame m ρ
theorem frame_pi : Cert.quiescent_OutProjDxIdeal := fun m ρ _ => Cert.OutProjDxIdeal.Gen.frame m ρ
theorem frame_ri : Cert.quiescent_OutProjDxRefIdeal := fun m ρ _ =>
  (θ_run Cert.OutProjDxRefIdeal.defs _ _).mono (fun r h => ⟨fun c => (h c).2.2, sem_eq_zero_of_no_sems (by decide) r.2⟩)
    (Cert.OutProjDxRefIdeal.Value.run (F := Ideal) m ρ)
theorem preserves : Cert.preserves_OutProjDx_OutProjDxIdeal := trivial

/-- The kernel's results are the reference's. -/
theorem algebraic : Cert.algebraic_OutProjDxIdeal_OutProjDxRefIdeal := by
  intro m ρ m' ρ' _ hagree
  refine ⟨_, _, Cert.OutProjDxIdeal.Value.run_blocks (F := Ideal) m ρ, ?_⟩
  refine (θ_run Cert.OutProjDxRefIdeal.defs _ _).mono (fun r h d => ?_) (Cert.OutProjDxRefIdeal.Value.run (F := Ideal) m' ρ')
  obtain ⟨a0, a1⟩ := hagree d
  obtain ⟨h5, h6, hk⟩ := h d
  refine ⟨(h5.trans (Cert.OutProjDxRefIdeal.Read.val_main_v5_eq _ _)).trans ?_,
    (h6.trans (Cert.OutProjDxRefIdeal.Read.val_main_v6_eq _ _)).trans ?_, hk⟩
  · rw [a0, a1]
    exact (funext (ref5 m d)).trans (arr4 m d).symm
  · rw [a0, a1]
    exact (funext (ref6 m d)).trans (arr5 m d).symm

end Cert.OutProjDxIdeal.Product

end
-- ==== Proof.Product.OutProjDw.lean ====
/-
  The gradient of the output projection's weight: what the kernel's accumulator and its result hold over the reals.
-/
module

public import proofs.«01_k».proof.Defs
public import proofs.«01_k».proof.Proof.Gen.OutProjDw.Frame
public import proofs.«01_k».proof.Proof.Gen.OutProjDwIdeal.Value
public import proofs.«01_k».proof.Proof.Gen.OutProjDwRefIdeal.Run
public import proofs.«01_k».proof.Proof.Gen.OutProjDwRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.OutProjDwIdeal.Product

open Idealize.ShloMosaic Idealize.ShloMosaic.TcCoe Idealize.ShloMosaic.Tactic Idealize.SL.Sem Cert.OutProjDwIdeal Cert.OutProjDwIdeal.Gen

/-! ## The body's arithmetic at an element -/

theorem pay1_at (y : S1024x1024.Idx) : k0_pay1 (F := Ideal) y = 0 := by
  pointwise [k0_pay1]

theorem pay2_at (z : Vec Ideal S1024x1024 .f32) (a : Vec Ideal S2048x1024 .bf16) (b : Vec Ideal S2048x1024 .bf16) (y : S1024x1024.Idx) :
    k0_pay2 (F := Ideal) z a b y = z y + ∑ k : Fin 2048, a (ix2 k (y 0)) * b (ix2 k (y 1)) := by
  pointwise [k0_pay2]

/-! ## The accumulator -/

variable (m : (ℓ : Loc nD τ sig) → Buf (Elt Ideal) ℓ) (c : Dev nD)

/-- One block of a contraction along the first axis of both factors. -/
abbrev dot (a : Vec Ideal S2048x1024 .bf16) (b : Vec Ideal S2048x1024 .bf16) (y : S1024x1024.Idx) : EReal :=
  ∑ k : Fin 2048, (a (ix2 k (y 0)) * b (ix2 k (y 1)) : EReal)

/-- What a grid point adds to the accumulator. -/
def term (t : Fin cfg0.N) (y : S1024x1024.Idx) : EReal := dot (iblk m c 0 t) (iblk m c 1 t) y

theorem first (t : Fin cfg0.N) (h : t.val % 4 = 0) (y : S1024x1024.Idx) :
    (outsAt0 m c t.val t.isLt).2.2 y = (0 : EReal) + term m c t y := by
  rw [outsAt0_A m c t h (by omega)]
  frame_out
  rw [pay2_at, pay1_at]
  rfl

theorem step (t : Fin cfg0.N) (h : ¬t.val % 4 = 0) (y : S1024x1024.Idx) :
    (outsAt0 m c t.val t.isLt).2.2 y
      = ((outsAt0 m c (t.val - 1) (Nat.lt_of_le_of_lt (Nat.sub_le _ _) t.isLt)).2.2 y : EReal) + term m c t y := by
  by_cases h1 : t.val % 4 = 3
  · rw [outsAt0_C m c t h h1]
    frame_out
    simp only [read_unread_whole]
    exact pay2_at _ _ _ _
  · rw [outsAt0_B m c t h h1]
    frame_out
    simp only [read_unread_whole]
    exact pay2_at _ _ _ _

/-- The block written back is the accumulator. -/
theorem out_eq (t : Fin cfg0.N) (h1 : t.val % 4 = 3) : (outsAt0 m c t.val t.isLt).1 = (outsAt0 m c t.val t.isLt).2.2 := by
  rw [outsAt0_C m c t (by omega) h1]
  frame_out

/-! ## The blocks of the arrays -/

theorem idx : ∀ t : Fin cfg0.N, win0_0.index t = ![t.val % 4, t.val / 8] ∧ win0_1.index t = ![t.val % 4, t.val / 4 % 2]
    ∧ win0_2.index t = ![t.val / 8, t.val / 4 % 2] := by
  decide +kernel

theorem lt (t : Fin cfg0.N) : t.val < 32 := lt_of_lt_of_eq t.isLt N_0

/-- Where element `p` of a point's block of 1024 rows lies. -/
abbrev row (t : Fin cfg0.N) (p : Fin 1024) : Fin 4096 := ⟨t.val / 8 * 1024 + p.val, by have := lt t; omega⟩
/-- Where element `q` of a point's block of 1024 columns lies. -/
abbrev col (t : Fin cfg0.N) (q : Fin 1024) : Fin 2048 := ⟨t.val / 4 % 2 * 1024 + q.val, by omega⟩
/-- Where element `k` of a point's block of 2048 contracted positions lies. -/
abbrev pos (t : Fin cfg0.N) (k : Fin 2048) : Fin 8192 := ⟨t.val % 4 * 2048 + k.val, by omega⟩

abbrev A0 : Vec Ideal S8192x4096 .f32 := m ((c : Thread nD τ).loc main_arg0)
abbrev A1 : Vec Ideal S8192x2048 .f32 := m ((c : Thread nD τ).loc main_arg1)

theorem blk0 (t : Fin cfg0.N) (k : Fin 2048) (p : Fin 1024) : (iblk m c 0 t : Vec Ideal S2048x1024 .bf16) (ix2 k p) = A0 m c (ix2 (pos t k) (row t p)) := by
  blk_ext! [iblk, V, idx t]
theorem blk1 (t : Fin cfg0.N) (k : Fin 2048) (q : Fin 1024) : (iblk m c 1 t : Vec Ideal S2048x1024 .bf16) (ix2 k q) = A1 m c (ix2 (pos t k) (col t q)) := by
  blk_ext! [iblk, V, idx t]

/-! ## The result -/

/-- The gradient: the mixed heads, transposed, times the gradient that comes in. -/
def grad (i : S4096x2048.Idx) : EReal := ∑ l : Fin 8192, (A0 m c (ix2 l (i 0)) * A1 m c (ix2 l (i 1)) : EReal)

theorem acc_eq (t : Fin cfg0.N) (h : t.val % 4 = 3) (p : Fin 1024) (q : Fin 1024) :
    (outsAt0 m c t.val t.isLt).2.2 (ix2 p q) = grad m c (ix2 (row t p) (col t q)) := by
  have e := Pipeline.eq_sum_fin_of_reset_step_apply_of_flush (M := EReal) (fun n h => (outsAt0 m c n h).2.2) 4 (fun _ => 0) (term m c)
    (first m c) (step m c) t h (ix2 p q)
  refine e.trans ((zero_add _).trans ?_)
  unfold term grad
  refine Fin.sum_mul_add_congr fun s k hl => ?_
  have hs : 4 * (t.val / 4) + s.val < cfg0.N := by have := lt t; have := N_0; omega
  have e0 : row ⟨4 * (t.val / 4) + s.val, hs⟩ p = row t p := Fin.ext (by dsimp only [row]; omega)
  have e1 : col ⟨4 * (t.val / 4) + s.val, hs⟩ q = col t q := Fin.ext (by dsimp only [col]; omega)
  have e2 : pos ⟨4 * (t.val / 4) + s.val, hs⟩ k = ⟨s.val * 2048 + k.val, hl⟩ := Fin.ext (by dsimp only [pos]; omega)
  exact congrArg₂ (· * ·) ((blk0 m c _ k p).trans (by rw [e0, e2]; rfl)) ((blk1 m c _ k q).trans (by rw [e1, e2]; rfl))

theorem out_grad (t : Fin cfg0.N) (h : t.val % 4 = 3) (y : S1024x1024.Idx) :
    (outsAt0 m c t.val t.isLt).1 y = grad m c (ix2 (row t (y 0)) (col t (y 1))) := by
  rw [out_eq m c t h]
  exact (congrArg _ (ValueIdx.eq_ix2 y)).trans (acc_eq m c t h (y 0) (y 1))

/-- The array the kernel returns. -/
theorem arr : (dats m 0 c).arrAt 2 cfg0.N = grad m c := by
  refine (dats m 0 c).arrAt_eq_of_covers 2 _ (by decide +kernel) fun t hf y => ?_
  have h : t.val % 4 = 3 := (flush0_2 t).mp hf
  obtain ⟨-, -, e2⟩ := idx t
  have e : (win0_2.blk t).view.emb y = (ix2 (row t (y 0)) (col t (y 1)) : S4096x2048.Idx) := by
    refine funext fun a => Fin.ext ?_
    match a with
    | 0 => blk_simp [e2]
    | 1 => blk_simp [e2]
  rw [after0_2]
  exact (out_grad m c t h y).trans (congrArg (grad m c) e.symm)

/-- What the reference returns. -/
theorem ref (i : S4096x2048.Idx) : Cert.OutProjDwRefIdeal.Read.val_main_v3 (F := Ideal) (A0 m c) (A1 m c) i = grad m c i := by
  pointwise [Cert.OutProjDwRefIdeal.Read.val_main_v3, Cert.OutProjDwRefIdeal.Read.val_main_v2, grad]
  exact Finset.sum_congr rfl fun l _ => mul_comm _ _

/-! ## The claims -/

theorem frame_p : Cert.quiescent_OutProjDw := fun m ρ _ => Cert.OutProjDw.Gen.frame m ρ
theorem frame_pi : Cert.quiescent_OutProjDwIdeal := fun m ρ _ => Cert.OutProjDwIdeal.Gen.frame m ρ
theorem frame_ri : Cert.quiescent_OutProjDwRefIdeal := fun m ρ _ =>
  (θ_run Cert.OutProjDwRefIdeal.defs _ _).mono (fun r h => ⟨fun c => (h c).2, sem_eq_zero_of_no_sems (by decide) r.2⟩)
    (Cert.OutProjDwRefIdeal.Value.run (F := Ideal) m ρ)
theorem preserves : Cert.preserves_OutProjDw_OutProjDwIdeal := trivial

/-- The kernel's result is the reference's. -/
theorem algebraic : Cert.algebraic_OutProjDwIdeal_OutProjDwRefIdeal := by
  intro m ρ m' ρ' _ hagree
  refine ⟨_, (θ_run Cert.OutProjDwIdeal.defs _ _).mono (fun r h d => ⟨(h d).1, (h d).2.2⟩) (Cert.OutProjDwIdeal.Value.run_blocks (F := Ideal) m ρ), ?_⟩
  refine (θ_run Cert.OutProjDwRefIdeal.defs _ _).mono (fun r h d => ?_) (Cert.OutProjDwRefIdeal.Value.run (F := Ideal) m' ρ')
  obtain ⟨a0, a1⟩ := hagree d
  refine ⟨((h d).1.trans (Cert.OutProjDwRefIdeal.Read.val_main_v3_eq _ _)).trans ?_, (h d).2⟩
  rw [a0, a1]
  exact (funext (ref m d)).trans (arr m d).symm

end Cert.OutProjDwIdeal.Product

end
-- ==== Proof.Product.Gated.lean ====
/-
  The derivative of the gated activation over the extended reals: the two ways of writing it agree where the factors beside the gate are real.
-/
module

public import Idealize.ShloMosaic.Lib.Claim
public import Idealize.ShloMosaic.Lib.StableHlo.ReadAt
public import Idealize.ShloMosaic.Lib.Pipeline.ValueKit.Point
public import Mathlib.Data.EReal.Inv
public import Mathlib.Algebra.BigOperators.Fin

@[expose] public section

noncomputable section

namespace Cert.Gated

open Idealize.ShloMosaic

/-- The logistic function. -/
abbrev sigm (g : EReal) : EReal := Ideal.div 1 (1 + Ideal.exp (-g))

theorem sigm_top : sigm ⊤ = 1 := by
  have e : Ideal.exp (-⊤ : EReal) = 0 := by rw [EReal.neg_top]; rfl
  unfold sigm
  rw [e, add_zero]
  simp [Ideal.div]

theorem sigm_bot : sigm ⊥ = 0 := by
  have e : Ideal.exp (-⊥ : EReal) = ⊤ := by rw [EReal.neg_bot]; rfl
  have e1 : (1 : EReal) + ⊤ = ⊤ := EReal.coe_add_top 1
  unfold sigm
  rw [e, e1]
  simp [Ideal.div]

theorem sigm_real (g : ℝ) : ∃ s : ℝ, sigm (g : EReal) = (s : EReal) := by
  have e : Ideal.exp (-(g : EReal)) = ((Real.exp (-g) : ℝ) : EReal) := by rw [← EReal.coe_neg, Ideal.exp_coe]
  have h : (1 : ℝ) + Real.exp (-g) ≠ 0 := by positivity
  refine ⟨1 * (1 / (1 + Real.exp (-g))), ?_⟩
  unfold sigm
  rw [e, ← EReal.coe_one, ← EReal.coe_add, Ideal.div_coe h, ← EReal.coe_mul]

/-- The kernel's form of the gate's gradient is the reference's. -/
theorem dgate (d u : ℝ) (g : EReal) :
    ((d : EReal) * (u : EReal)) * (sigm g * (1 + g * (1 - sigm g)))
      = ((d : EReal) * (u : EReal)) * sigm g + (g * ((d : EReal) * (u : EReal))) * (sigm g * (1 - sigm g)) := by
  induction g using EReal.rec with
  | bot => rw [sigm_bot]; simp
  | top =>
    have e : (1 : EReal) - 1 = 0 := by rw [← EReal.coe_one, ← EReal.coe_sub, sub_self, EReal.coe_zero]
    rw [sigm_top, e]
    simp
  | coe g =>
    obtain ⟨s, hs⟩ := sigm_real g
    rw [hs, ← EReal.coe_one]
    simp only [← EReal.coe_mul, ← EReal.coe_add, ← EReal.coe_sub]
    exact congrArg _ (by ring)

/-- A contraction of real arrays is real. -/
theorem sum_real {n : ℕ} (a b : Fin n → EReal) (ha : ∀ k, ∃ r : ℝ, a k = r) (hb : ∀ k, ∃ r : ℝ, b k = r) : ∃ r : ℝ, ∑ k, a k * b k = (r : EReal) := by
  refine Finset.sum_induction _ (fun x : EReal => ∃ r : ℝ, x = r) ?_ ⟨0, rfl⟩ fun k _ => ?_
  · rintro x y ⟨r, rfl⟩ ⟨s, rfl⟩
    exact ⟨r + s, (EReal.coe_add r s).symm⟩
  · obtain ⟨r, hr⟩ := ha k
    obtain ⟨s, hs⟩ := hb k
    exact ⟨r * s, by rw [hr, hs, EReal.coe_mul]⟩

end Cert.Gated

end
-- ==== Proof.Product.FfnOutDx.lean ====
/-
  The gradients of the feed-forward layer's gate and up projection: what the kernel's results hold over the reals.
-/
module

public import proofs.«01_k».proof.Defs
public import proofs.«01_k».proof.Proof.Product.Gated
public import proofs.«01_k».proof.Proof.Gen.Pre_out_dx_finite
public import proofs.«01_k».proof.Proof.Gen.FfnOutDx.Frame
public import proofs.«01_k».proof.Proof.Gen.FfnOutDxIdeal.Value
public import proofs.«01_k».proof.Proof.Gen.FfnOutDxRefIdeal.Run
public import proofs.«01_k».proof.Proof.Gen.FfnOutDxRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.FfnOutDxIdeal.Product

open Idealize.ShloMosaic Idealize.ShloMosaic.TcCoe Idealize.ShloMosaic.Tactic Idealize.SL.Sem Cert.FfnOutDxIdeal Cert.FfnOutDxIdeal.Gen Cert.Gated

/-! ## The body's arithmetic at an element -/

/-- One block of a contraction of rows with rows. -/
abbrev dot (a : Vec Ideal S1024x2048 .bf16) (b : Vec Ideal S512x2048 .bf16) (y : S1024x512.Idx) : EReal :=
  ∑ k : Fin 2048, (a (ix2 (y 0) k) * b (ix2 (y 1) k) : EReal)

/-- The gate's gradient, of the activation's gradient `d`, the gate `g` and the up projection `u`. -/
abbrev toGate (d g u : EReal) : EReal := (d * u) * (sigm g * (1 + g * (1 - sigm g)))
/-- The up projection's gradient. -/
abbrev toUp (d g : EReal) : EReal := d * (g * sigm g)

theorem pay3_at (a : Vec Ideal S1024x2048 .bf16) (b : Vec Ideal S512x2048 .bf16) (g u : Vec Ideal S1024x512 .f32) (y : S1024x512.Idx) :
    k0_pay3 (F := Ideal) a b g u y = toGate (dot a b y) (g y) (u y) := by
  pointwise [k0_pay3, k0_pay1, k0_pay2]
  rw [zero_sub]

theorem pay4_at (a : Vec Ideal S1024x2048 .bf16) (b : Vec Ideal S512x2048 .bf16) (g : Vec Ideal S1024x512 .f32) (y : S1024x512.Idx) :
    k0_pay4 (F := Ideal) a b g y = toUp (dot a b y) (g y) := by
  pointwise [k0_pay4, k0_pay1, k0_pay2]
  rw [zero_sub]

variable (m : (ℓ : Loc nD τ sig) → Buf (Elt Ideal) ℓ) (c : Dev nD)

/-! ## The blocks of the arrays -/

theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] := by
  decide +kernel

theorem lt (t : Fin cfg0.N) : t.val < 88 := lt_of_lt_of_eq t.isLt N_0

/-- Where element `p` of a point's block of 1024 rows lies. -/
abbrev row (t : Fin cfg0.N) (p : Fin 1024) : Fin 8192 := ⟨t.val / 11 * 1024 + p.val, by have := lt t; omega⟩
/-- Where element `q` of a point's block of 512 columns lies. -/
abbrev col (t : Fin cfg0.N) (q : Fin 512) : Fin 5632 := ⟨t.val % 11 * 512 + q.val, by omega⟩

abbrev A0 : Vec Ideal S5632x2048 .f32 := m ((c : Thread nD τ).loc main_arg0)
abbrev A1 : Vec Ideal S8192x5632 .f32 := m ((c : Thread nD τ).loc main_arg1)
abbrev A2 : Vec Ideal S8192x5632 .f32 := m ((c : Thread nD τ).loc main_arg2)
abbrev A3 : Vec Ideal S8192x2048 .f32 := m ((c : Thread nD τ).loc main_arg3)

theorem blk0 (t : Fin cfg0.N) (p : Fin 1024) (k : Fin 2048) : (iblk m c 0 t : Vec Ideal S1024x2048 .bf16) (ix2 p k) = A3 m c (ix2 (row t p) k) := by
  blk_ext! [iblk, V, idx t]
theorem blk1 (t : Fin cfg0.N) (q : Fin 512) (k : Fin 2048) : (iblk m c 1 t : Vec Ideal S512x2048 .bf16) (ix2 q k) = A0 m c (ix2 (col t q) k) := by
  blk_ext! [iblk, V, idx t]
theorem blk2 (t : Fin cfg0.N) (p : Fin 1024) (q : Fin 512) : (iblk m c 2 t : Vec Ideal S1024x512 .f32) (ix2 p q) = A1 m c (ix2 (row t p) (col t q)) := by
  blk_ext! [iblk, V, idx t]
theorem blk3 (t : Fin cfg0.N) (p : Fin 1024) (q : Fin 512) : (iblk m c 3 t : Vec Ideal S1024x512 .f32) (ix2 p q) = A2 m c (ix2 (row t p) (col t q)) := by
  blk_ext! [iblk, V, idx t]

/-! ## The results -/

/-- The activation's gradient: what comes in, times the transposed weight. -/
def dact (i : S8192x5632.Idx) : EReal := ∑ l : Fin 2048, (A3 m c (ix2 (i 0) l) * A0 m c (ix2 (i 1) l) : EReal)
def dgateOut (i : S8192x5632.Idx) : EReal := toGate (dact m c i) (A1 m c i) (A2 m c i)
def dupOut (i : S8192x5632.Idx) : EReal := toUp (dact m c i) (A1 m c i)

theorem dot_at (t : Fin cfg0.N) (y : S1024x512.Idx) :
    dot (iblk m c 0 t) (iblk m c 1 t) y = dact m c (ix2 (row t (y 0)) (col t (y 1))) :=
  Finset.sum_congr rfl fun k _ => congrArg₂ (fun a b : EReal => a * b) (blk0 m c t (y 0) k) (blk1 m c t (y 1) k)

theorem gate_at (t : Fin cfg0.N) (y : S1024x512.Idx) : (iblk m c 2 t : Vec Ideal S1024x512 .f32) y = A1 m c (ix2 (row t (y 0)) (col t (y 1))) :=
  (congrArg _ (ValueIdx.eq_ix2 y)).trans (blk2 m c t (y 0) (y 1))
theorem up_at (t : Fin cfg0.N) (y : S1024x512.Idx) : (iblk m c 3 t : Vec Ideal S1024x512 .f32) y = A2 m c (ix2 (row t (y 0)) (col t (y 1))) :=
  (congrArg _ (ValueIdx.eq_ix2 y)).trans (blk3 m c t (y 0) (y 1))

theorem out4_at (t : Fin cfg0.N) (y : S1024x512.Idx) :
    (dats m 0 c).after 4 t y = dgateOut m c (ix2 (row t (y 0)) (col t (y 1))) := by
  rw [after0_4]
  unfold out0_4
  frame_out
  refine (pay3_at _ _ _ _ _).trans ((congrArg₂ (fun d g : EReal => toGate d g _) (dot_at m c t y) (gate_at m c t y)).trans ?_)
  exact congrArg (fun u : EReal => toGate _ _ u) (up_at m c t y)

theorem out5_at (t : Fin cfg0.N) (y : S1024x512.Idx) :
    (dats m 0 c).after 5 t y = dupOut m c (ix2 (row t (y 0)) (col t (y 1))) := by
  rw [after0_5]
  unfold out0_5
  frame_out
  exact (pay4_at _ _ _ _).trans (congrArg₂ toUp (dot_at m c t y) (gate_at m c t y))

theorem emb4 (t : Fin cfg0.N) (y : S1024x512.Idx) : (win0_4.blk t).view.emb y = (ix2 (row t (y 0)) (col t (y 1)) : S8192x5632.Idx) := by
  obtain ⟨-, -, -, -, e, -⟩ := idx t
  refine funext fun a => Fin.ext ?_
  match a with
  | 0 => blk_simp [e]
  | 1 => blk_simp [e]

theorem emb5 (t : Fin cfg0.N) (y : S1024x512.Idx) : (win0_5.blk t).view.emb y = (ix2 (row t (y 0)) (col t (y 1)) : S8192x5632.Idx) := by
  obtain ⟨-, -, -, -, -, e⟩ := idx t
  refine funext fun a => Fin.ext ?_
  match a with
  | 0 => blk_simp [e]
  | 1 => blk_simp [e]

/-- The two arrays the kernel returns. -/
theorem arr4 : (dats m 0 c).arrAt 4 cfg0.N = dgateOut m c :=
  (dats m 0 c).arrAt_eq_of_covers 4 _ (by decide +kernel) fun t _ y => (out4_at m c t y).trans (congrArg (dgateOut m c) (emb4 t y).symm)
theorem arr5 : (dats m 0 c).arrAt 5 cfg0.N = dupOut m c :=
  (dats m 0 c).arrAt_eq_of_covers 5 _ (by decide +kernel) fun t _ y => (out5_at m c t y).trans (congrArg (dupOut m c) (emb5 t y).symm)

/-! ## The reference -/

/-- The arrays that the precondition says are finite. -/
structure Reals : Prop where
  w : ∀ i, ∃ r : ℝ, A0 m c i = (r : EReal)
  u : ∀ i, ∃ r : ℝ, A2 m c i = (r : EReal)
  d : ∀ i, ∃ r : ℝ, A3 m c i = (r : EReal)

theorem posInf : Ideal.ofBits .f32 0x7F800000#32 = ⊤ := by simp [Ideal.ofBits, Ideal.ieee]

/-- An element whose absolute value is below the infinity is real. -/
theorem real_of_lt (v : EReal) (h : Ideal.cmp .olt (max v (-v)) (Ideal.ofBits .f32 0x7F800000#32) = 1#1) : ∃ r : ℝ, v = r := by
  rw [posInf] at h
  induction v using EReal.rec with
  | bot => simp [Ideal.cmp] at h
  | top => simp [Ideal.cmp] at h
  | coe r => exact ⟨r, rfl⟩

theorem finite [Cert.Pre_out_dx_finite.Facts] (hf : Cert.Pre_FfnOutDxIdeal_out_dx_finite m) : Reals m c := by
  obtain ⟨h0, h2, h3⟩ := hf c
  exact ⟨fun i => real_of_lt _ (congrFun h0 i), fun i => real_of_lt _ (congrFun h2 i), fun i => real_of_lt _ (congrFun h3 i)⟩

open Cert.FfnOutDxRefIdeal.Read in
/-- What the reference returns. -/
theorem ref7 (H : Reals m c) (i : S8192x5632.Idx) : val_main_v7 (F := Ideal) (A0 m c) (A1 m c) (A2 m c) (A3 m c) i = dgateOut m c i := by
  obtain ⟨d, hd⟩ := sum_real (fun l => A3 m c (ix2 (i 0) l)) (fun l => A0 m c (ix2 (i 1) l)) (fun l => H.d _) (fun l => H.w _)
  obtain ⟨u, hu⟩ := H.u i
  unfold dgateOut toGate dact
  refine Eq.trans ?_ ((dgate d u (A1 m c i)).symm.trans (by rw [← hd, ← hu]))
  rw [← hd, ← hu]
  pointwise [val_main_v7, val_main_v6, val_main_v5, val_main_v4, val_main_v3, val_main_v0_0, val_main_v0_1, val_main_v0_2, val_main_call0_v0,
    val_main_call0_v1, val_main_call0_v2, val_main_call0_v3, val_main_call0_v4, val_main_call0_v6, val_main_call0_v7, val_main_call0_cst,
    val_main_call0_cst_0, val_main_call0_cst_1, val_main_call1_v0, val_main_call1_v1, val_main_call1_v2]

open Cert.FfnOutDxRefIdeal.Read in
theorem ref8 (i : S8192x5632.Idx) : val_main_v8 (F := Ideal) (A0 m c) (A1 m c) (A3 m c) i = dupOut m c i := by
  pointwise [val_main_v8, val_main_v4, val_main_v3, val_main_v0_0, val_main_v0_2, val_main_call0_v0,
    val_main_call0_v1, val_main_call0_v2, val_main_call0_v3, val_main_call0_v4, val_main_call0_cst, val_main_call0_cst_0, dupOut, dact]
  exact mul_comm _ _

/-! ## The claims -/

theorem frame_p : Cert.quiescent_FfnOutDx := fun m ρ _ => Cert.FfnOutDx.Gen.frame m ρ
theorem frame_pi : Cert.quiescent_FfnOutDxIdeal := fun m ρ _ => Cert.FfnOutDxIdeal.Gen.frame m ρ
theorem frame_ri : Cert.quiescent_FfnOutDxRefIdeal := fun m ρ _ =>
  (θ_run Cert.FfnOutDxRefIdeal.defs _ _).mono (fun r h => ⟨fun c => (h c).2.2, sem_eq_zero_of_no_sems (by decide) r.2⟩)
    (Cert.FfnOutDxRefIdeal.Value.run (F := Ideal) m ρ)
theorem frame_pi_pre : Cert.quiescent_FfnOutDxIdeal_pre_out_dx_finite := fun m ρ _ => Cert.FfnOutDxIdeal.Gen.frame m ρ
theorem frame_ri_pre : Cert.quiescent_FfnOutDxRefIdeal_pre_out_dx_finite := fun m ρ _ => frame_ri m ρ trivial
theorem preserves : Cert.preserves_FfnOutDx_FfnOutDxIdeal := trivial

/-- The kernel's results are the reference's. -/
theorem algebraic : Cert.algebraic_FfnOutDxIdeal_FfnOutDxRefIdeal_pre_out_dx_finite := by
  intro m ρ m' ρ' hf hagree
  refine ⟨_, _, Cert.FfnOutDxIdeal.Value.run_blocks (F := Ideal) m ρ, ?_⟩
  refine (θ_run Cert.FfnOutDxRefIdeal.defs _ _).mono (fun r h d => ?_) (Cert.FfnOutDxRefIdeal.Value.run (F := Ideal) m' ρ')
  obtain ⟨a0, a1, a2, a3⟩ := hagree d
  obtain ⟨h7, h8, hk⟩ := h d
  refine ⟨(h7.trans (Cert.FfnOutDxRefIdeal.Read.val_main_v7_eq _ _ _ _)).trans ?_,
    (h8.trans (Cert.FfnOutDxRefIdeal.Read.val_main_v8_eq _ _ _)).trans ?_, hk⟩
  · rw [a0, a1, a2, a3]
    exact (funext (ref7 m d (finite m d hf))).trans (arr4 m d).symm
  · rw [a0, a1, a3]
    exact (funext (ref8 m d)).trans (arr5 m d).symm

end Cert.FfnOutDxIdeal.Product

end
-- ==== Proof.Update.Adam.lean ====
/-
  One element's optimiser step over the reals, from the element's weight, its gradient and its two moments.
-/
module

public import Idealize.ShloMosaic.Lib.Claim
public import Idealize.ShloMosaic.Lib.Pipeline.ValueKit

@[expose] public section

noncomputable section

namespace Cert.Update

open Idealize.ShloMosaic

/-- The reading of a constant of the program. -/
abbrev lit (b : BitVec 32) : EReal := FloatOps.ofBits (F := Ideal) .f32 b

/-- The first moment: nine tenths of the old one, a tenth of the gradient. -/
def mom (g m : EReal) : EReal := lit 0x3F666666#32 * m + lit 0x3DCCCCCD#32 * g
/-- The second moment, of the gradient's square. -/
def sqr (g v : EReal) : EReal := lit 0x3F7FBE77#32 * v + lit 0x3A83126F#32 * (g * g)
/-- The step: the first moment over the root of the second, each without its bias, and the weight's decay. -/
def step (w g m v : EReal) : EReal :=
  lit 0xBA83126F#32 * (Ideal.div (Ideal.div (mom g m) (lit 0x3F26BD02#32)) (Ideal.sqrt (Ideal.div (sqr g v) (lit 0x3C231ACC#32)) + lit 0x322BCC77#32)
    + lit 0x3C23D70A#32 * w)

end Cert.Update

end
-- ==== Proof.Update.AdamIn.lean ====
/-
  The optimiser's step for the weight of the input projection: what the kernel's results hold over the reals.
-/
module

public import proofs.«01_k».proof.Defs
public import proofs.«01_k».proof.Proof.Update.Adam
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.AdamInIdeal.Update

open Idealize.ShloMosaic Idealize.ShloMosaic.TcCoe Idealize.ShloMosaic.Tactic Idealize.SL.Sem Cert.AdamInIdeal Cert.AdamInIdeal.Gen
open Cert.Update (lit mom sqr step)

/-! ## The body's arithmetic at an element -/

theorem pay1_at (g m : Vec Ideal S256x1800 .f32) (y : S256x1800.Idx) : k0_pay1 (F := Ideal) g m y = mom (g y) (m y) := by
  pointwise [k0_pay1, mom]

theorem pay2_at (g v : Vec Ideal S256x1800 .f32) (y : S256x1800.Idx) : k0_pay2 (F := Ideal) g v y = sqr (g y) (v y) := by
  pointwise [k0_pay2, sqr]

theorem pay3_at (g w m v : Vec Ideal S256x1800 .f32) (y : S256x1800.Idx) :
    k0_pay3 (F := Ideal) g w m v y = step (w y) (g y) (m y) (v y) := by
  pointwise [k0_pay3, k0_pay1, k0_pay2, step, mom, sqr]

variable (m : (ℓ : Loc nD τ sig) → Buf (Elt Ideal) ℓ) (c : Dev nD)

/-! ## The results -/

abbrev A0 : Vec Ideal S2048x1800 .f32 := m ((c : Thread nD τ).loc main_arg0)
abbrev A1 : Vec Ideal S2048x1800 .f32 := m ((c : Thread nD τ).loc main_arg1)
abbrev A2 : Vec Ideal S2048x1800 .f32 := m ((c : Thread nD τ).loc main_arg2)
abbrev A3 : Vec Ideal S2048x1800 .f32 := m ((c : Thread nD τ).loc main_arg3)

/-- The step, and the two new moments. -/
def delta (i : S2048x1800.Idx) : EReal := step (A0 m c i) (A1 m c i) (A2 m c i) (A3 m c i)
def newM (i : S2048x1800.Idx) : EReal := mom (A1 m c i) (A2 m c i)
def newV (i : S2048x1800.Idx) : EReal := sqr (A1 m c i) (A3 m c i)

/-- The three arrays the kernel returns. Every window cuts its array alike, so an element of a result's block comes from
    the elements of the arguments' blocks that lie where it lies. -/
theorem arr5 : (dats m 0 c).arrAt 5 cfg0.N = delta m c :=
  (dats m 0 c).arrAt_eq_of_covers 5 _ (by decide +kernel) fun t _ y => by
    rw [after0_5]
    unfold out0_5
    frame_out
    exact (pay3_at _ _ _ _ _).trans rfl
theorem arr6 : (dats m 0 c).arrAt 6 cfg0.N = newM m c :=
  (dats m 0 c).arrAt_eq_of_covers 6 _ (by decide +kernel) fun t _ y => by
    rw [after0_6]
    unfold out0_6
    frame_out
    exact (pay1_at _ _ _).trans rfl
theorem arr7 : (dats m 0 c).arrAt 7 cfg0.N = newV m c :=
  (dats m 0 c).arrAt_eq_of_covers 7 _ (by decide +kernel) fun t _ y => by
    rw [after0_7]
    unfold out0_7
    frame_out
    exact (pay2_at _ _ _).trans rfl

open Cert.AdamInRefIdeal.Read in
/-- What the reference returns. -/
theorem refM (i : S2048x1800.Idx) : val_main_v4 (F := Ideal) (A1 m c) (A2 m c) i = newM m c i := by
  pointwise [val_main_v4, val_main_v3, val_main_v2, val_main_v1, val_main_v0, val_main_cst, val_main_cst_0, newM, mom]
open Cert.AdamInRefIdeal.Read in
theorem refV (i : S2048x1800.Idx) : val_main_v10 (F := Ideal) (A1 m c) (A3 m c) i = newV m c i := by
  pointwise [val_main_v10, val_main_v9, val_main_v8, val_main_v7, val_main_v6, val_main_v5, val_main_cst_1, val_main_cst_2, newV, sqr]
open Cert.AdamInRefIdeal.Read in
theorem refD (i : S2048x1800.Idx) : val_main_v23 (F := Ideal) (A0 m c) (A1 m c) (A2 m c) (A3 m c) i = delta m c i := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, delta, step, mom, sqr]

/-! ## The claims -/

theorem frame_p : Cert.quiescent_AdamIn := fun m ρ _ => Cert.AdamIn.Gen.frame m ρ
theorem frame_pi : Cert.quiescent_AdamInIdeal := fun m ρ _ => Cert.AdamInIdeal.Gen.frame m ρ
theorem frame_ri : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)
theorem preserves : Cert.preserves_AdamIn_AdamInIdeal := trivial

/-- The kernel's results are the reference's. -/
theorem algebraic : Cert.algebraic_AdamInIdeal_AdamInRefIdeal := by
  intro m ρ m' ρ' _ hagree
  refine ⟨_, _, _, (θ_run defs _ _).mono (fun r h d => (h d).2) (Cert.AdamInIdeal.Value.run_blocks (F := Ideal) m ρ), ?_⟩
  refine (θ_run Cert.AdamInRefIdeal.defs _ _).mono (fun r h d => ?_) (Cert.AdamInRefIdeal.Value.run (F := Ideal) m' ρ')
  obtain ⟨a0, a1, a2, a3⟩ := hagree d
  obtain ⟨hd, hm, hv, hk⟩ := h d
  refine ⟨(hd.trans (Cert.AdamInRefIdeal.Read.val_main_v23_eq _ _ _ _)).trans ?_,
    (hm.trans (Cert.AdamInRefIdeal.Read.val_main_v4_eq _ _)).trans ?_,
    (hv.trans (Cert.AdamInRefIdeal.Read.val_main_v10_eq _ _)).trans ?_, hk⟩
  · rw [a0, a1, a2, a3]
    exact (funext (refD m d)).trans (arr5 m d).symm
  · rw [a1, a2]
    exact (funext (refM m d)).trans (arr6 m d).symm
  · rw [a1, a3]
    exact (funext (refV m d)).trans (arr7 m d).symm

end Cert.AdamInIdeal.Update

end
-- ==== Proof.Update.AdamConv.lean ====
/-
  The optimiser's step for the weight of the convolution: what the kernel's results hold over the reals.
-/
module

public import proofs.«01_k».proof.Defs
public import proofs.«01_k».proof.Proof.Update.Adam
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.AdamConvIdeal.Update

open Idealize.ShloMosaic Idealize.ShloMosaic.TcCoe Idealize.ShloMosaic.Tactic Idealize.SL.Sem Cert.AdamConvIdeal Cert.AdamConvIdeal.Gen
open Cert.Update (lit mom sqr step)

/-! ## The body's arithmetic at an element -/

theorem pay1_at (g m : Vec Ideal S4x768 .f32) (y : S4x768.Idx) : k0_pay1 (F := Ideal) g m y = mom (g y) (m y) := by
  pointwise [k0_pay1, mom]

theorem pay2_at (g v : Vec Ideal S4x768 .f32) (y : S4x768.Idx) : k0_pay2 (F := Ideal) g v y = sqr (g y) (v y) := by
  pointwise [k0_pay2, sqr]

theorem pay3_at (g w m v : Vec Ideal S4x768 .f32) (y : S4x768.Idx) :
    k0_pay3 (F := Ideal) g w m v y = step (w y) (g y) (m y) (v y) := by
  pointwise [k0_pay3, k0_pay1, k0_pay2, step, mom, sqr]

variable (m : (ℓ : Loc nD τ sig) → Buf (Elt Ideal) ℓ) (c : Dev nD)

/-! ## The results -/

abbrev A0 : Vec Ideal S4x768 .f32 := m ((c : Thread nD τ).loc main_arg0)
abbrev A1 : Vec Ideal S4x768 .f32 := m ((c : Thread nD τ).loc main_arg1)
abbrev A2 : Vec Ideal S4x768 .f32 := m ((c : Thread nD τ).loc main_arg2)
abbrev A3 : Vec Ideal S4x768 .f32 := m ((c : Thread nD τ).loc main_arg3)

/-- The step, and the two new moments. -/
def delta (i : S4x768.Idx) : EReal := step (A0 m c i) (A1 m c i) (A2 m c i) (A3 m c i)
def newM (i : S4x768.Idx) : EReal := mom (A1 m c i) (A2 m c i)
def newV (i : S4x768.Idx) : EReal := sqr (A1 m c i) (A3 m c i)

/-- The three arrays the kernel returns. Every window cuts its array alike, so an element of a result's block comes from
    the elements of the arguments' blocks that lie where it lies. -/
theorem arr5 : (dats m 0 c).arrAt 5 cfg0.N = delta m c :=
  (dats m 0 c).arrAt_eq_of_covers 5 _ (by decide +kernel) fun t _ y => by
    rw [after0_5]
    unfold out0_5
    frame_out
    exact (pay3_at _ _ _ _ _).trans rfl
theorem arr6 : (dats m 0 c).arrAt 6 cfg0.N = newM m c :=
  (dats m 0 c).arrAt_eq_of_covers 6 _ (by decide +kernel) fun t _ y => by
    rw [after0_6]
    unfold out0_6
    frame_out
    exact (pay1_at _ _ _).trans rfl
theorem arr7 : (dats m 0 c).arrAt 7 cfg0.N = newV m c :=
  (dats m 0 c).arrAt_eq_of_covers 7 _ (by decide +kernel) fun t _ y => by
    rw [after0_7]
    unfold out0_7
    frame_out
    exact (pay2_at _ _ _).trans rfl

open Cert.AdamConvRefIdeal.Read in
/-- What the reference returns. -/
theorem refM (i : S4x768.Idx) : val_main_v4 (F := Ideal) (A1 m c) (A2 m c) i = newM m c i := by
  pointwise [val_main_v4, val_main_v3, val_main_v2, val_main_v1, val_main_v0, val_main_cst, val_main_cst_0, newM, mom]
open Cert.AdamConvRefIdeal.Read in
theorem refV (i : S4x768.Idx) : val_main_v10 (F := Ideal) (A1 m c) (A3 m c) i = newV m c i := by
  pointwise [val_main_v10, val_main_v9, val_main_v8, val_main_v7, val_main_v6, val_main_v5, val_main_cst_1, val_main_cst_2, newV, sqr]
open Cert.AdamConvRefIdeal.Read in
theorem refD (i : S4x768.Idx) : val_main_v23 (F := Ideal) (A0 m c) (A1 m c) (A2 m c) (A3 m c) i = delta m c i := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, delta, step, mom, sqr]

/-! ## The claims -/

theorem frame_p : Cert.quiescent_AdamConv := fun m ρ _ => Cert.AdamConv.Gen.frame m ρ
theorem frame_pi : Cert.quiescent_AdamConvIdeal := fun m ρ _ => Cert.AdamConvIdeal.Gen.frame m ρ
theorem frame_ri : Cert.quiescent_AdamConvRefIdeal := fun m ρ _ =>
  (θ_run Cert.AdamConvRefIdeal.defs _ _).mono (fun r h => ⟨fun c => (h c).2.2.2, sem_eq_zero_of_no_sems (by decide) r.2⟩)
    (Cert.AdamConvRefIdeal.Value.run (F := Ideal) m ρ)
theorem preserves : Cert.preserves_AdamConv_AdamConvIdeal := trivial

/-- The kernel's results are the reference's. -/
theorem algebraic : Cert.algebraic_AdamConvIdeal_AdamConvRefIdeal := by
  intro m ρ m' ρ' _ hagree
  refine ⟨_, _, _, (θ_run defs _ _).mono (fun r h d => (h d).2) (Cert.AdamConvIdeal.Value.run_blocks (F := Ideal) m ρ), ?_⟩
  refine (θ_run Cert.AdamConvRefIdeal.defs _ _).mono (fun r h d => ?_) (Cert.AdamConvRefIdeal.Value.run (F := Ideal) m' ρ')
  obtain ⟨a0, a1, a2, a3⟩ := hagree d
  obtain ⟨hd, hm, hv, hk⟩ := h d
  refine ⟨(hd.trans (Cert.AdamConvRefIdeal.Read.val_main_v23_eq _ _ _ _)).trans ?_,
    (hm.trans (Cert.AdamConvRefIdeal.Read.val_main_v4_eq _ _)).trans ?_,
    (hv.trans (Cert.AdamConvRefIdeal.Read.val_main_v10_eq _ _)).trans ?_, hk⟩
  · rw [a0, a1, a2, a3]
    exact (funext (refD m d)).trans (arr5 m d).symm
  · rw [a1, a2]
    exact (funext (refM m d)).trans (arr6 m d).symm
  · rw [a1, a3]
    exact (funext (refV m d)).trans (arr7 m d).symm

end Cert.AdamConvIdeal.Update

end
-- ==== Proof.Update.AdamPool.lean ====
/-
  The optimiser's step for the weight of the pooling layer: what the kernel's results hold over the reals.
-/
module

public import proofs.«01_k».proof.Defs
public import proofs.«01_k».proof.Proof.Update.Adam
public import proofs.«01_k».proof.Proof.Gen.AdamPool.Frame
public import proofs.«01_k».proof.Proof.Gen.AdamPoolIdeal.Value
public import proofs.«01_k».proof.Proof.Gen.AdamPoolRefIdeal.Run
public import proofs.«01_k».proof.Proof.Gen.AdamPoolRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.AdamPoolIdeal.Update

open Idealize.ShloMosaic Idealize.ShloMosaic.TcCoe Idealize.ShloMosaic.Tactic Idealize.SL.Sem Cert.AdamPoolIdeal Cert.AdamPoolIdeal.Gen
open Cert.Update (lit mom sqr step)

/-! ## The body's arithmetic at an element -/

theorem pay1_at (g m : Vec Ideal S512x512 .f32) (y : S512x512.Idx) : k0_pay1 (F := Ideal) g m y = mom (g y) (m y) := by
  pointwise [k0_pay1, mom]

theorem pay2_at (g v : Vec Ideal S512x512 .f32) (y : S512x512.Idx) : k0_pay2 (F := Ideal) g v y = sqr (g y) (v y) := by
  pointwise [k0_pay2, sqr]

theorem pay3_at (g w m v : Vec Ideal S512x512 .f32) (y : S512x512.Idx) :
    k0_pay3 (F := Ideal) g w m v y = step (w y) (g y) (m y) (v y) := by
  pointwise [k0_pay3, k0_pay1, k0_pay2, step, mom, sqr]

variable (m : (ℓ : Loc nD τ sig) → Buf (Elt Ideal) ℓ) (c : Dev nD)

/-! ## The results -/

abbrev A0 : Vec Ideal S512x512 .f32 := m ((c : Thread nD τ).loc main_arg0)
abbrev A1 : Vec Ideal S512x512 .f32 := m ((c : Thread nD τ).loc main_arg1)
abbrev A2 : Vec Ideal S512x512 .f32 := m ((c : Thread nD τ).loc main_arg2)
abbrev A3 : Vec Ideal S512x512 .f32 := m ((c : Thread nD τ).loc main_arg3)

/-- The step, and the two new moments. -/
def delta (i : S512x512.Idx) : EReal := step (A0 m c i) (A1 m c i) (A2 m c i) (A3 m c i)
def newM (i : S512x512.Idx) : EReal := mom (A1 m c i) (A2 m c i)
def newV (i : S512x512.Idx) : EReal := sqr (A1 m c i) (A3 m c i)

/-- The three arrays the kernel returns. Every window cuts its array alike, so an element of a result's block comes from
    the elements of the arguments' blocks that lie where it lies. -/
theorem arr5 : (dats m 0 c).arrAt 5 cfg0.N = delta m c :=
  (dats m 0 c).arrAt_eq_of_covers 5 _ (by decide +kernel) fun t _ y => by
    rw [after0_5]
    unfold out0_5
    frame_out
    exact (pay3_at _ _ _ _ _).trans rfl
theorem arr6 : (dats m 0 c).arrAt 6 cfg0.N = newM m c :=
  (dats m 0 c).arrAt_eq_of_covers 6 _ (by decide +kernel) fun t _ y => by
    rw [after0_6]
    unfold out0_6
    frame_out
    exact (pay1_at _ _ _).trans rfl
theorem arr7 : (dats m 0 c).arrAt 7 cfg0.N = newV m c :=
  (dats m 0 c).arrAt_eq_of_covers 7 _ (by decide +kernel) fun t _ y => by
    rw [after0_7]
    unfold out0_7
    frame_out
    exact (pay2_at _ _ _).trans rfl

open Cert.AdamPoolRefIdeal.Read in
/-- What the reference returns. -/
theorem refM (i : S512x512.Idx) : val_main_v4 (F := Ideal) (A1 m c) (A2 m c) i = newM m c i := by
  pointwise [val_main_v4, val_main_v3, val_main_v2, val_main_v1, val_main_v0, val_main_cst, val_main_cst_0, newM, mom]
open Cert.AdamPoolRefIdeal.Read in
theorem refV (i : S512x512.Idx) : val_main_v10 (F := Ideal) (A1 m c) (A3 m c) i = newV m c i := by
  pointwise [val_main_v10, val_main_v9, val_main_v8, val_main_v7, val_main_v6, val_main_v5, val_main_cst_1, val_main_cst_2, newV, sqr]
open Cert.AdamPoolRefIdeal.Read in
theorem refD (i : S512x512.Idx) : val_main_v23 (F := Ideal) (A0 m c) (A1 m c) (A2 m c) (A3 m c) i = delta m c i := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, delta, step, mom, sqr]

/-! ## The claims -/

theorem frame_p : Cert.quiescent_AdamPool := fun m ρ _ => Cert.AdamPool.Gen.frame m ρ
theorem frame_pi : Cert.quiescent_AdamPoolIdeal := fun m ρ _ => Cert.AdamPoolIdeal.Gen.frame m ρ
theorem frame_ri : Cert.quiescent_AdamPoolRefIdeal := fun m ρ _ =>
  (θ_run Cert.AdamPoolRefIdeal.defs _ _).mono (fun r h => ⟨fun c => (h c).2.2.2, sem_eq_zero_of_no_sems (by decide) r.2⟩)
    (Cert.AdamPoolRefIdeal.Value.run (F := Ideal) m ρ)
theorem preserves : Cert.preserves_AdamPool_AdamPoolIdeal := trivial

/-- The kernel's results are the reference's. -/
theorem algebraic : Cert.algebraic_AdamPoolIdeal_AdamPoolRefIdeal := by
  intro m ρ m' ρ' _ hagree
  refine ⟨_, _, _, (θ_run defs _ _).mono (fun r h d => (h d).2) (Cert.AdamPoolIdeal.Value.run_blocks (F := Ideal) m ρ), ?_⟩
  refine (θ_run Cert.AdamPoolRefIdeal.defs _ _).mono (fun r h d => ?_) (Cert.AdamPoolRefIdeal.Value.run (F := Ideal) m' ρ')
  obtain ⟨a0, a1, a2, a3⟩ := hagree d
  obtain ⟨hd, hm, hv, hk⟩ := h d
  refine ⟨(hd.trans (Cert.AdamPoolRefIdeal.Read.val_main_v23_eq _ _ _ _)).trans ?_,
    (hm.trans (Cert.AdamPoolRefIdeal.Read.val_main_v4_eq _ _)).trans ?_,
    (hv.trans (Cert.AdamPoolRefIdeal.Read.val_main_v10_eq _ _)).trans ?_, hk⟩
  · rw [a0, a1, a2, a3]
    exact (funext (refD m d)).trans (arr5 m d).symm
  · rw [a1, a2]
    exact (funext (refM m d)).trans (arr6 m d).symm
  · rw [a1, a3]
    exact (funext (refV m d)).trans (arr7 m d).symm

end Cert.AdamPoolIdeal.Update

end
-- ==== Proof.Update.AdamOut.lean ====
/-
  The optimiser's step for the weight of the output projection: what the kernel's results hold over the reals.
-/
module

public import proofs.«01_k».proof.Defs
public import proofs.«01_k».proof.Proof.Update.Adam
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.AdamOutIdeal.Update

open Idealize.ShloMosaic Idealize.ShloMosaic.TcCoe Idealize.ShloMosaic.Tactic Idealize.SL.Sem Cert.AdamOutIdeal Cert.AdamOutIdeal.Gen
open Cert.Update (lit mom sqr step)

/-! ## The body's arithmetic at an element -/

theorem pay1_at (g m : Vec Ideal S256x2048 .f32) (y : S256x2048.Idx) : k0_pay1 (F := Ideal) g m y = mom (g y) (m y) := by
  pointwise [k0_pay1, mom]

theorem pay2_at (g v : Vec Ideal S256x2048 .f32) (y : S256x2048.Idx) : k0_pay2 (F := Ideal) g v y = sqr (g y) (v y) := by
  pointwise [k0_pay2, sqr]

theorem pay3_at (g w m v : Vec Ideal S256x2048 .f32) (y : S256x2048.Idx) :
    k0_pay3 (F := Ideal) g w m v y = step (w y) (g y) (m y) (v y) := by
  pointwise [k0_pay3, k0_pay1, k0_pay2, step, mom, sqr]

variable (m : (ℓ : Loc nD τ sig) → Buf (Elt Ideal) ℓ) (c : Dev nD)

/-! ## The results -/

abbrev A0 : Vec Ideal S1024x2048 .f32 := m ((c : Thread nD τ).loc main_arg0)
abbrev A1 : Vec Ideal S1024x2048 .f32 := m ((c : Thread nD τ).loc main_arg1)
abbrev A2 : Vec Ideal S1024x2048 .f32 := m ((c : Thread nD τ).loc main_arg2)
abbrev A3 : Vec Ideal S1024x2048 .f32 := m ((c : Thread nD τ).loc main_arg3)

/-- The step, and the two new moments. -/
def delta (i : S1024x2048.Idx) : EReal := step (A0 m c i) (A1 m c i) (A2 m c i) (A3 m c i)
def newM (i : S1024x2048.Idx) : EReal := mom (A1 m c i) (A2 m c i)
def newV (i : S1024x2048.Idx) : EReal := sqr (A1 m c i) (A3 m c i)

/-- The three arrays the kernel returns. Every window cuts its array alike, so an element of a result's block comes from
    the elements of the arguments' blocks that lie where it lies. -/
theorem arr5 : (dats m 0 c).arrAt 5 cfg0.N = delta m c :=
  (dats m 0 c).arrAt_eq_of_covers 5 _ (by decide +kernel) fun t _ y => by
    rw [after0_5]
    unfold out0_5
    frame_out
    exact (pay3_at _ _ _ _ _).trans rfl
theorem arr6 : (dats m 0 c).arrAt 6 cfg0.N = newM m c :=
  (dats m 0 c).arrAt_eq_of_covers 6 _ (by decide +kernel) fun t _ y => by
    rw [after0_6]
    unfold out0_6
    frame_out
    exact (pay1_at _ _ _).trans rfl
theorem arr7 : (dats m 0 c).arrAt 7 cfg0.N = newV m c :=
  (dats m 0 c).arrAt_eq_of_covers 7 _ (by decide +kernel) fun t _ y => by
    rw [after0_7]
    unfold out0_7
    frame_out
    exact (pay2_at _ _ _).trans rfl

open Cert.AdamOutRefIdeal.Read in
/-- What the reference returns. -/
theorem refM (i : S1024x2048.Idx) : val_main_v4 (F := Ideal) (A1 m c) (A2 m c) i = newM m c i := by
  pointwise [val_main_v4, val_main_v3, val_main_v2, val_main_v1, val_main_v0, val_main_cst, val_main_cst_0, newM, mom]
open Cert.AdamOutRefIdeal.Read in
theorem refV (i : S1024x2048.Idx) : val_main_v10 (F := Ideal) (A1 m c) (A3 m c) i = newV m c i := by
  pointwise [val_main_v10, val_main_v9, val_main_v8, val_main_v7, val_main_v6, val_main_v5, val_main_cst_1, val_main_cst_2, newV, sqr]
open Cert.AdamOutRefIdeal.Read in
theorem refD (i : S1024x2048.Idx) : val_main_v23 (F := Ideal) (A0 m c) (A1 m c) (A2 m c) (A3 m c) i = delta m c i := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, delta, step, mom, sqr]

/-! ## The claims -/

theorem frame_p : Cert.quiescent_AdamOut := fun m ρ _ => Cert.AdamOut.Gen.frame m ρ
theorem frame_pi : Cert.quiescent_AdamOutIdeal := fun m ρ _ => Cert.AdamOutIdeal.Gen.frame m ρ
theorem frame_ri : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)
theorem preserves : Cert.preserves_AdamOut_AdamOutIdeal := trivial

/-- The kernel's results are the reference's. -/
theorem algebraic : Cert.algebraic_AdamOutIdeal_AdamOutRefIdeal := by
  intro m ρ m' ρ' _ hagree
  refine ⟨_, _, _, (θ_run defs _ _).mono (fun r h d => (h d).2) (Cert.AdamOutIdeal.Value.run_blocks (F := Ideal) m ρ), ?_⟩
  refine (θ_run Cert.AdamOutRefIdeal.defs _ _).mono (fun r h d => ?_) (Cert.AdamOutRefIdeal.Value.run (F := Ideal) m' ρ')
  obtain ⟨a0, a1, a2, a3⟩ := hagree d
  obtain ⟨hd, hm, hv, hk⟩ := h d
  refine ⟨(hd.trans (Cert.AdamOutRefIdeal.Read.val_main_v23_eq _ _ _ _)).trans ?_,
    (hm.trans (Cert.AdamOutRefIdeal.Read.val_main_v4_eq _ _)).trans ?_,
    (hv.trans (Cert.AdamOutRefIdeal.Read.val_main_v10_eq _ _)).trans ?_, hk⟩
  · rw [a0, a1, a2, a3]
    exact (funext (refD m d)).trans (arr5 m d).symm
  · rw [a1, a2]
    exact (funext (refM m d)).trans (arr6 m d).symm
  · rw [a1, a3]
    exact (funext (refV m d)).trans (arr7 m d).symm

end Cert.AdamOutIdeal.Update

end
-- ==== Proof.Update.AdamGate.lean ====
/-
  The optimiser's step for the weight of the gate and of the up projection: what the kernel's results hold over the reals.
-/
module

public import proofs.«01_k».proof.Defs
public import proofs.«01_k».proof.Proof.Update.Adam
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamGateRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.AdamGateIdeal.Update

open Idealize.ShloMosaic Idealize.ShloMosaic.TcCoe Idealize.ShloMosaic.Tactic Idealize.SL.Sem Cert.AdamGateIdeal Cert.AdamGateIdeal.Gen
open Cert.Update (lit mom sqr step)

/-! ## The body's arithmetic at an element -/

theorem pay1_at (g m : Vec Ideal S256x1408 .f32) (y : S256x1408.Idx) : k0_pay1 (F := Ideal) g m y = mom (g y) (m y) := by
  pointwise [k0_pay1, mom]

theorem pay2_at (g v : Vec Ideal S256x1408 .f32) (y : S256x1408.Idx) : k0_pay2 (F := Ideal) g v y = sqr (g y) (v y) := by
  pointwise [k0_pay2, sqr]

theorem pay3_at (g w m v : Vec Ideal S256x1408 .f32) (y : S256x1408.Idx) :
    k0_pay3 (F := Ideal) g w m v y = step (w y) (g y) (m y) (v y) := by
  pointwise [k0_pay3, k0_pay1, k0_pay2, step, mom, sqr]

variable (m : (ℓ : Loc nD τ sig) → Buf (Elt Ideal) ℓ) (c : Dev nD)

/-! ## The results -/

abbrev A0 : Vec Ideal S2048x1408 .f32 := m ((c : Thread nD τ).loc main_arg0)
abbrev A1 : Vec Ideal S2048x1408 .f32 := m ((c : Thread nD τ).loc main_arg1)
abbrev A2 : Vec Ideal S2048x1408 .f32 := m ((c : Thread nD τ).loc main_arg2)
abbrev A3 : Vec Ideal S2048x1408 .f32 := m ((c : Thread nD τ).loc main_arg3)

/-- The step, and the two new moments. -/
def delta (i : S2048x1408.Idx) : EReal := step (A0 m c i) (A1 m c i) (A2 m c i) (A3 m c i)
def newM (i : S2048x1408.Idx) : EReal := mom (A1 m c i) (A2 m c i)
def newV (i : S2048x1408.Idx) : EReal := sqr (A1 m c i) (A3 m c i)

/-- The three arrays the kernel returns. Every window cuts its array alike, so an element of a result's block comes from
    the elements of the arguments' blocks that lie where it lies. -/
theorem arr5 : (dats m 0 c).arrAt 5 cfg0.N = delta m c :=
  (dats m 0 c).arrAt_eq_of_covers 5 _ (by decide +kernel) fun t _ y => by
    rw [after0_5]
    unfold out0_5
    frame_out
    exact (pay3_at _ _ _ _ _).trans rfl
theorem arr6 : (dats m 0 c).arrAt 6 cfg0.N = newM m c :=
  (dats m 0 c).arrAt_eq_of_covers 6 _ (by decide +kernel) fun t _ y => by
    rw [after0_6]
    unfold out0_6
    frame_out
    exact (pay1_at _ _ _).trans rfl
theorem arr7 : (dats m 0 c).arrAt 7 cfg0.N = newV m c :=
  (dats m 0 c).arrAt_eq_of_covers 7 _ (by decide +kernel) fun t _ y => by
    rw [after0_7]
    unfold out0_7
    frame_out
    exact (pay2_at _ _ _).trans rfl

open Cert.AdamGateRefIdeal.Read in
/-- What the reference returns. -/
theorem refM (i : S2048x1408.Idx) : val_main_v4 (F := Ideal) (A1 m c) (A2 m c) i = newM m c i := by
  pointwise [val_main_v4, val_main_v3, val_main_v2, val_main_v1, val_main_v0, val_main_cst, val_main_cst_0, newM, mom]
open Cert.AdamGateRefIdeal.Read in
theorem refV (i : S2048x1408.Idx) : val_main_v10 (F := Ideal) (A1 m c) (A3 m c) i = newV m c i := by
  pointwise [val_main_v10, val_main_v9, val_main_v8, val_main_v7, val_main_v6, val_main_v5, val_main_cst_1, val_main_cst_2, newV, sqr]
open Cert.AdamGateRefIdeal.Read in
theorem refD (i : S2048x1408.Idx) : val_main_v23 (F := Ideal) (A0 m c) (A1 m c) (A2 m c) (A3 m c) i = delta m c i := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, delta, step, mom, sqr]

/-! ## The claims -/

theorem frame_p : Cert.quiescent_AdamGate := fun m ρ _ => Cert.AdamGate.Gen.frame m ρ
theorem frame_pi : Cert.quiescent_AdamGateIdeal := fun m ρ _ => Cert.AdamGateIdeal.Gen.frame m ρ
theorem frame_ri : Cert.quiescent_AdamGateRefIdeal := fun m ρ _ =>
  (θ_run Cert.AdamGateRefIdeal.defs _ _).mono (fun r h => ⟨fun c => (h c).2.2.2, sem_eq_zero_of_no_sems (by decide) r.2⟩)
    (Cert.AdamGateRefIdeal.Value.run (F := Ideal) m ρ)
theorem preserves : Cert.preserves_AdamGate_AdamGateIdeal := trivial

/-- The kernel's results are the reference's. -/
theorem algebraic : Cert.algebraic_AdamGateIdeal_AdamGateRefIdeal := by
  intro m ρ m' ρ' _ hagree
  refine ⟨_, _, _, (θ_run defs _ _).mono (fun r h d => (h d).2) (Cert.AdamGateIdeal.Value.run_blocks (F := Ideal) m ρ), ?_⟩
  refine (θ_run Cert.AdamGateRefIdeal.defs _ _).mono (fun r h d => ?_) (Cert.AdamGateRefIdeal.Value.run (F := Ideal) m' ρ')
  obtain ⟨a0, a1, a2, a3⟩ := hagree d
  obtain ⟨hd, hm, hv, hk⟩ := h d
  refine ⟨(hd.trans (Cert.AdamGateRefIdeal.Read.val_main_v23_eq _ _ _ _)).trans ?_,
    (hm.trans (Cert.AdamGateRefIdeal.Read.val_main_v4_eq _ _)).trans ?_,
    (hv.trans (Cert.AdamGateRefIdeal.Read.val_main_v10_eq _ _)).trans ?_, hk⟩
  · rw [a0, a1, a2, a3]
    exact (funext (refD m d)).trans (arr5 m d).symm
  · rw [a1, a2]
    exact (funext (refM m d)).trans (arr6 m d).symm
  · rw [a1, a3]
    exact (funext (refV m d)).trans (arr7 m d).symm

end Cert.AdamGateIdeal.Update

end
-- ==== Proof.Update.AdamDown.lean ====
/-
  The optimiser's step for the weight of the down projection: what the kernel's results hold over the reals.
-/
module

public import proofs.«01_k».proof.Defs
public import proofs.«01_k».proof.Proof.Update.Adam
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.AdamDownIdeal.Update

open Idealize.ShloMosaic Idealize.ShloMosaic.TcCoe Idealize.ShloMosaic.Tactic Idealize.SL.Sem Cert.AdamDownIdeal Cert.AdamDownIdeal.Gen
open Cert.Update (lit mom sqr step)

/-! ## The body's arithmetic at an element -/

theorem pay1_at (g m : Vec Ideal S176x2048 .f32) (y : S176x2048.Idx) : k0_pay1 (F := Ideal) g m y = mom (g y) (m y) := by
  pointwise [k0_pay1, mom]

theorem pay2_at (g v : Vec Ideal S176x2048 .f32) (y : S176x2048.Idx) : k0_pay2 (F := Ideal) g v y = sqr (g y) (v y) := by
  pointwise [k0_pay2, sqr]

theorem pay3_at (g w m v : Vec Ideal S176x2048 .f32) (y : S176x2048.Idx) :
    k0_pay3 (F := Ideal) g w m v y = step (w y) (g y) (m y) (v y) := by
  pointwise [k0_pay3, k0_pay1, k0_pay2, step, mom, sqr]

variable (m : (ℓ : Loc nD τ sig) → Buf (Elt Ideal) ℓ) (c : Dev nD)

/-! ## The results -/

abbrev A0 : Vec Ideal S1408x2048 .f32 := m ((c : Thread nD τ).loc main_arg0)
abbrev A1 : Vec Ideal S1408x2048 .f32 := m ((c : Thread nD τ).loc main_arg1)
abbrev A2 : Vec Ideal S1408x2048 .f32 := m ((c : Thread nD τ).loc main_arg2)
abbrev A3 : Vec Ideal S1408x2048 .f32 := m ((c : Thread nD τ).loc main_arg3)

/-- The step, and the two new moments. -/
def delta (i : S1408x2048.Idx) : EReal := step (A0 m c i) (A1 m c i) (A2 m c i) (A3 m c i)
def newM (i : S1408x2048.Idx) : EReal := mom (A1 m c i) (A2 m c i)
def newV (i : S1408x2048.Idx) : EReal := sqr (A1 m c i) (A3 m c i)

/-- The three arrays the kernel returns. Every window cuts its array alike, so an element of a result's block comes from
    the elements of the arguments' blocks that lie where it lies. -/
theorem arr5 : (dats m 0 c).arrAt 5 cfg0.N = delta m c :=
  (dats m 0 c).arrAt_eq_of_covers 5 _ (by decide +kernel) fun t _ y => by
    rw [after0_5]
    unfold out0_5
    frame_out
    exact (pay3_at _ _ _ _ _).trans rfl
theorem arr6 : (dats m 0 c).arrAt 6 cfg0.N = newM m c :=
  (dats m 0 c).arrAt_eq_of_covers 6 _ (by decide +kernel) fun t _ y => by
    rw [after0_6]
    unfold out0_6
    frame_out
    exact (pay1_at _ _ _).trans rfl
theorem arr7 : (dats m 0 c).arrAt 7 cfg0.N = newV m c :=
  (dats m 0 c).arrAt_eq_of_covers 7 _ (by decide +kernel) fun t _ y => by
    rw [after0_7]
    unfold out0_7
    frame_out
    exact (pay2_at _ _ _).trans rfl

open Cert.AdamDownRefIdeal.Read in
/-- What the reference returns. -/
theorem refM (i : S1408x2048.Idx) : val_main_v4 (F := Ideal) (A1 m c) (A2 m c) i = newM m c i := by
  pointwise [val_main_v4, val_main_v3, val_main_v2, val_main_v1, val_main_v0, val_main_cst, val_main_cst_0, newM, mom]
open Cert.AdamDownRefIdeal.Read in
theorem refV (i : S1408x2048.Idx) : val_main_v10 (F := Ideal) (A1 m c) (A3 m c) i = newV m c i := by
  pointwise [val_main_v10, val_main_v9, val_main_v8, val_main_v7, val_main_v6, val_main_v5, val_main_cst_1, val_main_cst_2, newV, sqr]
open Cert.AdamDownRefIdeal.Read in
theorem refD (i : S1408x2048.Idx) : val_main_v23 (F := Ideal) (A0 m c) (A1 m c) (A2 m c) (A3 m c) i = delta m c i := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, delta, step, mom, sqr]

/-! ## The claims -/

theorem frame_p : Cert.quiescent_AdamDown := fun m ρ _ => Cert.AdamDown.Gen.frame m ρ
theorem frame_pi : Cert.quiescent_AdamDownIdeal := fun m ρ _ => Cert.AdamDownIdeal.Gen.frame m ρ
theorem frame_ri : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)
theorem preserves : Cert.preserves_AdamDown_AdamDownIdeal := trivial

/-- The kernel's results are the reference's. -/
theorem algebraic : Cert.algebraic_AdamDownIdeal_AdamDownRefIdeal := by
  intro m ρ m' ρ' _ hagree
  refine ⟨_, _, _, (θ_run defs _ _).mono (fun r h d => (h d).2) (Cert.AdamDownIdeal.Value.run_blocks (F := Ideal) m ρ), ?_⟩
  refine (θ_run Cert.AdamDownRefIdeal.defs _ _).mono (fun r h d => ?_) (Cert.AdamDownRefIdeal.Value.run (F := Ideal) m' ρ')
  obtain ⟨a0, a1, a2, a3⟩ := hagree d
  obtain ⟨hd, hm, hv, hk⟩ := h d
  refine ⟨(hd.trans (Cert.AdamDownRefIdeal.Read.val_main_v23_eq _ _ _ _)).trans ?_,
    (hm.trans (Cert.AdamDownRefIdeal.Read.val_main_v4_eq _ _)).trans ?_,
    (hv.trans (Cert.AdamDownRefIdeal.Read.val_main_v10_eq _ _)).trans ?_, hk⟩
  · rw [a0, a1, a2, a3]
    exact (funext (refD m d)).trans (arr5 m d).symm
  · rw [a1, a2]
    exact (funext (refM m d)).trans (arr6 m d).symm
  · rw [a1, a3]
    exact (funext (refV m d)).trans (arr7 m d).symm

end Cert.AdamDownIdeal.Update

end
-- ==== Proof.Update.SmallAdam.lean ====
/-
  The optimiser's step for the weights that are not cut over the chips, packed into rows: the devices' gradients are summed,
  and the step is taken from the sum. What the kernel's results hold over the reals.
-/
module

public import proofs.«01_k».proof.Defs
public import proofs.«01_k».proof.Proof.Update.Adam
public import proofs.«01_k».proof.Proof.Gen.SmallAdam.Frame
public import proofs.«01_k».proof.Proof.Gen.SmallAdamIdeal.Value
public import proofs.«01_k».proof.Proof.Gen.SmallAdamRefIdeal.Run
public import proofs.«01_k».proof.Proof.Gen.SmallAdamRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Point
public import Idealize.ShloMosaic.Lib.Pipeline.ReadBack

@[expose] public section

set_option maxRecDepth 16384
set_option maxHeartbeats 1000000

noncomputable section

namespace Cert.SmallAdamIdeal.Update

open Idealize.ShloMosaic Idealize.ShloMosaic.TcCoe Idealize.ShloMosaic.Tactic Idealize.SL.Sem Cert.SmallAdamIdeal Cert.SmallAdamIdeal.Gen
open Cert.Update (lit mom sqr step)

/-! ## The sum over the devices -/

/-- An element of device `d`'s gradients, of the eight devices' that lie one under the other. -/
abbrev slab (a : Vec Ideal S5952x128 .f32) (d : Fin 8) (y : S744x128.Idx) : EReal :=
  a (ix2 (⟨d.val * 744 + (y 0).val, by have h : (y 0).val < 744 := (y 0).isLt; omega⟩ : Fin 5952) (y 1))

/-- The gradient, summed over the devices. -/
def total (a : Vec Ideal S5952x128 .f32) (y : S744x128.Idx) : EReal := ∑ d : Fin 8, slab a d y

/-- A load of 744 rows, the first of them device `d`'s first, reads the device's gradients. -/
theorem ld_at (a : Vec Ideal S5952x128 .f32) (d : Fin 8) (off : Fin 2 → Nat) (hoff : off = ![d.val * 744, 0])
    (h : ∀ i, off i + S744x128.size i ≤ S5952x128.size i) (y : S744x128.Idx) :
    (View.ld a (Rect.unit (s := S5952x128) off S744x128.size h) : Vec Ideal S744x128 .f32) y = slab a d y := by
  subst hoff
  refine congrArg a (funext fun k => Fin.ext ?_)
  match k with
  | 0 => exact Rect.idx_unit_val _ _ _ _ _
  | 1 => exact (Rect.idx_unit_val _ _ _ _ _).trans (Nat.zero_add _)

theorem G4_at (a : Vec Ideal S5952x128 .f32) (w m v : Vec Ideal S744x128 .f32) (y : S744x128.Idx) :
    Value.G4 (F := Ideal) a w m v y = total a y := by
  have e (v0 v1 v2 v3 v4 v5 v6 v7 : Vec Ideal S744x128 .f32) :
      k0_pay2 (F := Ideal) v0 v1 v2 v3 v4 v5 v6 v7 y = (v0 y + v1 y + v2 y + v3 y + v4 y + v5 y + v6 y + v7 y : EReal) := by
    pointwise [k0_pay2]
  refine (e _ _ _ _ _ _ _ _).trans ?_
  rw [total, Fin.sum_univ_eight]
  rw [← ld_at a 0 _ rfl inb_S5952x128_S744x128_0_0 y, ← ld_at a 1 _ rfl inb_S5952x128_S744x128_744_0 y,
    ← ld_at a 2 _ rfl inb_S5952x128_S744x128_1488_0 y, ← ld_at a 3 _ rfl inb_S5952x128_S744x128_2232_0 y,
    ← ld_at a 4 _ rfl inb_S5952x128_S744x128_2976_0 y, ← ld_at a 5 _ rfl inb_S5952x128_S744x128_3720_0 y,
    ← ld_at a 6 _ rfl inb_S5952x128_S744x128_4464_0 y, ← ld_at a 7 _ rfl inb_S5952x128_S744x128_5208_0 y]
  rfl

/-! ## The step from the sum -/

theorem ld_whole (a : Vec Ideal S744x128 .f32) : View.ld a r0_8 = a := View.ld_unit_zero (S := S744x128) Value.hz1 _ a

theorem G6_at (a : Vec Ideal S5952x128 .f32) (w m v : Vec Ideal S744x128 .f32) (y : S744x128.Idx) :
    Value.G6 (F := Ideal) a w m v y = mom (total a y) (m y) := by
  have e (v0 v1 v2 v3 v4 v5 v6 v7 m : Vec Ideal S744x128 .f32) :
      k0_pay3 (F := Ideal) v0 v1 v2 v3 v4 v5 v6 v7 m y = mom (k0_pay2 (F := Ideal) v0 v1 v2 v3 v4 v5 v6 v7 y) (m y) := by
    pointwise [k0_pay3, mom]
  unfold Value.G6 k0_pay5
  rw [e, ld_whole]
  exact congrArg (mom · (m y)) (G4_at a w m v y)

theorem G7_at (a : Vec Ideal S5952x128 .f32) (w m v : Vec Ideal S744x128 .f32) (y : S744x128.Idx) :
    Value.G7 (F := Ideal) a w m v y = sqr (total a y) (v y) := by
  have e (v0 v1 v2 v3 v4 v5 v6 v7 v : Vec Ideal S744x128 .f32) :
      k0_pay4 (F := Ideal) v0 v1 v2 v3 v4 v5 v6 v7 v y = sqr (k0_pay2 (F := Ideal) v0 v1 v2 v3 v4 v5 v6 v7 y) (v y) := by
    pointwise [k0_pay4, sqr]
  unfold Value.G7 k0_pay6
  rw [e, ld_whole]
  exact congrArg (sqr · (v y)) (G4_at a w m v y)

theorem G5_at (a : Vec Ideal S5952x128 .f32) (w m v : Vec Ideal S744x128 .f32) (y : S744x128.Idx) :
    Value.G5 (F := Ideal) a w m v y = step (w y) (total a y) (m y) (v y) := by
  have e (w p q : Vec Ideal S744x128 .f32) : k0_pay1 (F := Ideal) w p q (Scalar.ofBits .f32 0x3F26BD02#32) y
      = (lit 0xBA83126F#32 * (Ideal.div (Ideal.div (p y) (lit 0x3F26BD02#32)) (Ideal.sqrt (Ideal.div (q y) (lit 0x3C231ACC#32)) + lit 0x322BCC77#32)
        + lit 0x3C23D70A#32 * w y) : EReal) := by
    pointwise [k0_pay1]
  unfold Value.G5
  rw [e]
  rw [show k0_pay5 (F := Ideal) a w m v y = _ from G6_at a w m v y, show k0_pay6 (F := Ideal) a w m v y = _ from G7_at a w m v y]
  rfl

/-! ## The reference -/

open Cert.SmallAdamRefIdeal.Read in
theorem ref_sum (a : Vec Ideal S5952x128 .f32) (y : S744x128.Idx) : val_main_v1 (F := Ideal) a y = total a y := by
  rw [val_main_v1_apply]
  refine (congrArg₂ (fun x y : EReal => x + y) (?_ : _ = (0 : EReal)) (Finset.sum_congr rfl fun d _ => ?_)).trans (zero_add _)
  · pointwise [val_main_cst]
  · rw [val_main_v0_apply]
    refine congrArg a (funext fun k => Fin.ext ?_)
    have h : (y 1).val < 128 := (y 1).isLt
    match k with
    | 0 => show ((d.val * 744 + (y 0).val) * 128 + (y 1).val) / 128 = d.val * 744 + (y 0).val; omega
    | 1 => show ((d.val * 744 + (y 0).val) * 128 + (y 1).val) % 128 = (y 1).val; omega

open Cert.SmallAdamRefIdeal.Read in
theorem ref_mom (a : Vec Ideal S5952x128 .f32) (m : Vec Ideal S744x128 .f32) (y : S744x128.Idx) :
    val_main_v6 (F := Ideal) a m y = mom (total a y) (m y) := by
  rw [← ref_sum]
  generalize hs : val_main_v1 (F := Ideal) a = s
  unfold val_main_v6 val_main_v5
  rw [hs]
  pointwise [val_main_v4, val_main_v3, val_main_v2, val_main_cst_0, val_main_cst_1, mom]
open Cert.SmallAdamRefIdeal.Read in
theorem ref_sqr (a : Vec Ideal S5952x128 .f32) (v : Vec Ideal S744x128 .f32) (y : S744x128.Idx) :
    val_main_v12 (F := Ideal) a v y = sqr (total a y) (v y) := by
  rw [← ref_sum]
  generalize hs : val_main_v1 (F := Ideal) a = s
  unfold val_main_v12 val_main_v11 val_main_v9
  rw [hs]
  pointwise [val_main_v10, val_main_v8, val_main_v7, val_main_cst_2, val_main_cst_3, sqr]
open Cert.SmallAdamRefIdeal.Read in
theorem ref_step (a : Vec Ideal S5952x128 .f32) (w m v : Vec Ideal S744x128 .f32) (y : S744x128.Idx) :
    val_main_v25 (F := Ideal) a w m v y = step (w y) (total a y) (m y) (v y) := by
  unfold step
  rw [← ref_mom, ← ref_sqr]
  generalize hp : val_main_v6 (F := Ideal) a m = p
  generalize hq : val_main_v12 (F := Ideal) a v = q
  unfold val_main_v25 val_main_v23 val_main_v20 val_main_v19 val_main_v17 val_main_v16 val_main_v14
  rw [hp, hq]
  pointwise [val_main_v24, val_main_v22, val_main_v21, val_main_v18, val_main_v15, val_main_v13, val_main_cst_4, val_main_cst_5, val_main_cst_6,
    val_main_cst_7, val_main_cst_8]

/-! ## The claims -/

theorem frame_p : Cert.quiescent_SmallAdam := fun m ρ _ => Cert.SmallAdam.Gen.frame m ρ
theorem frame_pi : Cert.quiescent_SmallAdamIdeal := fun m ρ _ => Cert.SmallAdamIdeal.Gen.frame m ρ
theorem frame_ri : Cert.quiescent_SmallAdamRefIdeal := fun m ρ _ =>
  (θ_run Cert.SmallAdamRefIdeal.defs _ _).mono (fun r h => ⟨fun c => (h c).2.2.2.2, sem_eq_zero_of_no_sems (by decide) r.2⟩)
    (Cert.SmallAdamRefIdeal.Value.run (F := Ideal) m ρ)
theorem preserves : Cert.preserves_SmallAdam_SmallAdamIdeal := trivial

/-- The kernel's results are the reference's. -/
theorem algebraic : Cert.algebraic_SmallAdamIdeal_SmallAdamRefIdeal := by
  intro m ρ m' ρ' _ hagree
  refine ⟨_, _, _, _, Cert.SmallAdamIdeal.Value.run (F := Ideal) m ρ, ?_⟩
  refine (θ_run Cert.SmallAdamRefIdeal.defs _ _).mono (fun r h d => ?_) (Cert.SmallAdamRefIdeal.Value.run (F := Ideal) m' ρ')
  obtain ⟨a0, a1, a2, a3⟩ := hagree d
  obtain ⟨hg, hd, hm, hv, hk⟩ := h d
  refine ⟨(hg.trans (Cert.SmallAdamRefIdeal.Read.val_main_v1_eq _)).trans ?_,
    (hd.trans (Cert.SmallAdamRefIdeal.Read.val_main_v25_eq _ _ _ _)).trans ?_,
    (hm.trans (Cert.SmallAdamRefIdeal.Read.val_main_v6_eq _ _)).trans ?_,
    (hv.trans (Cert.SmallAdamRefIdeal.Read.val_main_v12_eq _ _)).trans ?_, hk⟩
  · rw [a0]
    exact funext fun y => (ref_sum _ y).trans (G4_at _ _ _ _ y).symm
  · rw [a0, a1, a2, a3]
    exact funext fun y => (ref_step _ _ _ _ y).trans (G5_at _ _ _ _ y).symm
  · rw [a0, a2]
    exact funext fun y => (ref_mom _ _ y).trans (G6_at _ _ _ _ y).symm
  · rw [a0, a3]
    exact funext fun y => (ref_sqr _ _ y).trans (G7_at _ _ _ _ y).symm

end Cert.SmallAdamIdeal.Update

end
-- ==== Proof.Norm.Rms.lean ====
/-
  The normalisation of a row by its root mean square, backwards, over the reals: the gradient of the row, and what the row
  adds to the weight's gradient; and the loss of a row against its target.
-/
module

public import Idealize.ShloMosaic.Lib.Claim
public import Idealize.ShloMosaic.Lib.Pipeline.ValueKit

@[expose] public section

noncomputable section

namespace Cert.Rms

open Idealize.ShloMosaic

/-- A row of the residual stream. -/
abbrev Row := Fin 2048 → EReal

/-- The reading of a constant of the program. -/
abbrev lit (b : BitVec 32) : EReal := FloatOps.ofBits (F := Ideal) .f32 b

/-- The mean of the squares, with the small constant. -/
def ms (x : Row) : EReal := Ideal.div (∑ k, x k * x k) (lit 0x45000000#32) + lit 0x3727C5AC#32
/-- One over its root. -/
def root (x : Row) : EReal := Ideal.rsqrt (ms x)
/-- The row without its weight. -/
def unit (x : Row) (p : Fin 2048) : EReal := x p * root x
/-- What reaches each square of the row: through the root and the mean, from the sum over the row. -/
def back (x w d : Row) : EReal :=
  Ideal.div ((∑ k, x k * (d k * w k)) * (lit 0xBF000000#32 * Ideal.div (root x) (ms x))) (lit 0x45000000#32)
/-- The gradient of the row, from the gradient `d` of its normalisation. -/
def dx (x w d : Row) (p : Fin 2048) : EReal := d p * w p * root x + x p * back x w d + back x w d * x p

/-! ## The loss of a row -/

/-- How far the normalised row is from its target. -/
def err (x w t : Row) (p : Fin 2048) : EReal := unit x p * w p - t p
/-- The mean of the squares. -/
def rowLoss (x w t : Row) : EReal := Ideal.div (∑ k, err x w t k * err x w t k) (lit 0x45000000#32)
/-- The gradient of half of it. -/
def push (x w t : Row) (p : Fin 2048) : EReal :=
  Ideal.div (lit 0x3F000000#32 * lit 0x3F800000#32) (lit 0x45000000#32) * (lit 0x40000000#32 * err x w t p)

theorem half : lit 0x3F000000#32 = (((1 : ℝ) / 2 : ℝ) : EReal) := by
  show Ideal.ofBits .f32 0x3F000000#32 = _
  simp [Ideal.ofBits, Ideal.ieee, -EReal.coe_mul]
  norm_num

/-- Half of a sum is the sum of the halves, whatever the terms. -/
theorem half_sum {n : ℕ} (f : Fin n → EReal) : ∑ s, lit 0x3F000000#32 * f s = lit 0x3F000000#32 * ∑ s, f s := by
  have h0 : (0 : EReal) ≤ lit 0x3F000000#32 := by rw [half]; exact EReal.coe_nonneg.mpr (by norm_num)
  have h1 : lit 0x3F000000#32 ≠ ⊤ := by rw [half]; exact EReal.coe_ne_top _
  let φ : EReal →+ EReal := ⟨⟨fun x => lit 0x3F000000#32 * x, mul_zero _⟩, EReal.left_distrib_of_nonneg_of_ne_top h0 h1⟩
  exact (map_sum φ f Finset.univ).symm

end Cert.Rms

end
-- ==== Proof.Norm.NormIn.lean ====
/-
  The gradient of the layer's input through its first norm: what the kernel's results hold over the reals.
-/
module

public import proofs.«01_k».proof.Defs
public import proofs.«01_k».proof.Proof.Norm.Rms
public import proofs.«01_k».proof.Proof.Gen.NormIn.Frame
public import proofs.«01_k».proof.Proof.Gen.NormInIdeal.Value
public import proofs.«01_k».proof.Proof.Gen.NormInRefIdeal.Run
public import proofs.«01_k».proof.Proof.Gen.NormInRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.NormInIdeal.Norm

open Idealize.ShloMosaic Idealize.ShloMosaic.TcCoe Idealize.ShloMosaic.Tactic Idealize.SL.Sem Cert.NormInIdeal Cert.NormInIdeal.Gen
open Cert.Rms (Row lit ms root unit back dx)

/-! ## The body's arithmetic at an element -/

/-- A row of a block, and of an array. -/
abbrev rowOf (x : Vec Ideal S256x2048 .f32) (p : Fin 256) : Row := fun k => x (ix2 p k)
abbrev lineOf (x : Vec Ideal S8192x2048 .f32) (p : Fin 8192) : Row := fun k => x (ix2 p k)
/-- The gradient that reaches the normed row: the sum of two. -/
abbrev both (a b : Row) : Row := fun k => a k + b k

theorem pay1_at (y : S1x2048.Idx) : k0_pay1 (F := Ideal) y = 0 := by
  pointwise [k0_pay1]

theorem pay2_at (u z : Vec Ideal S1x2048 .f32) (y : S1x2048.Idx) : k0_pay2 (F := Ideal) u z y = z y + u y := by
  pointwise [k0_pay2]

theorem pay6_at (a b x : Vec Ideal S256x2048 .f32) (y : S1x2048.Idx) :
    k0_pay6 (F := Ideal) a b x y = ∑ p : Fin 256, (unit (rowOf x p) (y 1) * (both (rowOf a p) (rowOf b p)) (y 1) : EReal) := by
  pointwise [k0_pay6, k0_pay5, k0_pay4, k0_pay3, unit, root, ms, rowOf, both]

theorem pay7_at (a b x r : Vec Ideal S256x2048 .f32) (w : Vec Ideal S1x2048 .f32) (y : S256x2048.Idx) :
    k0_pay7 (F := Ideal) a b x w r y = dx (rowOf x (y 0)) (fun k => w (ix2 0 k)) (both (rowOf a (y 0)) (rowOf b (y 0))) (y 1) + r y := by
  pointwise [k0_pay7, k0_pay5, k0_pay4, k0_pay3, dx, back, root, ms, rowOf, both, Fin.sum_univ_one]

/-! ## The blocks of the arrays -/

variable (m : (ℓ : Loc nD τ sig) → Buf (Elt Ideal) ℓ) (c : Dev nD)
abbrev A0 : Vec Ideal S8192x2048 .f32 := m ((c : Thread nD τ).loc main_arg0)
abbrev A1 : Vec Ideal S1x2048 .f32 := m ((c : Thread nD τ).loc main_arg1)
abbrev A2 : Vec Ideal S8192x2048 .f32 := m ((c : Thread nD τ).loc main_arg2)
abbrev A3 : Vec Ideal S8192x2048 .f32 := m ((c : Thread nD τ).loc main_arg3)
abbrev A4 : Vec Ideal S8192x2048 .f32 := m ((c : Thread nD τ).loc main_arg4)

theorem idx : ∀ t : Fin cfg0.N, win0_0.index t = ![t.val, 0] ∧ win0_2.index t = ![t.val, 0] ∧ win0_3.index t = ![t.val, 0] ∧ win0_4.index t = ![t.val, 0] ∧ win0_5.index t = ![t.val, 0]
    ∧ win0_1.index t = ![0, 0] ∧ win0_6.index t = ![0, 0] := by
  decide +kernel

theorem lt (t : Fin cfg0.N) : t.val < 32 := lt_of_lt_of_eq t.isLt N_0

/-- Where row `p` of a point's block of 256 rows lies. -/
abbrev row (t : Fin cfg0.N) (p : Fin 256) : Fin 8192 := ⟨t.val * 256 + p.val, by have := lt t; omega⟩

theorem blk0 (t : Fin cfg0.N) (p : Fin 256) (k : Fin 2048) :
    (iblk m c 0 t : Vec Ideal S256x2048 .f32) (ix2 p k) = A0 m c (ix2 (row t p) k) := by
  blk_ext! [iblk, V, idx t]
theorem blk2 (t : Fin cfg0.N) (p : Fin 256) (k : Fin 2048) :
    (iblk m c 2 t : Vec Ideal S256x2048 .f32) (ix2 p k) = A2 m c (ix2 (row t p) k) := by
  blk_ext! [iblk, V, idx t]
theorem blk3 (t : Fin cfg0.N) (p : Fin 256) (k : Fin 2048) :
    (iblk m c 3 t : Vec Ideal S256x2048 .f32) (ix2 p k) = A3 m c (ix2 (row t p) k) := by
  blk_ext! [iblk, V, idx t]
theorem blk4 (t : Fin cfg0.N) (p : Fin 256) (k : Fin 2048) :
    (iblk m c 4 t : Vec Ideal S256x2048 .f32) (ix2 p k) = A4 m c (ix2 (row t p) k) := by
  blk_ext! [iblk, V, idx t]
theorem blk1 (t : Fin cfg0.N) (k : Fin 2048) : (iblk m c 1 t : Vec Ideal S1x2048 .f32) (ix2 0 k) = A1 m c (ix2 0 k) := by
  blk_ext! [iblk, V, idx t]

theorem rows0 (t : Fin cfg0.N) (p : Fin 256) : rowOf (iblk m c 0 t) p = lineOf (A0 m c) (row t p) := funext (blk0 m c t p)
theorem rows2 (t : Fin cfg0.N) (p : Fin 256) : rowOf (iblk m c 2 t) p = lineOf (A2 m c) (row t p) := funext (blk2 m c t p)
theorem rows3 (t : Fin cfg0.N) (p : Fin 256) : rowOf (iblk m c 3 t) p = lineOf (A3 m c) (row t p) := funext (blk3 m c t p)

/-! ## The results -/

/-- The gradient of the rows, with the residual's, and the gradient of the weight. -/
def gradX (i : S8192x2048.Idx) : EReal :=
  dx (lineOf (A0 m c) (i 0)) (fun k => A1 m c (ix2 0 k)) (both (lineOf (A2 m c) (i 0)) (lineOf (A3 m c) (i 0))) (i 1) + A4 m c i
def gradW (i : S1x2048.Idx) : EReal := ∑ l : Fin 8192, (unit (lineOf (A0 m c) l) (i 1) * (both (lineOf (A2 m c) l) (lineOf (A3 m c) l)) (i 1) : EReal)

theorem rows_at (t : Fin cfg0.N) (y : S256x2048.Idx) :
    k0_pay7 (F := Ideal) (iblk m c 2 t) (iblk m c 3 t) (iblk m c 0 t) (iblk m c 1 t) (iblk m c 4 t) y = gradX m c (ix2 (row t (y 0)) (y 1)) := by
  refine (pay7_at _ _ _ _ _ _).trans ?_
  rw [rows0 m c t (y 0), rows2 m c t (y 0), rows3 m c t (y 0), show (fun k => (iblk m c 1 t : Vec Ideal S1x2048 .f32) (ix2 0 k)) = fun k => A1 m c (ix2 0 k) from funext (blk1 m c t)]
  exact congrArg₂ (· + ·) rfl ((congrArg _ (ValueIdx.eq_ix2 y)).trans (blk4 m c t (y 0) (y 1)))

theorem outX (t : Fin cfg0.N) (y : S256x2048.Idx) : (outsAt0 m c t.val t.isLt).1 y = gradX m c (ix2 (row t (y 0)) (y 1)) := by
  by_cases h : t.val % 32 = 0
  · rw [outsAt0_A m c t h]
    frame_out
    exact rows_at m c t y
  · rw [outsAt0_B m c t h]
    frame_out
    exact rows_at m c t y

/-- What a grid point adds to the weight's gradient. -/
def term (t : Fin cfg0.N) (y : S1x2048.Idx) : EReal := k0_pay6 (F := Ideal) (iblk m c 2 t) (iblk m c 3 t) (iblk m c 0 t) y

theorem first (t : Fin cfg0.N) (h : t.val % 32 = 0) (y : S1x2048.Idx) : (outsAt0 m c t.val t.isLt).2 y = (0 : EReal) + term m c t y := by
  rw [outsAt0_A m c t h]
  frame_out
  rw [pay2_at, pay1_at]
  rfl

theorem step (t : Fin cfg0.N) (h : ¬t.val % 32 = 0) (y : S1x2048.Idx) :
    (outsAt0 m c t.val t.isLt).2 y
      = ((outsAt0 m c (t.val - 1) (Nat.lt_of_le_of_lt (Nat.sub_le _ _) t.isLt)).2 y : EReal) + term m c t y := by
  rw [outsAt0_B m c t h]
  frame_out
  exact pay2_at _ _ _

theorem outW (t : Fin cfg0.N) (h : t.val % 32 = 31) (y : S1x2048.Idx) : (outsAt0 m c t.val t.isLt).2 y = gradW m c y := by
  have e := Pipeline.eq_sum_fin_of_reset_step_apply_of_flush (M := EReal) (fun n h => (outsAt0 m c n h).2) 32 (fun _ => 0) (term m c)
    (first m c) (step m c) t h y
  refine e.trans ((zero_add _).trans ?_)
  unfold gradW
  refine (Finset.sum_congr rfl fun s _ => pay6_at _ _ _ _).trans (Fin.sum_mul_add_congr fun s k hl => ?_)
  have hs : 32 * (t.val / 32) + s.val < cfg0.N := by have := lt t; have := N_0; omega
  have e0 : row ⟨32 * (t.val / 32) + s.val, hs⟩ k = ⟨s.val * 256 + k.val, hl⟩ := Fin.ext (by dsimp only [row]; have := lt t; omega)
  rw [rows0 m c _ k, rows2 m c _ k, rows3 m c _ k, e0]

/-- The arrays the kernel returns. -/
theorem arrX : (dats m 0 c).arrAt 5 cfg0.N = gradX m c := by
  refine (dats m 0 c).arrAt_eq_of_covers 5 _ (by decide +kernel) fun t _ y => ?_
  have e : (win0_5.blk t).view.emb y = (ix2 (row t (y 0)) (y 1) : S8192x2048.Idx) := by
    refine funext fun a => Fin.ext ?_
    match a with
    | 0 => blk_simp [idx t]
    | 1 => blk_simp [idx t]
  rw [after0_5]
  exact (outX m c t y).trans (congrArg (gradX m c) e.symm)
theorem arrW : (dats m 0 c).arrAt 6 cfg0.N = gradW m c := by
  refine (dats m 0 c).arrAt_eq_of_covers 6 _ (by decide +kernel) fun t hf y => ?_
  have h : t.val % 32 = 31 := (flush0_6 t).mp hf
  have e : (win0_6.blk t).view.emb y = (y : S1x2048.Idx) := by
    refine funext fun a => Fin.ext ?_
    match a with
    | 0 => blk_simp [idx t]
    | 1 => blk_simp [idx t]
  rw [after0_6]
  exact (outW m c t h y).trans (congrArg (gradW m c) e.symm)

open Cert.NormInRefIdeal.Read in
/-- What the reference returns. -/
theorem refW (i : S1x2048.Idx) : val_main_v18 (F := Ideal) (A0 m c) (A2 m c) (A3 m c) i = gradW m c i := by
  pointwise [val_main_cst_6, val_main_cst_5, val_main_cst_4, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, gradW, unit, root, ms, lineOf, both]
open Cert.NormInRefIdeal.Read in
theorem refX (i : S8192x2048.Idx) : val_main_v35 (F := Ideal) (A0 m c) (A1 m c) (A2 m c) (A3 m c) (A4 m c) i = gradX m c i := by
  pointwise [val_main_v35, val_main_v34, val_main_v33, val_main_v32, val_main_v31, val_main_v30, val_main_v29, val_main_cst_6, val_main_v28, val_main_v27, val_main_cst_5, val_main_v26, val_main_v25, val_main_v24, val_main_v23, val_main_v22, val_main_cst_4, val_main_v21, val_main_v20, val_main_v19, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, gradX, dx, back, root, ms, lineOf, both, Fin.sum_univ_one]

/-! ## The claims -/

theorem frame_p : Cert.quiescent_NormIn := fun m ρ _ => Cert.NormIn.Gen.frame m ρ
theorem frame_pi : Cert.quiescent_NormInIdeal := fun m ρ _ => Cert.NormInIdeal.Gen.frame m ρ
theorem frame_ri : Cert.quiescent_NormInRefIdeal := fun m ρ _ =>
  (θ_run Cert.NormInRefIdeal.defs _ _).mono (fun r h => ⟨fun c => (h c).2.2, sem_eq_zero_of_no_sems (by decide) r.2⟩)
    (Cert.NormInRefIdeal.Value.run (F := Ideal) m ρ)
theorem preserves : Cert.preserves_NormIn_NormInIdeal := trivial

/-- The kernel's results are the reference's. -/
theorem algebraic : Cert.algebraic_NormInIdeal_NormInRefIdeal := by
  intro m ρ m' ρ' _ hagree
  refine ⟨_, _, (θ_run defs _ _).mono (fun r h d => h d) (Cert.NormInIdeal.Value.run_blocks (F := Ideal) m ρ), ?_⟩
  refine (θ_run Cert.NormInRefIdeal.defs _ _).mono (fun r h d => ?_) (Cert.NormInRefIdeal.Value.run (F := Ideal) m' ρ')
  obtain ⟨a0, a1, a2, a3, a4⟩ := hagree d
  obtain ⟨hx, hw, hk⟩ := h d
  refine ⟨(hx.trans (Cert.NormInRefIdeal.Read.val_main_v35_eq _ _ _ _ _)).trans ?_,
    (hw.trans (Cert.NormInRefIdeal.Read.val_main_v18_eq _ _ _)).trans ?_, hk⟩
  · rw [a0, a1, a2, a3, a4]
    exact (funext (refX m d)).trans (arrX m d).symm
  · rw [a0, a2, a3]
    exact (funext (refW m d)).trans (arrW m d).symm

end Cert.NormInIdeal.Norm

end
-- ==== Proof.Norm.NormMid.lean ====
/-
  The gradient of the residual stream through the second norm: what the kernel's results hold over the reals.
-/
module

public import proofs.«01_k».proof.Defs
public import proofs.«01_k».proof.Proof.Norm.Rms
public import proofs.«01_k».proof.Proof.Gen.NormMid.Frame
public import proofs.«01_k».proof.Proof.Gen.NormMidIdeal.Value
public import proofs.«01_k».proof.Proof.Gen.NormMidRefIdeal.Run
public import proofs.«01_k».proof.Proof.Gen.NormMidRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.NormMidIdeal.Norm

open Idealize.ShloMosaic Idealize.ShloMosaic.TcCoe Idealize.ShloMosaic.Tactic Idealize.SL.Sem Cert.NormMidIdeal Cert.NormMidIdeal.Gen
open Cert.Rms (Row lit ms root unit back dx)

/-! ## The body's arithmetic at an element -/

/-- A row of a block, and of an array. -/
abbrev rowOf (x : Vec Ideal S256x2048 .f32) (p : Fin 256) : Row := fun k => x (ix2 p k)
abbrev lineOf (x : Vec Ideal S8192x2048 .f32) (p : Fin 8192) : Row := fun k => x (ix2 p k)

theorem pay1_at (y : S1x2048.Idx) : k0_pay1 (F := Ideal) y = 0 := by
  pointwise [k0_pay1]

theorem pay2_at (u z : Vec Ideal S1x2048 .f32) (y : S1x2048.Idx) : k0_pay2 (F := Ideal) u z y = z y + u y := by
  pointwise [k0_pay2]

theorem pay6_at (a x : Vec Ideal S256x2048 .f32) (y : S1x2048.Idx) :
    k0_pay6 (F := Ideal) a x y = ∑ p : Fin 256, (unit (rowOf x p) (y 1) * (rowOf a p) (y 1) : EReal) := by
  pointwise [k0_pay6, k0_pay5, k0_pay4, unit, root, ms, rowOf]

theorem pay7_at (a x r : Vec Ideal S256x2048 .f32) (w : Vec Ideal S1x2048 .f32) (y : S256x2048.Idx) :
    k0_pay7 (F := Ideal) a x w r y = dx (rowOf x (y 0)) (fun k => w (ix2 0 k)) (rowOf a (y 0)) (y 1) + r y := by
  pointwise [k0_pay7, k0_pay5, k0_pay4, dx, back, root, ms, rowOf, Fin.sum_univ_one]

/-! ## The blocks of the arrays -/

variable (m : (ℓ : Loc nD τ sig) → Buf (Elt Ideal) ℓ) (c : Dev nD)
abbrev A0 : Vec Ideal S8192x2048 .f32 := m ((c : Thread nD τ).loc main_arg0)
abbrev A1 : Vec Ideal S1x2048 .f32 := m ((c : Thread nD τ).loc main_arg1)
abbrev A2 : Vec Ideal S8192x2048 .f32 := m ((c : Thread nD τ).loc main_arg2)
abbrev A3 : Vec Ideal S8192x2048 .f32 := m ((c : Thread nD τ).loc main_arg3)

theorem idx : ∀ t : Fin cfg0.N, win0_0.index t = ![t.val, 0] ∧ win0_2.index t = ![t.val, 0] ∧ win0_3.index t = ![t.val, 0] ∧ win0_4.index t = ![t.val, 0]
    ∧ win0_1.index t = ![0, 0] ∧ win0_5.index t = ![0, 0] ∧ win0_6.index t = ![t.val, 0] := by
  decide +kernel

theorem lt (t : Fin cfg0.N) : t.val < 32 := lt_of_lt_of_eq t.isLt N_0

/-- Where row `p` of a point's block of 256 rows lies. -/
abbrev row (t : Fin cfg0.N) (p : Fin 256) : Fin 8192 := ⟨t.val * 256 + p.val, by have := lt t; omega⟩

theorem blk0 (t : Fin cfg0.N) (p : Fin 256) (k : Fin 2048) :
    (iblk m c 0 t : Vec Ideal S256x2048 .f32) (ix2 p k) = A0 m c (ix2 (row t p) k) := by
  blk_ext! [iblk, V, idx t]
theorem blk2 (t : Fin cfg0.N) (p : Fin 256) (k : Fin 2048) :
    (iblk m c 2 t : Vec Ideal S256x2048 .f32) (ix2 p k) = A2 m c (ix2 (row t p) k) := by
  blk_ext! [iblk, V, idx t]
theorem blk3 (t : Fin cfg0.N) (p : Fin 256) (k : Fin 2048) :
    (iblk m c 3 t : Vec Ideal S256x2048 .f32) (ix2 p k) = A3 m c (ix2 (row t p) k) := by
  blk_ext! [iblk, V, idx t]
theorem blk1 (t : Fin cfg0.N) (k : Fin 2048) : (iblk m c 1 t : Vec Ideal S1x2048 .f32) (ix2 0 k) = A1 m c (ix2 0 k) := by
  blk_ext! [iblk, V, idx t]

theorem rows0 (t : Fin cfg0.N) (p : Fin 256) : rowOf (iblk m c 0 t) p = lineOf (A0 m c) (row t p) := funext (blk0 m c t p)
theorem rows2 (t : Fin cfg0.N) (p : Fin 256) : rowOf (iblk m c 2 t) p = lineOf (A2 m c) (row t p) := funext (blk2 m c t p)

/-! ## The results -/

/-- The gradient of the rows, with the residual's, and the gradient of the weight. -/
def gradX (i : S8192x2048.Idx) : EReal :=
  dx (lineOf (A0 m c) (i 0)) (fun k => A1 m c (ix2 0 k)) (lineOf (A2 m c) (i 0)) (i 1) + A3 m c i
def gradW (i : S1x2048.Idx) : EReal := ∑ l : Fin 8192, (unit (lineOf (A0 m c) l) (i 1) * (lineOf (A2 m c) l) (i 1) : EReal)

theorem rows_at (t : Fin cfg0.N) (y : S256x2048.Idx) :
    k0_pay7 (F := Ideal) (iblk m c 2 t) (iblk m c 0 t) (iblk m c 1 t) (iblk m c 3 t) y = gradX m c (ix2 (row t (y 0)) (y 1)) := by
  refine (pay7_at _ _ _ _ _).trans ?_
  rw [rows0 m c t (y 0), rows2 m c t (y 0), show (fun k => (iblk m c 1 t : Vec Ideal S1x2048 .f32) (ix2 0 k)) = fun k => A1 m c (ix2 0 k) from funext (blk1 m c t)]
  exact congrArg₂ (· + ·) rfl ((congrArg _ (ValueIdx.eq_ix2 y)).trans (blk3 m c t (y 0) (y 1)))

theorem outX (t : Fin cfg0.N) (y : S256x2048.Idx) : (outsAt0 m c t.val t.isLt).1 y = gradX m c (ix2 (row t (y 0)) (y 1)) := by
  by_cases h : t.val % 32 = 0
  · rw [outsAt0_A m c t h]
    frame_out
    exact rows_at m c t y
  · rw [outsAt0_B m c t h]
    frame_out
    exact rows_at m c t y

/-- What a grid point adds to the weight's gradient. -/
def term (t : Fin cfg0.N) (y : S1x2048.Idx) : EReal := k0_pay6 (F := Ideal) (iblk m c 2 t) (iblk m c 0 t) y

theorem first (t : Fin cfg0.N) (h : t.val % 32 = 0) (y : S1x2048.Idx) : (outsAt0 m c t.val t.isLt).2.1 y = (0 : EReal) + term m c t y := by
  rw [outsAt0_A m c t h]
  frame_out
  rw [pay2_at, pay1_at]
  rfl

theorem step (t : Fin cfg0.N) (h : ¬t.val % 32 = 0) (y : S1x2048.Idx) :
    (outsAt0 m c t.val t.isLt).2.1 y
      = ((outsAt0 m c (t.val - 1) (Nat.lt_of_le_of_lt (Nat.sub_le _ _) t.isLt)).2.1 y : EReal) + term m c t y := by
  rw [outsAt0_B m c t h]
  frame_out
  exact pay2_at _ _ _

theorem outW (t : Fin cfg0.N) (h : t.val % 32 = 31) (y : S1x2048.Idx) : (outsAt0 m c t.val t.isLt).2.1 y = gradW m c y := by
  have e := Pipeline.eq_sum_fin_of_reset_step_apply_of_flush (M := EReal) (fun n h => (outsAt0 m c n h).2.1) 32 (fun _ => 0) (term m c)
    (first m c) (step m c) t h y
  refine e.trans ((zero_add _).trans ?_)
  unfold gradW
  refine (Finset.sum_congr rfl fun s _ => pay6_at _ _ _).trans (Fin.sum_mul_add_congr fun s k hl => ?_)
  have hs : 32 * (t.val / 32) + s.val < cfg0.N := by have := lt t; have := N_0; omega
  have e0 : row ⟨32 * (t.val / 32) + s.val, hs⟩ k = ⟨s.val * 256 + k.val, hl⟩ := Fin.ext (by dsimp only [row]; have := lt t; omega)
  rw [rows0 m c _ k, rows2 m c _ k, e0]

/-- The arrays the kernel returns. -/
theorem arrX : (dats m 0 c).arrAt 4 cfg0.N = gradX m c := by
  refine (dats m 0 c).arrAt_eq_of_covers 4 _ (by decide +kernel) fun t _ y => ?_
  have e : (win0_4.blk t).view.emb y = (ix2 (row t (y 0)) (y 1) : S8192x2048.Idx) := by
    refine funext fun a => Fin.ext ?_
    match a with
    | 0 => blk_simp [idx t]
    | 1 => blk_simp [idx t]
  rw [after0_4]
  exact (outX m c t y).trans (congrArg (gradX m c) e.symm)
theorem arrW : (dats m 0 c).arrAt 5 cfg0.N = gradW m c := by
  refine (dats m 0 c).arrAt_eq_of_covers 5 _ (by decide +kernel) fun t hf y => ?_
  have h : t.val % 32 = 31 := (flush0_5 t).mp hf
  have e : (win0_5.blk t).view.emb y = (y : S1x2048.Idx) := by
    refine funext fun a => Fin.ext ?_
    match a with
    | 0 => blk_simp [idx t]
    | 1 => blk_simp [idx t]
  rw [after0_5]
  exact (outW m c t h y).trans (congrArg (gradW m c) e.symm)
/-- The third result is the first, in the arithmetic of the reals. -/
theorem arrX' : (dats m 0 c).arrAt 6 cfg0.N = gradX m c := by
  refine (dats m 0 c).arrAt_eq_of_covers 6 _ (by decide +kernel) fun t _ y => ?_
  have e : (win0_6.blk t).view.emb y = (ix2 (row t (y 0)) (y 1) : S8192x2048.Idx) := by
    refine funext fun a => Fin.ext ?_
    match a with
    | 0 => blk_simp [idx t]
    | 1 => blk_simp [idx t]
  rw [after0_6]
  refine Eq.trans ?_ (congrArg (gradX m c) e.symm)
  by_cases h : t.val % 32 = 0
  · rw [outsAt0_A m c t h]
    frame_out
    exact rows_at m c t y
  · rw [outsAt0_B m c t h]
    frame_out
    exact rows_at m c t y

open Cert.NormMidRefIdeal.Read in
/-- What the reference returns. -/
theorem refW (i : S1x2048.Idx) : val_main_v17 (F := Ideal) (A0 m c) (A2 m c) i = gradW m c i := by
  pointwise [val_main_cst_6, val_main_cst_5, val_main_cst_4, val_main_v17, val_main_v16, val_main_cst_3, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, gradW, unit, root, ms, lineOf]
open Cert.NormMidRefIdeal.Read in
theorem refX (i : S8192x2048.Idx) : val_main_v34 (F := Ideal) (A0 m c) (A1 m c) (A2 m c) (A3 m c) i = gradX m c i := by
  pointwise [val_main_v34, val_main_v33, val_main_v32, val_main_v31, val_main_v30, val_main_v29, val_main_v28, val_main_cst_6, val_main_v27, val_main_v26, val_main_cst_5, val_main_v25, val_main_v24, val_main_v23, val_main_v22, val_main_v21, val_main_cst_4, val_main_v20, val_main_v19, val_main_v18, val_main_v17, val_main_v16, val_main_cst_3, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, gradX, dx, back, root, ms, lineOf, Fin.sum_univ_one]

/-! ## The claims -/

theorem frame_p : Cert.quiescent_NormMid := fun m ρ _ => Cert.NormMid.Gen.frame m ρ
theorem frame_pi : Cert.quiescent_NormMidIdeal := fun m ρ _ => Cert.NormMidIdeal.Gen.frame m ρ
theorem frame_ri : Cert.quiescent_NormMidRefIdeal := fun m ρ _ =>
  (θ_run Cert.NormMidRefIdeal.defs _ _).mono (fun r h => ⟨fun c => (h c).2.2.2, sem_eq_zero_of_no_sems (by decide) r.2⟩)
    (Cert.NormMidRefIdeal.Value.run (F := Ideal) m ρ)
theorem preserves : Cert.preserves_NormMid_NormMidIdeal := trivial

/-- The kernel's results are the reference's. -/
theorem algebraic : Cert.algebraic_NormMidIdeal_NormMidRefIdeal := by
  intro m ρ m' ρ' _ hagree
  refine ⟨_, _, _, (θ_run defs _ _).mono (fun r h d => h d) (Cert.NormMidIdeal.Value.run_blocks (F := Ideal) m ρ), ?_⟩
  refine (θ_run Cert.NormMidRefIdeal.defs _ _).mono (fun r h d => ?_) (Cert.NormMidRefIdeal.Value.run (F := Ideal) m' ρ')
  obtain ⟨a0, a1, a2, a3⟩ := hagree d
  obtain ⟨hx, hw, hy, hk⟩ := h d
  refine ⟨(hx.trans (Cert.NormMidRefIdeal.Read.val_main_v34_eq _ _ _ _)).trans ?_,
    (hw.trans (Cert.NormMidRefIdeal.Read.val_main_v17_eq _ _)).trans ?_, (hy.trans (Cert.NormMidRefIdeal.Read.val_main_v35_eq _ _ _ _)).trans ?_, hk⟩
  · rw [a0, a1, a2, a3]
    exact (funext (refX m d)).trans (arrX m d).symm
  · rw [a0, a2]
    exact (funext (refW m d)).trans (arrW m d).symm
  · rw [a0, a1, a2, a3]
    exact (funext (refX m d)).trans (arrX' m d).symm

end Cert.NormMidIdeal.Norm

end
-- ==== Proof.Norm.Loss.lean ====
/-
  The loss against the target and the gradient of the residual stream through the last norm: what the kernel's results hold over
  the reals.
-/
module

public import proofs.«01_k».proof.Defs
public import proofs.«01_k».proof.Proof.Norm.Rms
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Claim
public import Idealize.ShloMosaic.Lib.StableHlo.ReadAt
public import Idealize.ShloMosaic.Lib.Pipeline.ValueKit
public import Idealize.ShloMosaic.Lib.Pipeline.ValueKit.Acc
public import Idealize.ShloMosaic.Lib.Pipeline.ValueKit.Point
public import Idealize.ShloMosaic.Lib.Pipeline.ReadBack

@[expose] public section

set_option maxRecDepth 16384
set_option maxHeartbeats 1000000

noncomputable section

namespace Cert.LossIdeal.Norm

open Idealize.ShloMosaic Idealize.ShloMosaic.TcCoe Idealize.ShloMosaic.Tactic Idealize.SL.Sem Cert.LossIdeal Cert.LossIdeal.Gen
open Cert.Rms (Row lit ms root unit back dx err rowLoss push)

/-! ## The body's arithmetic at an element -/

/-- A row of a block, of an array, and the weight. -/
abbrev rowOf (x : Vec Ideal S256x2048 .f32) (p : Fin 256) : Row := fun k => x (ix2 p k)
abbrev lineOf (x : Vec Ideal S8192x2048 .f32) (p : Fin 8192) : Row := fun k => x (ix2 p k)
abbrev one (w : Vec Ideal S1x2048 .f32) : Row := fun k => w (ix2 0 k)

theorem pay3_at (y : S1x2048.Idx) : k0_pay3 (F := Ideal) y = 0 := by
  pointwise [k0_pay3]

theorem pay4_at (y : S1x128.Idx) : k0_pay4 (F := Ideal) y = 0 := by
  pointwise [k0_pay4]

theorem pay5_at (u z : Vec Ideal S1x2048 .f32) (y : S1x2048.Idx) : k0_pay5 (F := Ideal) u z y = z y + u y := by
  pointwise [k0_pay5]

theorem pay6_at (u : Ideal .f32) (z : Vec Ideal S1x128 .f32) (y : S1x128.Idx) : k0_pay6 (F := Ideal) u z y = z y + u := by
  pointwise [k0_pay6]

theorem pay12_eq (t x : Vec Ideal S256x2048 .f32) (w : Vec Ideal S1x2048 .f32) :
    k0_pay12 (F := Ideal) t x w = lit 0x3F000000#32 * ∑ p : Fin 256, rowLoss (rowOf x p) (one w) (rowOf t p) := by
  pointwise [k0_pay12, k0_pay11, k0_pay10, k0_pay8, k0_pay7, rowLoss, err, unit, root, ms, rowOf, one, Fin.sum_univ_one]

theorem pay13_at (t x : Vec Ideal S256x2048 .f32) (w : Vec Ideal S1x2048 .f32) (y : S256x2048.Idx) :
    k0_pay13 (F := Ideal) t x w y = push (rowOf x (y 0)) (one w) (rowOf t (y 0)) (y 1) := by
  pointwise [k0_pay13, k0_pay11, k0_pay10, k0_pay8, k0_pay7, push, err, unit, root, ms, rowOf, one]

theorem pay14_at (t x : Vec Ideal S256x2048 .f32) (w : Vec Ideal S1x2048 .f32) (y : S1x2048.Idx) :
    k0_pay14 (F := Ideal) t x w y
      = ∑ p : Fin 256, (unit (rowOf x p) (y 1) * push (rowOf x p) (one w) (rowOf t p) (y 1) : EReal) := by
  pointwise [k0_pay14, k0_pay13, k0_pay11, k0_pay10, k0_pay8, k0_pay7, push, err, unit, root, ms, rowOf, one]

theorem pay1_at (t x : Vec Ideal S256x2048 .f32) (w : Vec Ideal S1x2048 .f32) (y : S256x2048.Idx) :
    k0_pay1 (F := Ideal) x w (k0_pay8 x) (k0_pay9 x) (k0_pay13 t x w) y
      = dx (rowOf x (y 0)) (one w) (push (rowOf x (y 0)) (one w) (rowOf t (y 0))) (y 1) := by
  pointwise [k0_pay1, k0_pay9, k0_pay13, k0_pay11, k0_pay10, k0_pay8, k0_pay7, dx, back, push, err, unit, root, ms, rowOf, one, Fin.sum_univ_one]

/-! ## The blocks of the arrays -/

variable (m : (ℓ : Loc nD τ sig) → Buf (Elt Ideal) ℓ) (c : Dev nD)

abbrev A0 : Vec Ideal S8192x2048 .f32 := m ((c : Thread nD τ).loc main_arg0)
abbrev A1 : Vec Ideal S1x2048 .f32 := m ((c : Thread nD τ).loc main_arg1)
abbrev A2 : Vec Ideal S8192x2048 .f32 := m ((c : Thread nD τ).loc main_arg2)

theorem idx : ∀ t : Fin cfg0.N, win0_0.index t = ![t.val, 0] ∧ win0_2.index t = ![t.val, 0] ∧ win0_3.index t = ![t.val, 0]
    ∧ win0_4.index t = ![t.val, 0] ∧ win0_1.index t = ![0, 0] ∧ win0_5.index t = ![0, 0] ∧ win0_6.index t = ![0, 0] := by
  decide +kernel

theorem lt (t : Fin cfg0.N) : t.val < 32 := lt_of_lt_of_eq t.isLt N_0

/-- Where row `p` of a point's block of 256 rows lies. -/
abbrev row (t : Fin cfg0.N) (p : Fin 256) : Fin 8192 := ⟨t.val * 256 + p.val, by have := lt t; omega⟩

theorem rows0 (t : Fin cfg0.N) (p : Fin 256) : rowOf (iblk m c 0 t) p = lineOf (A0 m c) (row t p) := by
  refine funext fun k => show (iblk m c 0 t : Vec Ideal S256x2048 .f32) (ix2 p k) = A0 m c (ix2 (row t p) k) from ?_
  blk_ext! [iblk, V, idx t]
theorem rows2 (t : Fin cfg0.N) (p : Fin 256) : rowOf (iblk m c 2 t) p = lineOf (A2 m c) (row t p) := by
  refine funext fun k => show (iblk m c 2 t : Vec Ideal S256x2048 .f32) (ix2 p k) = A2 m c (ix2 (row t p) k) from ?_
  blk_ext! [iblk, V, idx t]
theorem weight (t : Fin cfg0.N) : one (iblk m c 1 t) = one (A1 m c) := by
  refine funext fun k => show (iblk m c 1 t : Vec Ideal S1x2048 .f32) (ix2 0 k) = A1 m c (ix2 0 k) from ?_
  blk_ext! [iblk, V, idx t]

/-! ## The results -/

/-- The gradient that reaches a normed row, the gradient of the rows, that of the weight, and the loss. -/
abbrev seed (l : Fin 8192) : Row := push (lineOf (A0 m c) l) (one (A1 m c)) (lineOf (A2 m c) l)
def gradX (i : S8192x2048.Idx) : EReal := dx (lineOf (A0 m c) (i 0)) (one (A1 m c)) (seed m c (i 0)) (i 1)
def gradW (i : S1x2048.Idx) : EReal := ∑ l : Fin 8192, (unit (lineOf (A0 m c) l) (i 1) * seed m c l (i 1) : EReal)
def loss (_ : S1x128.Idx) : EReal :=
  lit 0x3F000000#32 * ∑ l : Fin 8192, rowLoss (lineOf (A0 m c) l) (one (A1 m c)) (lineOf (A2 m c) l)

theorem rows_at (t : Fin cfg0.N) (y : S256x2048.Idx) :
    k0_pay1 (F := Ideal) (iblk m c 0 t) (iblk m c 1 t) (k0_pay8 (iblk m c 0 t)) (k0_pay9 (iblk m c 0 t))
      (k0_pay13 (iblk m c 2 t) (iblk m c 0 t) (iblk m c 1 t)) y = gradX m c (ix2 (row t (y 0)) (y 1)) := by
  refine (pay1_at _ _ _ _).trans ?_
  rw [rows0 m c t (y 0), rows2 m c t (y 0), weight m c t]
  rfl

/-- What a grid point adds to the weight's gradient, and to the loss. -/
def termW (t : Fin cfg0.N) (y : S1x2048.Idx) : EReal := k0_pay14 (F := Ideal) (iblk m c 2 t) (iblk m c 0 t) (iblk m c 1 t) y
def termL (t : Fin cfg0.N) (_ : S1x128.Idx) : EReal := k0_pay12 (F := Ideal) (iblk m c 2 t) (iblk m c 0 t) (iblk m c 1 t)

theorem firstW (t : Fin cfg0.N) (h : t.val % 32 = 0) (y : S1x2048.Idx) :
    (outsAt0 m c t.val t.isLt).2.2.2 y = (0 : EReal) + termW m c t y := by
  rw [outsAt0_A m c t h]
  frame_out
  rw [pay5_at, pay3_at]
  rfl

theorem stepW (t : Fin cfg0.N) (h : ¬t.val % 32 = 0) (y : S1x2048.Idx) :
    (outsAt0 m c t.val t.isLt).2.2.2 y
      = ((outsAt0 m c (t.val - 1) (Nat.lt_of_le_of_lt (Nat.sub_le _ _) t.isLt)).2.2.2 y : EReal) + termW m c t y := by
  rw [outsAt0_B m c t h]
  frame_out
  exact pay5_at _ _ _

theorem firstL (t : Fin cfg0.N) (h : t.val % 32 = 0) (y : S1x128.Idx) :
    (outsAt0 m c t.val t.isLt).2.2.1 y = (0 : EReal) + termL m c t y := by
  rw [outsAt0_A m c t h]
  frame_out
  rw [pay6_at, pay4_at]
  rfl

theorem stepL (t : Fin cfg0.N) (h : ¬t.val % 32 = 0) (y : S1x128.Idx) :
    (outsAt0 m c t.val t.isLt).2.2.1 y
      = ((outsAt0 m c (t.val - 1) (Nat.lt_of_le_of_lt (Nat.sub_le _ _) t.isLt)).2.2.1 y : EReal) + termL m c t y := by
  rw [outsAt0_B m c t h]
  frame_out
  exact pay6_at _ _ _

/-- The points' blocks of rows, one after the other, are the rows of the array. -/
theorem row_of (t : Fin cfg0.N) (s : Fin 32) (k : Fin 256) (hl : s.val * 256 + k.val < 8192) (hs : 32 * (t.val / 32) + s.val < cfg0.N) :
    row ⟨32 * (t.val / 32) + s.val, hs⟩ k = ⟨s.val * 256 + k.val, hl⟩ :=
  Fin.ext (by dsimp only [row]; have := lt t; omega)

theorem outW (t : Fin cfg0.N) (h : t.val % 32 = 31) (y : S1x2048.Idx) : (outsAt0 m c t.val t.isLt).2.2.2 y = gradW m c y := by
  have e := Pipeline.eq_sum_fin_of_reset_step_apply_of_flush (M := EReal) (fun n h => (outsAt0 m c n h).2.2.2) 32 (fun _ => 0) (termW m c)
    (firstW m c) (stepW m c) t h y
  refine e.trans ((zero_add _).trans ?_)
  unfold gradW
  refine (Finset.sum_congr rfl fun s _ => pay14_at _ _ _ _).trans (Fin.sum_mul_add_congr fun s k hl => ?_)
  rw [rows0 m c _ k, rows2 m c _ k, weight, row_of t s k hl]

theorem outL (t : Fin cfg0.N) (h : t.val % 32 = 31) (y : S1x128.Idx) : (outsAt0 m c t.val t.isLt).2.2.1 y = loss m c y := by
  have e := Pipeline.eq_sum_fin_of_reset_step_apply_of_flush (M := EReal) (fun n h => (outsAt0 m c n h).2.2.1) 32 (fun _ => 0) (termL m c)
    (firstL m c) (stepL m c) t h y
  refine e.trans ((zero_add _).trans ?_)
  unfold loss
  refine (Finset.sum_congr rfl fun s _ => pay12_eq _ _ _).trans ((Cert.Rms.half_sum _).trans (congrArg (lit 0x3F000000#32 * ·) ?_))
  refine Fin.sum_mul_add_congr fun s k hl => ?_
  rw [rows0 m c _ k, rows2 m c _ k, weight, row_of t s k hl]

/-- The arrays the kernel returns. -/
theorem arrX : (dats m 0 c).arrAt 3 cfg0.N = gradX m c := by
  refine (dats m 0 c).arrAt_eq_of_covers 3 _ (by decide +kernel) fun t _ y => ?_
  have e : (win0_3.blk t).view.emb y = (ix2 (row t (y 0)) (y 1) : S8192x2048.Idx) := by
    refine funext fun a => Fin.ext ?_
    match a with
    | 0 => blk_simp [idx t]
    | 1 => blk_simp [idx t]
  rw [after0_3]
  refine Eq.trans ?_ (congrArg (gradX m c) e.symm)
  by_cases h : t.val % 32 = 0
  · rw [outsAt0_A m c t h]
    frame_out
    exact rows_at m c t y
  · rw [outsAt0_B m c t h]
    frame_out
    exact rows_at m c t y
/-- The second result is the first, in the arithmetic of the reals. -/
theorem arrX' : (dats m 0 c).arrAt 4 cfg0.N = gradX m c := by
  refine (dats m 0 c).arrAt_eq_of_covers 4 _ (by decide +kernel) fun t _ y => ?_
  have e : (win0_4.blk t).view.emb y = (ix2 (row t (y 0)) (y 1) : S8192x2048.Idx) := by
    refine funext fun a => Fin.ext ?_
    match a with
    | 0 => blk_simp [idx t]
    | 1 => blk_simp [idx t]
  rw [after0_4]
  refine Eq.trans ?_ (congrArg (gradX m c) e.symm)
  by_cases h : t.val % 32 = 0
  · rw [outsAt0_A m c t h]
    frame_out
    exact rows_at m c t y
  · rw [outsAt0_B m c t h]
    frame_out
    exact rows_at m c t y
theorem arrL : (dats m 0 c).arrAt 5 cfg0.N = loss m c := by
  refine (dats m 0 c).arrAt_eq_of_covers 5 _ (by decide +kernel) fun t hf y => ?_
  have h : t.val % 32 = 31 := (flush0_5 t).mp hf
  have e : (win0_5.blk t).view.emb y = (y : S1x128.Idx) := by
    refine funext fun a => Fin.ext ?_
    match a with
    | 0 => blk_simp [idx t]
    | 1 => blk_simp [idx t]
  rw [after0_5]
  exact (outL m c t h y).trans (congrArg (loss m c) e.symm)
theorem arrW : (dats m 0 c).arrAt 6 cfg0.N = gradW m c := by
  refine (dats m 0 c).arrAt_eq_of_covers 6 _ (by decide +kernel) fun t hf y => ?_
  have h : t.val % 32 = 31 := (flush0_6 t).mp hf
  have e : (win0_6.blk t).view.emb y = (y : S1x2048.Idx) := by
    refine funext fun a => Fin.ext ?_
    match a with
    | 0 => blk_simp [idx t]
    | 1 => blk_simp [idx t]
  rw [after0_6]
  exact (outW m c t h y).trans (congrArg (gradW m c) e.symm)

open Cert.LossRefIdeal.Read in
/-- What the reference returns. -/
theorem refX (i : S8192x2048.Idx) : val_main_v48 (F := Ideal) (A0 m c) (A1 m c) (A2 m c) i = gradX m c i := by
  pointwise [val_main_v48, val_main_v47, val_main_v46, val_main_v45, val_main_v44, val_main_v43, val_main_cst_14, val_main_v42, val_main_v41, val_main_cst_13, val_main_v40, val_main_v39, val_main_v38, val_main_v37, val_main_v36, val_main_cst_12, val_main_v35, val_main_v34, val_main_v33, val_main_v32, val_main_v31, val_main_cst_11, val_main_v30, val_main_v29, val_main_v28, val_main_v27, val_main_v26, val_main_cst_10, val_main_v25, val_main_v24, val_main_cst_9, val_main_cst_8, val_main_v23, val_main_cst_7, val_main_v22, val_main_cst_6, val_main_v21, val_main_v20, val_main_cst_5, val_main_v19, val_main_cst_4, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, gradX, seed, dx, back, push, err, unit, root, ms, lineOf, one, Fin.sum_univ_one]
open Cert.LossRefIdeal.Read in
theorem refW (i : S1x2048.Idx) : val_main_v32 (F := Ideal) (A0 m c) (A1 m c) (A2 m c) i = gradW m c i := by
  pointwise [val_main_cst_14, val_main_cst_13, val_main_cst_12, val_main_v32, val_main_v31, val_main_cst_11, val_main_v30, val_main_v29, val_main_v28, val_main_v27, val_main_v26, val_main_cst_10, val_main_v25, val_main_v24, val_main_cst_9, val_main_cst_8, val_main_v23, val_main_cst_7, val_main_v22, val_main_cst_6, val_main_v21, val_main_v20, val_main_cst_5, val_main_v19, val_main_cst_4, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, gradW, seed, push, err, unit, root, ms, lineOf, one]
open Cert.LossRefIdeal.Read in
theorem refL (i : S1x128.Idx) : val_main_v50 (F := Ideal) (A0 m c) (A1 m c) (A2 m c) i = loss m c i := by
  pointwise [val_main_v50, val_main_cst_14, val_main_cst_13, val_main_cst_12, val_main_cst_11, val_main_cst_10, val_main_cst_9, val_main_cst_8, val_main_v23, val_main_cst_7, val_main_v22, val_main_cst_6, val_main_v21, val_main_v20, val_main_cst_5, val_main_v19, val_main_cst_4, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, loss, rowLoss, err, unit, root, ms, lineOf, one]

/-! ## The claims -/

theorem frame_p : Cert.quiescent_Loss := fun m ρ _ => Cert.Loss.Gen.frame m ρ
theorem frame_pi : Cert.quiescent_LossIdeal := fun m ρ _ => Cert.LossIdeal.Gen.frame m ρ
theorem frame_ri : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)
theorem preserves : Cert.preserves_Loss_LossIdeal := trivial

/-- The kernel's results are the reference's. -/
theorem algebraic : Cert.algebraic_LossIdeal_LossRefIdeal := by
  intro m ρ m' ρ' _ hagree
  refine ⟨_, _, _, _, (θ_run defs _ _).mono (fun r h d => h d) (Cert.LossIdeal.Value.run_blocks (F := Ideal) m ρ), ?_⟩
  refine (θ_run Cert.LossRefIdeal.defs _ _).mono (fun r h d => ?_) (Cert.LossRefIdeal.Value.run (F := Ideal) m' ρ')
  obtain ⟨a0, a1, a2⟩ := hagree d
  obtain ⟨hx, hy, hl, hw, hk⟩ := h d
  refine ⟨(hx.trans (Cert.LossRefIdeal.Read.val_main_v48_eq m' d)).trans ?_,
    (hy.trans (Cert.LossRefIdeal.Read.val_main_v49_eq m' d)).trans ?_,
    (hl.trans (Cert.LossRefIdeal.Read.val_main_v50_eq _ _ _)).trans ?_,
    (hw.trans (Cert.LossRefIdeal.Read.val_main_v32_eq _ _ _)).trans ?_, hk⟩
  · rw [a0, a1, a2]
    exact (funext (refX m d)).trans (arrX m d).symm
  · rw [a0, a1, a2]
    exact (funext (refX m d)).trans (arrX' m d).symm
  · rw [a0, a1, a2]
    exact (funext (refL m d)).trans (arrL m d).symm
  · rw [a0, a1, a2]
    exact (funext (refW m d)).trans (arrW m d).symm

end Cert.LossIdeal.Norm

end
-- ==== Proof.Ssd.RunB.lean ====
/-
  The body of the scan's backward kernel, run once at a grid point that is not the first of its group (case B: the carried
  gradient of the state is read as the point before left it).  The text is that of the generated run of this case; only the
  budget of elaboration differs, since the run's proof term is a little larger than the generated budget allows.
-/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 127: 124 of 128), WITH the
    proof that on whole staging memrefs — the inputs' at their contents, the outputs it reads before covering (16, 17, 18) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) :
    Σ' (L12 : List (View.Piece (Elt F) S256x512 .f32)), Σ' (L13 : List (View.Piece (Elt F) S256x128 .f32)), Σ' (L14 : List (View.Piece (Elt F) S256x128 .f32)), Σ' (L15 : List (View.Piece (Elt F) S1x256x8 .f32)), Σ' (L16 : List (View.Piece (Elt F) S1x1x8 .f32)), Σ' (L17 : List (View.Piece (Elt F) S1x1x8 .f32)), Σ' (L18 : List (View.Piece (Elt F) S1x1x8 .f32)), { LS0 : List (View.Piece (Elt F) S8x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo16 ∗ owns (c : Thread nD τ) arg19 fullShare xo17 ∗ owns (c : Thread nD τ) arg20 fullShare xo18 ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0_ssd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_ssd_bwd_eq_skeleton]; unfold cc0_ssd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16; obtain rfl := harg19.eq_unread hf17; obtain rfl := harg20.eq_unread hf18; obtain rfl := harg21.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS0

end Cert.KernelIdeal.Gen

end
-- ==== Proof.Ssd.Outputs.lean ====
/-
  What the scan's backward kernel leaves in each output block and in the carried scratch, in the two cases of its
  conditional: the pieces each run found, read back.  (Generated text, over the run of case B in `Ssd.RunB`.)
-/
module

public import proofs.«01_k».proof.Proof.Ssd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 12 tile its block (8 stores of `S256x64`, checked by the kernel's evaluation: Lib/Ring.lean `Piece.tiledL`, linear in the pieces, through a loop's `@[irreducible]` trip theorem too), so they cover it. -/
theorem cover0_A_12 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1 S256x64.size (by sl_kernel_rfl) y

/-- What case A leaves in output 12's staging buffer: its pieces read back over junk. -/
def out0_A_12 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S256x512 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1)

/-- Case A's pieces for output 13 tile its block (1 store of `S256x128`, checked by the kernel's evaluation: Lib/Ring.lean `Piece.tiledL`, linear in the pieces, through a loop's `@[irreducible]` trip theorem too), so they cover it. -/
theorem cover0_A_13 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1 S256x128.size (by sl_kernel_rfl) y

/-- What case A leaves in output 13's staging buffer: its pieces read back over junk. -/
def out0_A_13 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S256x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1)

/-- Case A's pieces for output 14 tile its block (1 store of `S256x128`, checked by the kernel's evaluation: Lib/Ring.lean `Piece.tiledL`, linear in the pieces, through a loop's `@[irreducible]` trip theorem too), so they cover it. -/
theorem cover0_A_14 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1 S256x128.size (by sl_kernel_rfl) y

/-- What case A leaves in output 14's staging buffer: its pieces read back over junk. -/
def out0_A_14 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S256x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1)

/-- Case A's pieces for output 15 tile its block (1 store of `S1x256x8`, checked by the kernel's evaluation: Lib/Ring.lean `Piece.tiledL`, linear in the pieces, through a loop's `@[irreducible]` trip theorem too), so they cover it. -/
theorem cover0_A_15 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S1x256x8.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1 S1x256x8.size (by sl_kernel_rfl) y

/-- What case A leaves in output 15's staging buffer: its pieces read back over junk. -/
def out0_A_15 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S1x256x8 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1)

/-- Case A's pieces for output 16 tile its block (2 stores of `S1x1x8`, checked by the kernel's evaluation: Lib/Ring.lean `Piece.tiledL`, linear in the pieces, through a loop's `@[irreducible]` trip theorem too), so they cover it. -/
theorem cover0_A_16 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S1x1x8.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1 S1x1x8.size (by sl_kernel_rfl) y

/-- What case A leaves in output 16's staging buffer: its pieces read back over junk. -/
def out0_A_16 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S1x1x8 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1)

/-- Case A's pieces for output 17 tile its block (2 stores of `S1x1x8`, checked by the kernel's evaluation: Lib/Ring.lean `Piece.tiledL`, linear in the pieces, through a loop's `@[irreducible]` trip theorem too), so they cover it. -/
theorem cover0_A_17 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S1x1x8.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1 S1x1x8.size (by sl_kernel_rfl) y

/-- What case A leaves in output 17's staging buffer: its pieces read back over junk. -/
def out0_A_17 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S1x1x8 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1)

/-- Case A's pieces for output 18 tile its block (2 stores of `S1x1x8`, checked by the kernel's evaluation: Lib/Ring.lean `Piece.tiledL`, linear in the pieces, through a loop's `@[irreducible]` trip theorem too), so they cover it. -/
theorem cover0_A_18 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S1x1x8.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1 S1x1x8.size (by sl_kernel_rfl) y

/-- What case A leaves in output 18's staging buffer: its pieces read back over junk. -/
def out0_A_18 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S1x1x8 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1)

/-- Case A's pieces for scratch `arg21`, which the kernel carries between points, cover it: one of them a store of the WHOLE buffer (Lib/Ring.lean `sl_whole_mem`). -/
theorem scover0_A_0 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (y : S8x128x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.2.1 (by sl_whole_mem) y

/-- What case A leaves in scratch `arg21`: its pieces read back over junk. -/
def sout0_A_0 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) : Vec F S8x128x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.2.1)

/-- Case B's pieces for output 12 tile its block (8 stores of `S256x64`, checked by the kernel's evaluation: Lib/Ring.lean `Piece.tiledL`, linear in the pieces, through a loop's `@[irreducible]` trip theorem too), so they cover it. -/
theorem cover0_B_12 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S256x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).1 S256x64.size (by sl_kernel_rfl) y

/-- What case B leaves in output 12's staging buffer: its pieces read back over junk. -/
def out0_B_12 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S256x512 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).1)

/-- Case B's pieces for output 13 tile its block (1 store of `S256x128`, checked by the kernel's evaluation: Lib/Ring.lean `Piece.tiledL`, linear in the pieces, through a loop's `@[irreducible]` trip theorem too), so they cover it. -/
theorem cover0_B_13 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S256x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.1 S256x128.size (by sl_kernel_rfl) y

/-- What case B leaves in output 13's staging buffer: its pieces read back over junk. -/
def out0_B_13 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S256x128 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.1)

/-- Case B's pieces for output 14 tile its block (1 store of `S256x128`, checked by the kernel's evaluation: Lib/Ring.lean `Piece.tiledL`, linear in the pieces, through a loop's `@[irreducible]` trip theorem too), so they cover it. -/
theorem cover0_B_14 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S256x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.1 S256x128.size (by sl_kernel_rfl) y

/-- What case B leaves in output 14's staging buffer: its pieces read back over junk. -/
def out0_B_14 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S256x128 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.1)

/-- Case B's pieces for output 15 tile its block (1 store of `S1x256x8`, checked by the kernel's evaluation: Lib/Ring.lean `Piece.tiledL`, linear in the pieces, through a loop's `@[irreducible]` trip theorem too), so they cover it. -/
theorem cover0_B_15 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S1x256x8.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.1 S1x256x8.size (by sl_kernel_rfl) y

/-- What case B leaves in output 15's staging buffer: its pieces read back over junk. -/
def out0_B_15 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S1x256x8 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.1)

/-- Case B's pieces for output 16 tile its block (1 store of `S1x1x8`, checked by the kernel's evaluation: Lib/Ring.lean `Piece.tiledL`, linear in the pieces, through a loop's `@[irreducible]` trip theorem too), so they cover it. -/
theorem cover0_B_16 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S1x1x8.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.1 S1x1x8.size (by sl_kernel_rfl) y

/-- What case B leaves in output 16's staging buffer: its pieces read back over junk. -/
def out0_B_16 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S1x1x8 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.1)

/-- Case B's pieces for output 17 tile its block (1 store of `S1x1x8`, checked by the kernel's evaluation: Lib/Ring.lean `Piece.tiledL`, linear in the pieces, through a loop's `@[irreducible]` trip theorem too), so they cover it. -/
theorem cover0_B_17 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S1x1x8.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.1 S1x1x8.size (by sl_kernel_rfl) y

/-- What case B leaves in output 17's staging buffer: its pieces read back over junk. -/
def out0_B_17 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S1x1x8 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.1)

/-- Case B's pieces for output 18 tile its block (1 store of `S1x1x8`, checked by the kernel's evaluation: Lib/Ring.lean `Piece.tiledL`, linear in the pieces, through a loop's `@[irreducible]` trip theorem too), so they cover it. -/
theorem cover0_B_18 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S1x1x8.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.2.1 S1x1x8.size (by sl_kernel_rfl) y

/-- What case B leaves in output 18's staging buffer: its pieces read back over junk. -/
def out0_B_18 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S1x1x8 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.2.1)

/-- Case B's pieces for scratch `arg21`, which the kernel carries between points, cover it: 8 pieces of `S1x128x64` tiling it (Lib/Ring.lean `Piece.tiledL`). -/
theorem scover0_B_0 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) (y : S8x128x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.2.2.1 S1x128x64.size (by sl_kernel_rfl) y

/-- What case B leaves in scratch `arg21`: its pieces read back over junk. -/
def sout0_B_0 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x256x8 .f32) (harg5 : arg5.IsWhole) (arg6 : Memref sig .tc .vmem S1x8x256 .f32) (harg6 : arg6.IsWhole) (arg7 : Memref sig .tc .vmem S1x1x8 .f32) (harg7 : arg7.IsWhole) (arg8 : Memref sig .tc .vmem S1x8x1 .f32) (harg8 : arg8.IsWhole) (arg9 : Memref sig .tc .vmem S1x1x8 .f32) (harg9 : arg9.IsWhole) (arg10 : Memref sig .tc .vmem S1x8x1 .f32) (harg10 : arg10.IsWhole) (arg11 : Memref sig .tc .vmem S1x1x8 .f32) (harg11 : arg11.IsWhole) (arg12 : Memref sig .tc .vmem S256x512 .f32) (harg12 : arg12.IsWhole) (arg13 : Memref sig .tc .vmem S1x8x128x64 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S1x256x8 .f32) (harg17 : arg17.IsWhole) (arg18 : Memref sig .tc .vmem S1x1x8 .f32) (harg18 : arg18.IsWhole) (arg19 : Memref sig .tc .vmem S1x1x8 .f32) (harg19 : arg19.IsWhole) (arg20 : Memref sig .tc .vmem S1x1x8 .f32) (harg20 : arg20.IsWhole) (arg21 : Memref sig .tc .vmem S8x128x64 .f32) (harg21 : arg21.IsWhole) (hc0 : ¬cond0_0 i)
    (x0 : Vec F S256x512 .f32) (x1 : Vec F S256x128 .f32) (x2 : Vec F S256x128 .f32) (x3 : Vec F S1x256x8 .f32) (x4 : Vec F S1x8x256 .f32) (x5 : Vec F S1x1x8 .f32) (x6 : Vec F S1x8x1 .f32) (x7 : Vec F S1x1x8 .f32) (x8 : Vec F S1x8x1 .f32) (x9 : Vec F S1x1x8 .f32) (x10 : Vec F S256x512 .f32) (x11 : Vec F S1x8x128x64 .f32) (xo16 : Vec F S1x1x8 .f32) (xo17 : Vec F S1x1x8 .f32) (xo18 : Vec F S1x1x8 .f32) (xs0 : Vec F S8x128x64 .f32) : Vec F S8x128x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo16 xo17 xo18 xs0).2.2.2.2.2.2.2.1)

/-! ## What the outputs hold after each point -/

end Cert.KernelIdeal.Gen

end
-- ==== Proof.Ssd.Frame.lean ====
/-
  The frame of the scan's backward kernel: its outputs point by point, the obligation of its body, and the run that leaves
  every argument as it was.  (Generated text, over `Ssd.Outputs`.)
-/
module

public import proofs.«01_k».proof.Proof.Ssd.Outputs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x512 .f32 × Vec F S256x128 .f32 × Vec F S256x128 .f32 × Vec F S1x256x8 .f32 × Vec F S1x1x8 .f32 × Vec F S1x1x8 .f32 × Vec F S1x1x8 .f32 × Vec F S8x128x64 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 32 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 32 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 32 = 0) (d) :
    (dats m 0 c).before 16 t d = (outsAt0 m c (t.val - 1) (Nat.lt_of_le_of_lt (Nat.sub_le _ _) t.isLt)).2.2.2.2.1 := by
  have hN : t.val < 128 := lt_of_lt_of_eq t.isLt (show cfg0.N = 128 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.1 := by
  have hN : t.val < 128 := lt_of_lt_of_eq t.isLt (show cfg0.N = 128 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 32 = 0) (d) :
    (dats m 0 c).before 18 t d = (outsAt0 m c (t.val - 1) (Nat.lt_of_le_of_lt (Nat.sub_le _ _) t.isLt)).2.2.2.2.2.2.1 := by
  have hN : t.val < 128 := lt_of_lt_of_eq t.isLt (show cfg0.N = 128 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 128 := lt_of_lt_of_eq t.isLt (show cfg0.N = 128 from N_0)
  by_cases h0 : t.val % 32 = 0
  · by_cases hz : t.val = 0
    · rw [PhiS_castSucc m c t, PhiS_zero m c _ _ hz, PhiA0_eq]
      rw [outsAt0_A m c t h0]
      unfold out0_A_12 out0_A_13 out0_A_14 out0_A_15 out0_A_16 out0_A_17 out0_A_18 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_12 out0_A_13 out0_A_14 out0_A_15 out0_A_16 out0_A_17 out0_A_18 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexists _; iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      simp only [before0_16_B m c t h0, before0_17_B m c t h0, before0_18_B m c t h0]
      unfold out0_B_12 out0_B_13 out0_B_14 out0_B_15 out0_B_16 out0_B_17 out0_B_18 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexact H16
      isplitl [H17]; · iexact H17
      isplitl [H18]; · iexact H18
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Ssd.FrameBits.lean ====
/-
  The frame of the kernel as printed.  Its text is the named one's but for the mask: with the mask's name read as the constant
  itself the two programs are the same, at machine numbers, and the frame of the one is the frame of the other.
-/
module

public import proofs.«01_k».proof.Defs
public import proofs.«01_k».proof.Proof.Gen.Kernel
public import proofs.«01_k».proof.Proof.Ssd.Frame

@[expose] public section

set_option maxRecDepth 16384
set_option maxHeartbeats 4000000

noncomputable section

namespace Cert.KernelIdeal.Ssd

open Idealize.ShloMosaic Idealize.ShloMosaic.TcCoe Idealize.SL.Sem

/-- At machine numbers a named constant is the constant itself. -/
local instance : Named Bits where
  named _ _ φ bits := FloatOps.ofBits φ bits

-- the two programs' tables are matched by functions of their own, which are unfolded like any other
set_option smartUnfolding false

theorem main_part0_eq (d) : Cert.Kernel.main_part0 (F := Bits) d = Cert.KernelIdeal.main_part0 (F := Bits) d := rfl

theorem main_part1_eq (d) : Cert.Kernel.main_part1 (F := Bits) d = Cert.KernelIdeal.main_part1 (F := Bits) d := rfl

/-- The two host programs are one. -/
theorem main_eq : Cert.Kernel.main (F := Bits) = Cert.KernelIdeal.main (F := Bits) := by
  funext d
  unfold Cert.Kernel.main
  rw [main_part0_eq, main_part1_eq]
  rfl

theorem defs₀_eq : Cert.Kernel.defs₀ (F := Bits) = Cert.KernelIdeal.defs₀ (F := Bits) := by
  refine congrArg (Defs.onTc (nD := Cert.Kernel.nD) (τ := Cert.Kernel.τ) (Λ := Cert.Kernel.Λ₀)) ?_
  funext l a
  match l, a with
  | 0, (t, s) => rfl

/-- The two kernels are one. -/
theorem defs_eq : Cert.Kernel.defs (F := Bits) = Cert.KernelIdeal.defs (F := Bits) := by
  unfold Cert.Kernel.defs
  rw [defs₀_eq]
  rfl

/-- The frame of the kernel as printed. -/
theorem frame_p : Cert.quiescent_Kernel := fun m ρ _ => by
  rw [defs_eq, main_eq]
  exact Cert.KernelIdeal.Gen.frame (F := Bits) m ρ

end Cert.KernelIdeal.Ssd
-- ==== Proof.Ssd.Cumsum.lean ====
/-
  A running sum along an axis of 256, and the running sum from the end, as plain sums.
-/
module

public import proofs.«01_k».proof.Proof.Gen.ReferenceIdeal
public import Idealize.ShloMosaic.Lib.Pointwise

@[expose] public section

set_option maxRecDepth 16384
set_option maxHeartbeats 1000000

noncomputable section

namespace Cert.ReferenceIdeal.Ssd

open Idealize.ShloMosaic Cert.ReferenceIdeal

theorem foldl_add {ι : Type} (F : ι → EReal) (l : List ι) (v : EReal) : l.foldl (fun r n => r + F n) v = v + (l.map F).sum := by
  induction l generalizing v with
  | nil => simp
  | cons a l ih => rw [List.foldl_cons, ih, List.map_cons, List.sum_cons, add_assoc]

/-- The window's positions. -/
abbrev W : Shape := ⟨4, ![1, 256, 1, 1]⟩

def eW : W.Idx ≃ Fin 256 where
  toFun i := i 1
  invFun k := ix4 (0 : Fin 1) k (0 : Fin 1) (0 : Fin 1)
  left_inv i := by
    funext a
    match a with
    | 0 => have : (i 0).val < 1 := (i 0).isLt
           apply Fin.ext; show 0 = (i 0).val; omega
    | 1 => rfl
    | 2 => have : (i 2).val < 1 := (i 2).isLt
           apply Fin.ext; show 0 = (i 2).val; omega
    | 3 => have : (i 3).val < 1 := (i 3).isLt
           apply Fin.ext; show 0 = (i 3).val; omega
  right_inv _ := rfl

theorem window_sum (y : Fin 256 → EReal) (l : Fin 256) (lo : ℕ) (hlo : lo < 256) :
    ∑ k : Fin 256, (if h : lo ≤ l.val + k.val ∧ l.val + k.val - lo < 256 then y ⟨l.val + k.val - lo, h.2⟩ else 0)
      = ∑ j : Fin 256, if l.val ≤ j.val + lo ∧ j.val + lo < l.val + 256 then y j else 0 := by
  rw [← Finset.sum_filter_add_sum_filter_not Finset.univ (fun k : Fin 256 => lo ≤ l.val + k.val ∧ l.val + k.val - lo < 256),
    Finset.sum_eq_zero (s := Finset.univ.filter fun k : Fin 256 => ¬ (lo ≤ l.val + k.val ∧ l.val + k.val - lo < 256))
      (fun k hk => dif_neg (Finset.mem_filter.mp hk).2), add_zero, ← Finset.sum_filter]
  refine Finset.sum_bij' (fun k hk => (⟨l.val + k.val - lo, (Finset.mem_filter.mp hk).2.2⟩ : Fin 256))
    (fun j hj => (⟨j.val + lo - l.val, by have := (Finset.mem_filter.mp hj).2; omega⟩ : Fin 256)) ?_ ?_ ?_ ?_ ?_
  · intro k hk; have := (Finset.mem_filter.mp hk).2; have := k.isLt
    refine Finset.mem_filter.mpr ⟨Finset.mem_univ _, ?_⟩
    show l.val ≤ l.val + k.val - lo + lo ∧ l.val + k.val - lo + lo < l.val + 256; omega
  · intro j hj; have := (Finset.mem_filter.mp hj).2; have := j.isLt
    refine Finset.mem_filter.mpr ⟨Finset.mem_univ _, ?_⟩
    show lo ≤ l.val + (j.val + lo - l.val) ∧ l.val + (j.val + lo - l.val) - lo < 256; omega
  · intro k hk; have := (Finset.mem_filter.mp hk).2; apply Fin.ext; show l.val + k.val - lo + lo - l.val = k.val; omega
  · intro j hj; have := (Finset.mem_filter.mp hj).2; apply Fin.ext; show l.val + (j.val + lo - l.val) - lo = j.val; omega
  · intro k hk; exact dif_pos (Finset.mem_filter.mp hk).2

theorem window_read (lo hi : ℕ) (hlo : lo < 256) (x : FVec Ideal S32x256x4x8 .f32) (v : FVec Ideal S_ .f32) (hv : ∀ i, v i = (0 : EReal))
    (h : S32x256x4x8.ReduceWindows ![1, 256, 1, 1] ![1, 1, 1, 1] ![0, lo, 0, 0] ![0, hi, 0, 0] S32x256x4x8) (hu : 0 < S_.numel)
    (c : Fin 32) (l : Fin 256) (g : Fin 4) (r : Fin 8) :
    Host.reduceWindowAdd ![1, 256, 1, 1] ![1, 1, 1, 1] ![0, lo, 0, 0] ![0, hi, 0, 0] x v h hu (ix4 c l g r)
      = ∑ j : Fin 256, if l.val ≤ j.val + lo ∧ j.val + lo < l.val + 256 then x (ix4 c j g r) else 0 := by
  have e : ∀ F : W.Idx → EReal, ((List.finRange W.numel).map fun n => F (W.rowMajor.symm n)).sum = ∑ k : Fin 256, F (eW.symm k) := by
    intro F
    rw [← Fin.sum_univ_def, Equiv.sum_comp W.rowMajor.symm F, ← Equiv.sum_comp eW.symm F]
  rw [← window_sum (fun j => x (ix4 c j g r)) l lo hlo]
  unfold Host.reduceWindowAdd
  rw [Ideal.hostReduceWindowAdd_def]
  unfold Ideal.hostReduceWindowAdd Host.reduceWindow
  refine (foldl_add _ _ _).trans ?_
  rw [hv, zero_add]
  refine Eq.trans (congrArg List.sum (List.map_congr_left fun n _ => ?_)) (e (fun i => if hin : ∀ a, (![0, lo, 0, 0] : Fin 4 → ℕ) a ≤ (ix4 c l g r a).val * (![1, 1, 1, 1] : Fin 4 → ℕ) a + (i a).val ∧
      (ix4 c l g r a).val * (![1, 1, 1, 1] : Fin 4 → ℕ) a + (i a).val - (![0, lo, 0, 0] : Fin 4 → ℕ) a < S32x256x4x8.size a
      then x (fun a => ⟨_, (hin a).2⟩) else 0) |>.trans ?_)
  · exact dite_congr rfl (fun _ => rfl) (fun _ => rfl)
  refine Finset.sum_congr rfl fun k _ => ?_
  by_cases hk : lo ≤ l.val + k.val ∧ l.val + k.val - lo < 256
  · have hin : ∀ a, (![0, lo, 0, 0] : Fin 4 → ℕ) a ≤ (ix4 c l g r a).val * (![1, 1, 1, 1] : Fin 4 → ℕ) a + (eW.symm k a).val ∧
      (ix4 c l g r a).val * (![1, 1, 1, 1] : Fin 4 → ℕ) a + (eW.symm k a).val - (![0, lo, 0, 0] : Fin 4 → ℕ) a < S32x256x4x8.size a := by
      intro a
      match a with
      | 0 => exact ⟨Nat.zero_le _, by show c.val * 1 + 0 - 0 < 32; omega⟩
      | 1 => exact ⟨by show lo ≤ l.val * 1 + k.val; omega, by show l.val * 1 + k.val - lo < 256; omega⟩
      | 2 => exact ⟨Nat.zero_le _, by show g.val * 1 + 0 - 0 < 4; omega⟩
      | 3 => exact ⟨Nat.zero_le _, by show r.val * 1 + 0 - 0 < 8; omega⟩
    rw [dif_pos hin, dif_pos hk]
    congr 1
    funext a
    apply Fin.ext
    match a with
    | 0 => show c.val * 1 + 0 - 0 = c.val; omega
    | 1 => show l.val * 1 + k.val - lo = l.val + k.val - lo; omega
    | 2 => show g.val * 1 + 0 - 0 = g.val; omega
    | 3 => show r.val * 1 + 0 - 0 = r.val; omega
  · rw [dif_neg hk, dif_neg]
    intro hin
    have h1 := hin 1
    have h2 : lo ≤ l.val * 1 + k.val ∧ l.val * 1 + k.val - lo < 256 := h1
    omega

/-- The running sum. -/
theorem cumsum_read (x : FVec Ideal S32x256x4x8 .f32) (v : FVec Ideal S_ .f32) (hv : ∀ i, v i = (0 : EReal))
    (h : S32x256x4x8.ReduceWindows ![1, 256, 1, 1] ![1, 1, 1, 1] ![0, 255, 0, 0] ![0, 0, 0, 0] S32x256x4x8) (hu : 0 < S_.numel)
    (c : Fin 32) (l : Fin 256) (g : Fin 4) (r : Fin 8) :
    Host.reduceWindowAdd ![1, 256, 1, 1] ![1, 1, 1, 1] ![0, 255, 0, 0] ![0, 0, 0, 0] x v h hu (ix4 c l g r)
      = ∑ j : Fin 256, if j ≤ l then x (ix4 c j g r) else 0 := by
  rw [window_read 255 0 (by norm_num) x v hv]
  refine Finset.sum_congr rfl fun j _ => ?_
  congr 1
  have := l.isLt; have := j.isLt
  simp only [Fin.le_def, eq_iff_iff]; omega

/-- The running sum from the end. -/
theorem revsum_read (x : FVec Ideal S32x256x4x8 .f32) (v : FVec Ideal S_ .f32) (hv : ∀ i, v i = (0 : EReal))
    (h : S32x256x4x8.ReduceWindows ![1, 256, 1, 1] ![1, 1, 1, 1] ![0, 0, 0, 0] ![0, 255, 0, 0] S32x256x4x8) (hu : 0 < S_.numel)
    (c : Fin 32) (l : Fin 256) (g : Fin 4) (r : Fin 8) :
    Host.reduceWindowAdd ![1, 256, 1, 1] ![1, 1, 1, 1] ![0, 0, 0, 0] ![0, 255, 0, 0] x v h hu (ix4 c l g r)
      = ∑ j : Fin 256, if l ≤ j then x (ix4 c j g r) else 0 := by
  rw [window_read 0 255 (by norm_num) x v hv]
  refine Finset.sum_congr rfl fun j _ => ?_
  congr 1
  have := l.isLt; have := j.isLt
  simp only [Fin.le_def, eq_iff_iff]; omega

end Cert.ReferenceIdeal.Ssd

end
-- ==== Proof.Ssd.Model.lean ====
/-
  One grid point of the scan's backward kernel over the reals: the same quantities as `Ssd.Head`, for finite inputs.
-/
module

public import Mathlib.Analysis.SpecialFunctions.Log.Basic
public import Mathlib.Algebra.BigOperators.Fin

@[expose] public section

noncomputable section

namespace Cert.KernelIdeal.Ssd

/-- The softplus as the kernel computes it. -/
def sp (t : ℝ) : ℝ := max t 0 + Real.log (1 + Real.exp (0 - max t (-t)))

/-- What one grid point loads, over the reals. -/
structure Data where
  x : Fin 8 → Fin 256 → Fin 64 → ℝ
  dy : Fin 8 → Fin 256 → Fin 64 → ℝ
  h : Fin 8 → Fin 128 → Fin 64 → ℝ
  d : Fin 8 → Fin 128 → Fin 64 → ℝ
  b : Fin 256 → Fin 128 → ℝ
  c : Fin 256 → Fin 128 → ℝ
  u : Fin 256 → Fin 8 → ℝ
  bias : Fin 8 → ℝ
  al : Fin 8 → ℝ
  dk : Fin 8 → ℝ

namespace Data

variable (ρ : Data)

def dt (l : Fin 256) (r : Fin 8) : ℝ := sp (ρ.u l r + ρ.bias r)
def a (r : Fin 8) : ℝ := 0 - Real.exp (ρ.al r)
/-- The cumulated log decay. -/
def A (l : Fin 256) (r : Fin 8) : ℝ := ∑ j : Fin 256, (if j ≤ l then 1 else 0) * (ρ.dt j r * ρ.a r)
/-- The decay from position `s` to position `l`. -/
def E (r : Fin 8) (l s : Fin 256) : ℝ := if s ≤ l then Real.exp (ρ.A l r - ρ.A s r) else 0
def cb (l s : Fin 256) : ℝ := ∑ n, ρ.c l n * ρ.b s n
def xdt (r : Fin 8) (l : Fin 256) (p : Fin 64) : ℝ := ρ.x r l p * ρ.dt l r
def pm (r : Fin 8) (l s : Fin 256) : ℝ := (∑ p, ρ.dy r l p * ρ.xdt r s p) * ρ.E r l s
def mt (r : Fin 8) (s l : Fin 256) : ℝ := ρ.cb l s * ρ.E r l s
def wt (r : Fin 8) (s l : Fin 256) : ℝ := (∑ p, ρ.xdt r s p * ρ.dy r l p) * ρ.mt r s l
def toEnd (r : Fin 8) (l : Fin 256) : ℝ := Real.exp (ρ.A 255 r - ρ.A l r)
def dxdt (r : Fin 8) (s : Fin 256) (p : Fin 64) : ℝ :=
  ∑ l, ρ.mt r s l * ρ.dy r l p + ρ.toEnd r s * ∑ n, ρ.b s n * ρ.d r n p
def dxs (r : Fin 8) (s : Fin 256) (p : Fin 64) : ℝ := ρ.dxdt r s p * ρ.dt s r + ρ.dk r * ρ.dy r s p
def dcT (r : Fin 8) (l : Fin 256) (n : Fin 128) : ℝ := Real.exp (ρ.A l r) * ∑ p, ρ.dy r l p * ρ.h r n p
def dbT (r : Fin 8) (s : Fin 256) (n : Fin 128) : ℝ := ρ.toEnd r s * ∑ p, ρ.xdt r s p * ρ.d r n p
def newD (r : Fin 8) (n : Fin 128) (p : Fin 64) : ℝ :=
  Real.exp (ρ.A 255 r) * ρ.d r n p + ∑ l, ρ.c l n * (ρ.dy r l p * Real.exp (ρ.A l r))
def daRow (r : Fin 8) (l : Fin 256) : ℝ :=
  (∑ s, ρ.wt r s l - ∑ s, ρ.pm r s l * ρ.cb s l) + Real.exp (ρ.A l r) * ∑ n, ρ.c l n * ∑ p, ρ.h r n p * ρ.dy r l p
def qRow (r : Fin 8) (l : Fin 256) : ℝ :=
  Real.exp (ρ.A 255 r - ρ.A l r) * ∑ n, ρ.b l n * ∑ p, ρ.d r n p * ρ.xdt r l p
def tot (r : Fin 8) : ℝ := Real.exp (ρ.A 255 r) * ∑ n, ∑ p, ρ.d r n p * ρ.h r n p
def sx (r : Fin 8) (l : Fin 256) : ℝ := ∑ p, ρ.dxdt r l p * ρ.x r l p
def ddk (r : Fin 8) : ℝ := ∑ l, ∑ p, ρ.dy r l p * ρ.x r l p
def dc (l : Fin 256) (n : Fin 128) : ℝ := ∑ r, ρ.dcT r l n + ∑ s, (∑ r, ρ.pm r l s) * ρ.b s n
def db (s : Fin 256) (n : Fin 128) : ℝ := ∑ r, ρ.dbT r s n + ∑ l, (∑ r, ρ.pm r l s) * ρ.c l n
def dda (l : Fin 256) (r : Fin 8) : ℝ :=
  ∑ s, (if l ≤ s then 1 else 0) * ρ.daRow r s + ∑ s, (if s < l then 1 else 0) * ρ.qRow r s + ρ.tot r
def ddt (l : Fin 256) (r : Fin 8) : ℝ := ρ.dda l r * ρ.a r + ρ.sx r l
def ddu (l : Fin 256) (r : Fin 8) : ℝ := ρ.ddt l r * (1 / (1 + Real.exp (0 - (ρ.u l r + ρ.bias r))))
def dal (r : Fin 8) : ℝ := (∑ l, ρ.dda l r * ρ.dt l r) * ρ.a r
def dbias (r : Fin 8) : ℝ := ∑ l, ρ.ddu l r

end Data

end Cert.KernelIdeal.Ssd

end
-- ==== Proof.Ssd.Arrays.lean ====
/-
  The whole arrays over the reals: the chunks of a group, the states between chunks and their gradients, as the
  reference writes them.
-/
module

public import proofs.«01_k».proof.Proof.Ssd.Model

@[expose] public section

noncomputable section

namespace Cert.KernelIdeal.Ssd

/-- Row `l` of chunk `c`. -/
abbrev row (c : Fin 32) (l : Fin 256) : Fin 8192 := ⟨c.val * 256 + l.val, by omega⟩
/-- Head `r` of group `g`. -/
abbrev hd (g : Fin 4) (r : Fin 8) : Fin 32 := ⟨g.val * 8 + r.val, by omega⟩
/-- Column `p` of head `r` of group `g`. -/
abbrev colX (g : Fin 4) (r : Fin 8) (p : Fin 64) : Fin 2048 := ⟨g.val * 512 + r.val * 64 + p.val, by omega⟩
/-- The same column, among the joint operand's. -/
abbrev colX' (g : Fin 4) (r : Fin 8) (p : Fin 64) : Fin 3072 := ⟨g.val * 512 + r.val * 64 + p.val, by omega⟩
abbrev colB (g : Fin 4) (n : Fin 128) : Fin 3072 := ⟨2048 + (g.val * 128 + n.val), by omega⟩
abbrev colC (g : Fin 4) (n : Fin 128) : Fin 3072 := ⟨2560 + (g.val * 128 + n.val), by omega⟩

/-- The arguments, over the reals. -/
structure Arr where
  xbc : Fin 8192 → Fin 3072 → ℝ
  raw : Fin 8192 → Fin 32 → ℝ
  bias : Fin 32 → ℝ
  alog : Fin 32 → ℝ
  skip : Fin 32 → ℝ
  dy : Fin 8192 → Fin 2048 → ℝ

namespace Arr

variable (α : Arr)

/-- What the kernel loads for chunk `c` of group `g`, with the state `h` before the chunk and the gradient `d` after it. -/
def data (g : Fin 4) (c : Fin 32) (h d : Fin 8 → Fin 128 → Fin 64 → ℝ) : Data where
  x r l p := α.xbc (row c l) (colX' g r p)
  dy r l p := α.dy (row c l) (colX g r p)
  h := h
  d := d
  b l n := α.xbc (row c l) (colB g n)
  c l n := α.xbc (row c l) (colC g n)
  u l r := α.raw (row c l) (hd g r)
  bias r := α.bias (hd g r)
  al r := α.alog (hd g r)
  dk r := α.skip (hd g r)

/-- The part of it that needs no state. -/
abbrev base (g : Fin 4) (c : Fin 32) : Data := α.data g c (fun _ _ _ => 0) (fun _ _ _ => 0)

/-- What chunk `c` adds to the state. -/
def S (g : Fin 4) (c : Fin 32) (r : Fin 8) (n : Fin 128) (p : Fin 64) : ℝ :=
  ∑ l, ((α.base g c).toEnd r l * (α.base g c).xdt r l p) * (α.base g c).b l n
/-- The log decay over chunk `c`. -/
def T (g : Fin 4) (c : Fin 32) (r : Fin 8) : ℝ := (α.base g c).A 255 r
/-- The log decay over the chunks strictly between `c` and `z`. -/
def gap (g : Fin 4) (z c : Fin 32) (r : Fin 8) : ℝ := ∑ j, if c < j ∧ j < z then α.T g j r else 0
def carry (g : Fin 4) (z c : Fin 32) (r : Fin 8) : ℝ := if c < z then Real.exp (α.gap g z c r) else 0
/-- The state before chunk `z`. -/
def prev (g : Fin 4) (z : Fin 32) (r : Fin 8) (n : Fin 128) (p : Fin 64) : ℝ := ∑ c, α.S g c r n p * α.carry g z c r
/-- What chunk `c`'s outputs give back to the state before it. -/
def dprev (g : Fin 4) (c : Fin 32) (r : Fin 8) (n : Fin 128) (p : Fin 64) : ℝ :=
  ∑ l, ((α.base g c).dy r l p * Real.exp ((α.base g c).A l r)) * (α.base g c).c l n
/-- The gradient of what chunk `c` adds to the state. -/
def dS (g : Fin 4) (c : Fin 32) (r : Fin 8) (n : Fin 128) (p : Fin 64) : ℝ := ∑ z, α.dprev g z r n p * α.carry g z c r

/-- Chunk `c` of group `g` with its state and its state's gradient. -/
abbrev full (g : Fin 4) (c : Fin 32) : Data := α.data g c (α.prev g c) (α.dS g c)

/-! ## The state's gradient from chunk to chunk -/

theorem gap_succ (g : Fin 4) (z c c' : Fin 32) (h' : c'.val = c.val + 1) (h : c' < z) (r : Fin 8) :
    α.gap g z c r = α.T g c' r + α.gap g z c' r := by
  have e : ∀ j : Fin 32, (if c < j ∧ j < z then α.T g j r else 0) = (if j = c' then α.T g c' r else 0) + (if c' < j ∧ j < z then α.T g j r else 0) := by
    intro j
    rcases lt_trichotomy j c' with hj | hj | hj
    · have : ¬ c < j := by simp only [Fin.lt_def] at *; omega
      rw [if_neg (by tauto), if_neg hj.ne, if_neg (by simp only [Fin.lt_def] at *; omega), add_zero]
    · subst hj
      rw [if_pos ⟨by simp only [Fin.lt_def] at *; omega, h⟩, if_pos rfl, if_neg (by simp), add_zero]
    · rw [if_neg hj.ne', zero_add]
      congr 1
      simp only [Fin.lt_def] at *
      exact propext ⟨fun a => ⟨hj, a.2⟩, fun a => ⟨by omega, a.2⟩⟩
  unfold gap
  rw [Finset.sum_congr rfl fun j _ => e j, Finset.sum_add_distrib, Finset.sum_ite_eq' Finset.univ c', if_pos (Finset.mem_univ _)]

theorem carry_next (g : Fin 4) (z c : Fin 32) (h' : z.val = c.val + 1) (r : Fin 8) : α.carry g z c r = 1 := by
  have : α.gap g z c r = 0 := Finset.sum_eq_zero fun j _ => if_neg (by simp only [Fin.lt_def]; omega)
  rw [carry, if_pos (by simp only [Fin.lt_def]; omega), this, Real.exp_zero]

theorem carry_succ (g : Fin 4) (z c c' : Fin 32) (h' : c'.val = c.val + 1) (r : Fin 8) :
    α.carry g z c r = Real.exp (α.T g c' r) * α.carry g z c' r + (if z = c' then 1 else 0) := by
  rcases lt_trichotomy z c' with h | h | h
  · have h1 : ¬ c < z := by simp only [Fin.lt_def] at *; omega
    have h2 : ¬ c' < z := by simp only [Fin.lt_def] at *; omega
    rw [carry, if_neg h1, carry, if_neg h2, if_neg h.ne, mul_zero, add_zero]
  · subst h
    rw [α.carry_next g z c h', carry, if_neg (lt_irrefl _), mul_zero, zero_add, if_pos rfl]
  · have h1 : c < z := by simp only [Fin.lt_def] at *; omega
    rw [carry, if_pos h1, carry, if_pos h, α.gap_succ g z c c' h' h, Real.exp_add, if_neg h.ne', add_zero]

theorem dS_last (g : Fin 4) (c : Fin 32) (h : c.val = 31) (r : Fin 8) (n : Fin 128) (p : Fin 64) : α.dS g c r n p = 0 :=
  Finset.sum_eq_zero fun z _ => by rw [carry, if_neg (by simp only [Fin.lt_def]; omega), mul_zero]

theorem dS_succ (g : Fin 4) (c c' : Fin 32) (h' : c'.val = c.val + 1) (r : Fin 8) (n : Fin 128) (p : Fin 64) :
    α.dS g c r n p = (α.full g c').newD r n p := by
  show _ = Real.exp (α.T g c' r) * α.dS g c' r n p + _
  unfold dS
  have e : ∀ z, α.dprev g z r n p * α.carry g z c r = Real.exp (α.T g c' r) * (α.dprev g z r n p * α.carry g z c' r) + (if z = c' then α.dprev g z r n p else 0) := by
    intro z
    rw [α.carry_succ g z c c' h']
    split <;> ring
  rw [Finset.sum_congr rfl fun z _ => e z, Finset.sum_add_distrib, ← Finset.mul_sum, Finset.sum_ite_eq' Finset.univ c', if_pos (Finset.mem_univ _)]
  congr 1
  exact Finset.sum_congr rfl fun l _ => by rw [mul_comm]; rfl

theorem gap_split (g : Fin 4) (z j c : Fin 32) (h1 : c < j) (h2 : j < z) (r : Fin 8) :
    α.gap g z c r = α.gap g z j r + (α.T g j r + α.gap g j c r) := by
  have e : ∀ i : Fin 32, (if c < i ∧ i < z then α.T g i r else 0) = (if j < i ∧ i < z then α.T g i r else 0) + ((if i = j then α.T g j r else 0) + (if c < i ∧ i < j then α.T g i r else 0)) := by
    intro i
    rcases lt_trichotomy i j with hj | hj | hj
    · rw [if_neg (c := j < i ∧ i < z) (by simp only [Fin.lt_def] at *; omega), if_neg hj.ne, zero_add, zero_add]
      congr 1
      exact propext ⟨fun a => ⟨a.1, hj⟩, fun a => ⟨a.1, hj.trans h2⟩⟩
    · subst hj
      rw [if_pos ⟨h1, h2⟩, if_pos rfl, if_neg (by simp), if_neg (by simp), zero_add, add_zero]
    · rw [if_neg hj.ne', if_neg (c := c < i ∧ i < j) (by simp only [Fin.lt_def] at *; omega), add_zero, add_zero]
      congr 1
      exact propext ⟨fun a => ⟨hj, a.2⟩, fun a => ⟨h1.trans hj, a.2⟩⟩
  unfold gap
  rw [Finset.sum_congr rfl fun i _ => e i, Finset.sum_add_distrib, Finset.sum_add_distrib, Finset.sum_ite_eq' Finset.univ j, if_pos (Finset.mem_univ _)]

theorem carry_split (g : Fin 4) (z j c : Fin 32) (r : Fin 8) :
    (if c < j ∧ j < z then α.carry g z c r else 0) = Real.exp (α.T g j r) * (α.carry g z j r * α.carry g j c r) := by
  by_cases h1 : c < j
  · by_cases h2 : j < z
    · rw [if_pos ⟨h1, h2⟩, carry, if_pos (h1.trans h2), carry, if_pos h2, carry, if_pos h1, α.gap_split g z j c h1 h2, Real.exp_add, Real.exp_add]
      ring
    · rw [if_neg (by tauto), carry, if_neg h2, zero_mul, mul_zero]
  · rw [if_neg (by tauto), carry.eq_1 α g j c, if_neg h1, mul_zero, mul_zero]

/-- What the log decay of chunk `j` receives from the states that pass over it. -/
theorem total (g : Fin 4) (j : Fin 32) (r : Fin 8) :
    ∑ z, ∑ c, (if c < j ∧ j < z then (∑ p, ∑ n, α.dprev g z r n p * α.S g c r n p) * α.carry g z c r else 0) = (α.full g j).tot r := by
  have e : ∀ z c, (if c < j ∧ j < z then (∑ p, ∑ n, α.dprev g z r n p * α.S g c r n p) * α.carry g z c r else 0)
      = Real.exp (α.T g j r) * ∑ n, ∑ p, (α.dprev g z r n p * α.carry g z j r) * (α.S g c r n p * α.carry g j c r) := by
    intro z c
    have := α.carry_split g z j c r
    rw [show (if c < j ∧ j < z then (∑ p, ∑ n, α.dprev g z r n p * α.S g c r n p) * α.carry g z c r else 0)
      = (∑ p, ∑ n, α.dprev g z r n p * α.S g c r n p) * (if c < j ∧ j < z then α.carry g z c r else 0) from by split <;> simp, this, Finset.sum_comm,
      Finset.sum_mul, Finset.mul_sum]
    refine Finset.sum_congr rfl fun n _ => ?_
    rw [Finset.sum_mul, Finset.mul_sum]
    exact Finset.sum_congr rfl fun p _ => by ring
  rw [Finset.sum_congr rfl fun z _ => Finset.sum_congr rfl fun c _ => e z c]
  show _ = Real.exp (α.T g j r) * ∑ n, ∑ p, α.dS g j r n p * α.prev g j r n p
  simp only [← Finset.mul_sum]
  congr 1
  calc _ = ∑ z, ∑ n, ∑ c, ∑ p, (α.dprev g z r n p * α.carry g z j r) * (α.S g c r n p * α.carry g j c r) :=
        Finset.sum_congr rfl fun z _ => Finset.sum_comm
    _ = ∑ n, ∑ z, ∑ p, ∑ c, (α.dprev g z r n p * α.carry g z j r) * (α.S g c r n p * α.carry g j c r) := by
        rw [Finset.sum_comm]
        exact Finset.sum_congr rfl fun n _ => Finset.sum_congr rfl fun z _ => Finset.sum_comm
    _ = _ := Finset.sum_congr rfl fun n _ => by
        rw [Finset.sum_comm]
        exact Finset.sum_congr rfl fun p _ => by rw [dS, prev, Finset.sum_mul_sum]

end Arr

end Cert.KernelIdeal.Ssd

end
-- ==== Proof.Ssd.Head.lean ====
/-
  One step of the scan's backward kernel, written once for any head: the values the kernel computes from what it
  loads at one grid point, as functions of the head r < 8.  The kernel's text repeats them for each head in turn.
-/
module

public import proofs.«01_k».proof.Proof.Gen.KernelIdeal.Skeleton
public import Idealize.ShloMosaic.PureOps.Ideal

@[expose] public section

noncomputable section

namespace Cert.KernelIdeal.Ssd

open Idealize.ShloMosaic Cert.KernelIdeal.Gen

/-- What one grid point loads: per head the block of `x` and of `dy`, the saved state and the carried gradient of the
    state; and the shared `B`, `C`, raw `dt` (columns and rows), biases, `log a` and skip weights. -/
structure Loads where
  x : Fin 8 → FVec Ideal S256x64 .f32
  dy : Fin 8 → FVec Ideal S256x64 .f32
  h : Fin 8 → FVec Ideal S1x1x128x64 .f32
  d : Fin 8 → FVec Ideal S1x128x64 .f32
  b : FVec Ideal S256x128 .f32
  c : FVec Ideal S256x128 .f32
  zc : FVec Ideal S1x256x8 .f32
  zr : FVec Ideal S1x8x256 .f32
  bc : FVec Ideal S1x1x8 .f32
  br : FVec Ideal S1x8x1 .f32
  ac : FVec Ideal S1x1x8 .f32
  ar : FVec Ideal S1x8x1 .f32
  kc : FVec Ideal S1x1x8 .f32

variable (D : Loads) (r : Fin 8)

theorem slA (r : Fin 8) : S256x1024.Slices ![0, 128 * r.val] S256x128 := by revert r; decide
theorem slT (r : Fin 8) : S256x1024.Slices ![0, 128 * r.val] S256x64 := by revert r; decide
theorem slR (r : Fin 8) : S8x256.Slices ![r.val, 0] S1x256 := by revert r; decide
theorem slL (r : Fin 8) : S256x8.Slices ![255, r.val] S1x1 := by revert r; decide
theorem slK (r : Fin 8) : S1x8.Slices ![0, r.val] S1x1 := by revert r; decide

/-- Row index and column index of a square chunk, as the kernel lays them out. -/
abbrev rowI : IVec S256x256 32 := iota .tc S256x256 32 [0] iota_S256x256_d0_w32
abbrev colI : IVec S256x256 32 := iota .tc S256x256 32 [1] iota_S256x256_d1_w32
/-- `row ≥ column` and `row ≤ column`. -/
abbrev lower : IVec S256x256 1 := k0_pay8
abbrev upper : IVec S256x256 1 := k0_pay15 rowI colI

/-- The step sizes `softplus (raw + bias)`. -/
def dt : FVec Ideal S256x8 .f32 := k0_pay9 D.zc D.bc
/-- Cumulated log decay, by columns and by rows. -/
def acol : FVec Ideal S256x8 .f32 := k0_pay13 (k0_pay6 D.ac) k0_pay8 (dt D)
def arow : FVec Ideal S8x256 .f32 := k0_pay14 (k0_pay7 D.ar) rowI colI (k0_pay10 D.zr D.br) k0_pay11
/-- The two, spread over lanes: lane 128·r + k of row l holds head r's value. -/
def lanesA : FVec Ideal S256x1024 .f32 :=
  k0_pay39 k0_pay32 (k0_pay35 (acol D)) (k0_pay37 (acol D)) (k0_pay38 (acol D))
def lanesT : FVec Ideal S256x1024 .f32 := k0_pay40 (dt D)

def a128 : FVec Ideal S256x128 .f32 := extractStridedSlice S256x128 ![0, 128 * r.val] (lanesA D) (slA r)
def arw : FVec Ideal S1x256 .f32 := extractStridedSlice S1x256 ![r.val, 0] (arow D) (slR r)
def alast : FVec Ideal S1x1 .f32 := extractStridedSlice S1x1 ![255, r.val] (acol D) (slL r)
/-- Differences of the cumulated log decay between two rows of the chunk. -/
def seg : FVec Ideal S256x256 .f32 :=
  subf (concatenate S256x256 1 [⟨S256x128, a128 D r⟩, ⟨S256x128, a128 D r⟩] concatenates_S256x128_S256x128_S256x256_d1)
    (broadcastTo S256x256 (arw D r) broadcasts_S1x256_S256x256)
def masked : FVec Ideal S256x256 .f32 :=
  select (α := Ideal .f32) lower (seg D r) (broadcast S256x256 (Named.named (F := Ideal) κ "mask" (φ := .f32) 0xF149F2CA#32))
/-- `C·Bᵀ` of the chunk, and its transpose. -/
def cb : FVec Ideal S256x256 .f32 := k0_pay19 D.b D.c
def cbt : FVec Ideal S256x256 .f32 := k0_pay20 D.b D.c
def mt : FVec Ideal S256x256 .f32 := k0_pay57 upper (cbt D) (seg D r)
def dtl : FVec Ideal S256x64 .f32 := extractStridedSlice S256x64 ![0, 128 * r.val] (lanesT D) (slT r)
def dkl : FVec Ideal S1x1 .f32 := extractStridedSlice S1x1 ![0, r.val] (k0_pay21 D.kc) (slK r)
def xdt : FVec Ideal S256x64 .bf16 := truncf .bf16 (mulf (D.x r) (dtl D r)) bitsLt_bf16_f32
def dyb : FVec Ideal S256x64 .bf16 := k0_pay49 (D.dy r)
def toEnd : FVec Ideal S256x128 .f32 := k0_pay54 (a128 D r) (alast D r)
def eA : FVec Ideal S256x128 .f32 := k0_pay55 (a128 D r)
def pm : FVec Ideal S256x256 .f32 :=
  mulf (matmul dot_S256x64_S256x64_S256x256_1_1_0_0_n_n none (dyb D r) (xdt D r) (constant S256x256 .f32 0x00000000#32))
    (exp (masked D r))
def wt : FVec Ideal S256x256 .f32 :=
  mulf (matmul dot_S256x64_S256x64_S256x256_1_1_0_0_n_n none (xdt D r) (dyb D r) (constant S256x256 .f32 0x00000000#32))
    (mt D r)
/-- The gradient of `x · dt`. -/
def dxdt : FVec Ideal S256x64 .f32 :=
  addf (matmul dot_S256x256_S256x64_S256x64_1_0_0_1_n_n none (truncf .bf16 (mt D r) bitsLt_bf16_f32) (dyb D r)
      (constant S256x64 .f32 0x00000000#32))
    (mulf (extractStridedSlice S256x64 ![0, 0] (toEnd D r) slices_S256x128_o0_0_S256x64)
      (matmul dot_S256x128_S128x64_S256x64_1_0_0_1_n_n none (k0_pay16 D.b) (k0_pay53 (D.d r))
        (constant S256x64 .f32 0x00000000#32)))
/-- The gradient of `x`. -/
def dxs : FVec Ideal S256x64 .f32 := k0_pay72 (D.dy r) (dtl D r) (dkl D r) (dxdt D r)
def dcTerm : FVec Ideal S256x128 .f32 :=
  mulf (eA D r) (matmul dot_S256x64_S128x64_S256x128_1_1_0_0_n_n none (dyb D r) (k0_pay51 (D.h r))
    (constant S256x128 .f32 0x00000000#32))
def dbTerm : FVec Ideal S256x128 .f32 :=
  mulf (toEnd D r) (matmul dot_S256x64_S128x64_S256x128_1_1_0_0_n_n none (xdt D r) (k0_pay53 (D.d r))
    (constant S256x128 .f32 0x00000000#32))
/-- The state's gradient one chunk earlier. -/
def newD : FVec Ideal S1x128x64 .f32 :=
  k0_pay65 (k0_pay18 D.c) (alast D r) (D.dy r) (k0_pay52 (D.d r)) (k0_pay56 (a128 D r))

/-- Sums of a square's columns, as a row. -/
abbrev colSum (v : FVec Ideal S256x256 .f32) : FVec Ideal S1x256 .f32 :=
  shapeCast S1x256 (multiReduction .add [0] S256 v 0x00000000#32 reduces_S256x256_S256 (.inl rfl) rfl) shapeCasts_S256_S1x256
abbrev colSum' (v : FVec Ideal S128x256 .f32) : FVec Ideal S1x256 .f32 :=
  shapeCast S1x256 (multiReduction .add [0] S256 v 0x00000000#32 reduces_S128x256_S256 (.inl rfl) rfl) shapeCasts_S256_S1x256
/-- A row put at row r of eight, zero elsewhere. -/
abbrev atRow (v : FVec Ideal S1x256 .f32) : FVec Ideal S8x256 .f32 :=
  select (α := Ideal .f32) (cmpi .eq (iota .tc S8x256 32 [0] iota_S8x256_d0_w32) (broadcast S8x256 (BitVec.ofNat 32 r.val)))
    (broadcastTo S8x256 (shapeCast S1x256 v shapeCasts_S1x256_S1x256) broadcasts_S1x256_S8x256)
    (broadcast S8x256 (Scalar.ofBits (F := Ideal) .f32 0x00000000#32))
abbrev lane8 : IVec S1x8 1 :=
  cmpi .eq (iota .tc S1x8 32 [1] iota_S1x8_d1_w32) (broadcast S1x8 (BitVec.ofNat 32 r.val))

/-- The part of the log decay's gradient that later positions of the chunk receive. -/
def daRow : FVec Ideal S1x256 .f32 :=
  addf (subf (colSum (wt D r)) (colSum (mulf (pm D r) (cb D))))
    (mulf (exp (arw D r)) (colSum' (mulf (k0_pay29 D.c)
      (matmul dot_S128x64_S256x64_S128x256_1_1_0_0_n_n none (k0_pay51 (D.h r)) (dyb D r)
        (constant S128x256 .f32 0x00000000#32)))))
/-- The part that earlier positions receive. -/
def qRow : FVec Ideal S1x256 .f32 :=
  mulf (exp (subf (broadcastTo S1x256 (alast D r) broadcasts_S1x1_S1x256) (arw D r))) (colSum' (mulf (k0_pay30 D.b)
      (matmul dot_S128x64_S256x64_S128x256_1_1_0_0_n_n none (k0_pay53 (D.d r)) (xdt D r)
        (constant S128x256 .f32 0x00000000#32))))
def daTerm : FVec Ideal S8x256 .f32 := atRow r (daRow D r)
def qTerm : FVec Ideal S8x256 .f32 := atRow r (qRow D r)
def sxTerm : FVec Ideal S256x8 .f32 :=
  select (α := Ideal .f32) (cmpi .eq (iota .tc S256x8 32 [1] iota_S256x8_d1_w32) (broadcast S256x8 (BitVec.ofNat 32 r.val)))
    (broadcastTo S256x8 (shapeCast S256x1 (shapeCast S256x1
      (multiReduction .add [1] S256 (mulf (dxdt D r) (D.x r)) 0x00000000#32 reduces_S256x64_S256 (.inl rfl) rfl)
      shapeCasts_S256_S256x1) shapeCasts_S256x1_S256x1) broadcasts_S256x1_S256x8)
    (broadcast S256x8 (Scalar.ofBits (F := Ideal) .f32 0x00000000#32))
/-- The part every position receives: `e^A` of the whole chunk times `⟨d, h⟩`. -/
def totTerm : FVec Ideal S1x8 .f32 :=
  select (α := Ideal .f32) (lane8 r)
    (broadcastTo S1x8 (shapeCast S1x1 (mulf (exp (alast D r)) (broadcast S1x1 (extractAt ![0, 0, 0]
      (shapeCast S1x1x1 (multiReduction .add [1, 2] S1
        (shapeCast S1x128x64 (mulf (k0_pay52 (D.d r)) (k0_pay50 (D.h r))) shapeCasts_S128x64_S1x128x64)
        0x00000000#32 reduces_S1x128x64_S1 (.inl rfl) rfl) shapeCasts_S1_S1x1x1) inpos_S1x1x1_p0_0_0)))
      shapeCasts_S1x1_S1x1) broadcasts_S1x1_S1x8)
    (broadcast S1x8 (Scalar.ofBits (F := Ideal) .f32 0x00000000#32))
def dkTerm : FVec Ideal S1x8 .f32 :=
  select (α := Ideal .f32) (lane8 r)
    (broadcast S1x8 (extractAt ![0, 0, 0]
      (shapeCast S1x1x1 (multiReduction .add [1, 2] S1
        (shapeCast S1x256x64 (mulf (D.dy r) (D.x r)) shapeCasts_S256x64_S1x256x64)
        0x00000000#32 reduces_S1x256x64_S1 (.inl rfl) rfl) shapeCasts_S1_S1x1x1) inpos_S1x1x1_p0_0_0))
    (broadcast S1x8 (Scalar.ofBits (F := Ideal) .f32 0x00000000#32))

/-- The eight heads' terms added up from zero, in the kernel's order. -/
abbrev sum8 {s : Shape} (f : Fin 8 → FVec Ideal s .f32) : FVec Ideal s .f32 :=
  addf (addf (addf (addf (addf (addf (addf (addf (broadcast s (Scalar.ofBits (F := Ideal) .f32 0x00000000#32))
    (f 0)) (f 1)) (f 2)) (f 3)) (f 4)) (f 5)) (f 6)) (f 7)

/-- The gradients of `B` and of `C`. -/
def dcOut : FVec Ideal S256x128 .f32 := k0_pay308 (k0_pay16 D.b) (sum8 (pm D)) (sum8 (dcTerm D))
def dbOut : FVec Ideal S256x128 .f32 := k0_pay309 (k0_pay17 D.c) (sum8 (pm D)) (sum8 (dbTerm D))
/-- The gradient of `dt` before the softplus, and of the raw `dt`. -/
def ddt : FVec Ideal S256x8 .f32 :=
  k0_pay311 lower (k0_pay12 (k0_pay6 D.ac)) upper (sum8 (daTerm D)) (sum8 (qTerm D)) (sum8 (sxTerm D)) (sum8 (totTerm D))
def ddtOut : FVec Ideal S1x256x8 .f32 := k0_pay316 (ddt D) D.zc D.bc
/-- The running sums for `log a`, the skip weights and the bias, from what they held. -/
def dalOut (o : FVec Ideal S1x1x8 .f32) : FVec Ideal S1x1x8 .f32 :=
  k0_pay313 (k0_pay312 lower (dt D) (k0_pay12 (k0_pay6 D.ac)) upper (sum8 (daTerm D)) (sum8 (qTerm D)) (sum8 (totTerm D)) o)
def ddkOut (o : FVec Ideal S1x1x8 .f32) : FVec Ideal S1x1x8 .f32 := k0_pay314 (sum8 (dkTerm D)) o
def dbiasOut (o : FVec Ideal S1x1x8 .f32) : FVec Ideal S1x1x8 .f32 := k0_pay1 (k0_pay317 (ddt D) D.zc D.bc o)

end Cert.KernelIdeal.Ssd

end
-- ==== Proof.Ssd.HeadReal.lean ====
/-
  For finite inputs every value of `Ssd.Head` is the real number of `Ssd.Model`.
-/
module

public import proofs.«01_k».proof.Proof.Ssd.Head
public import proofs.«01_k».proof.Proof.Ssd.Model
public import Idealize.ShloMosaic.Lib.Pointwise
public import Idealize.ShloMosaic.Lib.WordCmp

@[expose] public section

set_option maxRecDepth 16384
set_option maxHeartbeats 1000000

noncomputable section

namespace Cert.KernelIdeal.Ssd

open Idealize.ShloMosaic Idealize.ShloMosaic.WordCmp Cert.KernelIdeal.Gen

/-- The loaded vectors hold the real data. -/
structure Holds (D : Loads) (ρ : Data) : Prop where
  x : ∀ r l p, D.x r (ix2 l p) = ((ρ.x r l p : ℝ) : EReal)
  dy : ∀ r l p, D.dy r (ix2 l p) = ((ρ.dy r l p : ℝ) : EReal)
  h : ∀ r n p, D.h r (ix4 0 0 n p) = ((ρ.h r n p : ℝ) : EReal)
  d : ∀ r n p, D.d r (ix3 0 n p) = ((ρ.d r n p : ℝ) : EReal)
  b : ∀ l n, D.b (ix2 l n) = ((ρ.b l n : ℝ) : EReal)
  c : ∀ l n, D.c (ix2 l n) = ((ρ.c l n : ℝ) : EReal)
  zc : ∀ l r, D.zc (ix3 0 l r) = ((ρ.u l r : ℝ) : EReal)
  zr : ∀ l r, D.zr (ix3 0 r l) = ((ρ.u l r : ℝ) : EReal)
  bc : ∀ r, D.bc (ix3 0 0 r) = ((ρ.bias r : ℝ) : EReal)
  br : ∀ r, D.br (ix3 0 r 0) = ((ρ.bias r : ℝ) : EReal)
  ac : ∀ r, D.ac (ix3 0 0 r) = ((ρ.al r : ℝ) : EReal)
  ar : ∀ r, D.ar (ix3 0 r 0) = ((ρ.al r : ℝ) : EReal)
  kc : ∀ r, D.kc (ix3 0 0 r) = ((ρ.dk r : ℝ) : EReal)

/-! ## Casts of reals, pulled outward -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem absf_coe (a : ℝ) : FloatOps.absf (F := Ideal) (φ := .f32) (a : EReal) = ((max a (-a) : ℝ) : EReal) := by
  show max (a : EReal) (-(a : EReal)) = _
  rw [← EReal.coe_neg, coe_max]

theorem one_add_exp_pos (t : ℝ) : ¬ (1 + Real.exp t ≤ 0) := by have := Real.exp_pos t; linarith

theorem log_one_add_exp (t : ℝ) : Ideal.log ((1 + Real.exp t : ℝ) : EReal) = ((Real.log (1 + Real.exp t) : ℝ) : EReal) := by
  rw [Ideal.log_coe, if_neg (one_add_exp_pos t)]

theorem coe_ite (p : Prop) [Decidable p] (a b : ℝ) : (if p then (a : EReal) else (b : EReal)) = ((if p then a else b : ℝ) : EReal) := by
  split <;> rfl

theorem mask_eq : (Named.named (F := Ideal) κ "mask" (φ := .f32) 0xF149F2CA#32 : EReal) = ⊥ := rfl

/-- A position compare as a condition. -/
theorem sge_fin {n : ℕ} (hn : n ≤ 2147483648) (i j : Fin n) :
    IntOp.cmpi .sge (BitVec.ofNat 32 i.val) (BitVec.ofNat 32 j.val) = BitVec.ofBool (decide (j ≤ i)) := by
  rw [cmpi_sge_ofNat (by have := i.isLt; omega) (by have := j.isLt; omega)]; rfl

theorem sle_fin {n : ℕ} (hn : n ≤ 2147483648) (i j : Fin n) :
    IntOp.cmpi .sle (BitVec.ofNat 32 i.val) (BitVec.ofNat 32 j.val) = BitVec.ofBool (decide (i ≤ j)) := by
  rw [cmpi_sle_ofNat (by have := i.isLt; omega) (by have := j.isLt; omega)]; rfl

theorem eq_fin {n : ℕ} (hn : n ≤ 2147483648) (i j : Fin n) :
    IntOp.cmpi .eq (BitVec.ofNat 32 i.val) (BitVec.ofNat 32 j.val) = BitVec.ofBool (decide (i = j)) := by
  rw [cmpi_eq_ofNat (by have := i.isLt; omega) (by have := j.isLt; omega)]
  congr 1; exact decide_eq_decide.mpr Fin.ext_iff.symm

theorem sitofp_bool (b : Bool) : FloatOps.sitofp (F := Ideal) .f32 (BitVec.setWidth 32 (BitVec.ofBool b)) = ((if b then 1 else 0 : ℝ) : EReal) := by
  cases b
  · show (((BitVec.setWidth 32 (BitVec.ofBool false)).toInt : ℝ) : EReal) = _
    rw [show (BitVec.setWidth 32 (BitVec.ofBool false)).toInt = 0 from by decide]; simp
  · show (((BitVec.setWidth 32 (BitVec.ofBool true)).toInt : ℝ) : EReal) = _
    rw [show (BitVec.setWidth 32 (BitVec.ofBool true)).toInt = 1 from by decide]; simp

variable {D : Loads} {ρ : Data}

theorem dt_real (H : Holds D ρ) (l : Fin 256) (r : Fin 8) : dt D (ix2 l r) = ((ρ.dt l r : ℝ) : EReal) := by
  pointwise [dt, k0_pay9]
  simp only [H.zc, H.bc, ← EReal.coe_add, absf_coe, ← EReal.coe_zero, ← EReal.coe_one, ← EReal.coe_sub, Ideal.exp_coe, coe_max, log_one_add_exp]
  rfl

theorem acol_real (H : Holds D ρ) (l : Fin 256) (r : Fin 8) : acol D (ix2 l r) = ((ρ.A l r : ℝ) : EReal) := by
  pointwise [acol, k0_pay13, k0_pay12, k0_pay6, k0_pay8]
  simp only [dt_real H, H.ac, sge_fin (by norm_num : 256 ≤ 2147483648), sitofp_bool, decide_eq_true_eq, ← EReal.coe_zero, Ideal.exp_coe, ← EReal.coe_sub, ← EReal.coe_mul, coe_sum]
  rfl

theorem arow_real (H : Holds D ρ) (l : Fin 256) (r : Fin 8) : arow D (ix2 r l) = ((ρ.A l r : ℝ) : EReal) := by
  pointwise [arow, k0_pay14, k0_pay7, k0_pay10, k0_pay11]
  simp only [H.zr, H.br, H.ar, ← EReal.coe_add, absf_coe, ← EReal.coe_zero, ← EReal.coe_one, ← EReal.coe_sub, Ideal.exp_coe, coe_max, log_one_add_exp,
    sle_fin (by norm_num : 256 ≤ 2147483648), sitofp_bool, decide_eq_true_eq, ← EReal.coe_mul, coe_sum]
  congr 1
  exact Finset.sum_congr rfl fun j _ => mul_comm _ _

/-- The spread matrix: lane `q` belongs to head `q / 128`. -/
theorem spread_real (r : Fin 8) (q : Fin 1024) : k0_pay32 (F := Ideal) (ix2 r q) = ((if r.val = q.val / 128 then 1 else 0 : ℝ) : EReal) := by
  have hq : ∀ q : Fin 1024, (Scalar.select
            (IntOp.andi
              (IntOp.cmpi CmpIPredicate.ne
                (IntOp.subi (BitVec.setWidth 32 (IntOp.cmpi CmpIPredicate.sgt (BitVec.ofNat 32 q.val) 0#32))
                  (BitVec.setWidth 32 (IntOp.cmpi CmpIPredicate.slt (BitVec.ofNat 32 q.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 q.val) 128#32) 0#32))
            (IntOp.subi (IntOp.divsi ArithUnit.vector (BitVec.ofNat 32 q.val) 128#32) 1#32)
            (IntOp.divsi ArithUnit.vector (BitVec.ofNat 32 q.val) 128#32) : BitVec 32) = BitVec.ofNat 32 (q.val / 128) := by decide +kernel
  pointwise [k0_pay32]
  rw [hq q, cmpi_eq_ofNat (by have := r.isLt; omega) (by have := q.isLt; omega), sitofp_bool]
  simp only [decide_eq_true_eq]

theorem lanesA_real (H : Holds D ρ) (l : Fin 256) (r : Fin 8) (q : Fin 1024) (hq : q.val / 128 = r.val) :
    lanesA D (ix2 l q) = ((ρ.A l r : ℝ) : EReal) := by
  pointwise [lanesA, k0_pay39, k0_pay35, k0_pay37, k0_pay38, k0_pay33, k0_pay34, k0_pay36]
  simp only [acol_real H, spread_real, ← EReal.coe_sub, ← EReal.coe_mul, coe_sum, ← EReal.coe_add, sub_self, zero_mul, Finset.sum_const_zero, add_zero, hq]
  simp only [← Fin.ext_iff, mul_ite, mul_one, mul_zero, Finset.sum_ite_eq', Finset.mem_univ, if_true]

theorem lanesT_real (H : Holds D ρ) (l : Fin 256) (r : Fin 8) (q : Fin 1024) (hq : q.val / 128 = r.val) :
    lanesT D (ix2 l q) = ((ρ.dt l r : ℝ) : EReal) := by
  have hs : ∀ r : Fin 8, k0_pay32 (F := Ideal) (ix2 r q) = ((if r.val = q.val / 128 then 1 else 0 : ℝ) : EReal) := fun r => spread_real r q
  have e : lanesT D (ix2 l q) = ∑ j : Fin 8, dt D (ix2 l j) * k0_pay32 (F := Ideal) (ix2 j q)
      + ∑ j : Fin 8, (dt D (ix2 l j) - dt D (ix2 l j)) * k0_pay32 (F := Ideal) (ix2 j q) := by
    pointwise [lanesT, k0_pay40, k0_pay32]
  rw [e]
  simp only [dt_real H, spread_real, ← EReal.coe_sub, ← EReal.coe_mul, coe_sum, ← EReal.coe_add, sub_self, zero_mul, Finset.sum_const_zero, add_zero, hq]
  simp only [← Fin.ext_iff, mul_ite, mul_one, mul_zero, Finset.sum_ite_eq', Finset.mem_univ, if_true]

end Cert.KernelIdeal.Ssd

end
-- ==== Proof.Ssd.HeadReal2.lean ====
/-
  The remaining values of a grid point, the results among them, are real for finite inputs.
-/
module

public import proofs.«01_k».proof.Proof.Ssd.HeadReal

@[expose] public section

set_option maxRecDepth 16384
set_option maxHeartbeats 1000000

noncomputable section

namespace Cert.KernelIdeal.Ssd

open Idealize.ShloMosaic Idealize.ShloMosaic.WordCmp Cert.KernelIdeal.Gen

variable {D : Loads} {ρ : Data}

theorem alast_real (H : Holds D ρ) (r : Fin 8) : alast D r (ix2 0 0) = ((ρ.A 255 r : ℝ) : EReal) := by
  rw [← acol_real H]
  pointwise [alast]

theorem a128_real (H : Holds D ρ) (r : Fin 8) (l : Fin 256) (q : Fin 128) : a128 D r (ix2 l q) = ((ρ.A l r : ℝ) : EReal) := by
  pointwise [a128]
  exact lanesA_real H _ _ _ (by show (128 * r.val + q.val) / 128 = r.val; omega)

theorem arw_real (H : Holds D ρ) (r : Fin 8) (l : Fin 256) : arw D r (ix2 0 l) = ((ρ.A l r : ℝ) : EReal) := by
  rw [← arow_real H]
  pointwise [arw]

theorem dtl_real (H : Holds D ρ) (r : Fin 8) (l : Fin 256) (p : Fin 64) : dtl D r (ix2 l p) = ((ρ.dt l r : ℝ) : EReal) := by
  pointwise [dtl]
  exact lanesT_real H _ _ _ (by show (128 * r.val + p.val) / 128 = r.val; omega)

theorem dkl_real (H : Holds D ρ) (r : Fin 8) : dkl D r (ix2 0 0) = ((ρ.dk r : ℝ) : EReal) := by
  rw [← H.kc]
  pointwise [dkl, k0_pay21]

theorem seg_real (H : Holds D ρ) (r : Fin 8) (l s : Fin 256) : seg D r (ix2 l s) = ((ρ.A l r - ρ.A s r : ℝ) : EReal) := by
  pointwise [seg]
  simp only [a128_real H, arw_real H, dite_eq_ite, ite_self, ← EReal.coe_sub]

theorem exp_masked_real (H : Holds D ρ) (r : Fin 8) (l s : Fin 256) : Ideal.exp (masked D r (ix2 l s)) = ((ρ.E r l s : ℝ) : EReal) := by
  pointwise [masked, lower, rowI, colI, k0_pay8]
  simp only [seg_real H, sge_fin (by norm_num : 256 ≤ 2147483648), select_ofBool, mask_eq, decide_eq_true_eq, Data.E]
  split
  · rw [Ideal.exp_coe]
  · rw [Ideal.exp_bot]; rfl

theorem cb_real (H : Holds D ρ) (l s : Fin 256) : cb D (ix2 l s) = ((ρ.cb l s : ℝ) : EReal) := by
  pointwise [cb, k0_pay19, k0_pay16, k0_pay17, k0_pay18]
  simp only [H.b, H.c, ← EReal.coe_mul, coe_sum]
  rfl

theorem cbt_real (H : Holds D ρ) (s l : Fin 256) : cbt D (ix2 s l) = ((ρ.cb l s : ℝ) : EReal) := by
  pointwise [cbt, k0_pay20, k0_pay16, k0_pay17, k0_pay18]
  simp only [H.b, H.c, ← EReal.coe_mul, coe_sum]
  congr 1
  exact Finset.sum_congr rfl fun _ _ => mul_comm _ _

theorem mt_real (H : Holds D ρ) (r : Fin 8) (s l : Fin 256) : mt D r (ix2 s l) = ((ρ.mt r s l : ℝ) : EReal) := by
  pointwise [mt, k0_pay57, upper, rowI, colI, k0_pay15]
  simp only [seg_real H, cbt_real H, sle_fin (by norm_num : 256 ≤ 2147483648), select_ofBool, mask_eq, decide_eq_true_eq, Data.mt, Data.E,
    ← EReal.coe_zero, ← EReal.coe_sub]
  split
  · rw [Ideal.exp_coe, ← EReal.coe_mul, zero_sub, neg_sub]
  · rw [Ideal.exp_bot, mul_zero, mul_zero, EReal.coe_zero]

theorem xdt_real (H : Holds D ρ) (r : Fin 8) (l : Fin 256) (p : Fin 64) : xdt D r (ix2 l p) = ((ρ.xdt r l p : ℝ) : EReal) := by
  pointwise [xdt]
  simp only [H.x, dtl_real H, ← EReal.coe_mul]
  rfl

theorem dyb_real (H : Holds D ρ) (r : Fin 8) (l : Fin 256) (p : Fin 64) : dyb D r (ix2 l p) = ((ρ.dy r l p : ℝ) : EReal) := by
  pointwise [dyb, k0_pay49]
  simp only [H.dy]

theorem toEnd_real (H : Holds D ρ) (r : Fin 8) (l : Fin 256) (q : Fin 128) : toEnd D r (ix2 l q) = ((ρ.toEnd r l : ℝ) : EReal) := by
  pointwise [toEnd, k0_pay54]
  simp only [a128_real H, alast_real H, ← EReal.coe_sub, Ideal.exp_coe]
  rfl

theorem eA_real (H : Holds D ρ) (r : Fin 8) (l : Fin 256) (q : Fin 128) : eA D r (ix2 l q) = ((Real.exp (ρ.A l r) : ℝ) : EReal) := by
  pointwise [eA, k0_pay55]
  simp only [a128_real H, Ideal.exp_coe]

theorem pm_real (H : Holds D ρ) (r : Fin 8) (l s : Fin 256) : pm D r (ix2 l s) = ((ρ.pm r l s : ℝ) : EReal) := by
  pointwise [pm]
  simp only [exp_masked_real H, dyb_real H, xdt_real H, ← EReal.coe_mul, coe_sum]
  rfl

theorem wt_real (H : Holds D ρ) (r : Fin 8) (s l : Fin 256) : wt D r (ix2 s l) = ((ρ.wt r s l : ℝ) : EReal) := by
  pointwise [wt]
  simp only [mt_real H, dyb_real H, xdt_real H, ← EReal.coe_mul, coe_sum]
  rfl

theorem dxdt_real (H : Holds D ρ) (r : Fin 8) (s : Fin 256) (p : Fin 64) : dxdt D r (ix2 s p) = ((ρ.dxdt r s p : ℝ) : EReal) := by
  pointwise [dxdt, k0_pay16, k0_pay53, k0_pay52]
  simp only [mt_real H, dyb_real H, toEnd_real H, H.b, H.d, ← EReal.coe_mul, coe_sum, ← EReal.coe_add]
  rfl

theorem dxs_real (H : Holds D ρ) (r : Fin 8) (s : Fin 256) (p : Fin 64) : dxs D r (ix2 s p) = ((ρ.dxs r s p : ℝ) : EReal) := by
  pointwise [dxs, k0_pay72]
  simp only [dxdt_real H, dtl_real H, dkl_real H, H.dy, ← EReal.coe_mul, ← EReal.coe_add]
  rfl

theorem dcTerm_real (H : Holds D ρ) (r : Fin 8) (l : Fin 256) (n : Fin 128) : dcTerm D r (ix2 l n) = ((ρ.dcT r l n : ℝ) : EReal) := by
  pointwise [dcTerm, k0_pay51, k0_pay50]
  simp only [eA_real H, dyb_real H, H.h, ← EReal.coe_mul, coe_sum]
  rfl

theorem dbTerm_real (H : Holds D ρ) (r : Fin 8) (l : Fin 256) (n : Fin 128) : dbTerm D r (ix2 l n) = ((ρ.dbT r l n : ℝ) : EReal) := by
  pointwise [dbTerm, k0_pay53, k0_pay52]
  simp only [toEnd_real H, xdt_real H, H.d, ← EReal.coe_mul, coe_sum]
  rfl

theorem newD_real (H : Holds D ρ) (r : Fin 8) (n : Fin 128) (p : Fin 64) : newD D r (ix3 0 n p) = ((ρ.newD r n p : ℝ) : EReal) := by
  pointwise [newD, k0_pay65, k0_pay18, k0_pay52, k0_pay56, k0_pay55]
  simp only [a128_real H, alast_real H, H.dy, H.c, H.d, Ideal.exp_coe, ← EReal.coe_mul, coe_sum, ← EReal.coe_add]
  rfl

theorem daRow_real (H : Holds D ρ) (r : Fin 8) (l : Fin 256) : daRow D r (ix2 0 l) = ((ρ.daRow r l : ℝ) : EReal) := by
  pointwise [daRow, colSum, colSum', k0_pay29, k0_pay51, k0_pay50]
  simp only [wt_real H, pm_real H, cb_real H, arw_real H, dyb_real H, H.c, H.h, Ideal.exp_coe, ← EReal.coe_mul, coe_sum, ← EReal.coe_add, ← EReal.coe_sub]
  rfl

theorem qRow_real (H : Holds D ρ) (r : Fin 8) (l : Fin 256) : qRow D r (ix2 0 l) = ((ρ.qRow r l : ℝ) : EReal) := by
  pointwise [qRow, colSum', k0_pay30, k0_pay53, k0_pay52]
  simp only [alast_real H, arw_real H, xdt_real H, H.b, H.d, Ideal.exp_coe, ← EReal.coe_mul, coe_sum, ← EReal.coe_add, ← EReal.coe_sub]
  rfl

theorem daTerm_real (H : Holds D ρ) (r r' : Fin 8) (l : Fin 256) : daTerm D r (ix2 r' l) = ((if r' = r then ρ.daRow r l else 0 : ℝ) : EReal) := by
  pointwise [daTerm, atRow]
  simp only [daRow_real H, eq_fin (by norm_num : 8 ≤ 2147483648), select_ofBool, decide_eq_true_eq, ← EReal.coe_zero, coe_ite]

theorem qTerm_real (H : Holds D ρ) (r r' : Fin 8) (l : Fin 256) : qTerm D r (ix2 r' l) = ((if r' = r then ρ.qRow r l else 0 : ℝ) : EReal) := by
  pointwise [qTerm, atRow]
  simp only [qRow_real H, eq_fin (by norm_num : 8 ≤ 2147483648), select_ofBool, decide_eq_true_eq, ← EReal.coe_zero, coe_ite]

theorem sxTerm_real (H : Holds D ρ) (r r' : Fin 8) (l : Fin 256) : sxTerm D r (ix2 l r') = ((if r' = r then ρ.sx r l else 0 : ℝ) : EReal) := by
  pointwise [sxTerm]
  simp only [dxdt_real H, H.x, eq_fin (by norm_num : 8 ≤ 2147483648), select_ofBool, decide_eq_true_eq, ← EReal.coe_mul, coe_sum, ← EReal.coe_zero, coe_ite]
  rfl

theorem totTerm_real (H : Holds D ρ) (r r' : Fin 8) : totTerm D r (ix2 0 r') = ((if r' = r then ρ.tot r else 0 : ℝ) : EReal) := by
  pointwise [totTerm, k0_pay52, k0_pay50]
  simp only [alast_real H, H.d, H.h, eq_fin (by norm_num : 8 ≤ 2147483648), select_ofBool, decide_eq_true_eq, Ideal.exp_coe, ← EReal.coe_mul, coe_sum, ← EReal.coe_zero, coe_ite]
  rfl

theorem dkTerm_real (H : Holds D ρ) (r r' : Fin 8) : dkTerm D r (ix2 0 r') = ((if r' = r then ρ.ddk r else 0 : ℝ) : EReal) := by
  pointwise [dkTerm]
  simp only [H.dy, H.x, eq_fin (by norm_num : 8 ≤ 2147483648), select_ofBool, decide_eq_true_eq, ← EReal.coe_mul, coe_sum, ← EReal.coe_zero, coe_ite]
  rfl

/-- Eight real terms added up from zero. -/
theorem sum8_real {s : Shape} (f : Fin 8 → FVec Ideal s .f32) (i : s.Idx) (g : Fin 8 → ℝ) (h : ∀ r, f r i = ((g r : ℝ) : EReal)) :
    sum8 f i = ((∑ r, g r : ℝ) : EReal) := by
  show (((((((((Scalar.ofBits (F := Ideal) .f32 0x00000000#32 : EReal) + f 0 i) + f 1 i) + f 2 i) + f 3 i) + f 4 i) + f 5 i) + f 6 i) + f 7 i) = _
  simp only [Scalar.ofBits]
  rw [show Ideal.ofBits .f32 0x00000000#32 = 0 from Ideal.ofBits_zero .f32]
  simp only [h, zero_add, ← EReal.coe_add, Fin.sum_univ_eight]

theorem sum8_pick {s : Shape} (f : Fin 8 → FVec Ideal s .f32) (i : s.Idx) (r' : Fin 8) (g : Fin 8 → ℝ)
    (h : ∀ r, f r i = ((if r' = r then g r else 0 : ℝ) : EReal)) : sum8 f i = ((g r' : ℝ) : EReal) := by
  rw [sum8_real f i _ h, Finset.sum_ite_eq Finset.univ r' g, if_pos (Finset.mem_univ _)]

theorem dcOut_real (H : Holds D ρ) (l : Fin 256) (n : Fin 128) : dcOut D (ix2 l n) = ((ρ.dc l n : ℝ) : EReal) := by
  have h1 := fun l s => sum8_real (pm D) (ix2 l s) _ fun r => pm_real H r l s
  have h2 := fun l n => sum8_real (dcTerm D) (ix2 l n) _ fun r => dcTerm_real H r l n
  unfold dcOut
  generalize sum8 (pm D) = u at *
  generalize sum8 (dcTerm D) = v at *
  pointwise [k0_pay308, k0_pay16, k0_pay307]
  simp only [h1, h2, H.b, ← EReal.coe_mul, coe_sum, ← EReal.coe_add]
  rfl

theorem dbOut_real (H : Holds D ρ) (s : Fin 256) (n : Fin 128) : dbOut D (ix2 s n) = ((ρ.db s n : ℝ) : EReal) := by
  have h1 := fun l s => sum8_real (pm D) (ix2 l s) _ fun r => pm_real H r l s
  have h2 := fun l n => sum8_real (dbTerm D) (ix2 l n) _ fun r => dbTerm_real H r l n
  unfold dbOut
  generalize sum8 (pm D) = u at *
  generalize sum8 (dbTerm D) = v at *
  pointwise [k0_pay309, k0_pay17, k0_pay307]
  simp only [h1, h2, H.c, ← EReal.coe_mul, coe_sum, ← EReal.coe_add]
  rfl

/-- The words of the mask of strictly earlier positions. -/
theorem strict_bool (a b : Bool) : IntOp.andi (BitVec.ofBool a) (IntOp.xori (BitVec.ofBool b) 1#1) = BitVec.ofBool (a && !b) := by
  cases a <;> cases b <;> rfl

theorem strict_fin (l x : Fin 256) : (decide (x ≤ l) && !decide (l ≤ x)) = decide (x < l) := by
  by_cases h : x < l
  · simp [h, h.le]
  · simp [h, not_lt.mp h]

theorem ddt_real (H : Holds D ρ) (l : Fin 256) (r : Fin 8) : ddt D (ix2 l r) = ((ρ.ddt l r : ℝ) : EReal) := by
  have h1 := fun r l => sum8_pick (daTerm D) (ix2 r l) _ _ fun r' => daTerm_real H r' r l
  have h2 := fun r l => sum8_pick (qTerm D) (ix2 r l) _ _ fun r' => qTerm_real H r' r l
  have h3 := fun l r => sum8_pick (sxTerm D) (ix2 l r) _ (fun r => ρ.sx r l) fun r' => sxTerm_real H r' r l
  have h4 := fun r => sum8_pick (totTerm D) (ix2 0 r) _ _ fun r' => totTerm_real H r' r
  unfold ddt
  generalize sum8 (daTerm D) = u at *
  generalize sum8 (qTerm D) = v at *
  generalize sum8 (sxTerm D) = w at *
  generalize sum8 (totTerm D) = z at *
  pointwise [k0_pay311, k0_pay310, k0_pay12, k0_pay6, lower, upper, rowI, colI, k0_pay8, k0_pay15]
  simp only [h1, h2, h3, h4, H.ac, sge_fin (by norm_num : 256 ≤ 2147483648), sle_fin (by norm_num : 256 ≤ 2147483648), strict_bool, strict_fin, sitofp_bool,
    decide_eq_true_eq, ← EReal.coe_zero, Ideal.exp_coe, ← EReal.coe_sub, ← EReal.coe_mul, coe_sum, ← EReal.coe_add]
  rfl

theorem dalOut_real (H : Holds D ρ) (o : FVec Ideal S1x1x8 .f32) (t : Fin 8 → ℝ) (ho : ∀ r, o (ix3 0 0 r) = ((t r : ℝ) : EReal)) (r : Fin 8) :
    dalOut D o (ix3 0 0 r) = ((t r + ρ.dal r : ℝ) : EReal) := by
  have h1 := fun r l => sum8_pick (daTerm D) (ix2 r l) _ _ fun r' => daTerm_real H r' r l
  have h2 := fun r l => sum8_pick (qTerm D) (ix2 r l) _ _ fun r' => qTerm_real H r' r l
  have h4 := fun r => sum8_pick (totTerm D) (ix2 0 r) _ _ fun r' => totTerm_real H r' r
  unfold dalOut
  generalize sum8 (daTerm D) = u at *
  generalize sum8 (qTerm D) = v at *
  generalize sum8 (totTerm D) = z at *
  pointwise [k0_pay313, k0_pay312, k0_pay310, k0_pay12, k0_pay6, lower, upper, rowI, colI, k0_pay8, k0_pay15]
  simp only [h1, h2, h4, ho, dt_real H, H.ac, sge_fin (by norm_num : 256 ≤ 2147483648), sle_fin (by norm_num : 256 ≤ 2147483648), strict_bool, strict_fin, sitofp_bool,
    decide_eq_true_eq, ← EReal.coe_zero, Ideal.exp_coe, ← EReal.coe_sub, ← EReal.coe_mul, coe_sum, ← EReal.coe_add]
  rfl

theorem sigm (t : ℝ) : Ideal.div 1 (1 + Ideal.exp (0 - (t : EReal))) = ((1 / (1 + Real.exp (0 - t)) : ℝ) : EReal) := by
  rw [← EReal.coe_zero, ← EReal.coe_sub, Ideal.exp_coe, ← EReal.coe_one, ← EReal.coe_add, Ideal.div_coe (by have := Real.exp_pos (0 - t); linarith), ← EReal.coe_mul,
    one_mul]

theorem ddtOut_real (H : Holds D ρ) (l : Fin 256) (r : Fin 8) : ddtOut D (ix3 0 l r) = ((ρ.ddu l r : ℝ) : EReal) := by
  pointwise [ddtOut, k0_pay316, k0_pay315]
  simp only [ddt_real H, H.zc, H.bc, ← EReal.coe_add, sigm, ← EReal.coe_mul]
  rfl

theorem dbiasOut_real (H : Holds D ρ) (o : FVec Ideal S1x1x8 .f32) (t : Fin 8 → ℝ) (ho : ∀ r, o (ix3 0 0 r) = ((t r : ℝ) : EReal)) (r : Fin 8) :
    dbiasOut D o (ix3 0 0 r) = ((t r + ρ.dbias r : ℝ) : EReal) := by
  pointwise [dbiasOut, k0_pay317, k0_pay1, k0_pay315]
  simp only [ddt_real H, H.zc, H.bc, ho, ← EReal.coe_add, sigm, ← EReal.coe_mul, coe_sum]
  rfl

theorem ddkOut_real (H : Holds D ρ) (o : FVec Ideal S1x1x8 .f32) (t : Fin 8 → ℝ) (ho : ∀ r, o (ix3 0 0 r) = ((t r : ℝ) : EReal)) (r : Fin 8) :
    ddkOut D o (ix3 0 0 r) = ((t r + ρ.ddk r : ℝ) : EReal) := by
  have h1 := fun r => sum8_pick (dkTerm D) (ix2 0 r) _ _ fun r' => dkTerm_real H r' r
  unfold ddkOut
  generalize sum8 (dkTerm D) = u at *
  pointwise [k0_pay314]
  simp only [h1, ho, ← EReal.coe_add]

end Cert.KernelIdeal.Ssd

end
-- ==== Proof.Ssd.RefReal.lean ====
/-
  For finite arguments the reference's intermediate arrays are the real numbers of `Ssd.Arrays`: the forward pass.
-/
module

public import proofs.«01_k».proof.Proof.Gen.ReferenceIdeal.Read
public import proofs.«01_k».proof.Proof.Ssd.Cumsum
public import proofs.«01_k».proof.Proof.Ssd.Arrays
public import proofs.«01_k».proof.Proof.Ssd.HeadReal2

@[expose] public section

set_option maxRecDepth 16384
set_option maxHeartbeats 1000000

noncomputable section

namespace Cert.ReferenceIdeal.Ssd

open Idealize.ShloMosaic Idealize.ShloMosaic.WordCmp Cert.ReferenceIdeal Cert.ReferenceIdeal.Gen Cert.ReferenceIdeal.Read
open Cert.KernelIdeal.Ssd (Arr Data row hd colX colX' colB colC sp coe_sum coe_max coe_ite absf_coe sge_fin log_one_add_exp)

theorem slt_fin (i j : Fin 32) : IntOp.cmpi .slt (BitVec.ofNat 32 i.val) (BitVec.ofNat 32 j.val) = BitVec.ofBool (decide (i < j)) := by
  rw [cmpi_slt_ofNat (by have := i.isLt; omega) (by have := j.isLt; omega)]; rfl

theorem and_bool (a b : Bool) : IntOp.andi (BitVec.ofBool a) (BitVec.ofBool b) = BitVec.ofBool (a && b) := by
  cases a <;> cases b <;> rfl

theorem negInf : Ideal.ofBits .f32 0xFF800000#32 = ⊥ := by simp [Ideal.ofBits, Ideal.ieee]

theorem cneg : constant (F := Ideal) S_ .f32 0xFF800000#32 ix0 = ⊥ := negInf
theorem czero : constant (F := Ideal) S_ .f32 0x00000000#32 ix0 = ((0 : ℝ) : EReal) := Ideal.ofBits_zero .f32
theorem addi_zero32 (a : BitVec 32) : IntOp.addi a 0#32 = a := BitVec.add_zero a

/-- The arguments hold real numbers. -/
structure IsReal (x0 : FVec Ideal S8192x3072 .f32) (x1 : FVec Ideal S8192x32 .f32) (x2 x3 x4 : FVec Ideal S1x32 .f32) (x5 : FVec Ideal S8192x2048 .f32)
    (α : Arr) : Prop where
  xbc : ∀ i j, x0 (ix2 i j) = ((α.xbc i j : ℝ) : EReal)
  raw : ∀ i j, x1 (ix2 i j) = ((α.raw i j : ℝ) : EReal)
  bias : ∀ j, x2 (ix2 0 j) = ((α.bias j : ℝ) : EReal)
  alog : ∀ j, x3 (ix2 0 j) = ((α.alog j : ℝ) : EReal)
  skip : ∀ j, x4 (ix2 0 j) = ((α.skip j : ℝ) : EReal)
  dy : ∀ i j, x5 (ix2 i j) = ((α.dy i j : ℝ) : EReal)

variable {x0 : FVec Ideal S8192x3072 .f32} {x1 : FVec Ideal S8192x32 .f32} {x2 x3 x4 : FVec Ideal S1x32 .f32} {x5 : FVec Ideal S8192x2048 .f32} {α : Arr}
  (H : IsReal x0 x1 x2 x3 x4 x5 α) (c z j : Fin 32) (l s : Fin 256) (g : Fin 4) (r : Fin 8) (p : Fin 64) (n : Fin 128)

include H

theorem v13_real : val_main_v13 (F := Ideal) x0 (ix5 c l g r p) = (((α.base g c).x r l p : ℝ) : EReal) := by
  pointwise [val_main_v13, val_main_v8, val_main_v0]
  exact H.xbc _ _

theorem v15_real : val_main_v15 (F := Ideal) x0 (ix4 c l g n) = (((α.base g c).b l n : ℝ) : EReal) := by
  pointwise [val_main_v15, val_main_v11, val_main_v1]
  exact H.xbc _ _

theorem v16_real : val_main_v16 (F := Ideal) x0 (ix4 c l g n) = (((α.base g c).c l n : ℝ) : EReal) := by
  pointwise [val_main_v16, val_main_v12, val_main_v2]
  exact H.xbc _ _

theorem v93_real : val_main_v93 (F := Ideal) x5 (ix5 c l g r p) = (((α.base g c).dy r l p : ℝ) : EReal) := by
  pointwise [val_main_v93, val_main_v83]
  exact H.dy _ _

theorem v4_real (i : Fin 8192) (k : Fin 32) : val_main_v4 (F := Ideal) x1 x2 (ix2 i k) = ((α.raw i k + α.bias k : ℝ) : EReal) := by
  pointwise [val_main_v4, val_main_v3]
  rw [H.raw, H.bias, ← EReal.coe_add]

theorem v5_real (i : Fin 8192) (k : Fin 32) : val_main_v5_0 (F := Ideal) x1 x2 (ix2 i k) = ((sp (α.raw i k + α.bias k) : ℝ) : EReal) := by
  pointwise [val_main_v5_0, val_main_call0_v4, val_main_call0_v6, val_main_call0_v11, val_main_call0_v1, val_main_call0_v10, val_main_call0_v9, val_main_call0_v8, val_main_call0_v7, val_main_call0_v3, val_main_call0_v2, val_main_call0_v0, val_main_call0_v5, val_main_call0_cst]
  simp only [v4_real H, ne_eq, not_true_eq_false, if_false]
  rw [absf_coe, ← EReal.coe_neg, Ideal.exp_coe, Ideal.log1p, ← EReal.coe_one, ← EReal.coe_add, log_one_add_exp, ← EReal.coe_zero, coe_max, ← EReal.coe_add, sp, zero_sub]

theorem v14_real : val_main_v14 (F := Ideal) x1 x2 (ix4 c l g r) = (((α.base g c).dt l r : ℝ) : EReal) := by
  pointwise [val_main_v14, val_main_v9]
  exact v5_real H _ _

theorem v17_real : val_main_v17 (F := Ideal) x3 (ix4 0 0 g r) = (((α.base g c).a r : ℝ) : EReal) := by
  pointwise [val_main_v17, val_main_v10, val_main_v7, val_main_v6]
  rw [H.alog, Ideal.exp_coe, ← EReal.coe_neg, Data.a, zero_sub]
  rfl

theorem v20_real : val_main_v20 (F := Ideal) x1 x2 x3 (ix4 c l g r) = (((α.base g c).A l r : ℝ) : EReal) := by
  unfold val_main_v20
  rw [cumsum_read _ _ (fun i => by pointwise [val_main_call1_call0_v0, val_main_call1_call0_cst])]
  have e : ∀ j, val_main_v19 (F := Ideal) x1 x2 x3 (ix4 c j g r) = (((α.base g c).dt j r * (α.base g c).a r : ℝ) : EReal) := by
    intro j
    pointwise [val_main_v19, val_main_v18]
    rw [v14_real H, v17_real H c, ← EReal.coe_mul]
  simp only [e, ← EReal.coe_zero, coe_ite, coe_sum]
  congr 1
  exact Finset.sum_congr rfl fun j _ => by split <;> simp

theorem v23_real : val_main_v23 (F := Ideal) x0 x1 x2 (ix5 c l g r p) = (((α.base g c).xdt r l p : ℝ) : EReal) := by
  pointwise [val_main_v23, val_main_v22, val_main_v21]
  rw [v13_real H, v14_real H, ← EReal.coe_mul]
  rfl

theorem v33_real : val_main_v33 (F := Ideal) x1 x2 x3 (ix5 c l s g r) = (((α.base g c).E r l s : ℝ) : EReal) := by
  pointwise [val_main_v33, val_main_v32_0, val_main_v32_1, val_main_v31, val_main_v30, val_main_v28, val_main_v26, val_main_v27, val_main_v24, val_main_v25, val_main_v29, val_main_c, val_main_call2_v4, val_main_call2_v5, val_main_call3_v2, val_main_call2_v0, val_main_call2_v1, val_main_call2_v2, val_main_call2_v3, val_main_call2_c, val_main_call2_c_0, val_main_call3_v0, val_main_cst]
  simp only [v20_real H, ← EReal.coe_sub, id_eq, cneg, addi_zero32, sge_fin (by norm_num : 256 ≤ 2147483648)]
  by_cases h : s ≤ l
  · rw [Data.E, if_pos h, decide_eq_true h]; exact Ideal.exp_coe _
  · rw [Data.E, if_neg h, decide_eq_false h]; exact Ideal.exp_bot.trans EReal.coe_zero.symm

theorem v35_real : val_main_v35 (F := Ideal) x0 (ix4 c l s g) = (((α.base g c).cb l s : ℝ) : EReal) := by
  pointwise [val_main_v35, val_main_v34]
  simp only [v15_real H, v16_real H, ← EReal.coe_mul, coe_sum]
  congr 1
  exact Finset.sum_congr rfl fun _ _ => mul_comm _ _

theorem v44_real : val_main_v44 (F := Ideal) x1 x2 x3 (ix4 c l g r) = (((α.base g c).toEnd r l : ℝ) : EReal) := by
  pointwise [val_main_v44, val_main_v43, val_main_v42, val_main_v41]
  simp only [v20_real H, ← EReal.coe_sub, Ideal.exp_coe]
  rfl

theorem v47_real : val_main_v47 (F := Ideal) x0 x1 x2 x3 (ix5 c l g r p) = (((α.base g c).toEnd r l * (α.base g c).xdt r l p : ℝ) : EReal) := by
  pointwise [val_main_v47, val_main_v46, val_main_v45]
  rw [v44_real H, v23_real H, ← EReal.coe_mul]

theorem v48_real : val_main_v48 (F := Ideal) x0 x1 x2 x3 (ix5 c g r p n) = ((α.S g c r n p : ℝ) : EReal) := by
  pointwise [val_main_v48]
  simp only [v47_real H, v15_real H, ← EReal.coe_mul, coe_sum]
  rfl

theorem v59_real : val_main_v59 (F := Ideal) x1 x2 x3 (ix4 z c g r) = ((α.gap g z c r : ℝ) : EReal) := by
  pointwise [val_main_v59, val_main_v58_0, val_main_v58_1, val_main_call4_v2, val_main_call4_v3, val_main_cst_1, val_main_v55, val_main_v54, val_main_v53, val_main_v52, val_main_v49, val_main_v50, val_main_v51, val_main_v57, val_main_v56, val_main_call4_v0, val_main_cst_0]
  simp only [v20_real H, slt_fin, and_bool, select_ofBool, id_eq, czero, Bool.and_eq_true, decide_eq_true_eq, coe_ite, coe_sum]
  rfl

theorem v65_real : val_main_v65_0 (F := Ideal) x1 x2 x3 (ix4 z c g r) = ((α.carry g z c r : ℝ) : EReal) := by
  pointwise [val_main_v65_0, val_main_v65_1, val_main_call5_v2, val_main_v63, val_main_v62, val_main_v61, val_main_v60, val_main_v64, val_main_v49, val_main_v50, val_main_call5_v0, val_main_cst_2]
  simp only [v59_real H, slt_fin, select_ofBool, id_eq, Ideal.exp_coe, czero, decide_eq_true_eq, coe_ite]
  rfl

theorem v67_real : val_main_v67 (F := Ideal) x0 x1 x2 x3 (ix5 z g r p n) = ((α.prev g z r n p : ℝ) : EReal) := by
  pointwise [val_main_v67, val_main_v66]
  simp only [v65_real H, v48_real H, ← EReal.coe_mul, coe_sum]
  rfl

end Cert.ReferenceIdeal.Ssd

end
-- ==== Proof.Ssd.Pieces.lean ====
/-
  The stores of the scan's backward kernel at one grid point, as the values of `Ssd.Head`: the text of each head is the
  same function of what that head loads.
-/
module

public import proofs.«01_k».proof.Proof.Ssd.Head
public import proofs.«01_k».proof.Proof.Ssd.Outputs
public import Idealize.ShloMosaic.Lib.Pipeline.ValueKit.Acc
public import Idealize.ShloMosaic.Lib.Pipeline.ReadBack

@[expose] public section

set_option maxRecDepth 16384
set_option maxHeartbeats 2000000

noncomputable section

namespace Cert.KernelIdeal.Ssd

open Idealize.ShloMosaic Idealize.ShloMosaic.TcCoe Idealize.ShloMosaic.Tactic Idealize.SL.Sem Cert.KernelIdeal.Gen

theorem inbX (r : Fin 8) : ∀ a, (![0, 64 * r.val] : Fin 2 → ℕ) a + S256x64.size a ≤ S256x512.size a := by revert r; decide
theorem inbH (r : Fin 8) : ∀ a, (![0, r.val, 0, 0] : Fin 4 → ℕ) a + S1x1x128x64.size a ≤ S1x8x128x64.size a := by revert r; decide
theorem inbD (r : Fin 8) : ∀ a, (![r.val, 0, 0] : Fin 3 → ℕ) a + S1x128x64.size a ≤ S8x128x64.size a := by revert r; decide

/-- The eight stores of a output block, one per head, last first. -/
abbrev pieces8 (f : Fin 8 → FVec Ideal S256x64 .f32) : List (View.Piece (Elt Ideal) S256x512 .f32) :=
  [⟨Rect.unit ![0, 448] S256x64.size inb_S256x512_S256x64_0_448, f 7⟩,
   ⟨Rect.unit ![0, 384] S256x64.size inb_S256x512_S256x64_0_384, f 6⟩,
   ⟨Rect.unit ![0, 320] S256x64.size inb_S256x512_S256x64_0_320, f 5⟩,
   ⟨Rect.unit ![0, 256] S256x64.size inb_S256x512_S256x64_0_256, f 4⟩,
   ⟨Rect.unit ![0, 192] S256x64.size inb_S256x512_S256x64_0_192, f 3⟩,
   ⟨Rect.unit ![0, 128] S256x64.size inb_S256x512_S256x64_0_128, f 2⟩,
   ⟨Rect.unit ![0, 64] S256x64.size inb_S256x512_S256x64_0_64, f 1⟩,
   ⟨Rect.unit ![0, 0] S256x64.size inb_S256x512_S256x64_0_0, f 0⟩]
/-- The eight stores of the carried gradient, last first. -/
abbrev piecesD (f : Fin 8 → FVec Ideal S1x128x64 .f32) : List (View.Piece (Elt Ideal) S8x128x64 .f32) :=
  [⟨Rect.unit ![7, 0, 0] S1x128x64.size inb_S8x128x64_S1x128x64_7_0_0, f 7⟩,
   ⟨Rect.unit ![6, 0, 0] S1x128x64.size inb_S8x128x64_S1x128x64_6_0_0, f 6⟩,
   ⟨Rect.unit ![5, 0, 0] S1x128x64.size inb_S8x128x64_S1x128x64_5_0_0, f 5⟩,
   ⟨Rect.unit ![4, 0, 0] S1x128x64.size inb_S8x128x64_S1x128x64_4_0_0, f 4⟩,
   ⟨Rect.unit ![3, 0, 0] S1x128x64.size inb_S8x128x64_S1x128x64_3_0_0, f 3⟩,
   ⟨Rect.unit ![2, 0, 0] S1x128x64.size inb_S8x128x64_S1x128x64_2_0_0, f 2⟩,
   ⟨Rect.unit ![1, 0, 0] S1x128x64.size inb_S8x128x64_S1x128x64_1_0_0, f 1⟩,
   ⟨Rect.unit ![0, 0, 0] S1x128x64.size inb_S8x128x64_S1x128x64_0_0_0, f 0⟩]

variable (c : Dev nD) (i : grid0.Coords)
  (arg2 : Memref sig .tc .vmem S256x512 .f32) (harg2 : arg2.IsWhole)
  (arg3 : Memref sig .tc .vmem S256x128 .f32) (harg3 : arg3.IsWhole)
  (arg4 : Memref sig .tc .vmem S256x128 .f32) (harg4 : arg4.IsWhole)
  (arg5 : Memref sig .tc .vmem S1x256x8 .f32) (harg5 : arg5.IsWhole)
  (arg6 : Memref sig .tc .vmem S1x8x256 .f32) (harg6 : arg6.IsWhole)
  (arg7 : Memref sig .tc .vmem S1x1x8 .f32) (harg7 : arg7.IsWhole)
  (arg8 : Memref sig .tc .vmem S1x8x1 .f32) (harg8 : arg8.IsWhole)
  (arg9 : Memref sig .tc .vmem S1x1x8 .f32) (harg9 : arg9.IsWhole)
  (arg10 : Memref sig .tc .vmem S1x8x1 .f32) (harg10 : arg10.IsWhole)
  (arg11 : Memref sig .tc .vmem S1x1x8 .f32) (harg11 : arg11.IsWhole)
  (arg12 : Memref sig .tc .vmem S256x512 .f32) (harg12 : arg12.IsWhole)
  (arg13 : Memref sig .tc .vmem S1x8x128x64 .f32) (harg13 : arg13.IsWhole)
  (arg14 : Memref sig .tc .vmem S256x512 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S1x256x8 .f32) (harg17 : arg17.IsWhole)
  (arg18 : Memref sig .tc .vmem S1x1x8 .f32) (harg18 : arg18.IsWhole)
  (arg19 : Memref sig .tc .vmem S1x1x8 .f32) (harg19 : arg19.IsWhole)
  (arg20 : Memref sig .tc .vmem S1x1x8 .f32) (harg20 : arg20.IsWhole)
  (arg21 : Memref sig .tc .vmem S8x128x64 .f32) (harg21 : arg21.IsWhole)
  (hA : cond0_0 i) (hB : ¬cond0_0 i)
  (x0 : Vec Ideal S256x512 .f32)
  (x1 : Vec Ideal S256x128 .f32)
  (x2 : Vec Ideal S256x128 .f32)
  (x3 : Vec Ideal S1x256x8 .f32)
  (x4 : Vec Ideal S1x8x256 .f32)
  (x5 : Vec Ideal S1x1x8 .f32)
  (x6 : Vec Ideal S1x8x1 .f32)
  (x7 : Vec Ideal S1x1x8 .f32)
  (x8 : Vec Ideal S1x8x1 .f32)
  (x9 : Vec Ideal S1x1x8 .f32)
  (x10 : Vec Ideal S256x512 .f32)
  (x11 : Vec Ideal S1x8x128x64 .f32)
  (o16 o17 o18 : Vec Ideal S1x1x8 .f32) (xs0 : Vec Ideal S8x128x64 .f32)

/-- The loads of a point, for any carried gradient `d`. -/
def raw (d : Fin 8 → FVec Ideal S1x128x64 .f32) : Loads where
  x r := View.readAt (Elt Ideal) arg2.view (Rect.unit (s := S256x512) ![0, 64 * r.val] S256x64.size (inbX r)).toLoadRect (harg2.unread x0)
  dy r := View.readAt (Elt Ideal) arg12.view (Rect.unit (s := S256x512) ![0, 64 * r.val] S256x64.size (inbX r)).toLoadRect (harg12.unread x10)
  h r := View.readAt (Elt Ideal) arg13.view (Rect.unit (s := S1x8x128x64) ![0, r.val, 0, 0] S1x1x128x64.size (inbH r)).toLoadRect (harg13.unread x11)
  d := d
  b := View.readAt (Elt Ideal) arg3.view (Rect.unit (s := S256x128) ![0, 0] S256x128.size inb_S256x128_S256x128_0_0).toLoadRect (harg3.unread x1)
  c := View.readAt (Elt Ideal) arg4.view (Rect.unit (s := S256x128) ![0, 0] S256x128.size inb_S256x128_S256x128_0_0).toLoadRect (harg4.unread x2)
  zc := View.readAt (Elt Ideal) arg5.view (Rect.unit (s := S1x256x8) ![0, 0, 0] S1x256x8.size inb_S1x256x8_S1x256x8_0_0_0).toLoadRect (harg5.unread x3)
  zr := View.readAt (Elt Ideal) arg6.view (Rect.unit (s := S1x8x256) ![0, 0, 0] S1x8x256.size inb_S1x8x256_S1x8x256_0_0_0).toLoadRect (harg6.unread x4)
  bc := View.readAt (Elt Ideal) arg7.view (Rect.unit (s := S1x1x8) ![0, 0, 0] S1x1x8.size inb_S1x1x8_S1x1x8_0_0_0).toLoadRect (harg7.unread x5)
  br := View.readAt (Elt Ideal) arg8.view (Rect.unit (s := S1x8x1) ![0, 0, 0] S1x8x1.size inb_S1x8x1_S1x8x1_0_0_0).toLoadRect (harg8.unread x6)
  ac := View.readAt (Elt Ideal) arg9.view (Rect.unit (s := S1x1x8) ![0, 0, 0] S1x1x8.size inb_S1x1x8_S1x1x8_0_0_0).toLoadRect (harg9.unread x7)
  ar := View.readAt (Elt Ideal) arg10.view (Rect.unit (s := S1x8x1) ![0, 0, 0] S1x8x1.size inb_S1x8x1_S1x8x1_0_0_0).toLoadRect (harg10.unread x8)
  kc := View.readAt (Elt Ideal) arg11.view (Rect.unit (s := S1x1x8) ![0, 0, 0] S1x1x8.size inb_S1x1x8_S1x1x8_0_0_0).toLoadRect (harg11.unread x9)

/-- The carried gradient a later point reads. -/
def dB (r : Fin 8) : FVec Ideal S1x128x64 .f32 := View.readAt (Elt Ideal) arg21.view (Rect.unit (s := S8x128x64) ![r.val, 0, 0] S1x128x64.size (inbD r)).toLoadRect (harg21.unread xs0)

theorem listB_12 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).1 = pieces8 (dxs (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))) := by sl_kernel_rfl

theorem listB_13 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.1 = [⟨Rect.unit ![0, 0] S256x128.size inb_S256x128_S256x128_0_0, dbOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))⟩] := by sl_kernel_rfl

theorem listB_14 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.2.1 = [⟨Rect.unit ![0, 0] S256x128.size inb_S256x128_S256x128_0_0, dcOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))⟩] := by sl_kernel_rfl

theorem listB_15 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.2.2.1 = [⟨Rect.unit ![0, 0, 0] S1x256x8.size inb_S1x256x8_S1x256x8_0_0_0, ddtOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))⟩] := by sl_kernel_rfl

theorem listB_16 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.2.2.2.1 = [⟨Rect.unit ![0, 0, 0] S1x1x8.size inb_S1x1x8_S1x1x8_0_0_0, dalOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))
    (View.readAt (Elt Ideal) arg18.view (Rect.unit (s := S1x1x8) ![0, 0, 0] S1x1x8.size inb_S1x1x8_S1x1x8_0_0_0).toLoadRect (harg18.unread o16))⟩] := by sl_kernel_rfl

theorem listB_17 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.2.2.2.2.1 = [⟨Rect.unit ![0, 0, 0] S1x1x8.size inb_S1x1x8_S1x1x8_0_0_0, ddkOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))
    (View.readAt (Elt Ideal) arg19.view (Rect.unit (s := S1x1x8) ![0, 0, 0] S1x1x8.size inb_S1x1x8_S1x1x8_0_0_0).toLoadRect (harg19.unread o17))⟩] := by sl_kernel_rfl

theorem listB_18 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.2.2.2.2.2.1 = [⟨Rect.unit ![0, 0, 0] S1x1x8.size inb_S1x1x8_S1x1x8_0_0_0, dbiasOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))
    (View.readAt (Elt Ideal) arg20.view (Rect.unit (s := S1x1x8) ![0, 0, 0] S1x1x8.size inb_S1x1x8_S1x1x8_0_0_0).toLoadRect (harg20.unread o18))⟩] := by sl_kernel_rfl

theorem listB_d : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0).2.2.2.2.2.2.2.1 = piecesD (newD (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0))) := by sl_kernel_rfl

/-! ## The first point of a group: the carried gradient starts at zero -/

/-- The carried gradient the first point reads, after it cleared it. -/
def dA : Fin 8 → FVec Ideal S1x128x64 .f32 :=
  ![kernelRun0_A.sl.v186 (F := Ideal) c arg21, kernelRun0_A.sl.v322 (F := Ideal) c arg4 harg4 arg5 harg5 arg7 harg7 arg9 harg9 arg12 harg12 arg21 x2 x3 x5 x7 x10, kernelRun0_A.sl.v458 (F := Ideal) c arg4 harg4 arg5 harg5 arg7 harg7 arg9 harg9 arg12 harg12 arg21 x2 x3 x5 x7 x10, kernelRun0_A.sl.v594 (F := Ideal) c arg4 harg4 arg5 harg5 arg7 harg7 arg9 harg9 arg12 harg12 arg21 x2 x3 x5 x7 x10, kernelRun0_A.sl.v730 (F := Ideal) c arg4 harg4 arg5 harg5 arg7 harg7 arg9 harg9 arg12 harg12 arg21 x2 x3 x5 x7 x10, kernelRun0_A.sl.v866 (F := Ideal) c arg4 harg4 arg5 harg5 arg7 harg7 arg9 harg9 arg12 harg12 arg21 x2 x3 x5 x7 x10, kernelRun0_A.sl.v1002 (F := Ideal) c arg4 harg4 arg5 harg5 arg7 harg7 arg9 harg9 arg12 harg12 arg21 x2 x3 x5 x7 x10, kernelRun0_A.sl.v1138 (F := Ideal) c arg4 harg4 arg5 harg5 arg7 harg7 arg9 harg9 arg12 harg12 arg21 x2 x3 x5 x7 x10]

theorem dA_eq (r : Fin 8) : dA c arg4 harg4 arg5 harg5 arg7 harg7 arg9 harg9 arg12 harg12 arg21 x2 x3 x5 x7 x10 r = View.ld (Val := Elt Ideal) (e' := .f32) (k0_pay2 (F := Ideal)) (Rect.unit (s := S8x128x64) ![r.val, 0, 0] S1x128x64.size (inbD r)) := by
  fin_cases r
  · show kernelRun0_A.sl.v186 (F := Ideal) c arg21 = _
    unfold kernelRun0_A.sl.v186 kernelRun0_A.sl.HS0_1
    exact View.readCov_fill _ _ _ _ _ (by decide)
  · show kernelRun0_A.sl.v322 (F := Ideal) c arg4 harg4 arg5 harg5 arg7 harg7 arg9 harg9 arg12 harg12 arg21 x2 x3 x5 x7 x10 = _
    unfold kernelRun0_A.sl.v322 kernelRun0_A.sl.HS0_2 kernelRun0_A.sl.HS0_1
    repeat rw [View.readCov_skip _ _ _ _ _ (by decide)]
    exact View.readCov_fill _ _ _ _ _ (by decide)
  · show kernelRun0_A.sl.v458 (F := Ideal) c arg4 harg4 arg5 harg5 arg7 harg7 arg9 harg9 arg12 harg12 arg21 x2 x3 x5 x7 x10 = _
    unfold kernelRun0_A.sl.v458 kernelRun0_A.sl.HS0_3 kernelRun0_A.sl.HS0_2 kernelRun0_A.sl.HS0_1
    repeat rw [View.readCov_skip _ _ _ _ _ (by decide)]
    exact View.readCov_fill _ _ _ _ _ (by decide)
  · show kernelRun0_A.sl.v594 (F := Ideal) c arg4 harg4 arg5 harg5 arg7 harg7 arg9 harg9 arg12 harg12 arg21 x2 x3 x5 x7 x10 = _
    unfold kernelRun0_A.sl.v594 kernelRun0_A.sl.HS0_4 kernelRun0_A.sl.HS0_3 kernelRun0_A.sl.HS0_2 kernelRun0_A.sl.HS0_1
    repeat rw [View.readCov_skip _ _ _ _ _ (by decide)]
    exact View.readCov_fill _ _ _ _ _ (by decide)
  · show kernelRun0_A.sl.v730 (F := Ideal) c arg4 harg4 arg5 harg5 arg7 harg7 arg9 harg9 arg12 harg12 arg21 x2 x3 x5 x7 x10 = _
    unfold kernelRun0_A.sl.v730 kernelRun0_A.sl.HS0_5 kernelRun0_A.sl.HS0_4 kernelRun0_A.sl.HS0_3 kernelRun0_A.sl.HS0_2 kernelRun0_A.sl.HS0_1
    repeat rw [View.readCov_skip _ _ _ _ _ (by decide)]
    exact View.readCov_fill _ _ _ _ _ (by decide)
  · show kernelRun0_A.sl.v866 (F := Ideal) c arg4 harg4 arg5 harg5 arg7 harg7 arg9 harg9 arg12 harg12 arg21 x2 x3 x5 x7 x10 = _
    unfold kernelRun0_A.sl.v866 kernelRun0_A.sl.HS0_6 kernelRun0_A.sl.HS0_5 kernelRun0_A.sl.HS0_4 kernelRun0_A.sl.HS0_3 kernelRun0_A.sl.HS0_2 kernelRun0_A.sl.HS0_1
    repeat rw [View.readCov_skip _ _ _ _ _ (by decide)]
    exact View.readCov_fill _ _ _ _ _ (by decide)
  · show kernelRun0_A.sl.v1002 (F := Ideal) c arg4 harg4 arg5 harg5 arg7 harg7 arg9 harg9 arg12 harg12 arg21 x2 x3 x5 x7 x10 = _
    unfold kernelRun0_A.sl.v1002 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
    repeat rw [View.readCov_skip _ _ _ _ _ (by decide)]
    exact View.readCov_fill _ _ _ _ _ (by decide)
  · show kernelRun0_A.sl.v1138 (F := Ideal) c arg4 harg4 arg5 harg5 arg7 harg7 arg9 harg9 arg12 harg12 arg21 x2 x3 x5 x7 x10 = _
    unfold kernelRun0_A.sl.v1138 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
    repeat rw [View.readCov_skip _ _ _ _ _ (by decide)]
    exact View.readCov_fill _ _ _ _ _ (by decide)

theorem listA_12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).1 = pieces8 (dxs (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))) := by sl_kernel_rfl

theorem listA_13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.1 = [⟨Rect.unit ![0, 0] S256x128.size inb_S256x128_S256x128_0_0, dbOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))⟩] := by sl_kernel_rfl

theorem listA_14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.2.1 = [⟨Rect.unit ![0, 0] S256x128.size inb_S256x128_S256x128_0_0, dcOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))⟩] := by sl_kernel_rfl

theorem listA_15 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.2.2.1 = [⟨Rect.unit ![0, 0, 0] S1x256x8.size inb_S1x256x8_S1x256x8_0_0_0, ddtOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))⟩] := by sl_kernel_rfl

theorem listA_16 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.2.2.2.1 = [⟨Rect.unit ![0, 0, 0] S1x1x8.size inb_S1x1x8_S1x1x8_0_0_0, dalOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))
    (kernelRun0_A.sl.v1271 (F := Ideal) c arg18)⟩, ⟨Rect.unit ![0, 0, 0] S1x1x8.size inb_S1x1x8_S1x1x8_0_0_0, k0_pay3 (F := Ideal)⟩] := by
  sl_kernel_rfl

theorem zeroA_16 : kernelRun0_A.sl.v1271 (F := Ideal) c arg18 = k0_pay3 (F := Ideal) := by
  unfold kernelRun0_A.sl.v1271 kernelRun0_A.sl.H16_1
  exact View.readCov_unit_lit' _ _ _ (by decide)

theorem listA_17 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.2.2.2.2.1 = [⟨Rect.unit ![0, 0, 0] S1x1x8.size inb_S1x1x8_S1x1x8_0_0_0, ddkOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))
    (kernelRun0_A.sl.v1281 (F := Ideal) c arg19)⟩, ⟨Rect.unit ![0, 0, 0] S1x1x8.size inb_S1x1x8_S1x1x8_0_0_0, k0_pay4 (F := Ideal)⟩] := by
  sl_kernel_rfl

theorem zeroA_17 : kernelRun0_A.sl.v1281 (F := Ideal) c arg19 = k0_pay4 (F := Ideal) := by
  unfold kernelRun0_A.sl.v1281 kernelRun0_A.sl.H17_1
  exact View.readCov_unit_lit' _ _ _ (by decide)

theorem listA_18 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.2.2.2.2.2.1 = [⟨Rect.unit ![0, 0, 0] S1x1x8.size inb_S1x1x8_S1x1x8_0_0_0, dbiasOut (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))
    (kernelRun0_A.sl.v1304 (F := Ideal) c arg20)⟩, ⟨Rect.unit ![0, 0, 0] S1x1x8.size inb_S1x1x8_S1x1x8_0_0_0, k0_pay5 (F := Ideal)⟩] := by
  sl_kernel_rfl

theorem zeroA_18 : kernelRun0_A.sl.v1304 (F := Ideal) c arg20 = k0_pay5 (F := Ideal) := by
  unfold kernelRun0_A.sl.v1304 kernelRun0_A.sl.H18_1
  exact View.readCov_unit_lit' _ _ _ (by decide)

theorem listA_d : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11).2.2.2.2.2.2.2.1 = piecesD (newD (raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10))) ++
    [⟨Rect.unit ![0, 0, 0] S8x128x64.size inb_S8x128x64_S8x128x64_0_0_0, k0_pay2 (F := Ideal)⟩] := by sl_kernel_rfl

end Cert.KernelIdeal.Ssd

end
-- ==== Proof.Ssd.Blocks.lean ====
/-
  What one grid point of the scan's backward kernel leaves in its output blocks and in the carried gradient, as plain
  functions of the blocks it is given: no buffer and no store in them.
-/
module

public import proofs.«01_k».proof.Proof.Ssd.Pieces
public import Idealize.ShloMosaic.Lib.Pointwise

@[expose] public section

set_option maxRecDepth 16384
set_option maxHeartbeats 2000000

noncomputable section

namespace Cert.KernelIdeal.Ssd

open Idealize.ShloMosaic Idealize.ShloMosaic.TcCoe Idealize.ShloMosaic.Tactic Idealize.SL.Sem Cert.KernelIdeal.Gen

/-- Head `l / 64`'s column `l % 64` at lane `l` of a block. -/
def tile8 (f : Fin 8 → FVec Ideal S256x64 .f32) : Vec Ideal S256x512 .f32 := fun y =>
  f ⟨(y 1).val / 64, by have h : (y 1).val < 512 := (y 1).isLt; omega⟩ (ix2 (y 0) ⟨(y 1).val % 64, Nat.mod_lt _ (by decide)⟩)
/-- Head by head along the first axis. -/
def tileD (f : Fin 8 → FVec Ideal S1x128x64 .f32) : Vec Ideal S8x128x64 .f32 := fun y =>
  f (y 0) (ix3 (0 : Fin 1) (y 1) (y 2))

theorem tile8_piece (f : Fin 8 → FVec Ideal S256x64 .f32) (k : Fin 8) {o : ℕ} (ho : o = 64 * k.val)
    (inb : ∀ a, (![0, o] : Fin 2 → ℕ) a + S256x64.size a ≤ S256x512.size a) (x : S256x64.Idx) :
    f k x = tile8 f ((Rect.unit (s := S256x512) ![0, o] S256x64.size inb).emb x) := by
  have h1 : (x 1).val < 64 := (x 1).isLt
  have e1 : (((Rect.unit (s := S256x512) ![0, o] S256x64.size inb).emb x) 1).val = o + (x 1).val := by
    show o + 1 * (x 1).val = _; omega
  have e0 : (((Rect.unit (s := S256x512) ![0, o] S256x64.size inb).emb x) 0) = x 0 := by
    apply Fin.ext; show 0 + 1 * (x 0).val = _; omega
  unfold tile8
  have hk : (⟨(((Rect.unit (s := S256x512) ![0, o] S256x64.size inb).emb x) 1).val / 64, by rw [e1]; omega⟩ : Fin 8) = k := by
    apply Fin.ext; show _ / 64 = _; rw [e1]; omega
  rw [hk]
  congr 1
  funext a
  match a with
  | 0 => exact e0.symm
  | 1 => apply Fin.ext; show (x 1).val = _ % 64; rw [e1]; omega

theorem tileD_piece (f : Fin 8 → FVec Ideal S1x128x64 .f32) (k : Fin 8) {o : ℕ} (ho : o = k.val)
    (inb : ∀ a, (![o, 0, 0] : Fin 3 → ℕ) a + S1x128x64.size a ≤ S8x128x64.size a) (x : S1x128x64.Idx) :
    f k x = tileD f ((Rect.unit (s := S8x128x64) ![o, 0, 0] S1x128x64.size inb).emb x) := by
  have h0 : (x 0).val < 1 := (x 0).isLt
  have e0 : (((Rect.unit (s := S8x128x64) ![o, 0, 0] S1x128x64.size inb).emb x) 0) = k := by
    apply Fin.ext; show o + 1 * (x 0).val = _; omega
  have e1 : (((Rect.unit (s := S8x128x64) ![o, 0, 0] S1x128x64.size inb).emb x) 1) = x 1 := by
    apply Fin.ext; show 0 + 1 * (x 1).val = _; omega
  have e2 : (((Rect.unit (s := S8x128x64) ![o, 0, 0] S1x128x64.size inb).emb x) 2) = x 2 := by
    apply Fin.ext; show 0 + 1 * (x 2).val = _; omega
  unfold tileD
  rw [e0, e1, e2]
  congr 1
  funext a
  match a with
  | 0 => apply Fin.ext; show (x 0).val = 0; omega
  | 1 => rfl
  | 2 => rfl

theorem canon_pieces8 (f : Fin 8 → FVec Ideal S256x64 .f32) : View.canon (pieces8 f) = tile8 f :=
  funext fun y => View.canon_append_of_piecesOf (tile8 f) [] (pieces8 f)
    ⟨tile8_piece f 7 rfl (inbX 7), tile8_piece f 6 rfl (inbX 6), tile8_piece f 5 rfl (inbX 5), tile8_piece f 4 rfl (inbX 4), tile8_piece f 3 rfl (inbX 3),
      tile8_piece f 2 rfl (inbX 2), tile8_piece f 1 rfl (inbX 1), tile8_piece f 0 rfl (inbX 0), trivial⟩ y
    (View.cover_of_tiledL (pieces8 f) S256x64.size (by sl_kernel_rfl) y)

theorem canon_piecesD (f : Fin 8 → FVec Ideal S1x128x64 .f32) (L : List (View.Piece (Elt Ideal) S8x128x64 .f32)) :
    View.canon (piecesD f ++ L) = tileD f :=
  funext fun y => View.canon_append_of_piecesOf (tileD f) L (piecesD f)
    ⟨tileD_piece f 7 rfl (inbD 7), tileD_piece f 6 rfl (inbD 6), tileD_piece f 5 rfl (inbD 5), tileD_piece f 4 rfl (inbD 4), tileD_piece f 3 rfl (inbD 3),
      tileD_piece f 2 rfl (inbD 2), tileD_piece f 1 rfl (inbD 1), tileD_piece f 0 rfl (inbD 0), trivial⟩ y
    (View.cover_of_tiledL (piecesD f) S1x128x64.size (by sl_kernel_rfl) y)

/-- What a point loads, from the blocks it is given and the carried gradient it finds. -/
def pt (x0 x10 : Vec Ideal S256x512 .f32) (x1 x2 : Vec Ideal S256x128 .f32) (x3 : Vec Ideal S1x256x8 .f32)
    (x4 : Vec Ideal S1x8x256 .f32) (x5 x7 x9 : Vec Ideal S1x1x8 .f32) (x6 x8 : Vec Ideal S1x8x1 .f32)
    (x11 : Vec Ideal S1x8x128x64 .f32) (s : Vec Ideal S8x128x64 .f32) : Loads where
  x r := View.ld (Val := Elt Ideal) (e' := .f32) x0 (Rect.unit (s := S256x512) ![0, 64 * r.val] S256x64.size (inbX r))
  dy r := View.ld (Val := Elt Ideal) (e' := .f32) x10 (Rect.unit (s := S256x512) ![0, 64 * r.val] S256x64.size (inbX r))
  h r := View.ld (Val := Elt Ideal) (e' := .f32) x11 (Rect.unit (s := S1x8x128x64) ![0, r.val, 0, 0] S1x1x128x64.size (inbH r))
  d r := View.ld (Val := Elt Ideal) (e' := .f32) s (Rect.unit (s := S8x128x64) ![r.val, 0, 0] S1x128x64.size (inbD r))
  b := x1
  c := x2
  zc := x3
  zr := x4
  bc := x5
  br := x6
  ac := x7
  ar := x8
  kc := x9

/-- The carried gradient cleared. -/
abbrev zeroD : Vec Ideal S8x128x64 .f32 := k0_pay2 (F := Ideal)
abbrev zeroO : Vec Ideal S1x1x8 .f32 := k0_pay3 (F := Ideal)

/-- A point's results: the output blocks, and the carried gradient last. -/
def step (D : Loads) (o16 o17 o18 : Vec Ideal S1x1x8 .f32) : Vec Ideal S256x512 .f32 × Vec Ideal S256x128 .f32 × Vec Ideal S256x128 .f32 ×
    Vec Ideal S1x256x8 .f32 × Vec Ideal S1x1x8 .f32 × Vec Ideal S1x1x8 .f32 × Vec Ideal S1x1x8 .f32 × Vec Ideal S8x128x64 .f32 :=
  (tile8 (dxs D), dbOut D, dcOut D, ddtOut D, dalOut D o16, ddkOut D o17, dbiasOut D o18, tileD (newD D))

variable (c : Dev nD) (i : grid0.Coords)
  (arg2 : Memref sig .tc .vmem S256x512 .f32) (harg2 : arg2.IsWhole)
  (arg3 : Memref sig .tc .vmem S256x128 .f32) (harg3 : arg3.IsWhole)
  (arg4 : Memref sig .tc .vmem S256x128 .f32) (harg4 : arg4.IsWhole)
  (arg5 : Memref sig .tc .vmem S1x256x8 .f32) (harg5 : arg5.IsWhole)
  (arg6 : Memref sig .tc .vmem S1x8x256 .f32) (harg6 : arg6.IsWhole)
  (arg7 : Memref sig .tc .vmem S1x1x8 .f32) (harg7 : arg7.IsWhole)
  (arg8 : Memref sig .tc .vmem S1x8x1 .f32) (harg8 : arg8.IsWhole)
  (arg9 : Memref sig .tc .vmem S1x1x8 .f32) (harg9 : arg9.IsWhole)
  (arg10 : Memref sig .tc .vmem S1x8x1 .f32) (harg10 : arg10.IsWhole)
  (arg11 : Memref sig .tc .vmem S1x1x8 .f32) (harg11 : arg11.IsWhole)
  (arg12 : Memref sig .tc .vmem S256x512 .f32) (harg12 : arg12.IsWhole)
  (arg13 : Memref sig .tc .vmem S1x8x128x64 .f32) (harg13 : arg13.IsWhole)
  (arg14 : Memref sig .tc .vmem S256x512 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S1x256x8 .f32) (harg17 : arg17.IsWhole)
  (arg18 : Memref sig .tc .vmem S1x1x8 .f32) (harg18 : arg18.IsWhole)
  (arg19 : Memref sig .tc .vmem S1x1x8 .f32) (harg19 : arg19.IsWhole)
  (arg20 : Memref sig .tc .vmem S1x1x8 .f32) (harg20 : arg20.IsWhole)
  (arg21 : Memref sig .tc .vmem S8x128x64 .f32) (harg21 : arg21.IsWhole)
  (hA : cond0_0 i) (hB : ¬cond0_0 i)
  (x0 : Vec Ideal S256x512 .f32)
  (x1 : Vec Ideal S256x128 .f32)
  (x2 : Vec Ideal S256x128 .f32)
  (x3 : Vec Ideal S1x256x8 .f32)
  (x4 : Vec Ideal S1x8x256 .f32)
  (x5 : Vec Ideal S1x1x8 .f32)
  (x6 : Vec Ideal S1x8x1 .f32)
  (x7 : Vec Ideal S1x1x8 .f32)
  (x8 : Vec Ideal S1x8x1 .f32)
  (x9 : Vec Ideal S1x1x8 .f32)
  (x10 : Vec Ideal S256x512 .f32)
  (x11 : Vec Ideal S1x8x128x64 .f32)
  (o16 o17 o18 : Vec Ideal S1x1x8 .f32) (xs0 : Vec Ideal S8x128x64 .f32)

theorem raw_B : raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dB arg21 harg21 xs0) = pt x0 x10 x1 x2 x3 x4 x5 x7 x9 x6 x8 x11 xs0 := by
  unfold raw pt dB
  simp only [View.readAt_eq_ld]
  simp only [harg2.read_unread]
  simp only [harg3.read_unread]
  simp only [harg4.read_unread]
  simp only [harg5.read_unread]
  simp only [harg6.read_unread]
  simp only [harg7.read_unread]
  simp only [harg8.read_unread]
  simp only [harg9.read_unread]
  simp only [harg10.read_unread]
  simp only [harg11.read_unread]
  simp only [harg12.read_unread]
  simp only [harg13.read_unread]
  simp only [harg21.read_unread]
  rw [View.ld_unit_lit inb_S256x128_S256x128_0_0 x1 (by decide)]
  rw [View.ld_unit_lit inb_S256x128_S256x128_0_0 x2 (by decide)]
  rw [View.ld_unit_lit inb_S1x256x8_S1x256x8_0_0_0 x3 (by decide)]
  rw [View.ld_unit_lit inb_S1x8x256_S1x8x256_0_0_0 x4 (by decide)]
  rw [View.ld_unit_lit inb_S1x1x8_S1x1x8_0_0_0 x5 (by decide)]
  rw [View.ld_unit_lit inb_S1x8x1_S1x8x1_0_0_0 x6 (by decide)]
  rw [View.ld_unit_lit inb_S1x1x8_S1x1x8_0_0_0 x7 (by decide)]
  rw [View.ld_unit_lit inb_S1x8x1_S1x8x1_0_0_0 x8 (by decide)]
  rw [View.ld_unit_lit inb_S1x1x8_S1x1x8_0_0_0 x9 (by decide)]

theorem raw_A : raw arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (dA c arg4 harg4 arg5 harg5 arg7 harg7 arg9 harg9 arg12 harg12 arg21 x2 x3 x5 x7 x10) = pt x0 x10 x1 x2 x3 x4 x5 x7 x9 x6 x8 x11 zeroD := by
  have hd : dA c arg4 harg4 arg5 harg5 arg7 harg7 arg9 harg9 arg12 harg12 arg21 x2 x3 x5 x7 x10 = fun r => View.ld (Val := Elt Ideal) (e' := .f32) zeroD (Rect.unit (s := S8x128x64) ![r.val, 0, 0] S1x128x64.size (inbD r)) :=
    funext fun r => dA_eq c arg4 harg4 arg5 harg5 arg7 harg7 arg9 harg9 arg12 harg12 arg21 x2 x3 x5 x7 x10 r
  rw [hd]
  unfold raw pt
  simp only [View.readAt_eq_ld]
  simp only [harg2.read_unread]
  simp only [harg3.read_unread]
  simp only [harg4.read_unread]
  simp only [harg5.read_unread]
  simp only [harg6.read_unread]
  simp only [harg7.read_unread]
  simp only [harg8.read_unread]
  simp only [harg9.read_unread]
  simp only [harg10.read_unread]
  simp only [harg11.read_unread]
  simp only [harg12.read_unread]
  simp only [harg13.read_unread]
  rw [View.ld_unit_lit inb_S256x128_S256x128_0_0 x1 (by decide)]
  rw [View.ld_unit_lit inb_S256x128_S256x128_0_0 x2 (by decide)]
  rw [View.ld_unit_lit inb_S1x256x8_S1x256x8_0_0_0 x3 (by decide)]
  rw [View.ld_unit_lit inb_S1x8x256_S1x8x256_0_0_0 x4 (by decide)]
  rw [View.ld_unit_lit inb_S1x1x8_S1x1x8_0_0_0 x5 (by decide)]
  rw [View.ld_unit_lit inb_S1x8x1_S1x8x1_0_0_0 x6 (by decide)]
  rw [View.ld_unit_lit inb_S1x1x8_S1x1x8_0_0_0 x7 (by decide)]
  rw [View.ld_unit_lit inb_S1x8x1_S1x8x1_0_0_0 x8 (by decide)]
  rw [View.ld_unit_lit inb_S1x1x8_S1x1x8_0_0_0 x9 (by decide)]

theorem outB_12 : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = tile8 (dxs (pt x0 x10 x1 x2 x3 x4 x5 x7 x9 x6 x8 x11 xs0)) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_12, raw_B]
  exact canon_pieces8 _

theorem outB_13 : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = dbOut (pt x0 x10 x1 x2 x3 x4 x5 x7 x9 x6 x8 x11 xs0) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_13, raw_B]
  exact View.canon_cons_unit_lit' _ _ _ (by decide)

theorem outB_14 : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = dcOut (pt x0 x10 x1 x2 x3 x4 x5 x7 x9 x6 x8 x11 xs0) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_14, raw_B]
  exact View.canon_cons_unit_lit' _ _ _ (by decide)

theorem outB_15 : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = ddtOut (pt x0 x10 x1 x2 x3 x4 x5 x7 x9 x6 x8 x11 xs0) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_15, raw_B]
  exact View.canon_cons_unit_lit' _ _ _ (by decide)

theorem outB_16 : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = dalOut (pt x0 x10 x1 x2 x3 x4 x5 x7 x9 x6 x8 x11 xs0) o16 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_16, raw_B]
  rw [View.canon_cons_unit_lit' _ _ _ (by decide), View.readAt_eq_ld, harg18.read_unread, View.ld_unit_lit inb_S1x1x8_S1x1x8_0_0_0 o16 (by decide)]

theorem outB_17 : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = ddkOut (pt x0 x10 x1 x2 x3 x4 x5 x7 x9 x6 x8 x11 xs0) o17 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_17, raw_B]
  rw [View.canon_cons_unit_lit' _ _ _ (by decide), View.readAt_eq_ld, harg19.read_unread, View.ld_unit_lit inb_S1x1x8_S1x1x8_0_0_0 o17 (by decide)]

theorem outB_18 : out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = dbiasOut (pt x0 x10 x1 x2 x3 x4 x5 x7 x9 x6 x8 x11 xs0) o18 := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_18, raw_B]
  rw [View.canon_cons_unit_lit' _ _ _ (by decide), View.readAt_eq_ld, harg20.read_unread, View.ld_unit_lit inb_S1x1x8_S1x1x8_0_0_0 o18 (by decide)]

theorem soutB : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0 = tileD (newD (pt x0 x10 x1 x2 x3 x4 x5 x7 x9 x6 x8 x11 xs0)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hB x0 x1 x2 x3 x4 x5 x6 x7 x8 x9 x10 x11 o16 o17 o18 xs0), listB_d, raw_B]
  exact canon_piecesD _ []

theorem outA_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = tile8 (dxs (pt x0 x10 x1 x2 x3 x4 x5 x7 x9 x6 x8 x11 zeroD)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_12, raw_A]
  exact canon_pieces8 _

theorem outA_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = dbOut (pt x0 x10 x1 x2 x3 x4 x5 x7 x9 x6 x8 x11 zeroD) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_13, raw_A]
  exact View.canon_cons_unit_lit' _ _ _ (by decide)

theorem outA_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = dcOut (pt x0 x10 x1 x2 x3 x4 x5 x7 x9 x6 x8 x11 zeroD) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_14, raw_A]
  exact View.canon_cons_unit_lit' _ _ _ (by decide)

theorem outA_15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = ddtOut (pt x0 x10 x1 x2 x3 x4 x5 x7 x9 x6 x8 x11 zeroD) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_15, raw_A]
  exact View.canon_cons_unit_lit' _ _ _ (by decide)

theorem outA_16 : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = dalOut (pt x0 x10 x1 x2 x3 x4 x5 x7 x9 x6 x8 x11 zeroD) zeroO := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_16, raw_A]
  rw [View.canon_cons_unit_lit' _ _ _ (by decide), zeroA_16]
  try rfl

theorem outA_17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = ddkOut (pt x0 x10 x1 x2 x3 x4 x5 x7 x9 x6 x8 x11 zeroD) zeroO := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_17, raw_A]
  rw [View.canon_cons_unit_lit' _ _ _ (by decide), zeroA_17]
  try rfl

theorem outA_18 : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = dbiasOut (pt x0 x10 x1 x2 x3 x4 x5 x7 x9 x6 x8 x11 zeroD) zeroO := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_18, raw_A]
  rw [View.canon_cons_unit_lit' _ _ _ (by decide), zeroA_18]
  try rfl

theorem soutA : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11 = tileD (newD (pt x0 x10 x1 x2 x3 x4 x5 x7 x9 x6 x8 x11 zeroD)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hA x0 x1 x2 x3 x4 x5 x6 x7 x8 x9 x10 x11), listA_d, raw_A]
  exact canon_piecesD _ _

end Cert.KernelIdeal.Ssd

end
-- ==== Proof.Ssd.Entry.lean ====
/-
  What the kernel's host code prepares and what each grid point is given: chunk `c` of group `g`, out of the arguments and
  of the saved states, which are the reference's own states before each chunk.
-/
module

public import proofs.«01_k».proof.Proof.Ssd.RefReal
public import proofs.«01_k».proof.Proof.Ssd.Blocks
public import proofs.«01_k».proof.Proof.Gen.KernelIdeal.Frame.Runs
public import Idealize.ShloMosaic.Lib.Claim
public import Idealize.ShloMosaic.Lib.StableHlo.ReadAt
public import Idealize.ShloMosaic.Lib.Pipeline.ValueKit.Point

@[expose] public section

set_option maxRecDepth 16384
set_option maxHeartbeats 1000000

noncomputable section

namespace Cert.KernelIdeal.Ssd

open Idealize.ShloMosaic Idealize.ShloMosaic.TcCoe Idealize.SL.Sem Cert.KernelIdeal Cert.KernelIdeal.Gen
open Cert.ReferenceIdeal.Read Cert.ReferenceIdeal.Ssd

variable (m : (ℓ : Loc nD τ sig) → Buf (Elt Ideal) ℓ) (d : Dev nD)

/-- The grid point of chunk `c` of group `g`: the chunks run from the last to the first. -/
abbrev tp (g : Fin 4) (c : Fin 32) : Fin cfg0.N := ⟨g.val * 32 + (31 - c.val), by show _ < 128; omega⟩

set_option synthInstance.maxHeartbeats 400000 in
/-- Which block each window holds at a point. -/
theorem idx : ∀ (g : Fin 4) (c : Fin 32), win0_0.index (tp g c) = ![c.val, g.val] ∧ win0_1.index (tp g c) = ![c.val, 16 + g.val] ∧ win0_2.index (tp g c) = ![c.val, 20 + g.val]
    ∧ win0_3.index (tp g c) = ![g.val, c.val, 0] ∧ win0_4.index (tp g c) = ![g.val, 0, c.val] ∧ win0_5.index (tp g c) = ![g.val, 0, 0] ∧ win0_6.index (tp g c) = ![g.val, 0, 0]
    ∧ win0_7.index (tp g c) = ![g.val, 0, 0] ∧ win0_8.index (tp g c) = ![g.val, 0, 0] ∧ win0_9.index (tp g c) = ![g.val, 0, 0] ∧ win0_10.index (tp g c) = ![c.val, g.val]
    ∧ win0_11.index (tp g c) = ![c.val, g.val, 0, 0] ∧ win0_12.index (tp g c) = ![c.val, g.val] ∧ win0_13.index (tp g c) = ![c.val, g.val] ∧ win0_14.index (tp g c) = ![c.val, g.val]
    ∧ win0_15.index (tp g c) = ![g.val, c.val, 0] ∧ win0_16.index (tp g c) = ![g.val, 0, 0] ∧ win0_17.index (tp g c) = ![g.val, 0, 0] ∧ win0_18.index (tp g c) = ![g.val, 0, 0] := by
  decide +kernel

variable (g : Fin 4) (c : Fin 32)

/-! ## The blocks of the arrays -/

theorem blk0 (l : Fin 256) (q : Fin 512) : iblk m d 0 (tp g c) (ix2 l q) = m ((d : Thread nD τ).loc main_arg0) (ix2 (row c l) ⟨g.val * 512 + q.val, by omega⟩) := by
  blk_ext! [iblk, V, idx g c]

theorem blk1 (l : Fin 256) (n : Fin 128) : iblk m d 1 (tp g c) (ix2 l n) = m ((d : Thread nD τ).loc main_arg0) (ix2 (row c l) (colB g n)) := by
  blk_ext! [iblk, V, idx g c]

theorem blk2 (l : Fin 256) (n : Fin 128) : iblk m d 2 (tp g c) (ix2 l n) = m ((d : Thread nD τ).loc main_arg0) (ix2 (row c l) (colC g n)) := by
  blk_ext! [iblk, V, idx g c]

theorem blk3 (l : Fin 256) (r : Fin 8) : iblk m d 3 (tp g c) (ix3 0 l r) = V m d main_v1 (ix3 g (row c l) r) := by
  blk_ext [iblk, idx g c]

theorem blk4 (l : Fin 256) (r : Fin 8) : iblk m d 4 (tp g c) (ix3 0 r l) = V m d main_v2 (ix3 g r (row c l)) := by
  blk_ext [iblk, idx g c]

theorem blk5 (r : Fin 8) : iblk m d 5 (tp g c) (ix3 0 0 r) = V m d main_v3 (ix3 g 0 r) := by
  blk_ext [iblk, idx g c]

theorem blk6 (r : Fin 8) : iblk m d 6 (tp g c) (ix3 0 r 0) = V m d main_v4 (ix3 g r 0) := by
  blk_ext [iblk, idx g c]

theorem blk7 (r : Fin 8) : iblk m d 7 (tp g c) (ix3 0 0 r) = V m d main_v5 (ix3 g 0 r) := by
  blk_ext [iblk, idx g c]

theorem blk8 (r : Fin 8) : iblk m d 8 (tp g c) (ix3 0 r 0) = V m d main_v6 (ix3 g r 0) := by
  blk_ext [iblk, idx g c]

theorem blk9 (r : Fin 8) : iblk m d 9 (tp g c) (ix3 0 0 r) = V m d main_v7 (ix3 g 0 r) := by
  blk_ext [iblk, idx g c]

theorem blk10 (l : Fin 256) (q : Fin 512) : iblk m d 10 (tp g c) (ix2 l q) = m ((d : Thread nD τ).loc main_arg5) (ix2 (row c l) ⟨g.val * 512 + q.val, by omega⟩) := by
  blk_ext! [iblk, V, idx g c]

theorem blk11 (r : Fin 8) (n : Fin 128) (p : Fin 64) : iblk m d 11 (tp g c) (ix4 0 r n p) = V m d main_v57 (ix4 c (hd g r) n p) := by
  blk_ext [iblk, idx g c]

/-! ## What the host code prepares -/

theorem v1_at (i : Fin 8192) (r : Fin 8) : V m d main_v1 (ix3 g i r) = m ((d : Thread nD τ).loc main_arg1) (ix2 i (hd g r)) := by
  unfold V
  simp only [List.flatten_cons, List.flatten_nil, List.append_nil, List.cons_append, List.nil_append]
  after_reads_at

theorem v2_at (i : Fin 8192) (r : Fin 8) : V m d main_v2 (ix3 g r i) = m ((d : Thread nD τ).loc main_arg1) (ix2 i (hd g r)) := by
  unfold V
  simp only [List.flatten_cons, List.flatten_nil, List.append_nil, List.cons_append, List.nil_append]
  after_reads_at

theorem v3_at (r : Fin 8) : V m d main_v3 (ix3 g 0 r) = m ((d : Thread nD τ).loc main_arg2) (ix2 0 (hd g r)) := by
  unfold V
  simp only [List.flatten_cons, List.flatten_nil, List.append_nil, List.cons_append, List.nil_append]
  after_reads_at

theorem v4_at (r : Fin 8) : V m d main_v4 (ix3 g r 0) = m ((d : Thread nD τ).loc main_arg2) (ix2 0 (hd g r)) := by
  unfold V
  simp only [List.flatten_cons, List.flatten_nil, List.append_nil, List.cons_append, List.nil_append]
  after_reads_at

theorem v5_at (r : Fin 8) : V m d main_v5 (ix3 g 0 r) = m ((d : Thread nD τ).loc main_arg3) (ix2 0 (hd g r)) := by
  unfold V
  simp only [List.flatten_cons, List.flatten_nil, List.append_nil, List.cons_append, List.nil_append]
  after_reads_at

theorem v6_at (r : Fin 8) : V m d main_v6 (ix3 g r 0) = m ((d : Thread nD τ).loc main_arg3) (ix2 0 (hd g r)) := by
  unfold V
  simp only [List.flatten_cons, List.flatten_nil, List.append_nil, List.cons_append, List.nil_append]
  after_reads_at

theorem v7_at (r : Fin 8) : V m d main_v7 (ix3 g 0 r) = m ((d : Thread nD τ).loc main_arg4) (ix2 0 (hd g r)) := by
  unfold V
  simp only [List.flatten_cons, List.flatten_nil, List.append_nil, List.cons_append, List.nil_append]
  after_reads_at

/-- The saved states are the reference's, their last two axes exchanged. -/
theorem v57_eq : V m d main_v57 = transpose S32x32x128x64 [0, 1, 3, 2] (shapeCast S32x32x64x128 (val_main_v67 (F := Ideal) (m ((d : Thread nD τ).loc main_arg0)) (m ((d : Thread nD τ).loc main_arg1)) (m ((d : Thread nD τ).loc main_arg2)) (m ((d : Thread nD τ).loc main_arg3))) shapeCasts_S32x4x8x64x128_S32x32x64x128) transposes_S32x32x64x128_S32x32x128x64_0_1_3_2 := by
  unfold V
  simp only [List.flatten_cons, List.flatten_nil, List.append_nil, List.cons_append, List.nil_append]
  after_reads_simp
  rfl

theorem v57_at (r : Fin 8) (n : Fin 128) (p : Fin 64) : V m d main_v57 (ix4 c (hd g r) n p)
    = val_main_v67 (F := Ideal) (m ((d : Thread nD τ).loc main_arg0)) (m ((d : Thread nD τ).loc main_arg1)) (m ((d : Thread nD τ).loc main_arg2)) (m ((d : Thread nD τ).loc main_arg3)) (ix5 c g r p n) := by
  rw [v57_eq]
  generalize val_main_v67 (F := Ideal) (m ((d : Thread nD τ).loc main_arg0)) (m ((d : Thread nD τ).loc main_arg1)) (m ((d : Thread nD τ).loc main_arg2)) (m ((d : Thread nD τ).loc main_arg3)) = A
  pointwise

/-! ## A point's loads -/

variable {α : Arr}
  (H : IsReal (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5)) α)

/-- What the point of chunk `c` of group `g` loads, if it finds `s` carried. -/
abbrev ptAt (g : Fin 4) (c : Fin 32) (s : Vec Ideal S8x128x64 .f32) : Loads :=
  pt (iblk m d 0 (tp g c)) (iblk m d 10 (tp g c)) (iblk m d 1 (tp g c)) (iblk m d 2 (tp g c)) (iblk m d 3 (tp g c)) (iblk m d 4 (tp g c))
    (iblk m d 5 (tp g c)) (iblk m d 7 (tp g c)) (iblk m d 9 (tp g c)) (iblk m d 6 (tp g c)) (iblk m d 8 (tp g c)) (iblk m d 11 (tp g c)) s

theorem ld2 (x : Vec Ideal S256x512 .f32) (r : Fin 8) (l : Fin 256) (p : Fin 64) :
    View.ld (Val := Elt Ideal) (e' := .f32) x (Rect.unit (s := S256x512) ![0, 64 * r.val] S256x64.size (inbX r)) (ix2 l p)
      = x (ix2 l ⟨r.val * 64 + p.val, by omega⟩) := by
  refine congrArg x (funext fun a => Fin.ext ?_)
  match a with
  | 0 => show 0 + 1 * l.val = l.val; omega
  | 1 => show 64 * r.val + 1 * p.val = r.val * 64 + p.val; omega

theorem ld3 (x : Vec Ideal S8x128x64 .f32) (r : Fin 8) (n : Fin 128) (p : Fin 64) :
    View.ld (Val := Elt Ideal) (e' := .f32) x (Rect.unit (s := S8x128x64) ![r.val, 0, 0] S1x128x64.size (inbD r)) (ix3 0 n p) = x (ix3 r n p) := by
  refine congrArg x (funext fun a => Fin.ext ?_)
  match a with
  | 0 => show r.val + 1 * 0 = r.val; omega
  | 1 => show 0 + 1 * n.val = n.val; omega
  | 2 => show 0 + 1 * p.val = p.val; omega

theorem ld4 (x : Vec Ideal S1x8x128x64 .f32) (r : Fin 8) (n : Fin 128) (p : Fin 64) :
    View.ld (Val := Elt Ideal) (e' := .f32) x (Rect.unit (s := S1x8x128x64) ![0, r.val, 0, 0] S1x1x128x64.size (inbH r)) (ix4 0 0 n p) = x (ix4 0 r n p) := by
  refine congrArg x (funext fun a => Fin.ext ?_)
  match a with
  | 0 => rfl
  | 1 => show r.val + 1 * 0 = r.val; omega
  | 2 => show 0 + 1 * n.val = n.val; omega
  | 3 => show 0 + 1 * p.val = p.val; omega

/-- Blocks that hold the real data make a point's loads hold them. -/
theorem holds_of {ρ : Data} {x0 x10 : Vec Ideal S256x512 .f32} {x1 x2 : Vec Ideal S256x128 .f32} {x3 : Vec Ideal S1x256x8 .f32}
    {x4 : Vec Ideal S1x8x256 .f32} {x5 x7 x9 : Vec Ideal S1x1x8 .f32} {x6 x8 : Vec Ideal S1x8x1 .f32}
    {x11 : Vec Ideal S1x8x128x64 .f32} {s : Vec Ideal S8x128x64 .f32}
    (h0 : ∀ (r : Fin 8) (l : Fin 256) (p : Fin 64), x0 (ix2 l ⟨r.val * 64 + p.val, by omega⟩) = ((ρ.x r l p : ℝ) : EReal))
    (h10 : ∀ (r : Fin 8) (l : Fin 256) (p : Fin 64), x10 (ix2 l ⟨r.val * 64 + p.val, by omega⟩) = ((ρ.dy r l p : ℝ) : EReal))
    (h1 : ∀ l n, x1 (ix2 l n) = ((ρ.b l n : ℝ) : EReal)) (h2 : ∀ l n, x2 (ix2 l n) = ((ρ.c l n : ℝ) : EReal))
    (h3 : ∀ l r, x3 (ix3 0 l r) = ((ρ.u l r : ℝ) : EReal)) (h4 : ∀ l r, x4 (ix3 0 r l) = ((ρ.u l r : ℝ) : EReal))
    (h5 : ∀ r, x5 (ix3 0 0 r) = ((ρ.bias r : ℝ) : EReal)) (h7 : ∀ r, x7 (ix3 0 0 r) = ((ρ.al r : ℝ) : EReal))
    (h9 : ∀ r, x9 (ix3 0 0 r) = ((ρ.dk r : ℝ) : EReal)) (h6 : ∀ r, x6 (ix3 0 r 0) = ((ρ.bias r : ℝ) : EReal))
    (h8 : ∀ r, x8 (ix3 0 r 0) = ((ρ.al r : ℝ) : EReal)) (h11 : ∀ r n p, x11 (ix4 0 r n p) = ((ρ.h r n p : ℝ) : EReal))
    (hs : ∀ r n p, s (ix3 r n p) = ((ρ.d r n p : ℝ) : EReal)) :
    Holds (pt x0 x10 x1 x2 x3 x4 x5 x7 x9 x6 x8 x11 s) ρ where
  x r l p := (ld2 _ r l p).trans (h0 r l p)
  dy r l p := (ld2 _ r l p).trans (h10 r l p)
  h r n p := (ld4 _ r n p).trans (h11 r n p)
  d r n p := (ld3 _ r n p).trans (hs r n p)
  b := h1
  c := h2
  zc := h3
  zr := h4
  bc := h5
  br := h6
  ac := h7
  ar := h8
  kc := h9

include H

theorem real0 (r : Fin 8) (l : Fin 256) (p : Fin 64) :
    iblk m d 0 (tp g c) (ix2 l ⟨r.val * 64 + p.val, by omega⟩) = ((α.xbc (row c l) (colX' g r p) : ℝ) : EReal) := by
  rw [blk0 m d g c l ⟨r.val * 64 + p.val, by omega⟩, ← H.xbc]
  exact congrArg _ (congrArg (ix2 _) (Fin.ext (by show _ + (_ + _) = _ + _ + _; omega)))

theorem real10 (r : Fin 8) (l : Fin 256) (p : Fin 64) :
    iblk m d 10 (tp g c) (ix2 l ⟨r.val * 64 + p.val, by omega⟩) = ((α.dy (row c l) (colX g r p) : ℝ) : EReal) := by
  rw [blk10 m d g c l ⟨r.val * 64 + p.val, by omega⟩, ← H.dy]
  exact congrArg _ (congrArg (ix2 _) (Fin.ext (by show _ + (_ + _) = _ + _ + _; omega)))

theorem real1 (l : Fin 256) (n : Fin 128) : iblk m d 1 (tp g c) (ix2 l n) = ((α.xbc (row c l) (colB g n) : ℝ) : EReal) := by
  rw [blk1, ← H.xbc]

theorem real2 (l : Fin 256) (n : Fin 128) : iblk m d 2 (tp g c) (ix2 l n) = ((α.xbc (row c l) (colC g n) : ℝ) : EReal) := by
  rw [blk2, ← H.xbc]

theorem real3 (l : Fin 256) (r : Fin 8) : iblk m d 3 (tp g c) (ix3 0 l r) = ((α.raw (row c l) (hd g r) : ℝ) : EReal) := by
  rw [blk3, v1_at, ← H.raw]

theorem real4 (l : Fin 256) (r : Fin 8) : iblk m d 4 (tp g c) (ix3 0 r l) = ((α.raw (row c l) (hd g r) : ℝ) : EReal) := by
  rw [blk4, v2_at, ← H.raw]

theorem real5 (r : Fin 8) : iblk m d 5 (tp g c) (ix3 0 0 r) = ((α.bias (hd g r) : ℝ) : EReal) := by
  rw [blk5, v3_at, ← H.bias]

theorem real6 (r : Fin 8) : iblk m d 6 (tp g c) (ix3 0 r 0) = ((α.bias (hd g r) : ℝ) : EReal) := by
  rw [blk6, v4_at, ← H.bias]

theorem real7 (r : Fin 8) : iblk m d 7 (tp g c) (ix3 0 0 r) = ((α.alog (hd g r) : ℝ) : EReal) := by
  rw [blk7, v5_at, ← H.alog]

theorem real8 (r : Fin 8) : iblk m d 8 (tp g c) (ix3 0 r 0) = ((α.alog (hd g r) : ℝ) : EReal) := by
  rw [blk8, v6_at, ← H.alog]

theorem real9 (r : Fin 8) : iblk m d 9 (tp g c) (ix3 0 0 r) = ((α.skip (hd g r) : ℝ) : EReal) := by
  rw [blk9, v7_at, ← H.skip]

theorem real11 (r : Fin 8) (n : Fin 128) (p : Fin 64) : iblk m d 11 (tp g c) (ix4 0 r n p) = ((α.prev g c r n p : ℝ) : EReal) := by
  rw [blk11, v57_at]
  exact v67_real H c g r p n

/-- A point that finds the states' gradient carried loads its chunk's real data. -/
theorem holds (s : Vec Ideal S8x128x64 .f32) (hs : ∀ r n p, s (ix3 r n p) = ((α.dS g c r n p : ℝ) : EReal)) :
    Holds (ptAt m d g c s) (α.full g c) :=
  holds_of (real0 m d g c H) (real10 m d g c H) (real1 m d g c H) (real2 m d g c H) (real3 m d g c H) (real4 m d g c H) (real5 m d g c H)
    (real7 m d g c H) (real9 m d g c H) (real6 m d g c H) (real8 m d g c H) (real11 m d g c H) hs

end Cert.KernelIdeal.Ssd

end
-- ==== Proof.Ssd.Points.lean ====
/-
  What every grid point leaves: by induction over a group's chunks, from the last to the first, the carried scratch holds
  the gradient of what the next chunk adds to the state, and the three accumulated blocks the sums over the chunks done.
-/
module

public import proofs.«01_k».proof.Proof.Ssd.Entry
public import proofs.«01_k».proof.Proof.Ssd.HeadReal2
public import proofs.«01_k».proof.Proof.Ssd.Frame

@[expose] public section

set_option maxRecDepth 16384
set_option maxHeartbeats 1000000

noncomputable section

namespace Cert.KernelIdeal.Ssd

open Idealize.ShloMosaic Idealize.ShloMosaic.TcCoe Idealize.SL.Sem Cert.KernelIdeal Cert.KernelIdeal.Gen
open Cert.ReferenceIdeal.Read Cert.ReferenceIdeal.Ssd

variable (m : (ℓ : Loc nD τ sig) → Buf (Elt Ideal) ℓ) (d : Dev nD) (g : Fin 4) (c : Fin 32)

/-- What the point of chunk `c` leaves. -/
abbrev outs := outsAt0 m d (tp g c).val (tp g c).isLt

/-- The first point of a group starts from cleared accumulators and a cleared carried gradient. -/
theorem outs_first (h : c.val = 31) : outs m d g c = step (ptAt m d g c zeroD) zeroO zeroO zeroO := by
  have h0 : (tp g c).val % 32 = 0 := by show (g.val * 32 + (31 - c.val)) % 32 = 0; omega
  unfold outs
  rw [outsAt0_A m d (tp g c) h0]
  simp only [outA_12, outA_13, outA_14, outA_15, outA_16, outA_17, outA_18, soutA, step, ptAt]

/-- Every other point goes on from what the point before it left. -/
theorem outs_next (c' : Fin 32) (h : c'.val = c.val + 1) :
    outs m d g c = step (ptAt m d g c (outs m d g c').2.2.2.2.2.2.2) (outs m d g c').2.2.2.2.1 (outs m d g c').2.2.2.2.2.1 (outs m d g c').2.2.2.2.2.2.1 := by
  have h0 : ¬ (tp g c).val % 32 = 0 := by show ¬ (g.val * 32 + (31 - c.val)) % 32 = 0; omega
  have hp : ∀ h1, outsAt0 m d ((tp g c).val - 1) h1 = outs m d g c' := by
    have : (tp g c).val - 1 = (tp g c').val := by show g.val * 32 + (31 - c.val) - 1 = g.val * 32 + (31 - c'.val); omega
    rw [this]
    exact fun _ => rfl
  unfold outs
  rw [outsAt0_B m d (tp g c) h0]
  simp only [outB_12, outB_13, outB_14, outB_15, outB_16, outB_17, outB_18, soutB, step, ptAt, hp]

/-- The sum over the chunks after `c`. -/
abbrev after (f : Fin 32 → ℝ) (c : Fin 32) : ℝ := ∑ c', if c < c' then f c' else 0

theorem after_last (f : Fin 32 → ℝ) (c : Fin 32) (h : c.val = 31) : after f c = 0 :=
  Finset.sum_eq_zero fun c' _ => if_neg (by simp only [Fin.lt_def]; omega)

theorem after_next (f : Fin 32 → ℝ) (c c' : Fin 32) (h : c'.val = c.val + 1) : after f c = after f c' + f c' := by
  have e : ∀ z : Fin 32, (if c < z then f z else 0) = (if c' < z then f z else 0) + (if z = c' then f c' else 0) := by
    intro z
    rcases lt_trichotomy z c' with hz | hz | hz
    · rw [if_neg (by simp only [Fin.lt_def] at *; omega), if_neg (by simp only [Fin.lt_def] at *; omega), if_neg hz.ne, add_zero]
    · subst hz
      rw [if_pos (by simp only [Fin.lt_def]; omega), if_neg (lt_irrefl _), if_pos rfl, zero_add]
    · rw [if_pos (by simp only [Fin.lt_def] at *; omega), if_pos hz, if_neg hz.ne', add_zero]
  unfold after
  rw [Finset.sum_congr rfl fun z _ => e z, Finset.sum_add_distrib, Finset.sum_ite_eq' Finset.univ c', if_pos (Finset.mem_univ _)]

theorem after_first (f : Fin 32 → ℝ) (c : Fin 32) (h : c.val = 0) : after f c + f c = ∑ c', f c' := by
  have e : ∀ z : Fin 32, f z = (if c < z then f z else 0) + (if z = c then f c else 0) := by
    intro z
    by_cases hz : z = c
    · subst hz
      rw [if_neg (lt_irrefl _), if_pos rfl, zero_add]
    · rw [if_pos (by simp only [Fin.lt_def, Fin.ext_iff] at *; omega), if_neg hz, add_zero]
  rw [Finset.sum_congr rfl fun z _ => e z, Finset.sum_add_distrib, Finset.sum_ite_eq' Finset.univ c, if_pos (Finset.mem_univ _)]

theorem zeroD_at (r : Fin 8) (n : Fin 128) (p : Fin 64) : zeroD (ix3 r n p) = ((0 : ℝ) : EReal) :=
  Ideal.ofBits_zero .f32

theorem zeroO_at (r : Fin 8) : zeroO (ix3 0 0 r) = ((0 : ℝ) : EReal) :=
  Ideal.ofBits_zero .f32

variable {α : Arr}
  (H : IsReal (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5)) α)

/-- A point's results over the reals. -/
structure Good (α : Arr) (g : Fin 4) (c : Fin 32) : Prop where
  eq : ∃ D o16 o17 o18, outs m d g c = step D o16 o17 o18 ∧ Holds D (α.full g c)
    ∧ (∀ r, o16 (ix3 0 0 r) = ((after (fun c => (α.full g c).dal r) c : ℝ) : EReal))
    ∧ (∀ r, o17 (ix3 0 0 r) = ((after (fun c => (α.full g c).ddk r) c : ℝ) : EReal))
    ∧ (∀ r, o18 (ix3 0 0 r) = ((after (fun c => (α.full g c).dbias r) c : ℝ) : EReal))

include H

theorem good : ∀ (k : ℕ) (c : Fin 32), c.val + k = 31 → Good m d α g c
  | 0, c, hc => ⟨ptAt m d g c zeroD, zeroO, zeroO, zeroO, outs_first m d g c hc,
      holds m d g c H _ fun r n p => (zeroD_at r n p).trans (by rw [α.dS_last g c hc]),
      fun r => (zeroO_at r).trans (by rw [after_last _ c hc]), fun r => (zeroO_at r).trans (by rw [after_last _ c hc]),
      fun r => (zeroO_at r).trans (by rw [after_last _ c hc])⟩
  | k + 1, c, hc => by
    have hc' : c.val + 1 < 32 := by omega
    obtain ⟨D, o16, o17, o18, he, hD, h16, h17, h18⟩ := (good k ⟨c.val + 1, hc'⟩ (by show c.val + 1 + k = 31; omega)).eq
    have hn := outs_next m d g c ⟨c.val + 1, hc'⟩ rfl
    rw [he] at hn
    refine ⟨_, _, _, _, hn, holds m d g c H _ fun r n p => ?_, fun r => ?_, fun r => ?_, fun r => ?_⟩
    · rw [α.dS_succ g c ⟨c.val + 1, hc'⟩ rfl]
      exact newD_real hD r n p
    · rw [after_next _ c ⟨c.val + 1, hc'⟩ rfl]
      exact dalOut_real hD _ _ h16 r
    · rw [after_next _ c ⟨c.val + 1, hc'⟩ rfl]
      exact ddkOut_real hD _ _ h17 r
    · rw [after_next _ c ⟨c.val + 1, hc'⟩ rfl]
      exact dbiasOut_real hD _ _ h18 r

theorem good_at : Good m d α g c := good m d g H (31 - c.val) c (by omega)

end Cert.KernelIdeal.Ssd

end
-- ==== Proof.Ssd.Sums.lean ====
/-
  The reference's sums over two axes at once.
-/
module

public import Idealize.ShloMosaic.Lib.Pointwise

@[expose] public section

noncomputable section

namespace Cert.ReferenceIdeal.Ssd

open Idealize.ShloMosaic

variable {n0 n1 n2 n3 n4 : ℕ}

/-- A sum over the two leading axes of five. -/
theorem sum_lead5 (h : (⟨5, ![n0, n1, n2, n3, n4]⟩ : Shape).ReducesTo [0, 1] ⟨3, ![n2, n3, n4]⟩)
    (v : (⟨5, ![n0, n1, n2, n3, n4]⟩ : Shape).Idx → EReal) (init : EReal) (a : Fin n2) (b : Fin n3) (c : Fin n4) :
    Ideal.hostReduceAdd h v init (ix3 a b c) = init + ∑ i, ∑ j, v (ix5 i j a b c) := by
  have key : ∀ i, h.drop i = ix3 a b c ↔ ∃ k : Fin n0 × Fin n1, ix5 k.1 k.2 a b c = i := by
    intro i
    constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => exact (congrArg Fin.val (congrFun e 2)).symm
    · rintro ⟨k, rfl⟩
      funext x
      match x with
      | ⟨0, _⟩ => rfl
      | ⟨1, _⟩ => rfl
      | ⟨2, _⟩ => rfl
  refine congrArg (init + ·) ((Finset.sum_filter_eq_sum_of_fiber _ (fun k : Fin n0 × Fin n1 => ix5 k.1 k.2 a b c)
    (fun _ _ e => Prod.ext (congrFun e 0) (congrFun e 1)) key v).trans ?_)
  simp only [Fintype.sum_prod_type]

/-- A sum over the two leading axes of four. -/
theorem sum_lead4 (h : (⟨4, ![n0, n1, n2, n3]⟩ : Shape).ReducesTo [0, 1] ⟨2, ![n2, n3]⟩)
    (v : (⟨4, ![n0, n1, n2, n3]⟩ : Shape).Idx → EReal) (init : EReal) (a : Fin n2) (b : Fin n3) :
    Ideal.hostReduceAdd h v init (ix2 a b) = init + ∑ i, ∑ j, v (ix4 i j a b) := by
  have key : ∀ i, h.drop i = ix2 a b ↔ ∃ k : Fin n0 × Fin n1, ix4 k.1 k.2 a b = i := by
    intro i
    constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext x
      match x with
      | ⟨0, _⟩ => rfl
      | ⟨1, _⟩ => rfl
  refine congrArg (init + ·) ((Finset.sum_filter_eq_sum_of_fiber _ (fun k : Fin n0 × Fin n1 => ix4 k.1 k.2 a b)
    (fun _ _ e => Prod.ext (congrFun e 0) (congrFun e 1)) key v).trans ?_)
  simp only [Fintype.sum_prod_type]

/-- A sum over the first and the last axis of four. -/
theorem sum_ends4 (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ i, ∑ j, v (ix4 i a b j) := by
  have key : ∀ i, h.drop i = ix2 a b ↔ ∃ k : Fin n0 × Fin n3, ix4 k.1 a b k.2 = i := by
    intro i
    constructor
    · intro e
      refine ⟨(i 0, i 3), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext x
      match x with
      | ⟨0, _⟩ => rfl
      | ⟨1, _⟩ => rfl
  refine congrArg (init + ·) ((Finset.sum_filter_eq_sum_of_fiber _ (fun k : Fin n0 × Fin n3 => ix4 k.1 a b k.2)
    (fun _ _ e => Prod.ext (congrFun e 0) (congrFun e 3)) key v).trans ?_)
  simp only [Fintype.sum_prod_type]

end Cert.ReferenceIdeal.Ssd

end
-- ==== Proof.Ssd.RefGrad.lean ====
/-
  For finite arguments the reference's intermediate arrays are the real numbers of `Ssd.Arrays`: the backward pass.
-/
module

public import proofs.«01_k».proof.Proof.Ssd.RefReal
public import proofs.«01_k».proof.Proof.Ssd.Sums

@[expose] public section

set_option maxRecDepth 16384
set_option maxHeartbeats 1000000

noncomputable section

namespace Cert.ReferenceIdeal.Ssd

open Idealize.ShloMosaic Idealize.ShloMosaic.WordCmp Cert.ReferenceIdeal Cert.ReferenceIdeal.Gen Cert.ReferenceIdeal.Read
open Cert.KernelIdeal.Ssd (Arr Data row hd colX colX' colB colC sp coe_sum coe_max coe_ite absf_coe sge_fin log_one_add_exp)

theorem sum_one (f : ℝ) : ∑ _i : Fin 1, f = f := by simp

theorem sum_swap (f : Fin 128 → Fin 64 → ℝ) (b : Fin 128 → ℝ) (y : Fin 64 → ℝ) :
    ∑ p, (∑ n, f n p * b n) * y p = ∑ n, b n * ∑ p, f n p * y p := by
  simp only [Finset.sum_mul, Finset.mul_sum]
  rw [Finset.sum_comm]
  exact Finset.sum_congr rfl fun n _ => Finset.sum_congr rfl fun p _ => by ring

theorem pad_iff (l : Fin 256) : (255 ≤ l.val ∧ l.val - 255 < 1) = (l.val = 255) := propext (by omega)

theorem posInf : Ideal.ofBits .f32 0x7F800000#32 = ⊤ := by simp [Ideal.ofBits, Ideal.ieee]

/-- Sums from a position on, of rows one of which holds the whole and loses what lies before. -/
theorem tail_sums (l : Fin 256) (d q : Fin 256 → ℝ) (t : ℝ) :
    ∑ i, (if l ≤ i then d i - q i + (if i.val = 255 then t + ∑ s, q s else 0) else 0)
      = ∑ s, (if l ≤ s then 1 else 0) * d s + ∑ s, (if s < l then 1 else 0) * q s + t := by
  have e : ∀ i : Fin 256, (if l ≤ i then d i - q i + (if i.val = 255 then t + ∑ s, q s else 0) else 0)
      = (if l ≤ i then 1 else 0) * d i + ((if i < l then 1 else 0) * q i - q i) + (if i = 255 then t + ∑ s, q s else 0) := by
    intro i
    have h255 : (i.val = 255) = (i = 255) := propext (Fin.ext_iff (b := 255)).symm
    simp only [h255]
    by_cases h : l ≤ i
    · rw [if_pos h, if_pos h, if_neg (not_lt.mpr h)]; ring
    · have : i ≠ 255 := fun e => h (e ▸ by simp only [Fin.le_def]; have := l.isLt; show l.val ≤ 255; omega)
      rw [if_neg h, if_neg h, if_pos (not_le.mp h), if_neg this]; ring
  rw [Finset.sum_congr rfl fun i _ => e i, Finset.sum_add_distrib, Finset.sum_add_distrib, Finset.sum_sub_distrib,
    Finset.sum_ite_eq' Finset.univ, if_pos (Finset.mem_univ _)]
  ring

/-- The softplus's derivative. -/
theorem sigm_eq (t : ℝ) : Real.exp (t - sp t) = 1 / (1 + Real.exp (0 - t)) := by
  have key : sp t = Real.log (1 + Real.exp t) := by
    unfold sp
    rcases le_total t 0 with h | h
    · rw [max_eq_right h, max_eq_right (by linarith), zero_add, zero_sub, neg_neg]
    · rw [max_eq_left h, max_eq_left (by linarith)]
      have h1 : (0 : ℝ) < 1 + Real.exp (0 - t) := by positivity
      rw [show t + Real.log (1 + Real.exp (0 - t)) = Real.log (Real.exp t) + Real.log (1 + Real.exp (0 - t)) by rw [Real.log_exp],
        ← Real.log_mul (Real.exp_pos _).ne' h1.ne', mul_add, mul_one, ← Real.exp_add]
      congr 1
      rw [show t + (0 - t) = 0 by ring, Real.exp_zero, add_comm]
  have h2 : (0 : ℝ) < 1 + Real.exp t := by positivity
  rw [Real.exp_sub, key, Real.exp_log h2, zero_sub, Real.exp_neg]
  field_simp
  ring

variable {x0 : FVec Ideal S8192x3072 .f32} {x1 : FVec Ideal S8192x32 .f32} {x2 x3 x4 : FVec Ideal S1x32 .f32} {x5 : FVec Ideal S8192x2048 .f32} {α : Arr}
  (H : IsReal x0 x1 x2 x3 x4 x5 α) (c z j : Fin 32) (l s : Fin 256) (g : Fin 4) (r : Fin 8) (p : Fin 64) (n : Fin 128)

include H

theorem v70_real : val_main_v70 (F := Ideal) x1 x2 x3 (ix4 c l g r) = ((Real.exp ((α.base g c).A l r) : ℝ) : EReal) := by
  pointwise [val_main_v70]
  rw [v20_real H]
  exact Ideal.exp_coe _

theorem v69_real : val_main_v69 (F := Ideal) x0 x1 x2 x3 (ix5 c l g r p) = ((∑ n, α.prev g c r n p * (α.base g c).c l n : ℝ) : EReal) := by
  pointwise [val_main_v69, val_main_v68]
  simp only [v67_real H, v16_real H, ← EReal.coe_mul, coe_sum]

theorem v100_real : val_main_v100 (F := Ideal) x0 x1 x2 x3 x5 (ix4 c l g r)
    = ((Real.exp ((α.base g c).A l r) * ∑ n, (α.base g c).c l n * ∑ p, α.prev g c r n p * (α.base g c).dy r l p : ℝ) : EReal) := by
  pointwise [val_main_v100, val_main_v99, val_main_v96, val_main_v95, val_main_v94, val_main_cst_6, val_main_cst_7]
  simp only [v69_real H, v70_real H, v93_real H, ← EReal.coe_mul, coe_sum]
  rw [sum_one, mul_comm, sum_swap]

theorem v101_real : val_main_v101 (F := Ideal) x1 x2 x3 x5 (ix5 c g r p l) = (((α.base g c).dy r l p * Real.exp ((α.base g c).A l r) : ℝ) : EReal) := by
  pointwise [val_main_v101, val_main_v98, val_main_v97, val_main_v71]
  rw [v93_real H, v70_real H, ← EReal.coe_mul]

theorem v103_real : val_main_v103 (F := Ideal) x0 x1 x2 x3 x5 (ix4 c l g n) = ((∑ r, (α.full g c).dcT r l n : ℝ) : EReal) := by
  pointwise [val_main_v103, val_main_v102]
  simp only [v101_real H, v67_real H, ← EReal.coe_mul, coe_sum]
  congr 1
  refine Finset.sum_congr rfl fun r _ => ?_
  rw [Data.dcT, Finset.mul_sum]
  exact Finset.sum_congr rfl fun p _ => by
    show _ = Real.exp ((α.base g c).A l r) * ((α.base g c).dy r l p * α.prev g c r n p)
    ring

theorem v104_real : val_main_v104 (F := Ideal) x0 x1 x2 x3 x5 (ix5 c g r p n) = ((α.dprev g c r n p : ℝ) : EReal) := by
  pointwise [val_main_v104]
  simp only [v101_real H, v16_real H, ← EReal.coe_mul, coe_sum]
  rfl

theorem v107_real : val_main_v107 (F := Ideal) x0 x1 x2 x3 x5 (ix4 z c g r) = ((∑ p, ∑ n, α.dprev g z r n p * α.S g c r n p : ℝ) : EReal) := by
  pointwise [val_main_v107, val_main_v106, val_main_v105]
  simp only [v104_real H, v48_real H, ← EReal.coe_mul, coe_sum]

theorem v109_real : val_main_v109 (F := Ideal) x0 x1 x2 x3 x5 (ix5 c g r p n) = ((α.dS g c r n p : ℝ) : EReal) := by
  pointwise [val_main_v109, val_main_v108, val_main_v105]
  simp only [v104_real H, v65_real H, ← EReal.coe_mul, coe_sum]
  rfl

theorem v111_real : val_main_v111 (F := Ideal) x0 x1 x2 x3 x5 (ix4 z c g r)
    = (((∑ p, ∑ n, α.dprev g z r n p * α.S g c r n p) * α.carry g z c r : ℝ) : EReal) := by
  pointwise [val_main_v111, val_main_v110, val_main_v65_1, val_main_v63, val_main_v62, val_main_v61, val_main_v60, val_main_v49, val_main_v50, val_main_call6_v0, val_main_call6_cst, val_main_v64]
  simp only [v107_real H, v59_real H, slt_fin, select_ofBool, Ideal.exp_coe, decide_eq_true_eq, ← EReal.coe_zero, coe_ite, ← EReal.coe_mul]
  congr 1
  rw [Arr.carry]
  split <;> simp

theorem v113_real : val_main_v113 (F := Ideal) x0 x1 x2 x3 x5 (ix3 j g r) = (((α.full g j).tot r : ℝ) : EReal) := by
  pointwise [val_main_v113, val_main_call7_v1, val_main_call7_v0, val_main_call7_cst, val_main_call7_cst_0, val_main_v112, val_main_v58_1, val_main_v55, val_main_v54, val_main_v53, val_main_v52, val_main_v49, val_main_v50, val_main_v51, val_main_v57, val_main_v56]
  refine (sum_lead5 _ _ _ j g r).trans ?_
  rw [zero_add, ← α.total]
  simp only [← coe_sum, ← coe_ite]
  refine Finset.sum_congr rfl fun z _ => Finset.sum_congr rfl fun c _ => ?_
  pointwise []
  simp only [v111_real H, slt_fin, and_bool, select_ofBool, Bool.and_eq_true, decide_eq_true_eq, ← EReal.coe_zero]

theorem v115_real : val_main_v115 (F := Ideal) x0 x1 x2 x3 x5 (ix4 c l g r) = ((if l.val = 255 then (α.full g c).tot r else 0 : ℝ) : EReal) := by
  pointwise [val_main_v115, val_main_v114, val_main_cst_8]
  simp only [v113_real H]
  simp only [pad_iff, ← EReal.coe_zero, dite_eq_ite, coe_ite]

theorem v118_real : val_main_v118 (F := Ideal) x0 x1 x2 x3 x5 (ix4 c l g n) = ((∑ r, (α.full g c).dbT r l n : ℝ) : EReal) := by
  pointwise [val_main_v118, val_main_v117]
  simp only [v109_real H, v47_real H, ← EReal.coe_mul, coe_sum]
  congr 1
  refine Finset.sum_congr rfl fun r _ => ?_
  rw [Data.dbT, Finset.mul_sum]
  exact Finset.sum_congr rfl fun p _ => by
    show _ = (α.base g c).toEnd r l * ((α.base g c).xdt r l p * α.dS g c r n p)
    ring

theorem v120_real : val_main_v120 (F := Ideal) x0 x1 x2 x3 x5 (ix5 c l g r p) = ((∑ n, α.dS g c r n p * (α.base g c).b l n : ℝ) : EReal) := by
  pointwise [val_main_v120, val_main_v119]
  simp only [v109_real H, v15_real H, ← EReal.coe_mul, coe_sum]

theorem v127_real : val_main_v127 (F := Ideal) x0 x1 x2 x3 x5 (ix4 c l g r) = (((α.full g c).qRow r l : ℝ) : EReal) := by
  pointwise [val_main_v127, val_main_v126, val_main_v125, val_main_v124, val_main_v123, val_main_cst_9, val_main_cst_10]
  simp only [v120_real H, v23_real H, v44_real H, ← EReal.coe_mul, coe_sum]
  rw [sum_one, mul_comm, sum_swap]
  rfl

theorem v132_real : val_main_v132 (F := Ideal) x0 x1 x2 x3 x5 (ix4 c l g r) = ((if l.val = 255 then ∑ s, (α.full g c).qRow r s else 0 : ℝ) : EReal) := by
  pointwise [val_main_v132, val_main_v129, val_main_v128, val_main_cst_11, val_main_cst_12]
  simp only [v127_real H, coe_sum]
  simp only [pad_iff, ← EReal.coe_zero, dite_eq_ite, coe_ite]

theorem v136_real : val_main_v136 (F := Ideal) x0 x1 x2 x5 (ix5 c l s g r) = ((∑ p, (α.base g c).dy r l p * (α.base g c).xdt r s p : ℝ) : EReal) := by
  pointwise [val_main_v136, val_main_v135, val_main_v134]
  simp only [v93_real H, v23_real H, ← EReal.coe_mul, coe_sum]

theorem v139_real : val_main_v139 (F := Ideal) x0 x1 x2 x3 x5 (ix5 c l g r p) = (((α.full g c).dxdt r l p : ℝ) : EReal) := by
  pointwise [val_main_v139, val_main_v138, val_main_v137, val_main_v134, val_main_v122, val_main_v121, val_main_v45, val_main_v38, val_main_v37, val_main_v36]
  simp only [v120_real H, v93_real H, v44_real H, v35_real H, v33_real H, ← EReal.coe_mul, coe_sum, ← EReal.coe_add]
  rw [add_comm]
  congr 1
  unfold Data.dxdt
  congr 1
  · exact Finset.sum_congr rfl fun i _ => mul_comm _ _
  · exact congrArg _ (Finset.sum_congr rfl fun i _ => mul_comm _ _)

theorem v145_real : val_main_v145 (F := Ideal) x0 x1 x2 x3 x5 (ix4 c l s g) = ((∑ r, (α.full g c).pm r l s : ℝ) : EReal) := by
  pointwise [val_main_v145, val_main_v144, val_main_v143, val_main_v142, val_main_cst_13, val_main_cst_14]
  simp only [v136_real H, v33_real H, ← EReal.coe_mul, coe_sum]
  simp only [sum_one]
  rfl

theorem v149_real : val_main_v149 (F := Ideal) x0 x1 x2 x3 x5 (ix4 c l g n) = (((α.full g c).dc l n : ℝ) : EReal) := by
  pointwise [val_main_v149, val_main_v148, val_main_v147, val_main_v146]
  simp only [v145_real H, v103_real H, v15_real H, ← EReal.coe_mul, coe_sum, ← EReal.coe_add]
  rfl

theorem v152_real : val_main_v152 (F := Ideal) x0 x1 x2 x3 x5 (ix4 c l g n) = (((α.full g c).db l n : ℝ) : EReal) := by
  pointwise [val_main_v152, val_main_v151, val_main_v150, val_main_v146]
  simp only [v145_real H, v118_real H, v16_real H, ← EReal.coe_mul, coe_sum, ← EReal.coe_add]
  rfl

theorem v154_real : val_main_v154 (F := Ideal) x0 x1 x2 x3 x5 (ix5 c l s g r) = (((α.full g c).pm r l s * (α.full g c).cb l s : ℝ) : EReal) := by
  pointwise [val_main_v154, val_main_v153, val_main_v141, val_main_v140, val_main_v36, val_main_call8_v0, val_main_call8_cst, val_main_v32_1, val_main_v31, val_main_v29, val_main_v30, val_main_call2_v4, val_main_call2_v5, val_main_call2_v0, val_main_call2_v1, val_main_call2_v2, val_main_call2_v3, val_main_call2_c, val_main_call2_c_0, val_main_c]
  simp only [v136_real H, v35_real H, v33_real H, ← EReal.coe_mul]
  simp only [addi_zero32, sge_fin (by norm_num : 256 ≤ 2147483648)]
  by_cases h : s ≤ l
  · rw [decide_eq_true h]
    refine congrArg Real.toEReal (?_ : _ * _ * _ = _)
    rw [mul_assoc, mul_comm]
    rfl
  · rw [decide_eq_false h]
    refine EReal.coe_zero.symm.trans (congrArg _ ?_)
    rw [Data.pm, Data.E, if_neg h, mul_zero, zero_mul]

theorem v163_real : val_main_v163 (F := Ideal) x0 x1 x2 x3 x5 (ix4 c l g r)
    = (((α.full g c).daRow r l - (α.full g c).qRow r l + (if l.val = 255 then (α.full g c).tot r + ∑ s, (α.full g c).qRow r s else 0) : ℝ) : EReal) := by
  pointwise [val_main_v163, val_main_v162, val_main_v161, val_main_v160, val_main_v159, val_main_v158, val_main_v157, val_main_v156, val_main_v155, val_main_v133, val_main_v131, val_main_v130, val_main_v116, val_main_cst_15, val_main_cst_16, val_main_cst_17, val_main_cst_18]
  simp only [v100_real H, v115_real H, v127_real H, v132_real H, v154_real H, ← EReal.coe_neg, coe_sum, ← EReal.coe_add]
  simp only [sum_one, Finset.sum_neg_distrib]
  congr 1
  have e : ∀ s, (α.full g c).wt r s l = (α.full g c).pm r l s * (α.full g c).cb l s := by
    intro s
    rw [Data.wt, Data.pm, Data.mt, mul_comm ((α.full g c).cb l s), mul_assoc]
    exact congrArg (· * _) (Finset.sum_congr rfl fun p _ => mul_comm _ _)
  rw [Data.daRow, Finset.sum_congr rfl fun s _ => e s]
  simp only [show (α.base g c).A l r = (α.full g c).A l r from rfl, show (α.base g c).c = (α.full g c).c from rfl,
    show α.prev g c = (α.full g c).h from rfl, show (α.base g c).dy = (α.full g c).dy from rfl]
  split <;> ring

theorem v170_real : val_main_v170 (F := Ideal) x0 x1 x2 x3 x5 (ix4 c l g r) = (((α.full g c).dda l r : ℝ) : EReal) := by
  unfold val_main_v170
  rw [revsum_read _ _ (fun i => by pointwise [val_main_call9_call0_v0, val_main_call9_call0_cst])]
  simp only [v163_real H, ← EReal.coe_zero, coe_ite, coe_sum]
  congr 1
  rw [Data.dda, ← tail_sums]

theorem v169_real : val_main_v169 (F := Ideal) x0 x1 x2 x3 x5 (ix4 c l g r) = (((α.full g c).sx r l : ℝ) : EReal) := by
  pointwise [val_main_v169, val_main_v166, val_main_v165, val_main_v164, val_main_cst_19, val_main_cst_20]
  simp only [v13_real H, v139_real H, ← EReal.coe_mul, coe_sum]
  rw [sum_one]
  exact congrArg _ (Finset.sum_congr rfl fun p _ => mul_comm _ _)

theorem v176_real : val_main_v176 (F := Ideal) x0 x1 x2 x3 x5 (ix4 c l g r) = (((α.full g c).ddt l r : ℝ) : EReal) := by
  pointwise [val_main_v176, val_main_v175, val_main_v174]
  simp only [v169_real H, v170_real H, v17_real H c, ← EReal.coe_mul, ← EReal.coe_add]
  rw [Data.ddt, add_comm]
  rfl

theorem v168_real : val_main_v168 (F := Ideal) x0 x1 x2 x3 x5 (ix5 c l g r p) = (((α.full g c).dxdt r l p * (α.full g c).dt l r : ℝ) : EReal) := by
  pointwise [val_main_v168, val_main_v167, val_main_v21]
  simp only [v139_real H, v14_real H, ← EReal.coe_mul]
  rfl

theorem v5_1_real (i : Fin 8192) (k : Fin 32) : val_main_v5_1 (F := Ideal) x1 x2 (ix2 i k) = ((1 / (1 + Real.exp (0 - (α.raw i k + α.bias k))) : ℝ) : EReal) := by
  pointwise [val_main_v5_1, val_main_call0_v21, val_main_call0_v20, val_main_call0_v19, val_main_call0_v18, val_main_call0_v17, val_main_call0_v16, val_main_call0_v15, val_main_call0_v14, val_main_call0_v13, val_main_call0_cst_0, val_main_call0_cst_1, val_main_call0_cst_2, val_main_call0_cst_3]
  simp only [v4_real H, v5_real H]
  rw [posInf, if_neg (EReal.coe_ne_top _), if_neg (EReal.coe_ne_top _), ← EReal.coe_sub, Ideal.exp_coe, sigm_eq]

end Cert.ReferenceIdeal.Ssd

end
-- ==== Proof.Ssd.RefOut.lean ====
/-
  The reference's results for finite arguments, entry by entry.
-/
module

public import proofs.«01_k».proof.Proof.Ssd.RefGrad

@[expose] public section

set_option maxRecDepth 16384
set_option maxHeartbeats 1000000

noncomputable section

namespace Cert.ReferenceIdeal.Ssd

open Idealize.ShloMosaic Idealize.ShloMosaic.WordCmp Cert.ReferenceIdeal Cert.ReferenceIdeal.Gen Cert.ReferenceIdeal.Read
open Cert.KernelIdeal.Ssd (Arr Data row hd colX colX' colB colC sp coe_sum coe_max coe_ite absf_coe sge_fin log_one_add_exp)

/-- Column `n` of group `g` among the state columns. -/
abbrev colN (g : Fin 4) (n : Fin 128) : Fin 512 := ⟨g.val * 128 + n.val, by omega⟩

/-- A sum over all rows, chunk by chunk. -/
theorem sum_rows (f : Fin 8192 → EReal) : ∑ i, f i = ∑ c : Fin 32, ∑ l : Fin 256, f (row c l) := by
  rw [← Fintype.sum_prod_type']
  refine (Fintype.sum_equiv (finProdFinEquiv (m := 32) (n := 256)) _ _ fun x => ?_).symm
  exact congrArg f (Fin.ext (by show x.1.val * 256 + x.2.val = x.2.val + 256 * x.1.val; omega))

variable {x0 : FVec Ideal S8192x3072 .f32} {x1 : FVec Ideal S8192x32 .f32} {x2 x3 x4 : FVec Ideal S1x32 .f32} {x5 : FVec Ideal S8192x2048 .f32} {α : Arr}
  (H : IsReal x0 x1 x2 x3 x4 x5 α) (c z j : Fin 32) (l s : Fin 256) (g : Fin 4) (r : Fin 8) (p : Fin 64) (n : Fin 128)

include H

theorem v190_real : val_main_v190 (F := Ideal) x0 x1 x2 x3 x5 (ix2 (row c l) (hd g r)) = (((α.full g c).ddu l r : ℝ) : EReal) := by
  pointwise [val_main_v190, val_main_v186, val_main_v180]
  simp only [show (c.val * 256 + l.val) / 256 = c.val from by omega, show (c.val * 256 + l.val) % 256 = l.val from by omega,
    show (g.val * 8 + r.val) / 8 = g.val from by omega, show (g.val * 8 + r.val) % 8 = r.val from by omega, Fin.eta]
  rw [v176_real H, v5_1_real H, ← EReal.coe_mul]
  rfl

theorem dxs_out : val_main_v194 (F := Ideal) x0 x1 x2 x3 x4 x5 (ix2 (row c l) (colX g r p)) = (((α.full g c).dxs r l p : ℝ) : EReal) := by
  pointwise [val_main_v194, val_main_v193, val_main_v187, val_main_v182, val_main_v181, val_main_v85, val_main_v84, val_main_v83, val_main_v78, val_main_v77, val_main_v76]
  rw [dif_pos (by omega), v168_real H, H.skip, H.dy, ← EReal.coe_mul, ← EReal.coe_add, add_comm]
  rfl

theorem db_out : val_main_v195 (F := Ideal) x0 x1 x2 x3 x4 x5 (ix2 (row c l) (colN g n)) = (((α.full g c).db l n : ℝ) : EReal) := by
  pointwise [val_main_v195, val_main_v193, val_main_v184, val_main_v179]
  rw [dif_pos (by omega)]
  exact v152_real H _ _ _ _

theorem dc_out : val_main_v196 (F := Ideal) x0 x1 x2 x3 x4 x5 (ix2 (row c l) (colN g n)) = (((α.full g c).dc l n : ℝ) : EReal) := by
  pointwise [val_main_v196, val_main_v193, val_main_v183, val_main_v178]
  rw [dif_neg (by omega), dif_neg (by omega)]
  simp only [show (2560 + (g.val * 128 + n.val) - 2048 - 512) / 128 = g.val from by omega,
    show (2560 + (g.val * 128 + n.val) - 2048 - 512) % 128 = n.val from by omega, Fin.eta]
  exact v149_real H _ _ _ _

theorem ddt_out : val_main_v198 (F := Ideal) x0 x1 x2 x3 x5 (ix3 g (row c l) r) = (((α.full g c).ddu l r : ℝ) : EReal) := by
  pointwise [val_main_v198, val_main_v197]
  exact v190_real H _ _ _ _

theorem v172_real : val_main_v172 (F := Ideal) x0 x1 x2 x3 x5 (ix2 g r) = ((∑ c, ∑ l, (α.full g c).dt l r * (α.full g c).dda l r : ℝ) : EReal) := by
  refine (sum_lead4 _ _ _ g r).trans ?_
  simp only [← coe_sum]
  refine (congrArg (· + _) (Ideal.ofBits_zero .f32)).trans ?_
  rw [zero_add]
  refine Finset.sum_congr rfl fun c _ => Finset.sum_congr rfl fun l _ => ?_
  pointwise [val_main_v171]
  rw [v14_real H, v170_real H, ← EReal.coe_mul]
  rfl

theorem v177_real : val_main_v177 (F := Ideal) x0 x1 x2 x3 x5 (ix2 g r) = ((∑ c, ∑ l, (α.full g c).dt l r * (α.full g c).dda l r : ℝ) : EReal) := by
  refine (sum_lead4 _ _ _ g r).trans ?_
  refine (congrArg (· + _) (Ideal.ofBits_zero .f32)).trans ?_
  rw [zero_add, ← v172_real H, Fin.sum_univ_one, Fin.sum_univ_one]
  pointwise [val_main_v173]

theorem v87_real : val_main_v87 (F := Ideal) x0 x5 (ix2 g r) = ((∑ c, (α.full g c).ddk r : ℝ) : EReal) := by
  refine (sum_ends4 _ _ _ g r).trans ?_
  refine (congrArg (· + _) (Ideal.ofBits_zero .f32)).trans ?_
  rw [zero_add, sum_rows]
  simp only [Data.ddk, ← coe_sum]
  refine Finset.sum_congr rfl fun c _ => Finset.sum_congr rfl fun l _ => Finset.sum_congr rfl fun p _ => ?_
  pointwise [val_main_v86, val_main_v83, val_main_v8, val_main_v0]
  rw [H.xbc, H.dy, ← EReal.coe_mul]
  rfl

theorem v89_real : val_main_v89 (F := Ideal) x0 x5 (ix2 g r) = ((∑ c, (α.full g c).ddk r : ℝ) : EReal) := by
  refine (sum_ends4 _ _ _ g r).trans ?_
  refine (congrArg (· + _) (Ideal.ofBits_zero .f32)).trans ?_
  rw [zero_add, ← v87_real H, Fin.sum_univ_one, Fin.sum_univ_one]
  pointwise [val_main_v88]

theorem dal_out : val_main_v199 (F := Ideal) x0 x1 x2 x3 x5 (ix3 g 0 r) = ((∑ c, (α.full g c).dal r : ℝ) : EReal) := by
  pointwise [val_main_v199, val_main_v189, val_main_v188, val_main_v185, val_main_v6]
  rw [v177_real H, H.alog, Ideal.exp_coe, ← EReal.coe_neg, ← EReal.coe_mul]
  congr 1
  simp only [Data.dal]
  rw [neg_mul, ← mul_neg, Finset.sum_mul]
  refine Finset.sum_congr rfl fun c _ => ?_
  rw [Data.a, zero_sub]
  exact congrArg₂ (· * ·) (Finset.sum_congr rfl fun l _ => mul_comm _ _) rfl

theorem ddk_out : val_main_v200 (F := Ideal) x0 x5 (ix3 g 0 r) = ((∑ c, (α.full g c).ddk r : ℝ) : EReal) := by
  pointwise [val_main_v200, val_main_v92, val_main_v91, val_main_v90, val_main_cst_5]
  rw [Fin.sum_univ_one]
  exact v89_real H _ _

theorem dbias_out : val_main_v201 (F := Ideal) x0 x1 x2 x3 x5 (ix3 g 0 r) = ((∑ c, (α.full g c).dbias r : ℝ) : EReal) := by
  pointwise [val_main_v201, val_main_v192, val_main_v191, val_main_cst_23]
  rw [sum_rows]
  simp only [Data.dbias, ← coe_sum]
  exact Finset.sum_congr rfl fun c _ => Finset.sum_congr rfl fun l _ => v190_real H c l g r

end Cert.ReferenceIdeal.Ssd

end
-- ==== Proof.Ssd.Value.lean ====
/-
  The output arrays of the scan's backward kernel after its run, block by block: block `t` is what grid point `t` wrote,
  and the carried scratch is a fold over the points of its group.  (Generated text, over `Ssd.Frame`.)
-/
module

public import proofs.«01_k».proof.Proof.Ssd.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 32 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 32 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed12, outsAt0_B m c t h0]

/-- The index map sends distinct grid points to distinct block indices (decided over the 128 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S8192x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t.val t.isLt).2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 32 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0_A m c t h0]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 32 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed13, outsAt0_B m c t h0]

/-- The index map sends distinct grid points to distinct block indices (decided over the 128 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S8192x512.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 2), read through the window's block. -/
theorem flushed14 (c : Dev nD) (t : Fin cfg0.N) :
    (dats m 0 c).flushed 14 t = (cfg0.win 14).cut (grid0.coords t) ((outsAt0 m c t.val t.isLt).2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 32 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed14, outsAt0_A m c t h0]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 32 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed14, outsAt0_B m c t h0]

/-- The index map sends distinct grid points to distinct block indices (decided over the 128 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S8192x512.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 3), read through the window's block. -/
theorem flushed15 (c : Dev nD) (t : Fin cfg0.N) :
    (dats m 0 c).flushed 15 t = (cfg0.win 15).cut (grid0.coords t) ((outsAt0 m c t.val t.isLt).2.2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — by the frame's rewriting lemma for the case. -/
theorem flushed15_A (c : Dev nD) (t : Fin cfg0.N) (h0 : t.val % 32 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed15, outsAt0_A m c t h0]

/-- … so at a point where case B runs, what its write-back would write is that case's NAMED TERM for the window (`Gen.out0_B_15`: the pieces
    its run found, read back) at the point's memrefs and input blocks, and for an output the case reads back what the point before left (`Gen.outsAt0` at `t - 1`) — by the frame's rewriting lemma for the case. -/
theorem flushed15_B (c : Dev nD) (t : Fin cfg0.N) (h0 : ¬t.val % 32 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed15, outsAt0_B m c t h0]

/-- The index map sends distinct grid points to distinct block indices (decided over the 128 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S4x8192x8.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 4), read through the window's block. -/
theorem flushed16 (c : Dev nD) (t : Fin cfg0.N) :
    (dats m 0 c).flushed 16 t = (cfg0.win 16).cut (grid0.coords t) ((outsAt0 m c t.val t.isLt).2.2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — by the frame's rewriting lemma for the case. -/
theorem flushed16_A (c : Dev nD) (t : Fin cfg0.N) (h0 : t.val % 32 = 0) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed16, outsAt0_A m c t h0]

/-- … so at a point where case B runs, what its write-back would write is that case's NAMED TERM for the window (`Gen.out0_B_16`: the pieces
    its run found, read back) at the point's memrefs and input blocks, and for an output the case reads back what the point before left (`Gen.outsAt0` at `t - 1`) — by the frame's rewriting lemma for the case. -/
theorem flushed16_B (c : Dev nD) (t : Fin cfg0.N) (h0 : ¬t.val % 32 = 0) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed16, outsAt0_B m c t h0]

-- no `blocks16`: window 16's index map revisits a block index, or its points could not be enumerated here;
-- the final array is still the frame's `arrAt`, to read with Lib/Pipeline/Value.lean's lemmas by hand

/-- An index that no flushing point's block covers keeps output window 16's array contents at region entry. -/
theorem entry16 (c : Dev nD) (i : S4x1x8.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 5), read through the window's block. -/
theorem flushed17 (c : Dev nD) (t : Fin cfg0.N) :
    (dats m 0 c).flushed 17 t = (cfg0.win 17).cut (grid0.coords t) ((outsAt0 m c t.val t.isLt).2.2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val % 32 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed17, outsAt0_A m c t h0]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val % 32 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed17, outsAt0_B m c t h0]

-- no `blocks17`: window 17's index map revisits a block index, or its points could not be enumerated here;
-- the final array is still the frame's `arrAt`, to read with Lib/Pipeline/Value.lean's lemmas by hand

/-- An index that no flushing point's block covers keeps output window 17's array contents at region entry. -/
theorem entry17 (c : Dev nD) (i : S4x1x8.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 6), read through the window's block. -/
theorem flushed18 (c : Dev nD) (t : Fin cfg0.N) :
    (dats m 0 c).flushed 18 t = (cfg0.win 18).cut (grid0.coords t) ((outsAt0 m c t.val t.isLt).2.2.2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — by the frame's rewriting lemma for the case. -/
theorem flushed18_A (c : Dev nD) (t : Fin cfg0.N) (h0 : t.val % 32 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed18, outsAt0_A m c t h0]

/-- … so at a point where case B runs, what its write-back would write is that case's NAMED TERM for the window (`Gen.out0_B_18`: the pieces
    its run found, read back) at the point's memrefs and input blocks, and for an output the case reads back what the point before left (`Gen.outsAt0` at `t - 1`) — by the frame's rewriting lemma for the case. -/
theorem flushed18_B (c : Dev nD) (t : Fin cfg0.N) (h0 : ¬t.val % 32 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  simp only [flushed18, outsAt0_B m c t h0]

-- no `blocks18`: window 18's index map revisits a block index, or its points could not be enumerated here;
-- the final array is still the frame's `arrAt`, to read with Lib/Pipeline/Value.lean's lemmas by hand

/-- An index that no flushing point's block covers keeps output window 18's array contents at region entry. -/
theorem entry18 (c : Dev nD) (i : S4x1x8.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v58_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v58_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v58_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v58_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v58_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v58_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v58_6) = (dats m 0 c).arrAt 18 cfg0.N :=
  (h c).1 18

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 10 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 10).trans (((dats m 0 c).arrAt_in 10 rfl _).trans ((A_eq m c 10).trans (V_main_arg5 m c)))

set_option maxHeartbeats 206040 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v58_0) = (dats m 0 c).arrAt 12 cfg0.N
      ∧ r.2.mem ((c : Thread nD τ).loc main_v58_1) = (dats m 0 c).arrAt 13 cfg0.N
      ∧ r.2.mem ((c : Thread nD τ).loc main_v58_2) = (dats m 0 c).arrAt 14 cfg0.N
      ∧ r.2.mem ((c : Thread nD τ).loc main_v58_3) = (dats m 0 c).arrAt 15 cfg0.N
      ∧ r.2.mem ((c : Thread nD τ).loc main_v58_4) = (dats m 0 c).arrAt 16 cfg0.N
      ∧ r.2.mem ((c : Thread nD τ).loc main_v58_5) = (dats m 0 c).arrAt 17 cfg0.N
      ∧ r.2.mem ((c : Thread nD τ).loc main_v58_6) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_0 (c : Dev nD) (n : ℕ) (hb : n < cfg0.N) (acc : Vec F S8x128x64 .f32) : Vec F S8x128x64 .f32 :=
  if h0 : n % 32 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 acc

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2.2.2 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.2.2.2.2.2) 32 (fun n h => scAt0_0 m c n h (VS0_0.read (Elt F) VS0_0.junk)) (scAt0_0 m c)
    (fun n h hn => by
      have hN := lt_of_lt_of_eq h (show cfg0.N = 128 from N_0)
      by_cases h0 : n % 32 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 128 from N_0)
      by_cases h0 : (n + 1) % 32 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

end Cert.KernelIdeal.Value

end
-- ==== Proof.Ssd.Final.lean ====
/-
  The kernel's seven result arrays over the reals.
-/
module

public import proofs.«01_k».proof.Proof.Ssd.Points
public import proofs.«01_k».proof.Proof.Ssd.RefOut
public import proofs.«01_k».proof.Proof.Ssd.Value

@[expose] public section

set_option maxRecDepth 16384
set_option maxHeartbeats 1000000

noncomputable section

namespace Cert.KernelIdeal.Ssd

open Idealize.ShloMosaic Idealize.ShloMosaic.TcCoe Idealize.SL.Sem Cert.KernelIdeal Cert.KernelIdeal.Gen Cert.KernelIdeal.Value
open Cert.ReferenceIdeal.Read Cert.ReferenceIdeal.Ssd

variable (m : (ℓ : Loc nD τ sig) → Buf (Elt Ideal) ℓ) (d : Dev nD) (g : Fin 4) (c : Fin 32)

/-! ## Which points write a block back -/

theorem fl12 : ∀ t : Fin cfg0.N, (cfg0.win 12).flush t = true := (by decide +kernel : ∀ t : Fin grid0.N, _)
theorem fl13 : ∀ t : Fin cfg0.N, (cfg0.win 13).flush t = true := (by decide +kernel : ∀ t : Fin grid0.N, _)
theorem fl14 : ∀ t : Fin cfg0.N, (cfg0.win 14).flush t = true := (by decide +kernel : ∀ t : Fin grid0.N, _)
theorem fl15 : ∀ t : Fin cfg0.N, (cfg0.win 15).flush t = true := (by decide +kernel : ∀ t : Fin grid0.N, _)

theorem fl16 : ∀ t : Fin cfg0.N, (cfg0.win 16).flush t = true ↔ t.val % 32 = 31 := (by decide +kernel : ∀ t : Fin grid0.N, _)
theorem fl17 : ∀ t : Fin cfg0.N, (cfg0.win 17).flush t = true ↔ t.val % 32 = 31 := (by decide +kernel : ∀ t : Fin grid0.N, _)
theorem fl18 : ∀ t : Fin cfg0.N, (cfg0.win 18).flush t = true ↔ t.val % 32 = 31 := (by decide +kernel : ∀ t : Fin grid0.N, _)

theorem inj16 : ∀ t t' : Fin cfg0.N, win0_16.index t = win0_16.index t' → t.val / 32 = t'.val / 32 := (by decide +kernel : ∀ t t' : Fin grid0.N, _)
theorem inj17 : ∀ t t' : Fin cfg0.N, win0_17.index t = win0_17.index t' → t.val / 32 = t'.val / 32 := (by decide +kernel : ∀ t t' : Fin grid0.N, _)
theorem inj18 : ∀ t t' : Fin cfg0.N, win0_18.index t = win0_18.index t' → t.val / 32 = t'.val / 32 := (by decide +kernel : ∀ t t' : Fin grid0.N, _)

theorem last_eq {t t' : Fin cfg0.N} (h : t.val % 32 = 31) (h' : t'.val % 32 = 31) (e : t.val / 32 = t'.val / 32) : t = t' :=
  Fin.ext (by omega)

theorem disjoint16 : ∀ t t' : Fin cfg0.N, (cfg0.win 16).flush t = true → (cfg0.win 16).flush t' = true → t ≠ t' →
    Disjoint ((cfg0.win 16).blk t).view.set ((cfg0.win 16).blk t').view.set :=
  fun t t' h h' hne => (cfg0.win 16).disjoint_blk fun e => hne (last_eq ((fl16 t).mp h) ((fl16 t').mp h') (inj16 t t' e))
theorem disjoint17 : ∀ t t' : Fin cfg0.N, (cfg0.win 17).flush t = true → (cfg0.win 17).flush t' = true → t ≠ t' →
    Disjoint ((cfg0.win 17).blk t).view.set ((cfg0.win 17).blk t').view.set :=
  fun t t' h h' hne => (cfg0.win 17).disjoint_blk fun e => hne (last_eq ((fl17 t).mp h) ((fl17 t').mp h') (inj17 t t' e))
theorem disjoint18 : ∀ t t' : Fin cfg0.N, (cfg0.win 18).flush t = true → (cfg0.win 18).flush t' = true → t ≠ t' →
    Disjoint ((cfg0.win 18).blk t).view.set ((cfg0.win 18).blk t').view.set :=
  fun t t' h h' hne => (cfg0.win 18).disjoint_blk fun e => hne (last_eq ((fl18 t).mp h) ((fl18 t').mp h') (inj18 t t' e))

/-! ## Where a block's elements lie in the array -/

theorem rd12 (A : Vec Ideal S8192x2048 .f32) (l : Fin 256) (q : Fin 512) :
    ((cfg0.win 12).blk (tp g c)).view.read (Elt Ideal) A (ix2 l q) = A (ix2 (row c l) ⟨g.val * 512 + q.val, by omega⟩) := by
  blk_ext [idx g c]
theorem rd13 (A : Vec Ideal S8192x512 .f32) (l : Fin 256) (n : Fin 128) :
    ((cfg0.win 13).blk (tp g c)).view.read (Elt Ideal) A (ix2 l n) = A (ix2 (row c l) (colN g n)) := by
  blk_ext [idx g c]
theorem rd14 (A : Vec Ideal S8192x512 .f32) (l : Fin 256) (n : Fin 128) :
    ((cfg0.win 14).blk (tp g c)).view.read (Elt Ideal) A (ix2 l n) = A (ix2 (row c l) (colN g n)) := by
  blk_ext [idx g c]
theorem rd15 (A : Vec Ideal S4x8192x8 .f32) (l : Fin 256) (r : Fin 8) :
    ((cfg0.win 15).blk (tp g c)).view.read (Elt Ideal) A (ix3 0 l r) = A (ix3 g (row c l) r) := by
  blk_ext [idx g c]
theorem rd16 (A : Vec Ideal S4x1x8 .f32) (r : Fin 8) :
    ((cfg0.win 16).blk (tp g c)).view.read (Elt Ideal) A (ix3 0 0 r) = A (ix3 g 0 r) := by
  blk_ext [idx g c]
theorem rd17 (A : Vec Ideal S4x1x8 .f32) (r : Fin 8) :
    ((cfg0.win 17).blk (tp g c)).view.read (Elt Ideal) A (ix3 0 0 r) = A (ix3 g 0 r) := by
  blk_ext [idx g c]
theorem rd18 (A : Vec Ideal S4x1x8 .f32) (r : Fin 8) :
    ((cfg0.win 18).blk (tp g c)).view.read (Elt Ideal) A (ix3 0 0 r) = A (ix3 g 0 r) := by
  blk_ext [idx g c]

/-! ## The arrays -/

variable {α : Arr}
  (H : IsReal (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5)) α)

include H

theorem arr12 (l : Fin 256) (r : Fin 8) (p : Fin 64) :
    ((dats m 0 d).arrAt 12 cfg0.N : Vec Ideal S8192x2048 .f32) (ix2 (row c l) (colX g r p)) = (((α.full g c).dxs r l p : ℝ) : EReal) := by
  obtain ⟨D, o16, o17, o18, he, hD, -⟩ := (good_at m d g c H).eq
  have hb := congrFun (blocks12 m d (tp g c) (fl12 _)) (ix2 l ⟨r.val * 64 + p.val, by omega⟩)
  rw [flushed12, show outsAt0 m d (tp g c).val (tp g c).isLt = _ from he] at hb
  refine (congrArg _ (congrArg (ix2 _) (Fin.ext (by show _ + _ + _ = _ + (_ + _); omega)))).trans ((rd12 g c _ l ⟨r.val * 64 + p.val, by omega⟩).symm.trans (hb.trans ?_))
  show dxs D ⟨(r.val * 64 + p.val) / 64, _⟩ (ix2 l ⟨(r.val * 64 + p.val) % 64, _⟩) = _
  have e1 : (⟨(r.val * 64 + p.val) / 64, by omega⟩ : Fin 8) = r := Fin.ext (by show (r.val * 64 + p.val) / 64 = r.val; omega)
  have e2 : (⟨(r.val * 64 + p.val) % 64, by omega⟩ : Fin 64) = p := Fin.ext (by show (r.val * 64 + p.val) % 64 = p.val; omega)
  rw [e1, e2]
  exact dxs_real hD r l p

theorem arr13 (l : Fin 256) (n : Fin 128) :
    ((dats m 0 d).arrAt 13 cfg0.N : Vec Ideal S8192x512 .f32) (ix2 (row c l) (colN g n)) = (((α.full g c).db l n : ℝ) : EReal) := by
  obtain ⟨D, o16, o17, o18, he, hD, -⟩ := (good_at m d g c H).eq
  have hb := congrFun (blocks13 m d (tp g c) (fl13 _)) (ix2 l n)
  rw [flushed13, show outsAt0 m d (tp g c).val (tp g c).isLt = _ from he] at hb
  exact (rd13 g c _ l n).symm.trans (hb.trans (dbOut_real hD l n))

theorem arr14 (l : Fin 256) (n : Fin 128) :
    ((dats m 0 d).arrAt 14 cfg0.N : Vec Ideal S8192x512 .f32) (ix2 (row c l) (colN g n)) = (((α.full g c).dc l n : ℝ) : EReal) := by
  obtain ⟨D, o16, o17, o18, he, hD, -⟩ := (good_at m d g c H).eq
  have hb := congrFun (blocks14 m d (tp g c) (fl14 _)) (ix2 l n)
  rw [flushed14, show outsAt0 m d (tp g c).val (tp g c).isLt = _ from he] at hb
  exact (rd14 g c _ l n).symm.trans (hb.trans (dcOut_real hD l n))

theorem arr15 (l : Fin 256) (r : Fin 8) :
    ((dats m 0 d).arrAt 15 cfg0.N : Vec Ideal S4x8192x8 .f32) (ix3 g (row c l) r) = (((α.full g c).ddu l r : ℝ) : EReal) := by
  obtain ⟨D, o16, o17, o18, he, hD, -⟩ := (good_at m d g c H).eq
  have hb := congrFun (blocks15 m d (tp g c) (fl15 _)) (ix3 0 l r)
  rw [flushed15, show outsAt0 m d (tp g c).val (tp g c).isLt = _ from he] at hb
  exact (rd15 g c _ l r).symm.trans (hb.trans (ddtOut_real hD l r))

theorem arr16 (r : Fin 8) :
    ((dats m 0 d).arrAt 16 cfg0.N : Vec Ideal S4x1x8 .f32) (ix3 g 0 r) = ((∑ c, (α.full g c).dal r : ℝ) : EReal) := by
  obtain ⟨D, o16, o17, o18, he, hD, h16, -⟩ := (good_at m d g 0 H).eq
  have hb := congrFun ((dats m 0 d).read_blk_arrAt_eq_flushed 16 disjoint16 cfg0.N (tp g 0) (tp g 0).isLt
    ((fl16 _).mpr (by show (g.val * 32 + 31) % 32 = 31; omega))) (ix3 0 0 r)
  rw [flushed16, show outsAt0 m d (tp g 0).val (tp g 0).isLt = _ from he] at hb
  refine (rd16 g 0 _ r).symm.trans (hb.trans ((dalOut_real hD _ _ h16 r).trans ?_))
  rw [after_first (fun c => (α.full g c).dal r) 0 rfl]

theorem arr17 (r : Fin 8) :
    ((dats m 0 d).arrAt 17 cfg0.N : Vec Ideal S4x1x8 .f32) (ix3 g 0 r) = ((∑ c, (α.full g c).ddk r : ℝ) : EReal) := by
  obtain ⟨D, o16, o17, o18, he, hD, -, h17, -⟩ := (good_at m d g 0 H).eq
  have hb := congrFun ((dats m 0 d).read_blk_arrAt_eq_flushed 17 disjoint17 cfg0.N (tp g 0) (tp g 0).isLt
    ((fl17 _).mpr (by show (g.val * 32 + 31) % 32 = 31; omega))) (ix3 0 0 r)
  rw [flushed17, show outsAt0 m d (tp g 0).val (tp g 0).isLt = _ from he] at hb
  refine (rd17 g 0 _ r).symm.trans (hb.trans ((ddkOut_real hD _ _ h17 r).trans ?_))
  rw [after_first (fun c => (α.full g c).ddk r) 0 rfl]

theorem arr18 (r : Fin 8) :
    ((dats m 0 d).arrAt 18 cfg0.N : Vec Ideal S4x1x8 .f32) (ix3 g 0 r) = ((∑ c, (α.full g c).dbias r : ℝ) : EReal) := by
  obtain ⟨D, o16, o17, o18, he, hD, -, -, h18⟩ := (good_at m d g 0 H).eq
  have hb := congrFun ((dats m 0 d).read_blk_arrAt_eq_flushed 18 disjoint18 cfg0.N (tp g 0) (tp g 0).isLt
    ((fl18 _).mpr (by show (g.val * 32 + 31) % 32 = 31; omega))) (ix3 0 0 r)
  rw [flushed18, show outsAt0 m d (tp g 0).val (tp g 0).isLt = _ from he] at hb
  refine (rd18 g 0 _ r).symm.trans (hb.trans ((dbiasOut_real hD _ _ h18 r).trans ?_))
  rw [after_first (fun c => (α.full g c).dbias r) 0 rfl]

end Cert.KernelIdeal.Ssd

end
-- ==== Proof.Ssd.Claims.lean ====
/-
  The claims about the scan's backward kernel: its frames, the frame of the reference, what the named mask means, and that
  over the reals the kernel's seven results are the reference's.
-/
module

public import proofs.«01_k».proof.Defs
public import proofs.«01_k».proof.Proof.Ssd.FrameBits
public import proofs.«01_k».proof.Proof.Gen.Pre_finite
public import proofs.«01_k».proof.Proof.Ssd.Final

@[expose] public section

set_option maxRecDepth 16384
set_option maxHeartbeats 1000000

noncomputable section

namespace Cert.KernelIdeal.Ssd

open Idealize.ShloMosaic Idealize.ShloMosaic.TcCoe Idealize.SL.Sem Cert.KernelIdeal Cert.KernelIdeal.Gen
open Cert.ReferenceIdeal.Read Cert.ReferenceIdeal.Ssd

/-! ## The precondition -/

/-- A number whose magnitude is below infinity is real. -/
theorem real_of_fin {s : Shape} (x : FVec Ideal s .f32) (hb : Cert.Pre_finite.S_.BroadcastsInDim s (![] : Fin 0 → Fin s.rank)) (i : s.Idx)
    (h : cmpf .olt (Host.absf x) (broadcastInDim s ![] hb (constant Cert.Pre_finite.S_ .f32 0x7F800000#32)) i = 1#1) :
    ∃ a : ℝ, x i = (a : EReal) := by
  have h' : Ideal.cmp .olt (max (x i) (-(x i))) (Ideal.ofBits .f32 0x7F800000#32) = 1#1 := h
  rw [posInf] at h'
  generalize x i = v at h'
  change EReal at v
  induction v using EReal.rec with
  | bot => simp [Ideal.cmp] at h'
  | top => simp [Ideal.cmp] at h'
  | coe a => exact ⟨a, rfl⟩

/-- Finite arguments hold real numbers. -/
theorem exists_real (m : (ℓ : Loc nD τ sig) → Buf (Elt Ideal) ℓ) (h : Cert.Pre_KernelIdeal_finite m) (d : Dev nD) :
    ∃ α, IsReal (m ((d : Thread nD τ).loc main_arg0)) (m ((d : Thread nD τ).loc main_arg1)) (m ((d : Thread nD τ).loc main_arg2))
      (m ((d : Thread nD τ).loc main_arg3)) (m ((d : Thread nD τ).loc main_arg4)) (m ((d : Thread nD τ).loc main_arg5)) α := by
  obtain ⟨h0, h1, h2, h3, h4, h5⟩ := h d
  have g0 := fun i => real_of_fin (m ((d : Thread nD τ).loc main_arg0)) _ i (congrFun h0 i)
  have g1 := fun i => real_of_fin (m ((d : Thread nD τ).loc main_arg1)) _ i (congrFun h1 i)
  have g2 := fun i => real_of_fin (m ((d : Thread nD τ).loc main_arg2)) _ i (congrFun h2 i)
  have g3 := fun i => real_of_fin (m ((d : Thread nD τ).loc main_arg3)) _ i (congrFun h3 i)
  have g4 := fun i => real_of_fin (m ((d : Thread nD τ).loc main_arg4)) _ i (congrFun h4 i)
  have g5 := fun i => real_of_fin (m ((d : Thread nD τ).loc main_arg5)) _ i (congrFun h5 i)
  choose f0 e0 using g0
  choose f1 e1 using g1
  choose f2 e2 using g2
  choose f3 e3 using g3
  choose f4 e4 using g4
  choose f5 e5 using g5
  exact ⟨⟨fun i j => f0 (ix2 i j), fun i j => f1 (ix2 i j), fun j => f2 (ix2 0 j), fun j => f3 (ix2 0 j), fun j => f4 (ix2 0 j), fun i j => f5 (ix2 i j)⟩,
    fun i j => e0 _, fun i j => e1 _, fun j => e2 _, fun j => e3 _, fun j => e4 _, fun i j => e5 _⟩

/-! ## Arrays, chunk by chunk and group by group -/

theorem row_ext (i : Fin 8192) : ∃ c l, i = row c l :=
  ⟨⟨i.val / 256, by omega⟩, ⟨i.val % 256, by omega⟩, Fin.ext (by show i.val = i.val / 256 * 256 + i.val % 256; omega)⟩

theorem ext_x {A B : Vec Ideal S8192x2048 .f32} (h : ∀ c l g r p, A (ix2 (row c l) (colX g r p)) = B (ix2 (row c l) (colX g r p))) : A = B := by
  funext i
  obtain ⟨c, l, e0⟩ := row_ext (i 0)
  have h1 : (i 1).val < 2048 := (i 1).isLt
  have e1 : i 1 = colX ⟨(i 1).val / 512, by omega⟩ ⟨(i 1).val % 512 / 64, by omega⟩ ⟨(i 1).val % 64, by omega⟩ :=
    Fin.ext (by show (i 1).val = (i 1).val / 512 * 512 + (i 1).val % 512 / 64 * 64 + (i 1).val % 64; omega)
  have e : i = ix2 (row c l) (colX ⟨(i 1).val / 512, by omega⟩ ⟨(i 1).val % 512 / 64, by omega⟩ ⟨(i 1).val % 64, by omega⟩) := by
    funext a
    match a with
    | 0 => exact e0
    | 1 => exact e1
  rw [e]
  exact h _ _ _ _ _

theorem ext_n {A B : Vec Ideal S8192x512 .f32} (h : ∀ c l g n, A (ix2 (row c l) (colN g n)) = B (ix2 (row c l) (colN g n))) : A = B := by
  funext i
  obtain ⟨c, l, e0⟩ := row_ext (i 0)
  have h1 : (i 1).val < 512 := (i 1).isLt
  have e1 : i 1 = colN ⟨(i 1).val / 128, by omega⟩ ⟨(i 1).val % 128, by omega⟩ :=
    Fin.ext (by show (i 1).val = (i 1).val / 128 * 128 + (i 1).val % 128; omega)
  have e : i = ix2 (row c l) (colN ⟨(i 1).val / 128, by omega⟩ ⟨(i 1).val % 128, by omega⟩) := by
    funext a
    match a with
    | 0 => exact e0
    | 1 => exact e1
  rw [e]
  exact h _ _ _ _

theorem ext_t {A B : Vec Ideal S4x8192x8 .f32} (h : ∀ c l g r, A (ix3 g (row c l) r) = B (ix3 g (row c l) r)) : A = B := by
  funext i
  obtain ⟨c, l, e1⟩ := row_ext (i 1)
  have e : i = ix3 (i 0) (row c l) (i 2) := by
    funext a
    match a with
    | 0 => rfl
    | 1 => exact e1
    | 2 => rfl
  rw [e]
  exact h _ _ _ _

theorem ext_g {A B : Vec Ideal S4x1x8 .f32} (h : ∀ g r, A (ix3 g 0 r) = B (ix3 g 0 r)) : A = B := by
  funext i
  have h1 : (i 1).val < 1 := (i 1).isLt
  have e : i = ix3 (i 0) 0 (i 2) := by
    funext a
    match a with
    | 0 => rfl
    | 1 => exact Fin.ext (by show (i 1).val = 0; omega)
    | 2 => rfl
  rw [e]
  exact h _ _

/-! ## The results -/

variable (m : (ℓ : Loc nD τ sig) → Buf (Elt Ideal) ℓ) (d : Dev nD) {α : Arr}
  {x0 : FVec Ideal S8192x3072 .f32} {x1 : FVec Ideal S8192x32 .f32} {x2 x3 x4 : FVec Ideal S1x32 .f32} {x5 : FVec Ideal S8192x2048 .f32}
  (e0 : x0 = m ((d : Thread nD τ).loc main_arg0)) (e1 : x1 = m ((d : Thread nD τ).loc main_arg1)) (e2 : x2 = m ((d : Thread nD τ).loc main_arg2))
  (e3 : x3 = m ((d : Thread nD τ).loc main_arg3)) (e4 : x4 = m ((d : Thread nD τ).loc main_arg4)) (e5 : x5 = m ((d : Thread nD τ).loc main_arg5))
  (H : IsReal x0 x1 x2 x3 x4 x5 α)

include e0 e1 e2 e3 e4 e5 H

theorem res0 : val_main_v194 (F := Ideal) x0 x1 x2 x3 x4 x5 = (dats m 0 d).arrAt 12 cfg0.N := by
  subst e0 e1 e2 e3 e4 e5
  exact ext_x fun c l g r p => (dxs_out H c l g r p).trans (arr12 m d g c H l r p).symm

theorem res1 : val_main_v195 (F := Ideal) x0 x1 x2 x3 x4 x5 = (dats m 0 d).arrAt 13 cfg0.N := by
  subst e0 e1 e2 e3 e4 e5
  exact ext_n fun c l g n => (db_out H c l g n).trans (arr13 m d g c H l n).symm

theorem res2 : val_main_v196 (F := Ideal) x0 x1 x2 x3 x4 x5 = (dats m 0 d).arrAt 14 cfg0.N := by
  subst e0 e1 e2 e3 e4 e5
  exact ext_n fun c l g n => (dc_out H c l g n).trans (arr14 m d g c H l n).symm

theorem res3 : val_main_v198 (F := Ideal) x0 x1 x2 x3 x5 = (dats m 0 d).arrAt 15 cfg0.N := by
  subst e0 e1 e2 e3 e4 e5
  exact ext_t fun c l g r => (ddt_out H c l g r).trans (arr15 m d g c H l r).symm

theorem res4 : val_main_v199 (F := Ideal) x0 x1 x2 x3 x5 = (dats m 0 d).arrAt 16 cfg0.N := by
  subst e0 e1 e2 e3 e4 e5
  exact ext_g fun g r => (dal_out H g r).trans (arr16 m d g H r).symm

theorem res5 : val_main_v200 (F := Ideal) x0 x5 = (dats m 0 d).arrAt 17 cfg0.N := by
  subst e0 e1 e2 e3 e4 e5
  exact ext_g fun g r => (ddk_out H g r).trans (arr17 m d g H r).symm

theorem res6 : val_main_v201 (F := Ideal) x0 x1 x2 x3 x5 = (dats m 0 d).arrAt 18 cfg0.N := by
  subst e0 e1 e2 e3 e4 e5
  exact ext_g fun g r => (dbias_out H g r).trans (arr18 m d g H r).symm

omit e0 e1 e2 e3 e4 e5 H

/-! ## The claims -/

theorem frame_pi : Cert.quiescent_KernelIdeal := fun m ρ _ => Cert.KernelIdeal.Gen.frame m ρ
theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2.2.2, sem_eq_zero_of_no_sems (by decide) r.2⟩) (Cert.ReferenceIdeal.Value.run (F := Ideal) m ρ)
theorem frame_ri_pre : Cert.quiescent_ReferenceIdeal_pre_finite := fun m ρ _ =>
  (θ_run Cert.ReferenceIdeal.defs _ _).mono (fun r h => ⟨fun c => (h c).2.2.2.2.2.2.2, sem_eq_zero_of_no_sems (by decide) r.2⟩) (Cert.ReferenceIdeal.Value.run (F := Ideal) m ρ)

/-- The one named constant, the mask, denotes −∞. -/
theorem preserves : Cert.preserves_Kernel_KernelIdeal :=
  IdealRules.named_const.statement Cert.KernelIdeal.κ "mask" .f32 0xF149F2CA#32 ⊥ rfl

/-- The kernel's results are the reference's. -/
theorem algebraic : Cert.algebraic_KernelIdeal_ReferenceIdeal_pre_finite := by
  intro m ρ m' ρ' hf hagree
  refine ⟨_, _, _, _, _, _, _, Cert.KernelIdeal.Value.run_blocks (F := Ideal) m ρ, ?_⟩
  refine (θ_run Cert.ReferenceIdeal.defs _ _).mono (fun r h d => ?_) (Cert.ReferenceIdeal.Value.run (F := Ideal) m' ρ')
  obtain ⟨a0, a1, a2, a3, a4, a5⟩ := hagree d
  obtain ⟨α, H⟩ := exists_real m hf d
  rw [← a0, ← a1, ← a2, ← a3, ← a4, ← a5] at H
  obtain ⟨h0, h1, h2, h3, h4, h5, h6, hargs⟩ := h d
  exact ⟨h0.trans ((val_main_v194_eq _).trans (res0 m d a0 a1 a2 a3 a4 a5 H)),
    h1.trans ((val_main_v195_eq _).trans (res1 m d a0 a1 a2 a3 a4 a5 H)),
    h2.trans ((val_main_v196_eq _).trans (res2 m d a0 a1 a2 a3 a4 a5 H)),
    h3.trans ((val_main_v198_eq _).trans (res3 m d a0 a1 a2 a3 a4 a5 H)),
    h4.trans ((val_main_v199_eq _).trans (res4 m d a0 a1 a2 a3 a4 a5 H)),
    h5.trans ((val_main_v200_eq _).trans (res5 m d a0 a1 a2 a3 a4 a5 H)),
    h6.trans ((val_main_v201_eq _).trans (res6 m d a0 a1 a2 a3 a4 a5 H)), hargs⟩

end Cert.KernelIdeal.Ssd

end
-- ==== Proof.lean ====
/-
  The claims of this certificate, each proved in its own module.
-/
module

public import proofs.«01_k».proof.Proof.Product.FfnInDx
public import proofs.«01_k».proof.Proof.Product.FfnInDw
public import proofs.«01_k».proof.Proof.Product.FfnOutDw
public import proofs.«01_k».proof.Proof.Product.FfnIn
public import proofs.«01_k».proof.Proof.Product.FfnOut
public import proofs.«01_k».proof.Proof.Product.ProjMain
public import proofs.«01_k».proof.Proof.Product.ProjMainDx
public import proofs.«01_k».proof.Proof.Product.ProjMainDw
public import proofs.«01_k».proof.Proof.Product.OutProj
public import proofs.«01_k».proof.Proof.Product.OutProjDx
public import proofs.«01_k».proof.Proof.Product.OutProjDw
public import proofs.«01_k».proof.Proof.Product.FfnOutDx
public import proofs.«01_k».proof.Proof.Update.AdamIn
public import proofs.«01_k».proof.Proof.Update.AdamConv
public import proofs.«01_k».proof.Proof.Update.AdamPool
public import proofs.«01_k».proof.Proof.Update.AdamOut
public import proofs.«01_k».proof.Proof.Update.AdamGate
public import proofs.«01_k».proof.Proof.Update.AdamDown
public import proofs.«01_k».proof.Proof.Update.SmallAdam
public import proofs.«01_k».proof.Proof.Norm.NormIn
public import proofs.«01_k».proof.Proof.Norm.NormMid
public import proofs.«01_k».proof.Proof.Norm.Loss
public import proofs.«01_k».proof.Proof.Ssd.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_out_dx_finite

@[expose] public section

noncomputable section

namespace Cert.Proof

theorem claim : Cert.Claim := ⟨Cert.Kernel.Gen.facts, Cert.KernelIdeal.Gen.facts, Cert.ReferenceIdeal.Gen.facts,
  Cert.FfnInDx.Gen.facts, Cert.FfnInDxIdeal.Gen.facts, Cert.FfnInDxRefIdeal.Gen.facts,
  Cert.FfnInDw.Gen.facts, Cert.FfnInDwIdeal.Gen.facts, Cert.FfnInDwRefIdeal.Gen.facts,
  Cert.FfnOutDw.Gen.facts, Cert.FfnOutDwIdeal.Gen.facts, Cert.FfnOutDwRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.ProjMain.Gen.facts, Cert.ProjMainIdeal.Gen.facts, Cert.ProjMainRefIdeal.Gen.facts,
  Cert.ProjMainDx.Gen.facts, Cert.ProjMainDxIdeal.Gen.facts, Cert.ProjMainDxRefIdeal.Gen.facts,
  Cert.ProjMainDw.Gen.facts, Cert.ProjMainDwIdeal.Gen.facts, Cert.ProjMainDwRefIdeal.Gen.facts,
  Cert.OutProj.Gen.facts, Cert.OutProjIdeal.Gen.facts, Cert.OutProjRefIdeal.Gen.facts,
  Cert.OutProjDx.Gen.facts, Cert.OutProjDxIdeal.Gen.facts, Cert.OutProjDxRefIdeal.Gen.facts,
  Cert.OutProjDw.Gen.facts, Cert.OutProjDwIdeal.Gen.facts, Cert.OutProjDwRefIdeal.Gen.facts,
  Cert.FfnOutDx.Gen.facts, Cert.FfnOutDxIdeal.Gen.facts, Cert.FfnOutDxRefIdeal.Gen.facts,
  Cert.AdamIn.Gen.facts, Cert.AdamInIdeal.Gen.facts, Cert.AdamInRefIdeal.Gen.facts,
  Cert.AdamConv.Gen.facts, Cert.AdamConvIdeal.Gen.facts, Cert.AdamConvRefIdeal.Gen.facts,
  Cert.AdamPool.Gen.facts, Cert.AdamPoolIdeal.Gen.facts, Cert.AdamPoolRefIdeal.Gen.facts,
  Cert.AdamOut.Gen.facts, Cert.AdamOutIdeal.Gen.facts, Cert.AdamOutRefIdeal.Gen.facts,
  Cert.AdamGate.Gen.facts, Cert.AdamGateIdeal.Gen.facts, Cert.AdamGateRefIdeal.Gen.facts,
  Cert.AdamDown.Gen.facts, Cert.AdamDownIdeal.Gen.facts, Cert.AdamDownRefIdeal.Gen.facts,
  Cert.SmallAdam.Gen.facts, Cert.SmallAdamIdeal.Gen.facts, Cert.SmallAdamRefIdeal.Gen.facts,
  Cert.NormIn.Gen.facts, Cert.NormInIdeal.Gen.facts, Cert.NormInRefIdeal.Gen.facts,
  Cert.NormMid.Gen.facts, Cert.NormMidIdeal.Gen.facts, Cert.NormMidRefIdeal.Gen.facts,
  Cert.Loss.Gen.facts, Cert.LossIdeal.Gen.facts, Cert.LossRefIdeal.Gen.facts,
  Cert.Pre_finite.Gen.facts, Cert.Pre_out_dx_finite.Gen.facts,
  Cert.KernelIdeal.Ssd.frame_p, Cert.KernelIdeal.Ssd.frame_pi, Cert.KernelIdeal.Ssd.frame_pi_pre,
  Cert.KernelIdeal.Ssd.frame_ri, Cert.KernelIdeal.Ssd.frame_ri_pre,
  Cert.FfnInDxIdeal.Product.frame_p, Cert.FfnInDxIdeal.Product.frame_pi, Cert.FfnInDxIdeal.Product.frame_ri,
  Cert.FfnInDwIdeal.Product.frame_p, Cert.FfnInDwIdeal.Product.frame_pi, Cert.FfnInDwIdeal.Product.frame_ri,
  Cert.FfnOutDwIdeal.Product.frame_p, Cert.FfnOutDwIdeal.Product.frame_pi, Cert.FfnOutDwIdeal.Product.frame_ri,
  Cert.FfnInIdeal.Product.frame_p, Cert.FfnInIdeal.Product.frame_pi, Cert.FfnInIdeal.Product.frame_ri,
  Cert.FfnOutIdeal.Product.frame_p, Cert.FfnOutIdeal.Product.frame_pi, Cert.FfnOutIdeal.Product.frame_ri,
  Cert.ProjMainIdeal.Product.frame_p, Cert.ProjMainIdeal.Product.frame_pi, Cert.ProjMainIdeal.Product.frame_ri,
  Cert.ProjMainDxIdeal.Product.frame_p, Cert.ProjMainDxIdeal.Product.frame_pi, Cert.ProjMainDxIdeal.Product.frame_ri,
  Cert.ProjMainDwIdeal.Product.frame_p, Cert.ProjMainDwIdeal.Product.frame_pi, Cert.ProjMainDwIdeal.Product.frame_ri,
  Cert.OutProjIdeal.Product.frame_p, Cert.OutProjIdeal.Product.frame_pi, Cert.OutProjIdeal.Product.frame_ri,
  Cert.OutProjDxIdeal.Product.frame_p, Cert.OutProjDxIdeal.Product.frame_pi, Cert.OutProjDxIdeal.Product.frame_ri,
  Cert.OutProjDwIdeal.Product.frame_p, Cert.OutProjDwIdeal.Product.frame_pi, Cert.OutProjDwIdeal.Product.frame_ri,
  Cert.FfnOutDxIdeal.Product.frame_p, Cert.FfnOutDxIdeal.Product.frame_pi, Cert.FfnOutDxIdeal.Product.frame_pi_pre,
  Cert.FfnOutDxIdeal.Product.frame_ri, Cert.FfnOutDxIdeal.Product.frame_ri_pre,
  Cert.AdamInIdeal.Update.frame_p, Cert.AdamInIdeal.Update.frame_pi, Cert.AdamInIdeal.Update.frame_ri,
  Cert.AdamConvIdeal.Update.frame_p, Cert.AdamConvIdeal.Update.frame_pi, Cert.AdamConvIdeal.Update.frame_ri,
  Cert.AdamPoolIdeal.Update.frame_p, Cert.AdamPoolIdeal.Update.frame_pi, Cert.AdamPoolIdeal.Update.frame_ri,
  Cert.AdamOutIdeal.Update.frame_p, Cert.AdamOutIdeal.Update.frame_pi, Cert.AdamOutIdeal.Update.frame_ri,
  Cert.AdamGateIdeal.Update.frame_p, Cert.AdamGateIdeal.Update.frame_pi, Cert.AdamGateIdeal.Update.frame_ri,
  Cert.AdamDownIdeal.Update.frame_p, Cert.AdamDownIdeal.Update.frame_pi, Cert.AdamDownIdeal.Update.frame_ri,
  Cert.SmallAdamIdeal.Update.frame_p, Cert.SmallAdamIdeal.Update.frame_pi, Cert.SmallAdamIdeal.Update.frame_ri,
  Cert.NormInIdeal.Norm.frame_p, Cert.NormInIdeal.Norm.frame_pi, Cert.NormInIdeal.Norm.frame_ri,
  Cert.NormMidIdeal.Norm.frame_p, Cert.NormMidIdeal.Norm.frame_pi, Cert.NormMidIdeal.Norm.frame_ri,
  Cert.LossIdeal.Norm.frame_p, Cert.LossIdeal.Norm.frame_pi, Cert.LossIdeal.Norm.frame_ri,
  Cert.KernelIdeal.Ssd.preserves, Cert.KernelIdeal.Ssd.algebraic,
  Cert.FfnInDxIdeal.Product.preserves, Cert.FfnInDxIdeal.Product.algebraic,
  Cert.FfnInDwIdeal.Product.preserves, Cert.FfnInDwIdeal.Product.algebraic,
  Cert.FfnOutDwIdeal.Product.preserves, Cert.FfnOutDwIdeal.Product.algebraic,
  Cert.FfnInIdeal.Product.preserves, Cert.FfnInIdeal.Product.algebraic,
  Cert.FfnOutIdeal.Product.preserves, Cert.FfnOutIdeal.Product.algebraic,
  Cert.ProjMainIdeal.Product.preserves, Cert.ProjMainIdeal.Product.algebraic,
  Cert.ProjMainDxIdeal.Product.preserves, Cert.ProjMainDxIdeal.Product.algebraic,
  Cert.ProjMainDwIdeal.Product.preserves, Cert.ProjMainDwIdeal.Product.algebraic,
  Cert.OutProjIdeal.Product.preserves, Cert.OutProjIdeal.Product.algebraic,
  Cert.OutProjDxIdeal.Product.preserves, Cert.OutProjDxIdeal.Product.algebraic,
  Cert.OutProjDwIdeal.Product.preserves, Cert.OutProjDwIdeal.Product.algebraic,
  Cert.FfnOutDxIdeal.Product.preserves, Cert.FfnOutDxIdeal.Product.algebraic,
  Cert.AdamInIdeal.Update.preserves, Cert.AdamInIdeal.Update.algebraic,
  Cert.AdamConvIdeal.Update.preserves, Cert.AdamConvIdeal.Update.algebraic,
  Cert.AdamPoolIdeal.Update.preserves, Cert.AdamPoolIdeal.Update.algebraic,
  Cert.AdamOutIdeal.Update.preserves, Cert.AdamOutIdeal.Update.algebraic,
  Cert.AdamGateIdeal.Update.preserves, Cert.AdamGateIdeal.Update.algebraic,
  Cert.AdamDownIdeal.Update.preserves, Cert.AdamDownIdeal.Update.algebraic,
  Cert.SmallAdamIdeal.Update.preserves, Cert.SmallAdamIdeal.Update.algebraic,
  Cert.NormInIdeal.Norm.preserves, Cert.NormInIdeal.Norm.algebraic,
  Cert.NormMidIdeal.Norm.preserves, Cert.NormMidIdeal.Norm.algebraic,
  Cert.LossIdeal.Norm.preserves, Cert.LossIdeal.Norm.algebraic⟩

end Cert.Proof

end
